-- ==== Defs.lean ====
def Pre_Dil0 (m : (ℓ : Loc Cert.Dil0.nD Cert.Dil0.τ Cert.Dil0.sig) → Buf (Elt Bits) ℓ) : Prop :=
  True

def Pre_Dil0Ideal (m : (ℓ : Loc Cert.Dil0Ideal.nD Cert.Dil0Ideal.τ Cert.Dil0Ideal.sig) → Buf (Elt Ideal) ℓ) : Prop :=
  True

def Pre_Dil0RefIdeal (m : (ℓ : Loc Cert.Dil0RefIdeal.nD Cert.Dil0RefIdeal.τ Cert.Dil0RefIdeal.sig) → Buf (Elt Ideal) ℓ) : Prop :=
  True

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1RefIdeal (m : (ℓ : Loc Cert.Dil1RefIdeal.nD Cert.Dil1RefIdeal.τ Cert.Dil1RefIdeal.sig) → Buf (Elt Ideal) ℓ) : Prop :=
  True

def Pre_Dil2 (m : (ℓ : Loc Cert.Dil2.nD Cert.Dil2.τ Cert.Dil2.sig) → Buf (Elt Bits) ℓ) : Prop :=
  True

def Pre_Dil2Ideal (m : (ℓ : Loc Cert.Dil2Ideal.nD Cert.Dil2Ideal.τ Cert.Dil2Ideal.sig) → Buf (Elt Ideal) ℓ) : Prop :=
  True

def Pre_Dil2RefIdeal (m : (ℓ : Loc Cert.Dil2RefIdeal.nD Cert.Dil2RefIdeal.τ Cert.Dil2RefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def quiescent_Dil0 [hDil0 : Cert.Dil0.Facts] : Prop :=
  ∀ (m : (ℓ : Loc Cert.Dil0.nD Cert.Dil0.τ Cert.Dil0.sig) → Buf (Elt Bits) ℓ) (g : Dev Cert.Dil0.nD → PrngReg), Pre_Dil0 m →
    θ_run (Cert.Dil0.defs (F := Bits)) (onTc (τ := Cert.Dil0.τ) (Cert.Dil0.main (F := Bits))) ⟨m, fun _ => 0, g⟩ (fun r => (∀ c : Dev Cert.Dil0.nD,
      r.2.mem ((c.tc : Thread Cert.Dil0.nD Cert.Dil0.τ).loc Cert.Dil0.main_arg0) = m ((c.tc : Thread Cert.Dil0.nD Cert.Dil0.τ).loc Cert.Dil0.main_arg0)
      ∧ r.2.mem ((c.tc : Thread Cert.Dil0.nD Cert.Dil0.τ).loc Cert.Dil0.main_arg1) = m ((c.tc : Thread Cert.Dil0.nD Cert.Dil0.τ).loc Cert.Dil0.main_arg1))
      ∧ r.2.sem = fun _ => 0)

def quiescent_Dil0Ideal [hDil0Ideal : Cert.Dil0Ideal.Facts] : Prop :=
  ∀ (m : (ℓ : Loc Cert.Dil0Ideal.nD Cert.Dil0Ideal.τ Cert.Dil0Ideal.sig) → Buf (Elt Ideal) ℓ) (g : Dev Cert.Dil0Ideal.nD → PrngReg), Pre_Dil0Ideal m →
    θ_run (Cert.Dil0Ideal.defs (F := Ideal)) (onTc (τ := Cert.Dil0Ideal.τ) (Cert.Dil0Ideal.main (F := Ideal))) ⟨m, fun _ => 0, g⟩ (fun r => (∀ c : Dev Cert.Dil0Ideal.nD,
      r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0)
      ∧ r.2.mem ((c.tc : Thread Cert.Dil0Ideal.nD Cert.Dil0Ideal.τ).loc Cert.Dil0Ideal.main_arg1) = m ((c.tc : Thread Cert.Dil0Ideal.nD Cert.Dil0Ideal.τ).loc Cert.Dil0Ideal.main_arg1))
      ∧ r.2.sem = fun _ => 0)

def quiescent_Dil0RefIdeal [hDil0RefIdeal : Cert.Dil0RefIdeal.Facts] : Prop :=
  ∀ (m : (ℓ : Loc Cert.Dil0RefIdeal.nD Cert.Dil0RefIdeal.τ Cert.Dil0RefIdeal.sig) → Buf (Elt Ideal) ℓ) (g : Dev Cert.Dil0RefIdeal.nD → PrngReg), Pre_Dil0RefIdeal m →
    θ_run (Cert.Dil0RefIdeal.defs (F := Ideal)) (onTc (τ := Cert.Dil0RefIdeal.τ) (Cert.Dil0RefIdeal.main (F := Ideal))) ⟨m, fun _ => 0, g⟩ (fun r => (∀ c : Dev Cert.Dil0RefIdeal.nD,
      r.2.mem ((c.tc : Thread Cert.Dil0RefIdeal.nD Cert.Dil0RefIdeal.τ).loc Cert.Dil0RefIdeal.main_arg0) = m ((c.tc : Thread Cert.Dil0RefIdeal.nD Cert.Dil0RefIdeal.τ).loc Cert.Dil0RefIdeal.main_arg0)
      ∧ r.2.mem ((c.tc : Thread Cert.Dil0RefIdeal.nD Cert.Dil0RefIdeal.τ).loc Cert.Dil0RefIdeal.main_arg1) = m ((c.tc : Thread Cert.Dil0RefIdeal.nD Cert.Dil0RefIdeal.τ).loc Cert.Dil0RefIdeal.main_arg1))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1))
      ∧ r.2.sem = fun _ => 0)

def quiescent_Dil2 [hDil2 : Cert.Dil2.Facts] : Prop :=
  ∀ (m : (ℓ : Loc Cert.Dil2.nD Cert.Dil2.τ Cert.Dil2.sig) → Buf (Elt Bits) ℓ) (g : Dev Cert.Dil2.nD → PrngReg), Pre_Dil2 m →
    θ_run (Cert.Dil2.defs (F := Bits)) (onTc (τ := Cert.Dil2.τ) (Cert.Dil2.main (F := Bits))) ⟨m, fun _ => 0, g⟩ (fun r => (∀ c : Dev Cert.Dil2.nD,
      r.2.mem ((c.tc : Thread Cert.Dil2.nD Cert.Dil2.τ).loc Cert.Dil2.main_arg0) = m ((c.tc : Thread Cert.Dil2.nD Cert.Dil2.τ).loc Cert.Dil2.main_arg0)
      ∧ r.2.mem ((c.tc : Thread Cert.Dil2.nD Cert.Dil2.τ).loc Cert.Dil2.main_arg1) = m ((c.tc : Thread Cert.Dil2.nD Cert.Dil2.τ).loc Cert.Dil2.main_arg1))
      ∧ r.2.sem = fun _ => 0)

def quiescent_Dil2Ideal [hDil2Ideal : Cert.Dil2Ideal.Facts] : Prop :=
  ∀ (m : (ℓ : Loc Cert.Dil2Ideal.nD Cert.Dil2Ideal.τ Cert.Dil2Ideal.sig) → Buf (Elt Ideal) ℓ) (g : Dev Cert.Dil2Ideal.nD → PrngReg), Pre_Dil2Ideal m →
    θ_run (Cert.Dil2Ideal.defs (F := Ideal)) (onTc (τ := Cert.Dil2Ideal.τ) (Cert.Dil2Ideal.main (F := Ideal))) ⟨m, fun _ => 0, g⟩ (fun r => (∀ c : Dev Cert.Dil2Ideal.nD,
      r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0)
      ∧ r.2.mem ((c.tc : Thread Cert.Dil2Ideal.nD Cert.Dil2Ideal.τ).loc Cert.Dil2Ideal.main_arg1) = m ((c.tc : Thread Cert.Dil2Ideal.nD Cert.Dil2Ideal.τ).loc Cert.Dil2Ideal.main_arg1))
      ∧ r.2.sem = fun _ => 0)

def quiescent_Dil2RefIdeal [hDil2RefIdeal : Cert.Dil2RefIdeal.Facts] : Prop :=
  ∀ (m : (ℓ : Loc Cert.Dil2RefIdeal.nD Cert.Dil2RefIdeal.τ Cert.Dil2RefIdeal.sig) → Buf (Elt Ideal) ℓ) (g : Dev Cert.Dil2RefIdeal.nD → PrngReg), Pre_Dil2RefIdeal m →
    θ_run (Cert.Dil2RefIdeal.defs (F := Ideal)) (onTc (τ := Cert.Dil2RefIdeal.τ) (Cert.Dil2RefIdeal.main (F := Ideal))) ⟨m, fun _ => 0, g⟩ (fun r => (∀ c : Dev Cert.Dil2RefIdeal.nD,
      r.2.mem ((c.tc : Thread Cert.Dil2RefIdeal.nD Cert.Dil2RefIdeal.τ).loc Cert.Dil2RefIdeal.main_arg0) = m ((c.tc : Thread Cert.Dil2RefIdeal.nD Cert.Dil2RefIdeal.τ).loc Cert.Dil2RefIdeal.main_arg0)
      ∧ r.2.mem ((c.tc : Thread Cert.Dil2RefIdeal.nD Cert.Dil2RefIdeal.τ).loc Cert.Dil2RefIdeal.main_arg1) = m ((c.tc : Thread Cert.Dil2RefIdeal.nD Cert.Dil2RefIdeal.τ).loc Cert.Dil2RefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10)
      ∧ r.2.mem ((c.tc : Thread Cert.Step.nD Cert.Step.τ).loc Cert.Step.main_arg11) = m ((c.tc : Thread Cert.Step.nD Cert.Step.τ).loc Cert.Step.main_arg11)
      ∧ r.2.mem ((c.tc : Thread Cert.Step.nD Cert.Step.τ).loc Cert.Step.main_arg12) = m ((c.tc : Thread Cert.Step.nD Cert.Step.τ).loc Cert.Step.main_arg12)
      ∧ r.2.mem ((c.tc : Thread Cert.Step.nD Cert.Step.τ).loc Cert.Step.main_arg13) = m ((c.tc : Thread Cert.Step.nD Cert.Step.τ).loc Cert.Step.main_arg13))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10)
      ∧ r.2.mem ((c.tc : Thread Cert.StepIdeal.nD Cert.StepIdeal.τ).loc Cert.StepIdeal.main_arg11) = m ((c.tc : Thread Cert.StepIdeal.nD Cert.StepIdeal.τ).loc Cert.StepIdeal.main_arg11)
      ∧ r.2.mem ((c.tc : Thread Cert.StepIdeal.nD Cert.StepIdeal.τ).loc Cert.StepIdeal.main_arg12) = m ((c.tc : Thread Cert.StepIdeal.nD Cert.StepIdeal.τ).loc Cert.StepIdeal.main_arg12)
      ∧ r.2.mem ((c.tc : Thread Cert.StepIdeal.nD Cert.StepIdeal.τ).loc Cert.StepIdeal.main_arg13) = m ((c.tc : Thread Cert.StepIdeal.nD Cert.StepIdeal.τ).loc Cert.StepIdeal.main_arg13))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10)
      ∧ r.2.mem ((c.tc : Thread Cert.StepRefIdeal.nD Cert.StepRefIdeal.τ).loc Cert.StepRefIdeal.main_arg11) = m ((c.tc : Thread Cert.StepRefIdeal.nD Cert.StepRefIdeal.τ).loc Cert.StepRefIdeal.main_arg11)
      ∧ r.2.mem ((c.tc : Thread Cert.StepRefIdeal.nD Cert.StepRefIdeal.τ).loc Cert.StepRefIdeal.main_arg12) = m ((c.tc : Thread Cert.StepRefIdeal.nD Cert.StepRefIdeal.τ).loc Cert.StepRefIdeal.main_arg12)
      ∧ r.2.mem ((c.tc : Thread Cert.StepRefIdeal.nD Cert.StepRefIdeal.τ).loc Cert.StepRefIdeal.main_arg13) = m ((c.tc : Thread Cert.StepRefIdeal.nD Cert.StepRefIdeal.τ).loc Cert.StepRefIdeal.main_arg13))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def preserves_Dil0_Dil0Ideal : Prop :=
  True

def algebraic_Dil0Ideal_Dil0RefIdeal [hDil0Ideal : Cert.Dil0Ideal.Facts] [hDil0RefIdeal : Cert.Dil0RefIdeal.Facts] : Prop :=
  ∀ (m : (ℓ : Loc Cert.Dil0Ideal.nD Cert.Dil0Ideal.τ Cert.Dil0Ideal.sig) → Buf (Elt Ideal) ℓ) (g : Dev Cert.Dil0Ideal.nD → PrngReg)
    (m' : (ℓ : Loc Cert.Dil0RefIdeal.nD Cert.Dil0RefIdeal.τ Cert.Dil0RefIdeal.sig) → Buf (Elt Ideal) ℓ) (g' : Dev Cert.Dil0RefIdeal.nD → PrngReg), Pre_Dil0Ideal m →
    (∀ c : Dev Cert.Dil0Ideal.nD,
      m' ((c.tc : Thread Cert.Dil0RefIdeal.nD Cert.Dil0RefIdeal.τ).loc Cert.Dil0RefIdeal.main_arg0) = m ((c.tc : Thread Cert.Dil0Ideal.nD Cert.Dil0Ideal.τ).loc Cert.Dil0Ideal.main_arg0)
      ∧ m' ((c.tc : Thread Cert.Dil0RefIdeal.nD Cert.Dil0RefIdeal.τ).loc Cert.Dil0RefIdeal.main_arg1) = m ((c.tc : Thread Cert.Dil0Ideal.nD Cert.Dil0Ideal.τ).loc Cert.Dil0Ideal.main_arg1)) →
    ∃ (v0 : (c : Dev Cert.Dil0Ideal.nD) → Buf (Elt Ideal) ((c.tc : Thread Cert.Dil0Ideal.nD Cert.Dil0Ideal.τ).loc Cert.Dil0Ideal.main_v25_0)) (v1 : (c : Dev Cert.Dil0Ideal.nD) → Buf (Elt Ideal) ((c.tc : Thread Cert.Dil0Ideal.nD Cert.Dil0Ideal.τ).loc Cert.Dil0Ideal.main_v25_1)),
      θ_run (Cert.Dil0Ideal.defs (F := Ideal)) (onTc (τ := Cert.Dil0Ideal.τ) (Cert.Dil0Ideal.main (F := Ideal))) ⟨m, fun _ => 0, g⟩ (fun r => ∀ c : Dev Cert.Dil0Ideal.nD,
          r.2.mem ((c.tc : Thread Cert.Dil0Ideal.nD Cert.Dil0Ideal.τ).loc Cert.Dil0Ideal.main_v25_0) = v0 c
          ∧ r.2.mem ((c.tc : Thread Cert.Dil0Ideal.nD Cert.Dil0Ideal.τ).loc Cert.Dil0Ideal.main_v25_1) = v1 c
          ∧ r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0)
          ∧ r.2.mem ((c.tc : Thread Cert.Dil0Ideal.nD Cert.Dil0Ideal.τ).loc Cert.Dil0Ideal.main_arg1) = m ((c.tc : Thread Cert.Dil0Ideal.nD Cert.Dil0Ideal.τ).loc Cert.Dil0Ideal.main_arg1))
      ∧ θ_run (Cert.Dil0RefIdeal.defs (F := Ideal)) (onTc (τ := Cert.Dil0RefIdeal.τ) (Cert.Dil0RefIdeal.main (F := Ideal))) ⟨m', fun _ => 0, g'⟩ (fun r => ∀ c : Dev Cert.Dil0RefIdeal.nD,
          r.2.mem ((c.tc : Thread Cert.Dil0RefIdeal.nD Cert.Dil0RefIdeal.τ).loc Cert.Dil0RefIdeal.main_v96) = v0 c
          ∧ r.2.mem ((c.tc : Thread Cert.Dil0RefIdeal.nD Cert.Dil0RefIdeal.τ).loc Cert.Dil0RefIdeal.main_v99) = v1 c
          ∧ r.2.mem ((c.tc : Thread Cert.Dil0RefIdeal.nD Cert.Dil0RefIdeal.τ).loc Cert.Dil0RefIdeal.main_arg0) = m' ((c.tc : Thread Cert.Dil0RefIdeal.nD Cert.Dil0RefIdeal.τ).loc Cert.Dil0RefIdeal.main_arg0)
          ∧ r.2.mem ((c.tc : Thread Cert.Dil0RefIdeal.nD Cert.Dil0RefIdeal.τ).loc Cert.Dil0RefIdeal.main_arg1) = m' ((c.tc : Thread Cert.Dil0RefIdeal.nD Cert.Dil0RefIdeal.τ).loc Cert.Dil0RefIdeal.main_arg1))

def preserves_Dil1_Dil1Ideal : Prop :=
  True

def algebraic_Dil1Ideal_Dil1RefIdeal [hDil1Ideal : Cert.Dil1Ideal.Facts] [hDil1RefIdeal : Cert.Dil1RefIdeal.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)
      ∧ m' ((c.tc : Thread Cert.Dil1RefIdeal.nD Cert.Dil1RefIdeal.τ).loc Cert.Dil1RefIdeal.main_arg1) = m ((c.tc : Thread Cert.Dil1Ideal.nD Cert.Dil1Ideal.τ).loc Cert.Dil1Ideal.main_arg1)) →
    ∃ (v0 : (c : Dev Cert.Dil1Ideal.nD) → Buf (Elt Ideal) ((c.tc : Thread Cert.Dil1Ideal.nD Cert.Dil1Ideal.τ).loc Cert.Dil1Ideal.main_v26_0)) (v1 : (c : Dev Cert.Dil1Ideal.nD) → Buf (Elt Ideal) ((c.tc : Thread Cert.Dil1Ideal.nD Cert.Dil1Ideal.τ).loc Cert.Dil1Ideal.main_v26_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v26_0) = v0 c
          ∧ r.2.mem ((c.tc : Thread Cert.Dil1Ideal.nD Cert.Dil1Ideal.τ).loc Cert.Dil1Ideal.main_v26_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v96) = v0 c
          ∧ r.2.mem ((c.tc : Thread Cert.Dil1RefIdeal.nD Cert.Dil1RefIdeal.τ).loc Cert.Dil1RefIdeal.main_v99) = v1 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0)
          ∧ r.2.mem ((c.tc : Thread Cert.Dil1RefIdeal.nD Cert.Dil1RefIdeal.τ).loc Cert.Dil1RefIdeal.main_arg1) = m' ((c.tc : Thread Cert.Dil1RefIdeal.nD Cert.Dil1RefIdeal.τ).loc Cert.Dil1RefIdeal.main_arg1))

def preserves_Dil2_Dil2Ideal : Prop :=
  True

def algebraic_Dil2Ideal_Dil2RefIdeal [hDil2Ideal : Cert.Dil2Ideal.Facts] [hDil2RefIdeal : Cert.Dil2RefIdeal.Facts] : Prop :=
  ∀ (m : (ℓ : Loc Cert.Dil2Ideal.nD Cert.Dil2Ideal.τ Cert.Dil2Ideal.sig) → Buf (Elt Ideal) ℓ) (g : Dev Cert.Dil2Ideal.nD → PrngReg)
    (m' : (ℓ : Loc Cert.Dil2RefIdeal.nD Cert.Dil2RefIdeal.τ Cert.Dil2RefIdeal.sig) → Buf (Elt Ideal) ℓ) (g' : Dev Cert.Dil2RefIdeal.nD → PrngReg), Pre_Dil2Ideal m →
    (∀ c : Dev Cert.Dil2Ideal.nD,
      m' ((c.tc : Thread Cert.Dil2RefIdeal.nD Cert.Dil2RefIdeal.τ).loc Cert.Dil2RefIdeal.main_arg0) = m ((c.tc : Thread Cert.Dil2Ideal.nD Cert.Dil2Ideal.τ).loc Cert.Dil2Ideal.main_arg0)
      ∧ m' ((c.tc : Thread Cert.Dil2RefIdeal.nD Cert.Dil2RefIdeal.τ).loc Cert.Dil2RefIdeal.main_arg1) = m ((c.tc : Thread Cert.Dil2Ideal.nD Cert.Dil2Ideal.τ).loc Cert.Dil2Ideal.main_arg1)) →
    ∃ (v0 : (c : Dev Cert.Dil2Ideal.nD) → Buf (Elt Ideal) ((c.tc : Thread Cert.Dil2Ideal.nD Cert.Dil2Ideal.τ).loc Cert.Dil2Ideal.main_v26_0)) (v1 : (c : Dev Cert.Dil2Ideal.nD) → Buf (Elt Ideal) ((c.tc : Thread Cert.Dil2Ideal.nD Cert.Dil2Ideal.τ).loc Cert.Dil2Ideal.main_v26_1)),
      θ_run (Cert.Dil2Ideal.defs (F := Ideal)) (onTc (τ := Cert.Dil2Ideal.τ) (Cert.Dil2Ideal.main (F := Ideal))) ⟨m, fun _ => 0, g⟩ (fun r => ∀ c : Dev Cert.Dil2Ideal.nD,
          r.2.mem ((c.tc : Thread Cert.Dil2Ideal.nD Cert.Dil2Ideal.τ).loc Cert.Dil2Ideal.main_v26_0) = v0 c
          ∧ r.2.mem ((c.tc : Thread Cert.Dil2Ideal.nD Cert.Dil2Ideal.τ).loc Cert.Dil2Ideal.main_v26_1) = v1 c
          ∧ r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0)
          ∧ r.2.mem ((c.tc : Thread Cert.Dil2Ideal.nD Cert.Dil2Ideal.τ).loc Cert.Dil2Ideal.main_arg1) = m ((c.tc : Thread Cert.Dil2Ideal.nD Cert.Dil2Ideal.τ).loc Cert.Dil2Ideal.main_arg1))
      ∧ θ_run (Cert.Dil2RefIdeal.defs (F := Ideal)) (onTc (τ := Cert.Dil2RefIdeal.τ) (Cert.Dil2RefIdeal.main (F := Ideal))) ⟨m', fun _ => 0, g'⟩ (fun r => ∀ c : Dev Cert.Dil2RefIdeal.nD,
          r.2.mem ((c.tc : Thread Cert.Dil2RefIdeal.nD Cert.Dil2RefIdeal.τ).loc Cert.Dil2RefIdeal.main_v96) = v0 c
          ∧ r.2.mem ((c.tc : Thread Cert.Dil2RefIdeal.nD Cert.Dil2RefIdeal.τ).loc Cert.Dil2RefIdeal.main_v99) = v1 c
          ∧ r.2.mem ((c.tc : Thread Cert.Dil2RefIdeal.nD Cert.Dil2RefIdeal.τ).loc Cert.Dil2RefIdeal.main_arg0) = m' ((c.tc : Thread Cert.Dil2RefIdeal.nD Cert.Dil2RefIdeal.τ).loc Cert.Dil2RefIdeal.main_arg0)
          ∧ r.2.mem ((c.tc : Thread Cert.Dil2RefIdeal.nD Cert.Dil2RefIdeal.τ).loc Cert.Dil2RefIdeal.main_arg1) = m' ((c.tc : Thread Cert.Dil2RefIdeal.nD Cert.Dil2RefIdeal.τ).loc Cert.Dil2RefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)
      ∧ m' ((c.tc : Thread Cert.StepRefIdeal.nD Cert.StepRefIdeal.τ).loc Cert.StepRefIdeal.main_arg11) = m ((c.tc : Thread Cert.StepIdeal.nD Cert.StepIdeal.τ).loc Cert.StepIdeal.main_arg11)
      ∧ m' ((c.tc : Thread Cert.StepRefIdeal.nD Cert.StepRefIdeal.τ).loc Cert.StepRefIdeal.main_arg12) = m ((c.tc : Thread Cert.StepIdeal.nD Cert.StepIdeal.τ).loc Cert.StepIdeal.main_arg12)
      ∧ m' ((c.tc : Thread Cert.StepRefIdeal.nD Cert.StepRefIdeal.τ).loc Cert.StepRefIdeal.main_arg13) = m ((c.tc : Thread Cert.StepIdeal.nD Cert.StepIdeal.τ).loc Cert.StepIdeal.main_arg13)) →
    ∃ (v0 : (c : Dev Cert.StepIdeal.nD) → Buf (Elt Ideal) ((c.tc : Thread Cert.StepIdeal.nD Cert.StepIdeal.τ).loc Cert.StepIdeal.main_v33_0)) (v1 : (c : Dev Cert.StepIdeal.nD) → Buf (Elt Ideal) ((c.tc : Thread Cert.StepIdeal.nD Cert.StepIdeal.τ).loc Cert.StepIdeal.main_v33_1)) (v2 : (c : Dev Cert.StepIdeal.nD) → Buf (Elt Ideal) ((c.tc : Thread Cert.StepIdeal.nD Cert.StepIdeal.τ).loc Cert.StepIdeal.main_v33_2)) (v3 : (c : Dev Cert.StepIdeal.nD) → Buf (Elt Ideal) ((c.tc : Thread Cert.StepIdeal.nD Cert.StepIdeal.τ).loc Cert.StepIdeal.main_v33_3)) (v4 : (c : Dev Cert.StepIdeal.nD) → Buf (Elt Ideal) ((c.tc : Thread Cert.StepIdeal.nD Cert.StepIdeal.τ).loc Cert.StepIdeal.main_v33_4)) (v5 : (c : Dev Cert.StepIdeal.nD) → Buf (Elt Ideal) ((c.tc : Thread Cert.StepIdeal.nD Cert.StepIdeal.τ).loc Cert.StepIdeal.main_v33_5)) (v6 : (c : Dev Cert.StepIdeal.nD) → Buf (Elt Ideal) ((c.tc : Thread Cert.StepIdeal.nD Cert.StepIdeal.τ).loc Cert.StepIdeal.main_v33_6)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v33_0) = v0 c
          ∧ r.2.mem ((c.tc : Thread Cert.StepIdeal.nD Cert.StepIdeal.τ).loc Cert.StepIdeal.main_v33_1) = v1 c
          ∧ r.2.mem ((c.tc : Thread Cert.StepIdeal.nD Cert.StepIdeal.τ).loc Cert.StepIdeal.main_v33_2) = v2 c
          ∧ r.2.mem ((c.tc : Thread Cert.StepIdeal.nD Cert.StepIdeal.τ).loc Cert.StepIdeal.main_v33_3) = v3 c
          ∧ r.2.mem ((c.tc : Thread Cert.StepIdeal.nD Cert.StepIdeal.τ).loc Cert.StepIdeal.main_v33_4) = v4 c
          ∧ r.2.mem ((c.tc : Thread Cert.StepIdeal.nD Cert.StepIdeal.τ).loc Cert.StepIdeal.main_v33_5) = v5 c
          ∧ r.2.mem ((c.tc : Thread Cert.StepIdeal.nD Cert.StepIdeal.τ).loc Cert.StepIdeal.main_v33_6) = v6 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10)
          ∧ r.2.mem ((c.tc : Thread Cert.StepIdeal.nD Cert.StepIdeal.τ).loc Cert.StepIdeal.main_arg11) = m ((c.tc : Thread Cert.StepIdeal.nD Cert.StepIdeal.τ).loc Cert.StepIdeal.main_arg11)
          ∧ r.2.mem ((c.tc : Thread Cert.StepIdeal.nD Cert.StepIdeal.τ).loc Cert.StepIdeal.main_arg12) = m ((c.tc : Thread Cert.StepIdeal.nD Cert.StepIdeal.τ).loc Cert.StepIdeal.main_arg12)
          ∧ r.2.mem ((c.tc : Thread Cert.StepIdeal.nD Cert.StepIdeal.τ).loc Cert.StepIdeal.main_arg13) = m ((c.tc : Thread Cert.StepIdeal.nD Cert.StepIdeal.τ).loc Cert.StepIdeal.main_arg13))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v153) = v0 c
          ∧ r.2.mem ((c.tc : Thread Cert.StepRefIdeal.nD Cert.StepRefIdeal.τ).loc Cert.StepRefIdeal.main_v154) = v1 c
          ∧ r.2.mem ((c.tc : Thread Cert.StepRefIdeal.nD Cert.StepRefIdeal.τ).loc Cert.StepRefIdeal.main_v155) = v2 c
          ∧ r.2.mem ((c.tc : Thread Cert.StepRefIdeal.nD Cert.StepRefIdeal.τ).loc Cert.StepRefIdeal.main_v156) = v3 c
          ∧ r.2.mem ((c.tc : Thread Cert.StepRefIdeal.nD Cert.StepRefIdeal.τ).loc Cert.StepRefIdeal.main_v157) = v4 c
          ∧ r.2.mem ((c.tc : Thread Cert.StepRefIdeal.nD Cert.StepRefIdeal.τ).loc Cert.StepRefIdeal.main_v138) = v5 c
          ∧ r.2.mem ((c.tc : Thread Cert.StepRefIdeal.nD Cert.StepRefIdeal.τ).loc Cert.StepRefIdeal.main_v158) = v6 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10)
          ∧ r.2.mem ((c.tc : Thread Cert.StepRefIdeal.nD Cert.StepRefIdeal.τ).loc Cert.StepRefIdeal.main_arg11) = m' ((c.tc : Thread Cert.StepRefIdeal.nD Cert.StepRefIdeal.τ).loc Cert.StepRefIdeal.main_arg11)
          ∧ r.2.mem ((c.tc : Thread Cert.StepRefIdeal.nD Cert.StepRefIdeal.τ).loc Cert.StepRefIdeal.main_arg12) = m' ((c.tc : Thread Cert.StepRefIdeal.nD Cert.StepRefIdeal.τ).loc Cert.StepRefIdeal.main_arg12)
          ∧ r.2.mem ((c.tc : Thread Cert.StepRefIdeal.nD Cert.StepRefIdeal.τ).loc Cert.StepRefIdeal.main_arg13) = m' ((c.tc : Thread Cert.StepRefIdeal.nD Cert.StepRefIdeal.τ).loc Cert.StepRefIdeal.main_arg13))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v12) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def Claim : Prop :=
  ∃ (hDil0 : Cert.Dil0.Facts) (hDil0Ideal : Cert.Dil0Ideal.Facts) (hDil0RefIdeal : Cert.Dil0RefIdeal.Facts) (hDil1 : Cert.Dil1.Facts) (hDil1Ideal : Cert.Dil1Ideal.Facts) (hDil1RefIdeal : Cert.Dil1RefIdeal.Facts) (hDil2 : Cert.Dil2.Facts) (hDil2Ideal : Cert.Dil2Ideal.Facts) (hDil2RefIdeal : Cert.Dil2RefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hStep : Cert.Step.Facts) (hStepIdeal : Cert.StepIdeal.Facts) (hStepRefIdeal : Cert.StepRefIdeal.Facts) (hNormS : Cert.NormS.Facts) (hNormSIdeal : Cert.NormSIdeal.Facts) (hNormSRefIdeal : Cert.NormSRefIdeal.Facts),
    quiescent_Dil0 (hDil0 := hDil0)
    ∧ quiescent_Dil0Ideal (hDil0Ideal := hDil0Ideal)
    ∧ quiescent_Dil0RefIdeal (hDil0RefIdeal := hDil0RefIdeal)
    ∧ quiescent_Dil1 (hDil1 := hDil1)
    ∧ quiescent_Dil1Ideal (hDil1Ideal := hDil1Ideal)
    ∧ quiescent_Dil1RefIdeal (hDil1RefIdeal := hDil1RefIdeal)
    ∧ quiescent_Dil2 (hDil2 := hDil2)
    ∧ quiescent_Dil2Ideal (hDil2Ideal := hDil2Ideal)
    ∧ quiescent_Dil2RefIdeal (hDil2RefIdeal := hDil2RefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Step (hStep := hStep)
    ∧ quiescent_StepIdeal (hStepIdeal := hStepIdeal)
    ∧ quiescent_StepRefIdeal (hStepRefIdeal := hStepRefIdeal)
    ∧ quiescent_NormS (hNormS := hNormS)
    ∧ quiescent_NormSIdeal (hNormSIdeal := hNormSIdeal)
    ∧ quiescent_NormSRefIdeal (hNormSRefIdeal := hNormSRefIdeal)
    ∧ preserves_Dil0_Dil0Ideal
    ∧ algebraic_Dil0Ideal_Dil0RefIdeal (hDil0Ideal := hDil0Ideal) (hDil0RefIdeal := hDil0RefIdeal)
    ∧ preserves_Dil1_Dil1Ideal
    ∧ algebraic_Dil1Ideal_Dil1RefIdeal (hDil1Ideal := hDil1Ideal) (hDil1RefIdeal := hDil1RefIdeal)
    ∧ preserves_Dil2_Dil2Ideal
    ∧ algebraic_Dil2Ideal_Dil2RefIdeal (hDil2Ideal := hDil2Ideal) (hDil2RefIdeal := hDil2RefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Step_StepIdeal
    ∧ algebraic_StepIdeal_StepRefIdeal (hStepIdeal := hStepIdeal) (hStepRefIdeal := hStepRefIdeal)
    ∧ preserves_NormS_NormSIdeal
    ∧ algebraic_NormSIdeal_NormSRefIdeal (hNormSIdeal := hNormSIdeal) (hNormSRefIdeal := hNormSRefIdeal)
-- ==== Dil0.lean ====
abbrev S2x8192x13312 : Shape := ⟨3, ![2, 8192, 13312]⟩
abbrev S32x12 : Shape := ⟨2, ![32, 12]⟩
abbrev S128x256 : Shape := ⟨2, ![128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S32x4 : Shape := ⟨2, ![32, 4]⟩
abbrev S128x256x1 : Shape := ⟨3, ![128, 256, 1]⟩
abbrev S128x256x4 : Shape := ⟨3, ![128, 256, 4]⟩
abbrev S4x128x256 : Shape := ⟨3, ![4, 128, 256]⟩
abbrev S1x128x256 : Shape := ⟨3, ![1, 128, 256]⟩
abbrev S4x128x128 : Shape := ⟨3, ![4, 128, 128]⟩
abbrev S2x8192x512 : Shape := ⟨3, ![2, 8192, 512]⟩
abbrev S1x128x512 : Shape := ⟨3, ![1, 128, 512]⟩
abbrev S1x128x128 : Shape := ⟨3, ![1, 128, 128]⟩
abbrev S128x128 : Shape := ⟨2, ![128, 128]⟩

abbrev nBuf : Space → Nat
  | .hbm => 39
  | .vmem => 16
  | .smem => 0
  | _ => 0

abbrev bufTy : (tb : Table) → Fin (tcTables nBuf tb) → BufTy
  | .hbm, ⟨0, _⟩ => ⟨S2x8192x13312, .f32⟩
  | .hbm, ⟨1, _⟩ => ⟨S32x12, .f32⟩
  | .hbm, ⟨2, _⟩ => ⟨S128x256, .i32⟩
  | .hbm, ⟨3, _⟩ => ⟨S128x256, .i1⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S128x256, .i1⟩
  | .hbm, ⟨21, _⟩ => ⟨S32x4, .f32⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S128x256x1, .i32⟩
  | .hbm, ⟨27, _⟩ => ⟨S128x256x4, .f32⟩
  | .hbm, ⟨28, _⟩ => ⟨S4x128x256, .f32⟩
  | .hbm, ⟨29, _⟩ => ⟨S1x128x256, .i1⟩
  | .hbm, ⟨30, _⟩ => ⟨S_, .f32⟩
  | .hbm, ⟨31, _⟩ => ⟨S_, .f32⟩
  | .hbm, ⟨32, _⟩ => ⟨S4x128x256, .i1⟩
  | .hbm, ⟨33, _⟩ => ⟨S4x128x256, .f32⟩
  | .hbm, ⟨34, _⟩ => ⟨S4x128x256, .f32⟩
  | .hbm, ⟨35, _⟩ => ⟨S4x128x128, .f32⟩
  | .hbm, ⟨36, _⟩ => ⟨S4x128x128, .f32⟩
  | .hbm, ⟨37, _⟩ => ⟨S2x8192x512, .f32⟩
  | .hbm, ⟨38, _⟩ => ⟨S2x8192x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S4x128x128, .f32⟩
  | .local _ .vmem, ⟨11, _⟩ => ⟨S4x128x128, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S2x8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c4_i32 : BitVec 32 := 4#32
  let v1 : BitVec 32 := Scalar.addi v0 c4_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c26_i32 : BitVec 32 := 26#32
  let v2 : BitVec 32 := Scalar.muli arg1 c26_i32
  let c7_i32 : BitVec 32 := 7#32
  let v3 : BitVec 32 := Scalar.addi v2 c7_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c7_i32 : BitVec 32 := 7#32
  let v1 : BitVec 32 := Scalar.addi v0 c7_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c26_i32 : BitVec 32 := 26#32
  let v2 : BitVec 32 := Scalar.muli arg1 c26_i32
  let c10_i32 : BitVec 32 := 10#32
  let v3 : BitVec 32 := Scalar.addi v2 c10_i32
  let c0_i32_0 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c10_i32 : BitVec 32 := 10#32
  let v1 : BitVec 32 := Scalar.addi v0 c10_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Dil0RefIdeal.lean ====
abbrev S2x8192x13312 : Shape := ⟨3, ![2, 8192, 13312]⟩
abbrev S32x12 : Shape := ⟨2, ![32, 12]⟩
abbrev S128x256 : Shape := ⟨2, ![128, 256]⟩
abbrev S2x8192x4608 : Shape := ⟨3, ![2, 8192, 4608]⟩
abbrev S2x8192x1536 : Shape := ⟨3, ![2, 8192, 1536]⟩
abbrev S2x8192x3x4x128 : Shape := ⟨5, ![2, 8192, 3, 4, 128]⟩
abbrev S32x4 : Shape := ⟨2, ![32, 4]⟩
abbrev S2x8192x1x4x128 : Shape := ⟨5, ![2, 8192, 1, 4, 128]⟩
abbrev S2x8192x4x128 : Shape := ⟨4, ![2, 8192, 4, 128]⟩
abbrev S2x1x8192x4x128 : Shape := ⟨5, ![2, 1, 8192, 4, 128]⟩
abbrev S_ : Shape := ⟨0, ![]⟩
abbrev S2x1x64x128x4x128 : Shape := ⟨6, ![2, 1, 64, 128, 4, 128]⟩
abbrev S2x1x8320x4x128 : Shape := ⟨5, ![2, 1, 8320, 4, 128]⟩
abbrev S2x1x64x256x4x128 : Shape := ⟨6, ![2, 1, 64, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S64x128x256 : Shape := ⟨3, ![64, 128, 256]⟩
abbrev S1x128x256 : Shape := ⟨3, ![1, 128, 256]⟩
abbrev S128x256x1 : Shape := ⟨3, ![128, 256, 1]⟩
abbrev S128x256x4 : Shape := ⟨3, ![128, 256, 4]⟩
abbrev S4x128x256 : Shape := ⟨3, ![4, 128, 256]⟩
abbrev S2x1x64x4x128x256 : Shape := ⟨6, ![2, 1, 64, 4, 128, 256]⟩
abbrev S1x1x1x4x128x256 : Shape := ⟨6, ![1, 1, 1, 4, 128, 256]⟩
abbrev S64x1x128x256 : Shape := ⟨4, ![64, 1, 128, 256]⟩
abbrev S2x1x64x4x128 : Shape := ⟨5, ![2, 1, 64, 4, 128]⟩
abbrev S2x1x64x4x128x1 : Shape := ⟨6, ![2, 1, 64, 4, 128, 1]⟩
abbrev S2x1x64x4x128x128 : Shape := ⟨6, ![2, 1, 64, 4, 128, 128]⟩
abbrev S2x1x64x128x4 : Shape := ⟨5, ![2, 1, 64, 128, 4]⟩
abbrev S2x1x64x128x4x1 : Shape := ⟨6, ![2, 1, 64, 128, 4, 1]⟩
abbrev S2x1x8192x4 : Shape := ⟨4, ![2, 1, 8192, 4]⟩
abbrev S2x8192x1x4 : Shape := ⟨4, ![2, 8192, 1, 4]⟩
abbrev S2x8192x4 : Shape := ⟨3, ![2, 8192, 4]⟩
abbrev S2x8192x512 : Shape := ⟨3, ![2, 8192, 512]⟩
abbrev S2x8192x4x1 : Shape := ⟨4, ![2, 8192, 4, 1]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x13312, .f32⟩
  | .hbm, ⟨1, _⟩ => ⟨S32x12, .f32⟩
  | .hbm, ⟨2, _⟩ => ⟨S128x256, .i32⟩
  | .hbm, ⟨3, _⟩ => ⟨S128x256, .i1⟩
  | .hbm, ⟨4, _⟩ => ⟨S2x8192x4608, .f32⟩
  | .hbm, ⟨5, _⟩ => ⟨S2x8192x1536, .f32⟩
  | .hbm, ⟨6, _⟩ => ⟨S2x8192x1536, .f32⟩
  | .hbm, ⟨7, _⟩ => ⟨S2x8192x1536, .f32⟩
  | .hbm, ⟨8, _⟩ => ⟨S2x8192x3x4x128, .f32⟩
  | .hbm, ⟨9, _⟩ => ⟨S2x8192x3x4x128, .f32⟩
  | .hbm, ⟨10, _⟩ => ⟨S2x8192x3x4x128, .f32⟩
  | .hbm, ⟨11, _⟩ => ⟨S32x4, .f32⟩
  | .hbm, ⟨12, _⟩ => ⟨S2x8192x1x4x128, .f32⟩
  | .hbm, ⟨13, _⟩ => ⟨S2x8192x4x128, .f32⟩
  | .hbm, ⟨14, _⟩ => ⟨S2x8192x1x4x128, .f32⟩
  | .hbm, ⟨15, _⟩ => ⟨S2x8192x4x128, .f32⟩
  | .hbm, ⟨16, _⟩ => ⟨S2x8192x1x4x128, .f32⟩
  | .hbm, ⟨17, _⟩ => ⟨S2x8192x4x128, .f32⟩
  | .hbm, ⟨18, _⟩ => ⟨S2x8192x1x4x128, .f32⟩
  | .hbm, ⟨19, _⟩ => ⟨S2x1x8192x4x128, .f32⟩
  | .hbm, ⟨20, _⟩ => ⟨S_, .i32⟩
  | .hbm, ⟨21, _⟩ => ⟨S_, .f32⟩
  | .hbm, ⟨22, _⟩ => ⟨S2x1x8192x4x128, .f32⟩
  | .hbm, ⟨23, _⟩ => ⟨S2x1x64x128x4x128, .f32⟩
  | .hbm, ⟨24, _⟩ => ⟨S2x8192x1x4x128, .f32⟩
  | .hbm, ⟨25, _⟩ => ⟨S2x1x8192x4x128, .f32⟩
  | .hbm, ⟨26, _⟩ => ⟨S_, .i32⟩
  | .hbm, ⟨27, _⟩ => ⟨S_, .f32⟩
  | .hbm, ⟨28, _⟩ => ⟨S2x1x8320x4x128, .f32⟩
  | .hbm, ⟨29, _⟩ => ⟨S2x1x8192x4x128, .f32⟩
  | .hbm, ⟨30, _⟩ => ⟨S2x1x64x128x4x128, .f32⟩
  | .hbm, ⟨31, _⟩ => ⟨S2x1x8192x4x128, .f32⟩
  | .hbm, ⟨32, _⟩ => ⟨S2x1x64x128x4x128, .f32⟩
  | .hbm, ⟨33, _⟩ => ⟨S2x1x64x256x4x128, .f32⟩
  | .hbm, ⟨34, _⟩ => ⟨S2x8192x1x4x128, .f32⟩
  | .hbm, ⟨35, _⟩ => ⟨S2x1x8192x4x128, .f32⟩
  | .hbm, ⟨36, _⟩ => ⟨S_, .i32⟩
  | .hbm, ⟨37, _⟩ => ⟨S_, .f32⟩
  | .hbm, ⟨38, _⟩ => ⟨S2x1x8320x4x128, .f32⟩
  | .hbm, ⟨39, _⟩ => ⟨S2x1x8192x4x128, .f32⟩
  | .hbm, ⟨40, _⟩ => ⟨S2x1x64x128x4x128, .f32⟩
  | .hbm, ⟨41, _⟩ => ⟨S2x1x8192x4x128, .f32⟩
  | .hbm, ⟨42, _⟩ => ⟨S2x1x64x128x4x128, .f32⟩
  | .hbm, ⟨43, _⟩ => ⟨S2x1x64x256x4x128, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S64x128x256, .i32⟩
  | .hbm, ⟨62, _⟩ => ⟨S_, .i32⟩
  | .hbm, ⟨63, _⟩ => ⟨S64x128x256, .i32⟩
  | .hbm, ⟨64, _⟩ => ⟨S64x128x256, .i32⟩
  | .hbm, ⟨65, _⟩ => ⟨S_, .i32⟩
  | .hbm, ⟨66, _⟩ => ⟨S64x128x256, .i32⟩
  | .hbm, ⟨67, _⟩ => ⟨S64x128x256, .i32⟩
  | .hbm, ⟨68, _⟩ => ⟨S64x128x256, .i32⟩
  | .hbm, ⟨69, _⟩ => ⟨S64x128x256, .i32⟩
  | .hbm, ⟨70, _⟩ => ⟨S1x128x256, .i1⟩
  | .hbm, ⟨71, _⟩ => ⟨S_, .i32⟩
  | .hbm, ⟨72, _⟩ => ⟨S64x128x256, .i32⟩
  | .hbm, ⟨73, _⟩ => ⟨S64x128x256, .i1⟩
  | .hbm, ⟨74, _⟩ => ⟨S64x128x256, .i1⟩
  | .hbm, ⟨75, _⟩ => ⟨S64x128x256, .i1⟩
  | .hbm, ⟨76, _⟩ => ⟨S_, .i32⟩
  | .hbm, ⟨77, _⟩ => ⟨S128x256, .i32⟩
  | .hbm, ⟨78, _⟩ => ⟨S128x256, .i32⟩
  | .hbm, ⟨79, _⟩ => ⟨S128x256, .i32⟩
  | .hbm, ⟨80, _⟩ => ⟨S128x256x1, .i32⟩
  | .hbm, ⟨81, _⟩ => ⟨S128x256x4, .f32⟩
  | .hbm, ⟨82, _⟩ => ⟨S4x128x256, .f32⟩
  | .hbm, ⟨83, _⟩ => ⟨S2x1x64x4x128x256, .f32⟩
  | .hbm, ⟨84, _⟩ => ⟨S_, .f32⟩
  | .hbm, ⟨85, _⟩ => ⟨S2x1x64x4x128x256, .f32⟩
  | .hbm, ⟨86, _⟩ => ⟨S2x1x64x4x128x256, .f32⟩
  | .hbm, ⟨87, _⟩ => ⟨S1x1x1x4x128x256, .f32⟩
  | .hbm, ⟨88, _⟩ => ⟨S2x1x64x4x128x256, .f32⟩
  | .hbm, ⟨89, _⟩ => ⟨S2x1x64x4x128x256, .f32⟩
  | .hbm, ⟨90, _⟩ => ⟨S64x1x128x256, .i1⟩
  | .hbm, ⟨91, _⟩ => ⟨S_, .f32⟩
  | .hbm, ⟨92, _⟩ => ⟨S_, .f32⟩
  | .hbm, ⟨93, _⟩ => ⟨S2x1x64x4x128x256, .i1⟩
  | .hbm, ⟨94, _⟩ => ⟨S2x1x64x4x128x256, .f32⟩
  | .hbm, ⟨95, _⟩ => ⟨S2x1x64x4x128x256, .f32⟩
  | .hbm, ⟨96, _⟩ => ⟨S_, .f32⟩
  | .hbm, ⟨97, _⟩ => ⟨S2x1x64x4x128, .f32⟩
  | .hbm, ⟨98, _⟩ => ⟨S2x1x64x4x128x1, .f32⟩
  | .hbm, ⟨99, _⟩ => ⟨S2x1x64x4x128x256, .f32⟩
  | .hbm, ⟨100, _⟩ => ⟨S2x1x64x4x128x256, .f32⟩
  | .hbm, ⟨101, _⟩ => ⟨S2x1x64x4x128x256, .f32⟩
  | .hbm, ⟨102, _⟩ => ⟨S_, .f32⟩
  | .hbm, ⟨103, _⟩ => ⟨S2x1x64x4x128, .f32⟩
  | .hbm, ⟨104, _⟩ => ⟨S2x1x64x4x128x128, .f32⟩
  | .hbm, ⟨105, _⟩ => ⟨S2x1x64x128x4x128, .f32⟩
  | .hbm, ⟨106, _⟩ => ⟨S2x1x64x128x4, .f32⟩
  | .hbm, ⟨107, _⟩ => ⟨S2x1x64x128x4x1, .f32⟩
  | .hbm, ⟨108, _⟩ => ⟨S2x1x64x128x4x128, .f32⟩
  | .hbm, ⟨109, _⟩ => ⟨S2x1x64x128x4x128, .f32⟩
  | .hbm, ⟨110, _⟩ => ⟨S2x1x64x4x128, .f32⟩
  | .hbm, ⟨111, _⟩ => ⟨S2x1x64x4x128, .f32⟩
  | .hbm, ⟨112, _⟩ => ⟨S2x1x64x4x128, .f32⟩
  | .hbm, ⟨113, _⟩ => ⟨S2x1x64x128x4, .f32⟩
  | .hbm, ⟨114, _⟩ => ⟨S2x1x8192x4x128, .f32⟩
  | .hbm, ⟨115, _⟩ => ⟨S2x8192x1x4x128, .f32⟩
  | .hbm, ⟨116, _⟩ => ⟨S2x8192x4x128, .f32⟩
  | .hbm, ⟨117, _⟩ => ⟨S2x1x8192x4, .f32⟩
  | .hbm, ⟨118, _⟩ => ⟨S2x8192x1x4, .f32⟩
  | .hbm, ⟨119, _⟩ => ⟨S2x8192x4, .f32⟩
  | .hbm, ⟨120, _⟩ => ⟨S2x8192x512, .f32⟩
  | .hbm, ⟨121, _⟩ => ⟨S2x8192x4x1, .f32⟩
  | .hbm, ⟨122, _⟩ => ⟨S2x8192x4x128, .f32⟩
  | .hbm, ⟨123, _⟩ => ⟨S2x8192x512, .f32⟩
  | _, _ => ⟨S2x8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_call1_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call2_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Dil1.lean ====
abbrev S2x8192x13312 : Shape := ⟨3, ![2, 8192, 13312]⟩
abbrev S32x12 : Shape := ⟨2, ![32, 12]⟩
abbrev S128x256 : Shape := ⟨2, ![128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S32x4 : Shape := ⟨2, ![32, 4]⟩
abbrev S128x256x1 : Shape := ⟨3, ![128, 256, 1]⟩
abbrev S128x256x4 : Shape := ⟨3, ![128, 256, 4]⟩
abbrev S4x128x256 : Shape := ⟨3, ![4, 128, 256]⟩
abbrev S1x128x256 : Shape := ⟨3, ![1, 128, 256]⟩
abbrev S4x128x128 : Shape := ⟨3, ![4, 128, 128]⟩
abbrev S2x2048x53248 : Shape := ⟨3, ![2, 2048, 53248]⟩
abbrev S2x2048x2048 : Shape := ⟨3, ![2, 2048, 2048]⟩
abbrev S1x128x512 : Shape := ⟨3, ![1, 128, 512]⟩
abbrev S1x128x128 : Shape := ⟨3, ![1, 128, 128]⟩
abbrev S128x128 : Shape := ⟨2, ![128, 128]⟩

abbrev nBuf : Space → Nat
  | .hbm => 40
  | .vmem => 16
  | .smem => 0
  | _ => 0

abbrev bufTy : (tb : Table) → Fin (tcTables nBuf tb) → BufTy
  | .hbm, ⟨0, _⟩ => ⟨S2x8192x13312, .f32⟩
  | .hbm, ⟨1, _⟩ => ⟨S32x12, .f32⟩
  | .hbm, ⟨2, _⟩ => ⟨S128x256, .i32⟩
  | .hbm, ⟨3, _⟩ => ⟨S128x256, .i1⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S128x256, .i1⟩
  | .hbm, ⟨21, _⟩ => ⟨S32x4, .f32⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S128x256x1, .i32⟩
  | .hbm, ⟨27, _⟩ => ⟨S128x256x4, .f32⟩
  | .hbm, ⟨28, _⟩ => ⟨S4x128x256, .f32⟩
  | .hbm, ⟨29, _⟩ => ⟨S1x128x256, .i1⟩
  | .hbm, ⟨30, _⟩ => ⟨S_, .f32⟩
  | .hbm, ⟨31, _⟩ => ⟨S_, .f32⟩
  | .hbm, ⟨32, _⟩ => ⟨S4x128x256, .i1⟩
  | .hbm, ⟨33, _⟩ => ⟨S4x128x256, .f32⟩
  | .hbm, ⟨34, _⟩ => ⟨S4x128x256, .f32⟩
  | .hbm, ⟨35, _⟩ => ⟨S4x128x128, .f32⟩
  | .hbm, ⟨36, _⟩ => ⟨S4x128x128, .f32⟩
  | .hbm, ⟨37, _⟩ => ⟨S2x2048x53248, .f32⟩
  | .hbm, ⟨38, _⟩ => ⟨S2x2048x2048, .f32⟩
  | .hbm, ⟨39, _⟩ => ⟨S2x2048x2048, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S4x128x128, .f32⟩
  | .local _ .vmem, ⟨11, _⟩ => ⟨S4x128x128, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S2x8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c5_i32 : BitVec 32 := 5#32
  let v1 : BitVec 32 := Scalar.addi v0 c5_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c26_i32 : BitVec 32 := 26#32
  let v2 : BitVec 32 := Scalar.muli arg1 c26_i32
  let c8_i32 : BitVec 32 := 8#32
  let v3 : BitVec 32 := Scalar.addi v2 c8_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c8_i32 : BitVec 32 := 8#32
  let v1 : BitVec 32 := Scalar.addi v0 c8_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c26_i32 : BitVec 32 := 26#32
  let v2 : BitVec 32 := Scalar.muli arg1 c26_i32
  let c11_i32 : BitVec 32 := 11#32
  let v3 : BitVec 32 := Scalar.addi v2 c11_i32
  let c0_i32_0 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c11_i32 : BitVec 32 := 11#32
  let v1 : BitVec 32 := Scalar.addi v0 c11_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Dil1RefIdeal.lean ====
abbrev S2x8192x13312 : Shape := ⟨3, ![2, 8192, 13312]⟩
abbrev S32x12 : Shape := ⟨2, ![32, 12]⟩
abbrev S128x256 : Shape := ⟨2, ![128, 256]⟩
abbrev S2x8192x4608 : Shape := ⟨3, ![2, 8192, 4608]⟩
abbrev S2x8192x1536 : Shape := ⟨3, ![2, 8192, 1536]⟩
abbrev S2x8192x3x4x128 : Shape := ⟨5, ![2, 8192, 3, 4, 128]⟩
abbrev S32x4 : Shape := ⟨2, ![32, 4]⟩
abbrev S2x8192x1x4x128 : Shape := ⟨5, ![2, 8192, 1, 4, 128]⟩
abbrev S2x8192x4x128 : Shape := ⟨4, ![2, 8192, 4, 128]⟩
abbrev S2x2048x4x4x128 : Shape := ⟨5, ![2, 2048, 4, 4, 128]⟩
abbrev S2x4x2048x4x128 : Shape := ⟨5, ![2, 4, 2048, 4, 128]⟩
abbrev S_ : Shape := ⟨0, ![]⟩
abbrev S2x4x16x128x4x128 : Shape := ⟨6, ![2, 4, 16, 128, 4, 128]⟩
abbrev S2x4x2176x4x128 : Shape := ⟨5, ![2, 4, 2176, 4, 128]⟩
abbrev S2x4x16x256x4x128 : Shape := ⟨6, ![2, 4, 16, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16x128x256 : Shape := ⟨3, ![16, 128, 256]⟩
abbrev S1x128x256 : Shape := ⟨3, ![1, 128, 256]⟩
abbrev S128x256x1 : Shape := ⟨3, ![128, 256, 1]⟩
abbrev S128x256x4 : Shape := ⟨3, ![128, 256, 4]⟩
abbrev S4x128x256 : Shape := ⟨3, ![4, 128, 256]⟩
abbrev S2x4x16x4x128x256 : Shape := ⟨6, ![2, 4, 16, 4, 128, 256]⟩
abbrev S1x1x1x4x128x256 : Shape := ⟨6, ![1, 1, 1, 4, 128, 256]⟩
abbrev S16x1x128x256 : Shape := ⟨4, ![16, 1, 128, 256]⟩
abbrev S2x4x16x4x128 : Shape := ⟨5, ![2, 4, 16, 4, 128]⟩
abbrev S2x4x16x4x128x1 : Shape := ⟨6, ![2, 4, 16, 4, 128, 1]⟩
abbrev S2x4x16x4x128x128 : Shape := ⟨6, ![2, 4, 16, 4, 128, 128]⟩
abbrev S2x4x16x128x4 : Shape := ⟨5, ![2, 4, 16, 128, 4]⟩
abbrev S2x4x16x128x4x1 : Shape := ⟨6, ![2, 4, 16, 128, 4, 1]⟩
abbrev S2x4x2048x4 : Shape := ⟨4, ![2, 4, 2048, 4]⟩
abbrev S2x2048x4x4 : Shape := ⟨4, ![2, 2048, 4, 4]⟩
abbrev S2x8192x4 : Shape := ⟨3, ![2, 8192, 4]⟩
abbrev S2x2048x2048 : Shape := ⟨3, ![2, 2048, 2048]⟩
abbrev S2x8192x4x1 : Shape := ⟨4, ![2, 8192, 4, 1]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x13312, .f32⟩
  | .hbm, ⟨1, _⟩ => ⟨S32x12, .f32⟩
  | .hbm, ⟨2, _⟩ => ⟨S128x256, .i32⟩
  | .hbm, ⟨3, _⟩ => ⟨S128x256, .i1⟩
  | .hbm, ⟨4, _⟩ => ⟨S2x8192x4608, .f32⟩
  | .hbm, ⟨5, _⟩ => ⟨S2x8192x1536, .f32⟩
  | .hbm, ⟨6, _⟩ => ⟨S2x8192x1536, .f32⟩
  | .hbm, ⟨7, _⟩ => ⟨S2x8192x1536, .f32⟩
  | .hbm, ⟨8, _⟩ => ⟨S2x8192x3x4x128, .f32⟩
  | .hbm, ⟨9, _⟩ => ⟨S2x8192x3x4x128, .f32⟩
  | .hbm, ⟨10, _⟩ => ⟨S2x8192x3x4x128, .f32⟩
  | .hbm, ⟨11, _⟩ => ⟨S32x4, .f32⟩
  | .hbm, ⟨12, _⟩ => ⟨S2x8192x1x4x128, .f32⟩
  | .hbm, ⟨13, _⟩ => ⟨S2x8192x4x128, .f32⟩
  | .hbm, ⟨14, _⟩ => ⟨S2x8192x1x4x128, .f32⟩
  | .hbm, ⟨15, _⟩ => ⟨S2x8192x4x128, .f32⟩
  | .hbm, ⟨16, _⟩ => ⟨S2x8192x1x4x128, .f32⟩
  | .hbm, ⟨17, _⟩ => ⟨S2x8192x4x128, .f32⟩
  | .hbm, ⟨18, _⟩ => ⟨S2x2048x4x4x128, .f32⟩
  | .hbm, ⟨19, _⟩ => ⟨S2x4x2048x4x128, .f32⟩
  | .hbm, ⟨20, _⟩ => ⟨S_, .i32⟩
  | .hbm, ⟨21, _⟩ => ⟨S_, .f32⟩
  | .hbm, ⟨22, _⟩ => ⟨S2x4x2048x4x128, .f32⟩
  | .hbm, ⟨23, _⟩ => ⟨S2x4x16x128x4x128, .f32⟩
  | .hbm, ⟨24, _⟩ => ⟨S2x2048x4x4x128, .f32⟩
  | .hbm, ⟨25, _⟩ => ⟨S2x4x2048x4x128, .f32⟩
  | .hbm, ⟨26, _⟩ => ⟨S_, .i32⟩
  | .hbm, ⟨27, _⟩ => ⟨S_, .f32⟩
  | .hbm, ⟨28, _⟩ => ⟨S2x4x2176x4x128, .f32⟩
  | .hbm, ⟨29, _⟩ => ⟨S2x4x2048x4x128, .f32⟩
  | .hbm, ⟨30, _⟩ => ⟨S2x4x16x128x4x128, .f32⟩
  | .hbm, ⟨31, _⟩ => ⟨S2x4x2048x4x128, .f32⟩
  | .hbm, ⟨32, _⟩ => ⟨S2x4x16x128x4x128, .f32⟩
  | .hbm, ⟨33, _⟩ => ⟨S2x4x16x256x4x128, .f32⟩
  | .hbm, ⟨34, _⟩ => ⟨S2x2048x4x4x128, .f32⟩
  | .hbm, ⟨35, _⟩ => ⟨S2x4x2048x4x128, .f32⟩
  | .hbm, ⟨36, _⟩ => ⟨S_, .i32⟩
  | .hbm, ⟨37, _⟩ => ⟨S_, .f32⟩
  | .hbm, ⟨38, _⟩ => ⟨S2x4x2176x4x128, .f32⟩
  | .hbm, ⟨39, _⟩ => ⟨S2x4x2048x4x128, .f32⟩
  | .hbm, ⟨40, _⟩ => ⟨S2x4x16x128x4x128, .f32⟩
  | .hbm, ⟨41, _⟩ => ⟨S2x4x2048x4x128, .f32⟩
  | .hbm, ⟨42, _⟩ => ⟨S2x4x16x128x4x128, .f32⟩
  | .hbm, ⟨43, _⟩ => ⟨S2x4x16x256x4x128, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S16x128x256, .i32⟩
  | .hbm, ⟨62, _⟩ => ⟨S_, .i32⟩
  | .hbm, ⟨63, _⟩ => ⟨S16x128x256, .i32⟩
  | .hbm, ⟨64, _⟩ => ⟨S16x128x256, .i32⟩
  | .hbm, ⟨65, _⟩ => ⟨S_, .i32⟩
  | .hbm, ⟨66, _⟩ => ⟨S16x128x256, .i32⟩
  | .hbm, ⟨67, _⟩ => ⟨S16x128x256, .i32⟩
  | .hbm, ⟨68, _⟩ => ⟨S16x128x256, .i32⟩
  | .hbm, ⟨69, _⟩ => ⟨S16x128x256, .i32⟩
  | .hbm, ⟨70, _⟩ => ⟨S1x128x256, .i1⟩
  | .hbm, ⟨71, _⟩ => ⟨S_, .i32⟩
  | .hbm, ⟨72, _⟩ => ⟨S16x128x256, .i32⟩
  | .hbm, ⟨73, _⟩ => ⟨S16x128x256, .i1⟩
  | .hbm, ⟨74, _⟩ => ⟨S16x128x256, .i1⟩
  | .hbm, ⟨75, _⟩ => ⟨S16x128x256, .i1⟩
  | .hbm, ⟨76, _⟩ => ⟨S_, .i32⟩
  | .hbm, ⟨77, _⟩ => ⟨S128x256, .i32⟩
  | .hbm, ⟨78, _⟩ => ⟨S128x256, .i32⟩
  | .hbm, ⟨79, _⟩ => ⟨S128x256, .i32⟩
  | .hbm, ⟨80, _⟩ => ⟨S128x256x1, .i32⟩
  | .hbm, ⟨81, _⟩ => ⟨S128x256x4, .f32⟩
  | .hbm, ⟨82, _⟩ => ⟨S4x128x256, .f32⟩
  | .hbm, ⟨83, _⟩ => ⟨S2x4x16x4x128x256, .f32⟩
  | .hbm, ⟨84, _⟩ => ⟨S_, .f32⟩
  | .hbm, ⟨85, _⟩ => ⟨S2x4x16x4x128x256, .f32⟩
  | .hbm, ⟨86, _⟩ => ⟨S2x4x16x4x128x256, .f32⟩
  | .hbm, ⟨87, _⟩ => ⟨S1x1x1x4x128x256, .f32⟩
  | .hbm, ⟨88, _⟩ => ⟨S2x4x16x4x128x256, .f32⟩
  | .hbm, ⟨89, _⟩ => ⟨S2x4x16x4x128x256, .f32⟩
  | .hbm, ⟨90, _⟩ => ⟨S16x1x128x256, .i1⟩
  | .hbm, ⟨91, _⟩ => ⟨S_, .f32⟩
  | .hbm, ⟨92, _⟩ => ⟨S_, .f32⟩
  | .hbm, ⟨93, _⟩ => ⟨S2x4x16x4x128x256, .i1⟩
  | .hbm, ⟨94, _⟩ => ⟨S2x4x16x4x128x256, .f32⟩
  | .hbm, ⟨95, _⟩ => ⟨S2x4x16x4x128x256, .f32⟩
  | .hbm, ⟨96, _⟩ => ⟨S_, .f32⟩
  | .hbm, ⟨97, _⟩ => ⟨S2x4x16x4x128, .f32⟩
  | .hbm, ⟨98, _⟩ => ⟨S2x4x16x4x128x1, .f32⟩
  | .hbm, ⟨99, _⟩ => ⟨S2x4x16x4x128x256, .f32⟩
  | .hbm, ⟨100, _⟩ => ⟨S2x4x16x4x128x256, .f32⟩
  | .hbm, ⟨101, _⟩ => ⟨S2x4x16x4x128x256, .f32⟩
  | .hbm, ⟨102, _⟩ => ⟨S_, .f32⟩
  | .hbm, ⟨103, _⟩ => ⟨S2x4x16x4x128, .f32⟩
  | .hbm, ⟨104, _⟩ => ⟨S2x4x16x4x128x128, .f32⟩
  | .hbm, ⟨105, _⟩ => ⟨S2x4x16x128x4x128, .f32⟩
  | .hbm, ⟨106, _⟩ => ⟨S2x4x16x128x4, .f32⟩
  | .hbm, ⟨107, _⟩ => ⟨S2x4x16x128x4x1, .f32⟩
  | .hbm, ⟨108, _⟩ => ⟨S2x4x16x128x4x128, .f32⟩
  | .hbm, ⟨109, _⟩ => ⟨S2x4x16x128x4x128, .f32⟩
  | .hbm, ⟨110, _⟩ => ⟨S2x4x16x4x128, .f32⟩
  | .hbm, ⟨111, _⟩ => ⟨S2x4x16x4x128, .f32⟩
  | .hbm, ⟨112, _⟩ => ⟨S2x4x16x4x128, .f32⟩
  | .hbm, ⟨113, _⟩ => ⟨S2x4x16x128x4, .f32⟩
  | .hbm, ⟨114, _⟩ => ⟨S2x4x2048x4x128, .f32⟩
  | .hbm, ⟨115, _⟩ => ⟨S2x2048x4x4x128, .f32⟩
  | .hbm, ⟨116, _⟩ => ⟨S2x8192x4x128, .f32⟩
  | .hbm, ⟨117, _⟩ => ⟨S2x4x2048x4, .f32⟩
  | .hbm, ⟨118, _⟩ => ⟨S2x2048x4x4, .f32⟩
  | .hbm, ⟨119, _⟩ => ⟨S2x8192x4, .f32⟩
  | .hbm, ⟨120, _⟩ => ⟨S2x2048x2048, .f32⟩
  | .hbm, ⟨121, _⟩ => ⟨S2x8192x4x1, .f32⟩
  | .hbm, ⟨122, _⟩ => ⟨S2x8192x4x128, .f32⟩
  | .hbm, ⟨123, _⟩ => ⟨S2x2048x2048, .f32⟩
  | _, _ => ⟨S2x8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_call1_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call2_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Dil2.lean ====
abbrev S2x8192x13312 : Shape := ⟨3, ![2, 8192, 13312]⟩
abbrev S32x12 : Shape := ⟨2, ![32, 12]⟩
abbrev S128x256 : Shape := ⟨2, ![128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S32x4 : Shape := ⟨2, ![32, 4]⟩
abbrev S128x256x1 : Shape := ⟨3, ![128, 256, 1]⟩
abbrev S128x256x4 : Shape := ⟨3, ![128, 256, 4]⟩
abbrev S4x128x256 : Shape := ⟨3, ![4, 128, 256]⟩
abbrev S1x128x256 : Shape := ⟨3, ![1, 128, 256]⟩
abbrev S4x128x128 : Shape := ⟨3, ![4, 128, 128]⟩
abbrev S2x512x212992 : Shape := ⟨3, ![2, 512, 212992]⟩
abbrev S2x512x8192 : Shape := ⟨3, ![2, 512, 8192]⟩
abbrev S1x128x512 : Shape := ⟨3, ![1, 128, 512]⟩
abbrev S1x128x128 : Shape := ⟨3, ![1, 128, 128]⟩
abbrev S128x128 : Shape := ⟨2, ![128, 128]⟩

abbrev nBuf : Space → Nat
  | .hbm => 40
  | .vmem => 16
  | .smem => 0
  | _ => 0

abbrev bufTy : (tb : Table) → Fin (tcTables nBuf tb) → BufTy
  | .hbm, ⟨0, _⟩ => ⟨S2x8192x13312, .f32⟩
  | .hbm, ⟨1, _⟩ => ⟨S32x12, .f32⟩
  | .hbm, ⟨2, _⟩ => ⟨S128x256, .i32⟩
  | .hbm, ⟨3, _⟩ => ⟨S128x256, .i1⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S128x256, .i1⟩
  | .hbm, ⟨21, _⟩ => ⟨S32x4, .f32⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S128x256x1, .i32⟩
  | .hbm, ⟨27, _⟩ => ⟨S128x256x4, .f32⟩
  | .hbm, ⟨28, _⟩ => ⟨S4x128x256, .f32⟩
  | .hbm, ⟨29, _⟩ => ⟨S1x128x256, .i1⟩
  | .hbm, ⟨30, _⟩ => ⟨S_, .f32⟩
  | .hbm, ⟨31, _⟩ => ⟨S_, .f32⟩
  | .hbm, ⟨32, _⟩ => ⟨S4x128x256, .i1⟩
  | .hbm, ⟨33, _⟩ => ⟨S4x128x256, .f32⟩
  | .hbm, ⟨34, _⟩ => ⟨S4x128x256, .f32⟩
  | .hbm, ⟨35, _⟩ => ⟨S4x128x128, .f32⟩
  | .hbm, ⟨36, _⟩ => ⟨S4x128x128, .f32⟩
  | .hbm, ⟨37, _⟩ => ⟨S2x512x212992, .f32⟩
  | .hbm, ⟨38, _⟩ => ⟨S2x512x8192, .f32⟩
  | .hbm, ⟨39, _⟩ => ⟨S2x512x8192, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S4x128x128, .f32⟩
  | .local _ .vmem, ⟨11, _⟩ => ⟨S4x128x128, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S2x8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c6_i32 : BitVec 32 := 6#32
  let v1 : BitVec 32 := Scalar.addi v0 c6_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c26_i32 : BitVec 32 := 26#32
  let v2 : BitVec 32 := Scalar.muli arg1 c26_i32
  let c9_i32 : BitVec 32 := 9#32
  let v3 : BitVec 32 := Scalar.addi v2 c9_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c9_i32 : BitVec 32 := 9#32
  let v1 : BitVec 32 := Scalar.addi v0 c9_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c26_i32 : BitVec 32 := 26#32
  let v2 : BitVec 32 := Scalar.muli arg1 c26_i32
  let c12_i32 : BitVec 32 := 12#32
  let v3 : BitVec 32 := Scalar.addi v2 c12_i32
  let c0_i32_0 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.muli arg1 c26_i32
  let c12_i32 : BitVec 32 := 12#32
  let v1 : BitVec 32 := Scalar.addi v0 c12_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Dil2RefIdeal.lean ====
abbrev S2x8192x13312 : Shape := ⟨3, ![2, 8192, 13312]⟩
abbrev S32x12 : Shape := ⟨2, ![32, 12]⟩
abbrev S128x256 : Shape := ⟨2, ![128, 256]⟩
abbrev S2x8192x4608 : Shape := ⟨3, ![2, 8192, 4608]⟩
abbrev S2x8192x1536 : Shape := ⟨3, ![2, 8192, 1536]⟩
abbrev S2x8192x3x4x128 : Shape := ⟨5, ![2, 8192, 3, 4, 128]⟩
abbrev S32x4 : Shape := ⟨2, ![32, 4]⟩
abbrev S2x8192x1x4x128 : Shape := ⟨5, ![2, 8192, 1, 4, 128]⟩
abbrev S2x8192x4x128 : Shape := ⟨4, ![2, 8192, 4, 128]⟩
abbrev S2x512x16x4x128 : Shape := ⟨5, ![2, 512, 16, 4, 128]⟩
abbrev S2x16x512x4x128 : Shape := ⟨5, ![2, 16, 512, 4, 128]⟩
abbrev S_ : Shape := ⟨0, ![]⟩
abbrev S2x16x4x128x4x128 : Shape := ⟨6, ![2, 16, 4, 128, 4, 128]⟩
abbrev S2x16x640x4x128 : Shape := ⟨5, ![2, 16, 640, 4, 128]⟩
abbrev S2x16x4x256x4x128 : Shape := ⟨6, ![2, 16, 4, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S4x128x256 : Shape := ⟨3, ![4, 128, 256]⟩
abbrev S1x128x256 : Shape := ⟨3, ![1, 128, 256]⟩
abbrev S128x256x1 : Shape := ⟨3, ![128, 256, 1]⟩
abbrev S128x256x4 : Shape := ⟨3, ![128, 256, 4]⟩
abbrev S2x16x4x4x128x256 : Shape := ⟨6, ![2, 16, 4, 4, 128, 256]⟩
abbrev S1x1x1x4x128x256 : Shape := ⟨6, ![1, 1, 1, 4, 128, 256]⟩
abbrev S4x1x128x256 : Shape := ⟨4, ![4, 1, 128, 256]⟩
abbrev S2x16x4x4x128 : Shape := ⟨5, ![2, 16, 4, 4, 128]⟩
abbrev S2x16x4x4x128x1 : Shape := ⟨6, ![2, 16, 4, 4, 128, 1]⟩
abbrev S2x16x4x4x128x128 : Shape := ⟨6, ![2, 16, 4, 4, 128, 128]⟩
abbrev S2x16x4x128x4 : Shape := ⟨5, ![2, 16, 4, 128, 4]⟩
abbrev S2x16x4x128x4x1 : Shape := ⟨6, ![2, 16, 4, 128, 4, 1]⟩
abbrev S2x16x512x4 : Shape := ⟨4, ![2, 16, 512, 4]⟩
abbrev S2x512x16x4 : Shape := ⟨4, ![2, 512, 16, 4]⟩
abbrev S2x8192x4 : Shape := ⟨3, ![2, 8192, 4]⟩
abbrev S2x512x8192 : Shape := ⟨3, ![2, 512, 8192]⟩
abbrev S2x8192x4x1 : Shape := ⟨4, ![2, 8192, 4, 1]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x13312, .f32⟩
  | .hbm, ⟨1, _⟩ => ⟨S32x12, .f32⟩
  | .hbm, ⟨2, _⟩ => ⟨S128x256, .i32⟩
  | .hbm, ⟨3, _⟩ => ⟨S128x256, .i1⟩
  | .hbm, ⟨4, _⟩ => ⟨S2x8192x4608, .f32⟩
  | .hbm, ⟨5, _⟩ => ⟨S2x8192x1536, .f32⟩
  | .hbm, ⟨6, _⟩ => ⟨S2x8192x1536, .f32⟩
  | .hbm, ⟨7, _⟩ => ⟨S2x8192x1536, .f32⟩
  | .hbm, ⟨8, _⟩ => ⟨S2x8192x3x4x128, .f32⟩
  | .hbm, ⟨9, _⟩ => ⟨S2x8192x3x4x128, .f32⟩
  | .hbm, ⟨10, _⟩ => ⟨S2x8192x3x4x128, .f32⟩
  | .hbm, ⟨11, _⟩ => ⟨S32x4, .f32⟩
  | .hbm, ⟨12, _⟩ => ⟨S2x8192x1x4x128, .f32⟩
  | .hbm, ⟨13, _⟩ => ⟨S2x8192x4x128, .f32⟩
  | .hbm, ⟨14, _⟩ => ⟨S2x8192x1x4x128, .f32⟩
  | .hbm, ⟨15, _⟩ => ⟨S2x8192x4x128, .f32⟩
  | .hbm, ⟨16, _⟩ => ⟨S2x8192x1x4x128, .f32⟩
  | .hbm, ⟨17, _⟩ => ⟨S2x8192x4x128, .f32⟩
  | .hbm, ⟨18, _⟩ => ⟨S2x512x16x4x128, .f32⟩
  | .hbm, ⟨19, _⟩ => ⟨S2x16x512x4x128, .f32⟩
  | .hbm, ⟨20, _⟩ => ⟨S_, .i32⟩
  | .hbm, ⟨21, _⟩ => ⟨S_, .f32⟩
  | .hbm, ⟨22, _⟩ => ⟨S2x16x512x4x128, .f32⟩
  | .hbm, ⟨23, _⟩ => ⟨S2x16x4x128x4x128, .f32⟩
  | .hbm, ⟨24, _⟩ => ⟨S2x512x16x4x128, .f32⟩
  | .hbm, ⟨25, _⟩ => ⟨S2x16x512x4x128, .f32⟩
  | .hbm, ⟨26, _⟩ => ⟨S_, .i32⟩
  | .hbm, ⟨27, _⟩ => ⟨S_, .f32⟩
  | .hbm, ⟨28, _⟩ => ⟨S2x16x640x4x128, .f32⟩
  | .hbm, ⟨29, _⟩ => ⟨S2x16x512x4x128, .f32⟩
  | .hbm, ⟨30, _⟩ => ⟨S2x16x4x128x4x128, .f32⟩
  | .hbm, ⟨31, _⟩ => ⟨S2x16x512x4x128, .f32⟩
  | .hbm, ⟨32, _⟩ => ⟨S2x16x4x128x4x128, .f32⟩
  | .hbm, ⟨33, _⟩ => ⟨S2x16x4x256x4x128, .f32⟩
  | .hbm, ⟨34, _⟩ => ⟨S2x512x16x4x128, .f32⟩
  | .hbm, ⟨35, _⟩ => ⟨S2x16x512x4x128, .f32⟩
  | .hbm, ⟨36, _⟩ => ⟨S_, .i32⟩
  | .hbm, ⟨37, _⟩ => ⟨S_, .f32⟩
  | .hbm, ⟨38, _⟩ => ⟨S2x16x640x4x128, .f32⟩
  | .hbm, ⟨39, _⟩ => ⟨S2x16x512x4x128, .f32⟩
  | .hbm, ⟨40, _⟩ => ⟨S2x16x4x128x4x128, .f32⟩
  | .hbm, ⟨41, _⟩ => ⟨S2x16x512x4x128, .f32⟩
  | .hbm, ⟨42, _⟩ => ⟨S2x16x4x128x4x128, .f32⟩
  | .hbm, ⟨43, _⟩ => ⟨S2x16x4x256x4x128, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S4x128x256, .i32⟩
  | .hbm, ⟨62, _⟩ => ⟨S_, .i32⟩
  | .hbm, ⟨63, _⟩ => ⟨S4x128x256, .i32⟩
  | .hbm, ⟨64, _⟩ => ⟨S4x128x256, .i32⟩
  | .hbm, ⟨65, _⟩ => ⟨S_, .i32⟩
  | .hbm, ⟨66, _⟩ => ⟨S4x128x256, .i32⟩
  | .hbm, ⟨67, _⟩ => ⟨S4x128x256, .i32⟩
  | .hbm, ⟨68, _⟩ => ⟨S4x128x256, .i32⟩
  | .hbm, ⟨69, _⟩ => ⟨S4x128x256, .i32⟩
  | .hbm, ⟨70, _⟩ => ⟨S1x128x256, .i1⟩
  | .hbm, ⟨71, _⟩ => ⟨S_, .i32⟩
  | .hbm, ⟨72, _⟩ => ⟨S4x128x256, .i32⟩
  | .hbm, ⟨73, _⟩ => ⟨S4x128x256, .i1⟩
  | .hbm, ⟨74, _⟩ => ⟨S4x128x256, .i1⟩
  | .hbm, ⟨75, _⟩ => ⟨S4x128x256, .i1⟩
  | .hbm, ⟨76, _⟩ => ⟨S_, .i32⟩
  | .hbm, ⟨77, _⟩ => ⟨S128x256, .i32⟩
  | .hbm, ⟨78, _⟩ => ⟨S128x256, .i32⟩
  | .hbm, ⟨79, _⟩ => ⟨S128x256, .i32⟩
  | .hbm, ⟨80, _⟩ => ⟨S128x256x1, .i32⟩
  | .hbm, ⟨81, _⟩ => ⟨S128x256x4, .f32⟩
  | .hbm, ⟨82, _⟩ => ⟨S4x128x256, .f32⟩
  | .hbm, ⟨83, _⟩ => ⟨S2x16x4x4x128x256, .f32⟩
  | .hbm, ⟨84, _⟩ => ⟨S_, .f32⟩
  | .hbm, ⟨85, _⟩ => ⟨S2x16x4x4x128x256, .f32⟩
  | .hbm, ⟨86, _⟩ => ⟨S2x16x4x4x128x256, .f32⟩
  | .hbm, ⟨87, _⟩ => ⟨S1x1x1x4x128x256, .f32⟩
  | .hbm, ⟨88, _⟩ => ⟨S2x16x4x4x128x256, .f32⟩
  | .hbm, ⟨89, _⟩ => ⟨S2x16x4x4x128x256, .f32⟩
  | .hbm, ⟨90, _⟩ => ⟨S4x1x128x256, .i1⟩
  | .hbm, ⟨91, _⟩ => ⟨S_, .f32⟩
  | .hbm, ⟨92, _⟩ => ⟨S_, .f32⟩
  | .hbm, ⟨93, _⟩ => ⟨S2x16x4x4x128x256, .i1⟩
  | .hbm, ⟨94, _⟩ => ⟨S2x16x4x4x128x256, .f32⟩
  | .hbm, ⟨95, _⟩ => ⟨S2x16x4x4x128x256, .f32⟩
  | .hbm, ⟨96, _⟩ => ⟨S_, .f32⟩
  | .hbm, ⟨97, _⟩ => ⟨S2x16x4x4x128, .f32⟩
  | .hbm, ⟨98, _⟩ => ⟨S2x16x4x4x128x1, .f32⟩
  | .hbm, ⟨99, _⟩ => ⟨S2x16x4x4x128x256, .f32⟩
  | .hbm, ⟨100, _⟩ => ⟨S2x16x4x4x128x256, .f32⟩
  | .hbm, ⟨101, _⟩ => ⟨S2x16x4x4x128x256, .f32⟩
  | .hbm, ⟨102, _⟩ => ⟨S_, .f32⟩
  | .hbm, ⟨103, _⟩ => ⟨S2x16x4x4x128, .f32⟩
  | .hbm, ⟨104, _⟩ => ⟨S2x16x4x4x128x128, .f32⟩
  | .hbm, ⟨105, _⟩ => ⟨S2x16x4x128x4x128, .f32⟩
  | .hbm, ⟨106, _⟩ => ⟨S2x16x4x128x4, .f32⟩
  | .hbm, ⟨107, _⟩ => ⟨S2x16x4x128x4x1, .f32⟩
  | .hbm, ⟨108, _⟩ => ⟨S2x16x4x128x4x128, .f32⟩
  | .hbm, ⟨109, _⟩ => ⟨S2x16x4x128x4x128, .f32⟩
  | .hbm, ⟨110, _⟩ => ⟨S2x16x4x4x128, .f32⟩
  | .hbm, ⟨111, _⟩ => ⟨S2x16x4x4x128, .f32⟩
  | .hbm, ⟨112, _⟩ => ⟨S2x16x4x4x128, .f32⟩
  | .hbm, ⟨113, _⟩ => ⟨S2x16x4x128x4, .f32⟩
  | .hbm, ⟨114, _⟩ => ⟨S2x16x512x4x128, .f32⟩
  | .hbm, ⟨115, _⟩ => ⟨S2x512x16x4x128, .f32⟩
  | .hbm, ⟨116, _⟩ => ⟨S2x8192x4x128, .f32⟩
  | .hbm, ⟨117, _⟩ => ⟨S2x16x512x4, .f32⟩
  | .hbm, ⟨118, _⟩ => ⟨S2x512x16x4, .f32⟩
  | .hbm, ⟨119, _⟩ => ⟨S2x8192x4, .f32⟩
  | .hbm, ⟨120, _⟩ => ⟨S2x512x8192, .f32⟩
  | .hbm, ⟨121, _⟩ => ⟨S2x8192x4x1, .f32⟩
  | .hbm, ⟨122, _⟩ => ⟨S2x8192x4x128, .f32⟩
  | .hbm, ⟨123, _⟩ => ⟨S2x512x8192, .f32⟩
  | _, _ => ⟨S2x8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_call1_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call2_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x9224 : Shape := ⟨2, ![1024, 9224]⟩
abbrev S1024x4096 : Shape := ⟨2, ![1024, 4096]⟩
abbrev S4096 : Shape := ⟨1, ![4096]⟩
abbrev S1024x1536 : Shape := ⟨2, ![1024, 1536]⟩
abbrev S1024x512 : Shape := ⟨2, ![1024, 512]⟩
abbrev S1024x4608 : Shape := ⟨2, ![1024, 4608]⟩
abbrev S1024x1024 : Shape := ⟨2, ![1024, 1024]⟩
abbrev S1024x13312 : Shape := ⟨2, ![1024, 13312]⟩
abbrev S_ : Shape := ⟨0, ![]⟩
abbrev S9216 : Shape := ⟨1, ![9216]⟩
abbrev S13312 : Shape := ⟨1, ![13312]⟩
abbrev S1x13312 : Shape := ⟨2, ![1, 13312]⟩
abbrev S1x1024 : Shape := ⟨2, ![1, 1024]⟩
abbrev S16384x13312 : Shape := ⟨2, ![16384, 13312]⟩
abbrev S1024x1 : Shape := ⟨2, ![1024, 1]⟩

abbrev nBuf : Space → Nat
  | .hbm => 18
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9224, .f32⟩
  | .hbm, ⟨3, _⟩ => ⟨S1024x4096, .f32⟩
  | .hbm, ⟨4, _⟩ => ⟨S4096, .f32⟩
  | .hbm, ⟨5, _⟩ => ⟨S1024x1536, .f32⟩
  | .hbm, ⟨6, _⟩ => ⟨S1024x512, .f32⟩
  | .hbm, ⟨7, _⟩ => ⟨S1024x4608, .f32⟩
  | .hbm, ⟨8, _⟩ => ⟨S1024x1536, .f32⟩
  | .hbm, ⟨9, _⟩ => ⟨S1024x1024, .f32⟩
  | .hbm, ⟨10, _⟩ => ⟨S1024x13312, .f32⟩
  | .hbm, ⟨11, _⟩ => ⟨S1024x13312, .bf16⟩
  | .hbm, ⟨12, _⟩ => ⟨S_, .f32⟩
  | .hbm, ⟨13, _⟩ => ⟨S9216, .f32⟩
  | .hbm, ⟨14, _⟩ => ⟨S13312, .f32⟩
  | .hbm, ⟨15, _⟩ => ⟨S1x13312, .f32⟩
  | .hbm, ⟨16, _⟩ => ⟨S1x1024, .f32⟩
  | .hbm, ⟨17, _⟩ => ⟨S16384x13312, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c9_i32 : BitVec 32 := 9#32
  let v11 : BitVec 1 := Scalar.cmpi .slt arg1 c9_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c9_i32_7 : BitVec 32 := 9#32
  let v14 : BitVec 1 := Scalar.cmpi .sge arg1 c9_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S16384x1024 : Shape := ⟨2, ![16384, 1024]⟩
abbrev S1024 : Shape := ⟨1, ![1024]⟩
abbrev S1024x9224 : Shape := ⟨2, ![1024, 9224]⟩
abbrev S1024x4096 : Shape := ⟨2, ![1024, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9224 : Shape := ⟨2, ![16384, 9224]⟩
abbrev S16384x2056 : Shape := ⟨2, ![16384, 2056]⟩
abbrev S16384x4608 : Shape := ⟨2, ![16384, 4608]⟩
abbrev S16384x1536 : Shape := ⟨2, ![16384, 1536]⟩
abbrev S16384x2048 : Shape := ⟨2, ![16384, 2048]⟩
abbrev S16384x4096 : Shape := ⟨2, ![16384, 4096]⟩
abbrev S1x4096 : Shape := ⟨2, ![1, 4096]⟩
abbrev S16384x13312 : Shape := ⟨2, ![16384, 13312]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9224, .f32⟩
  | .hbm, ⟨3, _⟩ => ⟨S1024x4096, .f32⟩
  | .hbm, ⟨4, _⟩ => ⟨S4096, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x9224, .f32⟩
  | .hbm, ⟨22, _⟩ => ⟨S16384x2056, .f32⟩
  | .hbm, ⟨23, _⟩ => ⟨S16384x4608, .f32⟩
  | .hbm, ⟨24, _⟩ => ⟨S16384x1536, .f32⟩
  | .hbm, ⟨25, _⟩ => ⟨S16384x1024, .f32⟩
  | .hbm, ⟨26, _⟩ => ⟨S16384x2048, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S16384x13312, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x13312 : Shape := ⟨2, ![16384, 13312]⟩
abbrev S4x512x1024 : Shape := ⟨3, ![4, 512, 1024]⟩
abbrev S1024x1024 : Shape := ⟨2, ![1024, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 16
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x13312, .f32⟩
  | .hbm, ⟨11, _⟩ => ⟨S4x512x1024, .f32⟩
  | .hbm, ⟨12, _⟩ => ⟨S1024x1024, .f32⟩
  | .hbm, ⟨13, _⟩ => ⟨S4x512x1024, .bf16⟩
  | .hbm, ⟨14, _⟩ => ⟨S1024x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S4x512x1024, .bf16⟩
  | .local _ .vmem, ⟨29, _⟩ => ⟨S1024x1024, .bf16⟩
  | .local _ .vmem, ⟨30, _⟩ => ⟨S256x1024, .f32⟩
  | .local _ .vmem, ⟨31, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_11 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_12 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_13 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S16384x512 : Shape := ⟨2, ![16384, 512]⟩
abbrev S16384x13312 : Shape := ⟨2, ![16384, 13312]⟩
abbrev S4x512x1024 : Shape := ⟨3, ![4, 512, 1024]⟩
abbrev S1024x1024 : Shape := ⟨2, ![1024, 1024]⟩
abbrev S1x16384x512 : Shape := ⟨3, ![1, 16384, 512]⟩
abbrev S3x16384x512 : Shape := ⟨3, ![3, 16384, 512]⟩
abbrev S_ : Shape := ⟨0, ![]⟩
abbrev S16384x1x512 : Shape := ⟨3, ![16384, 1, 512]⟩
abbrev S16384x4x512 : Shape := ⟨3, ![16384, 4, 512]⟩
abbrev S4x1024x16384 : Shape := ⟨3, ![4, 1024, 16384]⟩
abbrev S16384x4x1024 : Shape := ⟨3, ![16384, 4, 1024]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x13312, .f32⟩
  | .hbm, ⟨11, _⟩ => ⟨S4x512x1024, .f32⟩
  | .hbm, ⟨12, _⟩ => ⟨S1024x1024, .f32⟩
  | .hbm, ⟨13, _⟩ => ⟨S1x16384x512, .f32⟩
  | .hbm, ⟨14, _⟩ => ⟨S1x16384x512, .f32⟩
  | .hbm, ⟨15, _⟩ => ⟨S1x16384x512, .f32⟩
  | .hbm, ⟨16, _⟩ => ⟨S3x16384x512, .f32⟩
  | .hbm, ⟨17, _⟩ => ⟨S_, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S1x16384x512, .f32⟩
  | .hbm, ⟨23, _⟩ => ⟨S3x16384x512, .f32⟩
  | .hbm, ⟨24, _⟩ => ⟨S3x16384x512, .f32⟩
  | .hbm, ⟨25, _⟩ => ⟨S3x16384x512, .f32⟩
  | .hbm, ⟨26, _⟩ => ⟨S_, .f32⟩
  | .hbm, ⟨27, _⟩ => ⟨S16384x512, .f32⟩
  | .hbm, ⟨28, _⟩ => ⟨S1x16384x512, .f32⟩
  | .hbm, ⟨29, _⟩ => ⟨S3x16384x512, .f32⟩
  | .hbm, ⟨30, _⟩ => ⟨S3x16384x512, .f32⟩
  | .hbm, ⟨31, _⟩ => ⟨S1x16384x512, .f32⟩
  | .hbm, ⟨32, _⟩ => ⟨S1x16384x512, .f32⟩
  | .hbm, ⟨33, _⟩ => ⟨S1x16384x512, .f32⟩
  | .hbm, ⟨34, _⟩ => ⟨S3x16384x512, .f32⟩
  | .hbm, ⟨35, _⟩ => ⟨S3x16384x512, .f32⟩
  | .hbm, ⟨36, _⟩ => ⟨S_, .f32⟩
  | .hbm, ⟨37, _⟩ => ⟨S16384x512, .f32⟩
  | .hbm, ⟨38, _⟩ => ⟨S16384x1x512, .f32⟩
  | .hbm, ⟨39, _⟩ => ⟨S16384x1x512, .f32⟩
  | .hbm, ⟨40, _⟩ => ⟨S16384x1x512, .f32⟩
  | .hbm, ⟨41, _⟩ => ⟨S16384x1x512, .f32⟩
  | .hbm, ⟨42, _⟩ => ⟨S16384x4x512, .f32⟩
  | .hbm, ⟨43, _⟩ => ⟨S4x1024x16384, .f32⟩
  | .hbm, ⟨44, _⟩ => ⟨S16384x4x1024, .f32⟩
  | .hbm, ⟨45, _⟩ => ⟨S16384x4096, .f32⟩
  | .hbm, ⟨46, _⟩ => ⟨S16384x4x1024, .f32⟩
  | .hbm, ⟨47, _⟩ => ⟨S16384x4x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Step.lean ====
abbrev S32x13312 : Shape := ⟨2, ![32, 13312]⟩
abbrev S32x3x1536 : Shape := ⟨3, ![32, 3, 1536]⟩
abbrev S32x2x512 : Shape := ⟨3, ![32, 2, 512]⟩
abbrev S32x3x512 : Shape := ⟨3, ![32, 3, 512]⟩
abbrev S32x512 : Shape := ⟨2, ![32, 512]⟩
abbrev S4x1536 : Shape := ⟨2, ![4, 1536]⟩
abbrev S3x512 : Shape := ⟨2, ![3, 512]⟩
abbrev S4x512 : Shape := ⟨2, ![4, 512]⟩
abbrev S512 : Shape := ⟨1, ![512]⟩
abbrev S8x64x64 : Shape := ⟨3, ![8, 64, 64]⟩
abbrev S32x4608 : Shape := ⟨2, ![32, 4608]⟩
abbrev S32x1024 : Shape := ⟨2, ![32, 1024]⟩
abbrev S32x1536 : Shape := ⟨2, ![32, 1536]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x1536 : Shape := ⟨2, ![1, 1536]⟩
abbrev S32x3072 : Shape := ⟨2, ![32, 3072]⟩

abbrev nBuf : Space → Nat
  | .hbm => 56
  | .vmem => 21
  | .smem => 0
  | _ => 0

abbrev bufTy : (tb : Table) → Fin (tcTables nBuf tb) → BufTy
  | .hbm, ⟨0, _⟩ => ⟨S32x13312, .f32⟩
  | .hbm, ⟨1, _⟩ => ⟨S32x3x1536, .f32⟩
  | .hbm, ⟨2, _⟩ => ⟨S32x2x512, .f32⟩
  | .hbm, ⟨3, _⟩ => ⟨S32x3x512, .f32⟩
  | .hbm, ⟨4, _⟩ => ⟨S32x512, .f32⟩
  | .hbm, ⟨5, _⟩ => ⟨S4x1536, .f32⟩
  | .hbm, ⟨6, _⟩ => ⟨S3x512, .f32⟩
  | .hbm, ⟨7, _⟩ => ⟨S4x512, .f32⟩
  | .hbm, ⟨8, _⟩ => ⟨S512, .f32⟩
  | .hbm, ⟨9, _⟩ => ⟨S8x64x64, .f32⟩
  | .hbm, ⟨10, _⟩ => ⟨S512, .f32⟩
  | .hbm, ⟨11, _⟩ => ⟨S8x64x64, .f32⟩
  | .hbm, ⟨12, _⟩ => ⟨S512, .f32⟩
  | .hbm, ⟨13, _⟩ => ⟨S512, .f32⟩
  | .hbm, ⟨14, _⟩ => ⟨S32x4608, .f32⟩
  | .hbm, ⟨15, _⟩ => ⟨S32x1024, .f32⟩
  | .hbm, ⟨16, _⟩ => ⟨S32x1536, .f32⟩
  | .hbm, ⟨17, _⟩ => ⟨S1x512, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x1x8x1, .f32⟩
  | .hbm, ⟨26, _⟩ => ⟨S8x64x1x64, .f32⟩
  | .hbm, ⟨27, _⟩ => ⟨S8x64x8x64, .f32⟩
  | .hbm, ⟨28, _⟩ => ⟨S8x64x8x64, .f32⟩
  | .hbm, ⟨29, _⟩ => ⟨S8x64x8x64, .f32⟩
  | .hbm, ⟨30, _⟩ => ⟨S512x512, .f32⟩
  | .hbm, ⟨31, _⟩ => ⟨S512x512, .bf16⟩
  | .hbm, ⟨32, _⟩ => ⟨S1x512, .f32⟩
  | .hbm, ⟨33, _⟩ => ⟨S8x8, .i32⟩
  | .hbm, ⟨34, _⟩ => ⟨S8x8, .i32⟩
  | .hbm, ⟨35, _⟩ => ⟨S_, .i32⟩
  | .hbm, ⟨36, _⟩ => ⟨S8x8, .i32⟩
  | .hbm, ⟨37, _⟩ => ⟨S8x8, .i32⟩
  | .hbm, ⟨38, _⟩ => ⟨S8x8, .i1⟩
  | .hbm, ⟨39, _⟩ => ⟨S8x8, .f32⟩
  | .hbm, ⟨40, _⟩ => ⟨S8x1x8x1, .f32⟩
  | .hbm, ⟨41, _⟩ => ⟨S8x64x1x64, .f32⟩
  | .hbm, ⟨42, _⟩ => ⟨S8x64x8x64, .f32⟩
  | .hbm, ⟨43, _⟩ => ⟨S8x64x8x64, .f32⟩
  | .hbm, ⟨44, _⟩ => ⟨S8x64x8x64, .f32⟩
  | .hbm, ⟨45, _⟩ => ⟨S512x512, .f32⟩
  | .hbm, ⟨46, _⟩ => ⟨S512x512, .bf16⟩
  | .hbm, ⟨47, _⟩ => ⟨S1x512, .f32⟩
  | .hbm, ⟨48, _⟩ => ⟨S1x512, .f32⟩
  | .hbm, ⟨49, _⟩ => ⟨S32x1536, .f32⟩
  | .hbm, ⟨50, _⟩ => ⟨S32x4608, .f32⟩
  | .hbm, ⟨51, _⟩ => ⟨S32x512, .f32⟩
  | .hbm, ⟨52, _⟩ => ⟨S32x1024, .f32⟩
  | .hbm, ⟨53, _⟩ => ⟨S32x512, .f32⟩
  | .hbm, ⟨54, _⟩ => ⟨S32x512, .f32⟩
  | .hbm, ⟨55, _⟩ => ⟨S32x1536, .f32⟩
  | .local _ .vmem, ⟨0, _⟩ => ⟨S32x13312, .f32⟩
  | .local _ .vmem, ⟨1, _⟩ => ⟨S32x4608, .f32⟩
  | .local _ .vmem, ⟨2, _⟩ => ⟨S32x1024, .f32⟩
  | .local _ .vmem, ⟨3, _⟩ => ⟨S32x1536, .f32⟩
  | .local _ .vmem, ⟨4, _⟩ => ⟨S32x512, .f32⟩
  | .local _ .vmem, ⟨5, _⟩ => ⟨S4x1536, .f32⟩
  | .local _ .vmem, ⟨6, _⟩ => ⟨S3x512, .f32⟩
  | .local _ .vmem, ⟨7, _⟩ => ⟨S4x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S32x1536, .f32⟩
  | .local _ .vmem, ⟨15, _⟩ => ⟨S32x4608, .f32⟩
  | .local _ .vmem, ⟨16, _⟩ => ⟨S32x512, .f32⟩
  | .local _ .vmem, ⟨17, _⟩ => ⟨S32x1024, .f32⟩
  | .local _ .vmem, ⟨18, _⟩ => ⟨S32x512, .f32⟩
  | .local _ .vmem, ⟨19, _⟩ => ⟨S32x512, .f32⟩
  | .local _ .vmem, ⟨20, _⟩ => ⟨S32x1536, .f32⟩
  | _, _ => ⟨S32x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev main_v33_4 : Ref sig .tc := ⟨.hbm, 53, rfl⟩
abbrev main_v33_5 : Ref sig .tc := ⟨.hbm, 54, rfl⟩
abbrev main_v33_6 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S32x13312 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x4608 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== StepRefIdeal.lean ====
abbrev S32x13312 : Shape := ⟨2, ![32, 13312]⟩
abbrev S32x3x1536 : Shape := ⟨3, ![32, 3, 1536]⟩
abbrev S32x2x512 : Shape := ⟨3, ![32, 2, 512]⟩
abbrev S32x3x512 : Shape := ⟨3, ![32, 3, 512]⟩
abbrev S32x512 : Shape := ⟨2, ![32, 512]⟩
abbrev S4x1536 : Shape := ⟨2, ![4, 1536]⟩
abbrev S3x512 : Shape := ⟨2, ![3, 512]⟩
abbrev S4x512 : Shape := ⟨2, ![4, 512]⟩
abbrev S512 : Shape := ⟨1, ![512]⟩
abbrev S8x64x64 : Shape := ⟨3, ![8, 64, 64]⟩
abbrev S32x1x13312 : Shape := ⟨3, ![32, 1, 13312]⟩
abbrev S32x1x1536 : Shape := ⟨3, ![32, 1, 1536]⟩
abbrev S32x4x1536 : Shape := ⟨3, ![32, 4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S32x1x512 : Shape := ⟨3, ![32, 1, 512]⟩
abbrev S1x512 : Shape := ⟨2, ![1, 512]⟩
abbrev S1x1x512 : Shape := ⟨3, ![1, 1, 512]⟩
abbrev S32x1x1024 : Shape := ⟨3, ![32, 1, 1024]⟩
abbrev S32x4x512 : Shape := ⟨3, ![32, 4, 512]⟩
abbrev S32x1x8x64 : Shape := ⟨4, ![32, 1, 8, 64]⟩
abbrev S8x64x32x1 : Shape := ⟨4, ![8, 64, 32, 1]⟩
abbrev S32x1536 : Shape := ⟨2, ![32, 1536]⟩
abbrev S32x4608 : Shape := ⟨2, ![32, 4608]⟩
abbrev S32x1024 : Shape := ⟨2, ![32, 1024]⟩

abbrev nBuf : Space → Nat
  | .hbm => 204
  | .vmem => 0
  | .smem => 0
  | _ => 0

abbrev hbmTy0_0 (i : Nat) : BufTy := match i % 128 with
  | 0 => ⟨S32x13312, .f32⟩
  | 1 => ⟨S32x3x1536, .f32⟩
  | 2 => ⟨S32x2x512, .f32⟩
  | 3 => ⟨S32x3x512, .f32⟩
  | 4 => ⟨S32x512, .f32⟩
  | 5 => ⟨S4x1536, .f32⟩
  | 6 => ⟨S3x512, .f32⟩
  | 7 => ⟨S4x512, .f32⟩
  | 8 => ⟨S512, .f32⟩
  | 9 => ⟨S8x64x64, .f32⟩
  | 10 => ⟨S512, .f32⟩
  | 11 => ⟨S8x64x64, .f32⟩
  | 12 => ⟨S512, .f32⟩
  | 13 => ⟨S512, .f32⟩
  | 14 => ⟨S32x1x13312, .f32⟩
  | 15 => ⟨S32x1x1536, .f32⟩
  | 16 => ⟨S32x4x1536, .f32⟩
  | 17 => ⟨S32x1x1536, .f32⟩
  | 18 => ⟨S1x1536, .f32⟩
  | 19 => ⟨S1536, .f32⟩
  | 20 => ⟨S1x1x1536, .f32⟩
  | 21 => ⟨S32x1x1536, .f32⟩
  | 22 => ⟨S32x1x1536, .f32⟩
  | 23 => ⟨S32x1x1536, .f32⟩
  | 24 => ⟨S1x1536, .f32⟩
  | 25 => ⟨S1536, .f32⟩
  | 26 => ⟨S1x1x1536, .f32⟩
  | 27 => ⟨S32x1x1536, .f32⟩
  | 28 => ⟨S32x1x1536, .f32⟩
  | 29 => ⟨S32x1x1536, .f32⟩
  | 30 => ⟨S32x1x1536, .f32⟩
  | 31 => ⟨S1x1536, .f32⟩
  | 32 => ⟨S1536, .f32⟩
  | 33 => ⟨S1x1x1536, .f32⟩
  | 34 => ⟨S32x1x1536, .f32⟩
  | 35 => ⟨S32x1x1536, .f32⟩
  | 36 => ⟨S32x1x1536, .f32⟩
  | 37 => ⟨S32x1x1536, .f32⟩
  | 38 => ⟨S1x1536, .f32⟩
  | 39 => ⟨S1536, .f32⟩
  | 40 => ⟨S1x1x1536, .f32⟩
  | 41 => ⟨S32x1x1536, .f32⟩
  | 42 => ⟨S32x1x1536, .f32⟩
  | 43 => ⟨S32x1x1536, .f32⟩
  | 44 => ⟨S32x3x1536, .f32⟩
  | 45 => ⟨S32x1x1536, .f32⟩
  | 46 => ⟨S32x1x1536, .f32⟩
  | 47 => ⟨S_, .f32⟩
  | 48 => ⟨S32x1x1536, .f32⟩
  | 49 => ⟨S32x1x1536, .f32⟩
  | 50 => ⟨S_, .f32⟩
  | 51 => ⟨S32x1x1536, .f32⟩
  | 52 => ⟨S32x1x1536, .f32⟩
  | 53 => ⟨S32x1x1536, .f32⟩
  | 54 => ⟨S32x1x1536, .f32⟩
  | 55 => ⟨S32x1x512, .f32⟩
  | 56 => ⟨S32x1x512, .f32⟩
  | 57 => ⟨S32x1x512, .f32⟩
  | 58 => ⟨S32x1x512, .f32⟩
  | 59 => ⟨S32x3x512, .f32⟩
  | 60 => ⟨S32x1x512, .f32⟩
  | 61 => ⟨S1x512, .f32⟩
  | 62 => ⟨S512, .f32⟩
  | 63 => ⟨S1x1x512, .f32⟩
  | 64 => ⟨S32x1x512, .f32⟩
  | 65 => ⟨S32x1x512, .f32⟩
  | 66 => ⟨S32x1x512, .f32⟩
  | 67 => ⟨S1x512, .f32⟩
  | 68 => ⟨S512, .f32⟩
  | 69 => ⟨S1x1x512, .f32⟩
  | 70 => ⟨S32x1x512, .f32⟩
  | 71 => ⟨S32x1x512, .f32⟩
  | 72 => ⟨S32x1x512, .f32⟩
  | 73 => ⟨S32x1x512, .f32⟩
  | 74 => ⟨S1x512, .f32⟩
  | 75 => ⟨S512, .f32⟩
  | 76 => ⟨S1x1x512, .f32⟩
  | 77 => ⟨S32x1x512, .f32⟩
  | 78 => ⟨S32x1x512, .f32⟩
  | 79 => ⟨S32x1x512, .f32⟩
  | 80 => ⟨S32x2x512, .f32⟩
  | 81 => ⟨S32x1x512, .f32⟩
  | 82 => ⟨S32x1x1024, .f32⟩
  | 83 => ⟨S32x1x512, .f32⟩
  | 84 => ⟨S32x1x512, .f32⟩
  | 85 => ⟨S32x4x512, .f32⟩
  | 86 => ⟨S32x1x512, .f32⟩
  | 87 => ⟨S1x512, .f32⟩
  | 88 => ⟨S512, .f32⟩
  | 89 => ⟨S1x1x512, .f32⟩
  | 90 => ⟨S32x1x512, .f32⟩
  | 91 => ⟨S32x1x512, .f32⟩
  | 92 => ⟨S32x1x512, .f32⟩
  | 93 => ⟨S1x512, .f32⟩
  | 94 => ⟨S512, .f32⟩
  | 95 => ⟨S1x1x512, .f32⟩
  | 96 => ⟨S32x1x512, .f32⟩
  | 97 => ⟨S32x1x512, .f32⟩
  | 98 => ⟨S32x1x512, .f32⟩
  | 99 => ⟨S32x1x512, .f32⟩
  | 100 => ⟨S1x512, .f32⟩
  | 101 => ⟨S512, .f32⟩
  | 102 => ⟨S1x1x512, .f32⟩
  | 103 => ⟨S32x1x512, .f32⟩
  | 104 => ⟨S32x1x512, .f32⟩
  | 105 => ⟨S32x1x512, .f32⟩
  | 106 => ⟨S32x1x512, .f32⟩
  | 107 => ⟨S1x512, .f32⟩
  | 108 => ⟨S512, .f32⟩
  | 109 => ⟨S1x1x512, .f32⟩
  | 110 => ⟨S32x1x512, .f32⟩
  | 111 => ⟨S32x1x512, .f32⟩
  | 112 => ⟨S32x1x512, .f32⟩
  | 113 => ⟨S1x1x512, .f32⟩
  | 114 => ⟨S32x1x512, .f32⟩
  | 115 => ⟨S32x1x512, .f32⟩
  | 116 => ⟨S32x3x512, .f32⟩
  | 117 => ⟨S32x1x8x64, .f32⟩
  | 118 => ⟨S8x64x32x1, .f32⟩
  | 119 => ⟨S32x1x8x64, .f32⟩
  | 120 => ⟨S32x1x512, .f32⟩
  | 121 => ⟨S1x1x512, .f32⟩
  | 122 => ⟨S32x1x512, .f32⟩
  | 123 => ⟨S32x1x512, .f32⟩
  | 124 => ⟨S32x1x512, .f32⟩
  | 125 => ⟨S32x1x512, .f32⟩
  | 126 => ⟨S_, .f32⟩
  | 127 => ⟨S32x1x512, .f32⟩
  | _ => ⟨S32x13312, .f32⟩

abbrev hbmTy0_1 (i : Nat) : BufTy := match i % 128 with
  | 0 => ⟨S32x1x512, .f32⟩
  | 1 => ⟨S_, .f32⟩
  | 2 => ⟨S32x1x512, .f32⟩
  | 3 => ⟨S32x1x512, .f32⟩
  | 4 => ⟨S8x64x32x1, .f32⟩
  | 5 => ⟨S32x1x8x64, .f32⟩
  | 6 => ⟨S32x1x512, .f32⟩
  | 7 => ⟨S1x1x512, .f32⟩
  | 8 => ⟨S32x1x512, .f32⟩
  | 9 => ⟨S32x1x512, .f32⟩
  | 10 => ⟨S32x1x512, .f32⟩
  | 11 => ⟨S32x1x512, .f32⟩
  | 12 => ⟨S_, .f32⟩
  | 13 => ⟨S32x1x512, .f32⟩
  | 14 => ⟨S32x1x512, .f32⟩
  | 15 => ⟨S_, .f32⟩
  | 16 => ⟨S32x1x512, .f32⟩
  | 17 => ⟨S32x1x512, .f32⟩
  | 18 => ⟨S_, .f32⟩
  | 19 => ⟨S32x1x512, .f32⟩
  | 20 => ⟨S32x1x512, .f32⟩
  | 21 => ⟨S512, .f32⟩
  | 22 => ⟨S_, .f32⟩
  | 23 => ⟨S512, .f32⟩
  | 24 => ⟨S512, .f32⟩
  | 25 => ⟨S512, .f32⟩
  | 26 => ⟨S512, .f32⟩
  | 27 => ⟨S512, .i1⟩
  | 28 => ⟨S512, .f32⟩
  | 29 => ⟨S512, .f32⟩
  | 30 => ⟨S512, .f32⟩
  | 31 => ⟨S512, .f32⟩
  | 32 => ⟨S512, .f32⟩
  | 33 => ⟨S512, .f32⟩
  | 34 => ⟨S512, .f32⟩
  | 35 => ⟨S512, .f32⟩
  | 36 => ⟨S1x1x512, .f32⟩
  | 37 => ⟨S32x1x512, .f32⟩
  | 38 => ⟨S32x1x512, .f32⟩
  | 39 => ⟨S32x1x512, .f32⟩
  | 40 => ⟨S_, .f32⟩
  | 41 => ⟨S32x1x512, .f32⟩
  | 42 => ⟨S32x1x512, .f32⟩
  | 43 => ⟨S32x1x512, .f32⟩
  | 44 => ⟨S32x1x512, .f32⟩
  | 45 => ⟨S32x1x512, .f32⟩
  | 46 => ⟨S32x1x512, .f32⟩
  | 47 => ⟨S32x1x512, .f32⟩
  | 48 => ⟨S32x1x512, .f32⟩
  | 49 => ⟨S32x1x512, .f32⟩
  | 50 => ⟨S32x1x512, .f32⟩
  | 51 => ⟨S32x512, .f32⟩
  | 52 => ⟨S32x1x512, .f32⟩
  | 53 => ⟨S32x1x512, .f32⟩
  | 54 => ⟨S_, .f32⟩
  | 55 => ⟨S32x1x512, .f32⟩
  | 56 => ⟨S32x1x512, .f32⟩
  | 57 => ⟨S32x1x512, .f32⟩
  | 58 => ⟨S_, .f32⟩
  | 59 => ⟨S32x1x512, .f32⟩
  | 60 => ⟨S32x1x512, .f32⟩
  | 61 => ⟨S32x1x512, .f32⟩
  | 62 => ⟨S_, .f32⟩
  | 63 => ⟨S32x1x512, .f32⟩
  | 64 => ⟨S32x1x512, .f32⟩
  | 65 => ⟨S_, .f32⟩
  | 66 => ⟨S32x1x512, .f32⟩
  | 67 => ⟨S32x1x512, .f32⟩
  | 68 => ⟨S32x1x512, .f32⟩
  | 69 => ⟨S32x1x512, .f32⟩
  | 70 => ⟨S32x1536, .f32⟩
  | 71 => ⟨S32x4608, .f32⟩
  | 72 => ⟨S32x512, .f32⟩
  | 73 => ⟨S32x1024, .f32⟩
  | 74 => ⟨S32x512, .f32⟩
  | 75 => ⟨S32x1536, .f32⟩
  | _ => ⟨S32x13312, .f32⟩

abbrev hbmTy (i : Nat) : BufTy := match i / 128 with
  | 0 => hbmTy0_0 i
  | 1 => hbmTy0_1 i
  | _ => ⟨S32x13312, .f32⟩

abbrev bufTy : (tb : Table) → Fin (tcTables nBuf tb) → BufTy
  | .hbm, ⟨i, _⟩ => hbmTy i
  | _, _ => ⟨S32x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst : Ref sig .tc := ⟨.hbm, 126, rfl⟩
abbrev main_v104 : Ref sig .tc := ⟨.hbm, 127, rfl⟩
abbrev main_v105 : Ref sig .tc := ⟨.hbm, 128, rfl⟩
abbrev main_cst_0 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_1 : Ref sig .tc := ⟨.hbm, 140, rfl⟩
abbrev main_v116 : Ref sig .tc := ⟨.hbm, 141, rfl⟩
abbrev main_v117 : Ref sig .tc := ⟨.hbm, 142, rfl⟩
abbrev main_cst_2 : Ref sig .tc := ⟨.hbm, 143, rfl⟩
abbrev main_v118 : Ref sig .tc := ⟨.hbm, 144, rfl⟩
abbrev main_v119 : Ref sig .tc := ⟨.hbm, 145, rfl⟩
abbrev main_cst_3 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_call1_cst : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_v8 : Ref sig .tc := ⟨.hbm, 159, rfl⟩
abbrev main_call1_v9 : Ref sig .tc := ⟨.hbm, 160, rfl⟩
abbrev main_call1_v10 : Ref sig .tc := ⟨.hbm, 161, rfl⟩
abbrev main_call1_v11 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_4 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_5 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_6 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_7 : Ref sig .tc := ⟨.hbm, 190, rfl⟩
abbrev main_v147 : Ref sig .tc := ⟨.hbm, 191, rfl⟩
abbrev main_v148 : Ref sig .tc := ⟨.hbm, 192, rfl⟩
abbrev main_cst_8 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩

abbrev nD : Nat := 1
abbrev τ : Topo := Topo.v7x

variable {F : FTy → Type} [FloatOps F]
-- ==== NormS.lean ====
abbrev S32x1024 : Shape := ⟨2, ![32, 1024]⟩
abbrev S1024 : Shape := ⟨1, ![1024]⟩
abbrev S1x1024 : Shape := ⟨2, ![1, 1024]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1x1024, .f32⟩
  | .hbm, ⟨3, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S32x1024 : Shape := ⟨2, ![32, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S32x1024, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Index.lean ====
/-
  Indices of blocks: an index from its coordinates, and a coordinate of a block's element in the whole array.
-/
module

public import Idealize.ShloMosaic.Lib.Pointwise

@[expose] public section

namespace Cert.Index

open Idealize.ShloMosaic

/-- An index of a rank-2 array from its coordinates' values. -/
theorem ext2 {n0 n1 : Nat} (j : (⟨2, ![n0, n1]⟩ : Shape).Idx) (a : Fin n0) (b : Fin n1) (h0 : (j 0).val = a.val)
    (h1 : (j 1).val = b.val) : j = ix2 a b := by
  rw [eq_ix2 j]; congr 1 <;> exact Fin.ext (by assumption)

/-- An index of a rank-3 array from its coordinates' values. -/
theorem ext3 {n0 n1 n2 : Nat} (j : (⟨3, ![n0, n1, n2]⟩ : Shape).Idx) (a : Fin n0) (b : Fin n1) (d : Fin n2)
    (h0 : (j 0).val = a.val) (h1 : (j 1).val = b.val) (h2 : (j 2).val = d.val) : j = ix3 a b d := by
  rw [eq_ix3 j]; congr 1 <;> exact Fin.ext (by assumption)

/-- An offset within a block, the block's number known. -/
theorem off {i t : Nat} (s r : Nat) (h : i = t) : i * s + 1 * r = t * s + r := by rw [h, one_mul]

/-- An offset within the block numbered 0. -/
theorem off0 {i : Nat} (s r : Nat) (h : i = 0) : i * s + 1 * r = r := by rw [h, Nat.zero_mul, Nat.zero_add, one_mul]

/-- The word of negative infinity names the least extended real. -/
theorem negInf : Ideal.ofBits .f32 0xFF800000#32 = (⊥ : EReal) := by simp [Ideal.ofBits, Ideal.ieee]

/-- The larger of two arrays, with a constant spread from one entry as the first: the second where the constant is the
    least extended real. -/
theorem maxSpread_apply {s : Shape} (b) (y : FVec Ideal s .f32) (i : s.Idx) :
    maximumf (F := Ideal) (s := s) (φ := .f32)
      (broadcastInDim s ![] b (constant (F := Ideal) ⟨0, ![]⟩ .f32 0xFF800000#32)) y i = y i := by
  show max (Ideal.ofBits .f32 0xFF800000#32) (y i : EReal) = y i
  rw [negInf, max_eq_right bot_le]

/-- The host's maximum along the leading axis of a rank-3 array, at an index. -/
theorem reduceMax_lead {n0 n1 n2 : Nat} (x : FVec Ideal ⟨3, ![n0, n1, n2]⟩ .f32)
    (h : (⟨3, ![n0, n1, n2]⟩ : Shape).ReducesTo [0] ⟨2, ![n1, n2]⟩) (hu : 0 < (⟨0, ![]⟩ : Shape).numel) (a : Fin n1) (b : Fin n2) :
    Host.reduce FloatOps.maximumf x (constant ⟨0, ![]⟩ .f32 0xFF800000#32) h hu (ix2 a b)
      = Finset.univ.fold max (⊥ : EReal) fun k : Fin n0 => (x (ix3 k a b) : EReal) := by
  rw [← negInf]
  pointwise

/-- A running maximum over three values from the least one. -/
theorem fold_max_three (f : Fin 3 → EReal) : Finset.univ.fold max ⊥ f = max (max (f 0) (f 1)) (f 2) := by
  simp [Fin.univ_succ, max_assoc]

end Cert.Index
-- ==== Proof.MergeBlock.lean ====
/-
  The merge call, block by block: what the kernel's body leaves in its output block at an index.
-/
module

public import proofs.«01_k».proof.Proof.Gen.MergeIdeal.Value
public import proofs.«01_k».proof.Proof.Index
public import Idealize.ShloMosaic.Lib.StableHlo.ReadAt

@[expose] public section

set_option maxRecDepth 16384

noncomputable section

open Idealize.ShloMosaic Idealize.ShloMosaic.TcCoe Idealize.SL.Sem

namespace Cert.MergeSpec

/-- The combination of three attention outputs `a`, `b`, `c` with weights the softmax of `la`, `lb`, `lc`. -/
def softmix (a la b lb c lc : EReal) : EReal :=
  let top := max (max la lb) lc
  let ea := Ideal.exp (la - top)
  let eb := Ideal.exp (lb - top)
  let ec := Ideal.exp (lc - top)
  let den := ea + eb + ec
  Ideal.div ea den * a + Ideal.div eb den * b + Ideal.div ec den * c

/-- One entry of the merged row: the residual entry `x` plus the gated sum of the four branches' products, times the
    output weights. The branches are rows of 512, `w n k d` the branch weights, `g n d` the gates, `wo d` the column of
    the output weights. -/
def entry (x : EReal) (o : Fin 4 → Fin 512 → EReal) (g : Fin 4 → Fin 1024 → EReal)
    (w : Fin 4 → Fin 512 → Fin 1024 → EReal) (wo : Fin 1024 → EReal) : EReal :=
  x + ∑ d : Fin 1024,
    ((∑ k, o 0 k * w 0 k d) * g 0 d + (∑ k, o 1 k * w 1 k d) * g 1 d + (∑ k, o 2 k * w 2 k d) * g 2 d
      + (∑ k, o 3 k * w 3 k d) * g 3 d) * wo d

/-- The merged activations of token `t` at feature `e`, from the whole arrays: the residual stream `x`, branch a, the
    three dilated groups' outputs and log-sum-exps, branches c and d, the projection `z` whose columns from 9216 on are
    the gates, and the two weight arrays. -/
def result (x : Fin 16384 → Fin 1024 → EReal) (oa o0 l0 o1 l1 o2 l2 oc od : Fin 16384 → Fin 512 → EReal)
    (z : Fin 16384 → Fin 13312 → EReal) (w : Fin 4 → Fin 512 → Fin 1024 → EReal) (wo : Fin 1024 → Fin 1024 → EReal)
    (t : Fin 16384) (e : Fin 1024) : EReal :=
  entry (x t e)
    ![oa t, fun k => softmix (o0 t k) (l0 t k) (o1 t k) (l1 t k) (o2 t k) (l2 t k), oc t, od t]
    (fun n d => z t ⟨9216 + (n.val * 1024 + d.val), by omega⟩) w (fun d => wo d e)

end Cert.MergeSpec

namespace Cert.MergeIdeal.Value

open Cert.MergeIdeal Cert.MergeIdeal.Gen Cert.MergeSpec Cert.Index

theorem hz2 : (![0, 0] : Fin 2 → Nat) = fun _ => 0 := funext fun a => by fin_cases a <;> rfl

/-- The body's output block at row `r` and column `e`. -/
theorem block_apply (x0 : Vec Ideal S256x1024 .f32) (x1 x2 x3 x4 x5 x6 x7 x8 x9 : Vec Ideal S256x512 .f32)
    (x10 x11 x12 x13 : Vec Ideal S256x1024 .f32) (x14 : Vec Ideal S4x512x1024 .bf16) (x15 : Vec Ideal S1024x1024 .bf16)
    (r : Fin 256) (e : Fin 1024) :
    out0_16 x0 x1 x2 x3 x4 x5 x6 x7 x8 x9 x10 x11 x12 x13 x14 x15 (ix2 r e)
      = entry (x0 (ix2 r e))
          ![fun k => x1 (ix2 r k),
            fun k => softmix (x2 (ix2 r k)) (x3 (ix2 r k)) (x4 (ix2 r k)) (x5 (ix2 r k)) (x6 (ix2 r k)) (x7 (ix2 r k)),
            fun k => x8 (ix2 r k), fun k => x9 (ix2 r k)]
          ![fun d => x10 (ix2 r d), fun d => x11 (ix2 r d), fun d => x12 (ix2 r d), fun d => x13 (ix2 r d)]
          (fun n k d => x14 (ix3 n k d)) (fun d => x15 (ix2 d e)) := by
  unfold out0_16
  rw [View.canon_unit_zero hz2]
  unfold entry
  pointwise [k0_pay1, k0_pay2, k0_pay3, softmix]

/-! ## The blocks, read off the argument arrays -/

variable (m : (ℓ : Loc nD τ sig) → Buf (Elt Ideal) ℓ) (c : Dev nD)

/-- The result, as contents of the output array. -/
def G : Vec Ideal S16384x1024 .f32 := fun i =>
  result (fun t e => (m ((c : Thread nD τ).loc main_arg0) : Vec Ideal S16384x1024 .f32) (ix2 t e))
    (fun t k => (m ((c : Thread nD τ).loc main_arg1) : Vec Ideal S16384x512 .f32) (ix2 t k))
    (fun t k => (m ((c : Thread nD τ).loc main_arg2) : Vec Ideal S16384x512 .f32) (ix2 t k))
    (fun t k => (m ((c : Thread nD τ).loc main_arg3) : Vec Ideal S16384x512 .f32) (ix2 t k))
    (fun t k => (m ((c : Thread nD τ).loc main_arg4) : Vec Ideal S16384x512 .f32) (ix2 t k))
    (fun t k => (m ((c : Thread nD τ).loc main_arg5) : Vec Ideal S16384x512 .f32) (ix2 t k))
    (fun t k => (m ((c : Thread nD τ).loc main_arg6) : Vec Ideal S16384x512 .f32) (ix2 t k))
    (fun t k => (m ((c : Thread nD τ).loc main_arg7) : Vec Ideal S16384x512 .f32) (ix2 t k))
    (fun t k => (m ((c : Thread nD τ).loc main_arg8) : Vec Ideal S16384x512 .f32) (ix2 t k))
    (fun t k => (m ((c : Thread nD τ).loc main_arg9) : Vec Ideal S16384x512 .f32) (ix2 t k))
    (fun t j => (m ((c : Thread nD τ).loc main_arg10) : Vec Ideal S16384x13312 .f32) (ix2 t j))
    (fun n k d => (m ((c : Thread nD τ).loc main_arg11) : Vec Ideal S4x512x1024 .f32) (ix3 n k d))
    (fun d e => (m ((c : Thread nD τ).loc main_arg12) : Vec Ideal S1024x1024 .f32) (ix2 d e)) (i 0) (i 1)

/-- The row-block index maps, decided over the grid: point `t` reads row block `t` and column block 0, the gates'
    windows their own column block of the projection. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 9)
    ∧ (win0_11.index t (0 : Fin 2) = t.val ∧ win0_11.index t (1 : Fin 2) = 10)
    ∧ (win0_12.index t (0 : Fin 2) = t.val ∧ win0_12.index t (1 : Fin 2) = 11)
    ∧ (win0_13.index t (0 : Fin 2) = t.val ∧ win0_13.index t (1 : Fin 2) = 12)
    ∧ (win0_14.index t = ![0, 0, 0]) ∧ (win0_15.index t = ![0, 0])
    ∧ (win0_16.index t (0 : Fin 2) = t.val ∧ win0_16.index t (1 : Fin 2) = 0) :=
  (by decide +kernel : ∀ t : Fin grid0.N, _)

/-- Row `r` of row block `t`. -/
abbrev row (t : Fin cfg0.N) (r : Fin 256) : Fin 16384 :=
  ⟨t.val * 256 + r.val, by have := lt_of_lt_of_eq t.isLt (show cfg0.N = 64 from N_0); omega⟩

/-! Each input block at an index, in its argument array. -/

theorem blk0 (t : Fin cfg0.N) (r : Fin 256) (k : Fin 1024) :
    (iblk m c 0 t : Vec Ideal S256x1024 .f32) (ix2 r k) = (m ((c : Thread nD τ).loc main_arg0) : Vec Ideal S16384x1024 .f32) (ix2 (row t r) k) :=
  (congrFun (V_main_arg0 m c) _).trans
    (congrArg _ (ext2 _ _ _ (off 256 r.val (idx_rows t).1.1) (off0 1024 k.val (idx_rows t).1.2)))

theorem blk1 (t : Fin cfg0.N) (r : Fin 256) (k : Fin 512) :
    (iblk m c 1 t : Vec Ideal S256x512 .f32) (ix2 r k) = (m ((c : Thread nD τ).loc main_arg1) : Vec Ideal S16384x512 .f32) (ix2 (row t r) k) :=
  (congrFun (V_main_arg1 m c) _).trans
    (congrArg _ (ext2 _ _ _ (off 256 r.val (idx_rows t).2.1.1) (off0 512 k.val (idx_rows t).2.1.2)))

theorem blk2 (t : Fin cfg0.N) (r : Fin 256) (k : Fin 512) :
    (iblk m c 2 t : Vec Ideal S256x512 .f32) (ix2 r k) = (m ((c : Thread nD τ).loc main_arg2) : Vec Ideal S16384x512 .f32) (ix2 (row t r) k) :=
  (congrFun (V_main_arg2 m c) _).trans
    (congrArg _ (ext2 _ _ _ (off 256 r.val (idx_rows t).2.2.1.1) (off0 512 k.val (idx_rows t).2.2.1.2)))

theorem blk3 (t : Fin cfg0.N) (r : Fin 256) (k : Fin 512) :
    (iblk m c 3 t : Vec Ideal S256x512 .f32) (ix2 r k) = (m ((c : Thread nD τ).loc main_arg3) : Vec Ideal S16384x512 .f32) (ix2 (row t r) k) :=
  (congrFun (V_main_arg3 m c) _).trans
    (congrArg _ (ext2 _ _ _ (off 256 r.val (idx_rows t).2.2.2.1.1) (off0 512 k.val (idx_rows t).2.2.2.1.2)))

theorem blk4 (t : Fin cfg0.N) (r : Fin 256) (k : Fin 512) :
    (iblk m c 4 t : Vec Ideal S256x512 .f32) (ix2 r k) = (m ((c : Thread nD τ).loc main_arg4) : Vec Ideal S16384x512 .f32) (ix2 (row t r) k) :=
  (congrFun (V_main_arg4 m c) _).trans
    (congrArg _ (ext2 _ _ _ (off 256 r.val (idx_rows t).2.2.2.2.1.1) (off0 512 k.val (idx_rows t).2.2.2.2.1.2)))

theorem blk5 (t : Fin cfg0.N) (r : Fin 256) (k : Fin 512) :
    (iblk m c 5 t : Vec Ideal S256x512 .f32) (ix2 r k) = (m ((c : Thread nD τ).loc main_arg5) : Vec Ideal S16384x512 .f32) (ix2 (row t r) k) :=
  (congrFun (V_main_arg5 m c) _).trans
    (congrArg _ (ext2 _ _ _ (off 256 r.val (idx_rows t).2.2.2.2.2.1.1) (off0 512 k.val (idx_rows t).2.2.2.2.2.1.2)))

theorem blk6 (t : Fin cfg0.N) (r : Fin 256) (k : Fin 512) :
    (iblk m c 6 t : Vec Ideal S256x512 .f32) (ix2 r k) = (m ((c : Thread nD τ).loc main_arg6) : Vec Ideal S16384x512 .f32) (ix2 (row t r) k) :=
  (congrFun (V_main_arg6 m c) _).trans
    (congrArg _ (ext2 _ _ _ (off 256 r.val (idx_rows t).2.2.2.2.2.2.1.1) (off0 512 k.val (idx_rows t).2.2.2.2.2.2.1.2)))

theorem blk7 (t : Fin cfg0.N) (r : Fin 256) (k : Fin 512) :
    (iblk m c 7 t : Vec Ideal S256x512 .f32) (ix2 r k) = (m ((c : Thread nD τ).loc main_arg7) : Vec Ideal S16384x512 .f32) (ix2 (row t r) k) :=
  (congrFun (V_main_arg7 m c) _).trans
    (congrArg _ (ext2 _ _ _ (off 256 r.val (idx_rows t).2.2.2.2.2.2.2.1.1) (off0 512 k.val (idx_rows t).2.2.2.2.2.2.2.1.2)))

theorem blk8 (t : Fin cfg0.N) (r : Fin 256) (k : Fin 512) :
    (iblk m c 8 t : Vec Ideal S256x512 .f32) (ix2 r k) = (m ((c : Thread nD τ).loc main_arg8) : Vec Ideal S16384x512 .f32) (ix2 (row t r) k) :=
  (congrFun (V_main_arg8 m c) _).trans
    (congrArg _ (ext2 _ _ _ (off 256 r.val (idx_rows t).2.2.2.2.2.2.2.2.1.1) (off0 512 k.val (idx_rows t).2.2.2.2.2.2.2.2.1.2)))

theorem blk9 (t : Fin cfg0.N) (r : Fin 256) (k : Fin 512) :
    (iblk m c 9 t : Vec Ideal S256x512 .f32) (ix2 r k) = (m ((c : Thread nD τ).loc main_arg9) : Vec Ideal S16384x512 .f32) (ix2 (row t r) k) :=
  (congrFun (V_main_arg9 m c) _).trans
    (congrArg _ (ext2 _ _ _ (off 256 r.val (idx_rows t).2.2.2.2.2.2.2.2.2.1.1) (off0 512 k.val (idx_rows t).2.2.2.2.2.2.2.2.2.1.2)))

theorem blk10 (t : Fin cfg0.N) (r : Fin 256) (d : Fin 1024) :
    (iblk m c 10 t : Vec Ideal S256x1024 .f32) (ix2 r d)
      = (m ((c : Thread nD τ).loc main_arg10) : Vec Ideal S16384x13312 .f32) (ix2 (row t r) ⟨9216 + (((0 : Fin 4).val) * 1024 + d.val), by omega⟩) :=
  (congrFun (V_main_arg10 m c) _).trans
    (congrArg _ (ext2 _ _ _ (off 256 r.val (idx_rows t).2.2.2.2.2.2.2.2.2.2.1.1) ((off 1024 d.val (idx_rows t).2.2.2.2.2.2.2.2.2.2.1.2).trans (by show _ = 9216 + (0 * 1024 + d.val); omega))))

theorem blk11 (t : Fin cfg0.N) (r : Fin 256) (d : Fin 1024) :
    (iblk m c 11 t : Vec Ideal S256x1024 .f32) (ix2 r d)
      = (m ((c : Thread nD τ).loc main_arg10) : Vec Ideal S16384x13312 .f32) (ix2 (row t r) ⟨9216 + (((1 : Fin 4).val) * 1024 + d.val), by omega⟩) :=
  (congrFun (V_main_arg10 m c) _).trans
    (congrArg _ (ext2 _ _ _ (off 256 r.val (idx_rows t).2.2.2.2.2.2.2.2.2.2.2.1.1) ((off 1024 d.val (idx_rows t).2.2.2.2.2.2.2.2.2.2.2.1.2).trans (by show _ = 9216 + (1 * 1024 + d.val); omega))))

theorem blk12 (t : Fin cfg0.N) (r : Fin 256) (d : Fin 1024) :
    (iblk m c 12 t : Vec Ideal S256x1024 .f32) (ix2 r d)
      = (m ((c : Thread nD τ).loc main_arg10) : Vec Ideal S16384x13312 .f32) (ix2 (row t r) ⟨9216 + (((2 : Fin 4).val) * 1024 + d.val), by omega⟩) :=
  (congrFun (V_main_arg10 m c) _).trans
    (congrArg _ (ext2 _ _ _ (off 256 r.val (idx_rows t).2.2.2.2.2.2.2.2.2.2.2.2.1.1) ((off 1024 d.val (idx_rows t).2.2.2.2.2.2.2.2.2.2.2.2.1.2).trans (by show _ = 9216 + (2 * 1024 + d.val); omega))))

theorem blk13 (t : Fin cfg0.N) (r : Fin 256) (d : Fin 1024) :
    (iblk m c 13 t : Vec Ideal S256x1024 .f32) (ix2 r d)
      = (m ((c : Thread nD τ).loc main_arg10) : Vec Ideal S16384x13312 .f32) (ix2 (row t r) ⟨9216 + (((3 : Fin 4).val) * 1024 + d.val), by omega⟩) :=
  (congrFun (V_main_arg10 m c) _).trans
    (congrArg _ (ext2 _ _ _ (off 256 r.val (idx_rows t).2.2.2.2.2.2.2.2.2.2.2.2.2.1.1) ((off 1024 d.val (idx_rows t).2.2.2.2.2.2.2.2.2.2.2.2.2.1.2).trans (by show _ = 9216 + (3 * 1024 + d.val); omega))))

theorem blk14 (t : Fin cfg0.N) (n : Fin 4) (k : Fin 512) (d : Fin 1024) :
    (iblk m c 14 t : Vec Ideal S4x512x1024 .bf16) (ix3 n k d) = (m ((c : Thread nD τ).loc main_arg11) : Vec Ideal S4x512x1024 .f32) (ix3 n k d) := by
  have hi := (idx_rows t).2.2.2.2.2.2.2.2.2.2.2.2.2.2.1
  show V m c main_v0 (((cfg0.win 14).blk t).view.emb (ix3 n k d)) = _
  rw [show ((cfg0.win 14).blk t).view.emb (ix3 n k d) = ix3 n k d from
    ext3 _ _ _ _ (off0 4 n.val (congrFun hi 0)) (off0 512 k.val (congrFun hi 1)) (off0 1024 d.val (congrFun hi 2))]
  unfold V hostOps0
  after_reads_simp
  pointwise

theorem blk15 (t : Fin cfg0.N) (d e : Fin 1024) :
    (iblk m c 15 t : Vec Ideal S1024x1024 .bf16) (ix2 d e) = (m ((c : Thread nD τ).loc main_arg12) : Vec Ideal S1024x1024 .f32) (ix2 d e) := by
  have hi := (idx_rows t).2.2.2.2.2.2.2.2.2.2.2.2.2.2.2.1
  show V m c main_v1 (((cfg0.win 15).blk t).view.emb (ix2 d e)) = _
  rw [show ((cfg0.win 15).blk t).view.emb (ix2 d e) = ix2 d e from
    ext2 _ _ _ (off0 1024 d.val (congrFun hi 0)) (off0 1024 e.val (congrFun hi 1))]
  unfold V hostOps0
  after_reads_simp
  pointwise

/-! ## The whole result array -/

/-- What point `t` writes back is block `t` of the result. -/
theorem flushed16_eq (t : Fin cfg0.N) :
    (dats m 0 c).flushed 16 t = ((cfg0.win 16).blk t).view.read (Elt Ideal) (G m c) := by
  rw [flushed16]
  funext y
  obtain ⟨r, e, rfl⟩ : ∃ (r : Fin 256) (e : Fin 1024), y = ix2 r e := ⟨y 0, y 1, eq_ix2 y⟩
  have hi := (idx_rows t).2.2.2.2.2.2.2.2.2.2.2.2.2.2.2.2
  show out0_16 _ _ _ _ _ _ _ _ _ _ _ _ _ _ _ _ (ix2 r e) = G m c (((cfg0.win 16).blk t).view.emb (ix2 r e))
  rw [show ((cfg0.win 16).blk t).view.emb (ix2 r e) = ix2 (row t r) e from
    ext2 _ _ _ (off 256 r.val hi.1) (off0 1024 e.val hi.2), block_apply]
  simp only [blk0, blk1, blk2, blk3, blk4, blk5, blk6, blk7, blk8, blk9, blk10, blk11, blk12, blk13, blk14, blk15]
  rfl

/-- Every index of the result array is in some point's block. -/
theorem cover16 (i : S16384x1024.Idx) :
    ∃ t : Fin cfg0.N, (cfg0.win 16).flush t = true ∧ i ∈ ((cfg0.win 16).blk t).view.set := by
  have h0 : (i 0).val < 16384 := (i 0).isLt
  have h1 : (i 1).val < 1024 := (i 1).isLt
  let t : Fin cfg0.N := ⟨(i 0).val / 256, lt_of_lt_of_eq (by omega) (show cfg0.N = 64 from N_0).symm⟩
  obtain ⟨e0, e1⟩ := (idx_rows t).2.2.2.2.2.2.2.2.2.2.2.2.2.2.2.2
  refine ⟨t, (by decide +kernel : ∀ t : Fin grid0.N, win0_16.flush t = true) t, ?_⟩
  show i ∈ ((View.whole main_v2).slice (win0_16.rect t)).set
  rw [View.set_slice_whole, Rect.mem_set_unit]
  intro a
  match a with
  | ⟨0, _⟩ =>
    show win0_16.index t (0 : Fin 2) * 256 ≤ (i 0).val ∧ (i 0).val < win0_16.index t (0 : Fin 2) * 256 + 256
    rw [e0]; show (i 0).val / 256 * 256 ≤ _ ∧ _ < (i 0).val / 256 * 256 + 256; omega
  | ⟨1, _⟩ =>
    show win0_16.index t (1 : Fin 2) * 1024 ≤ (i 1).val ∧ (i 1).val < win0_16.index t (1 : Fin 2) * 1024 + 1024
    rw [e1]; omega

/-- The result array ends holding the merged activations. -/
theorem final16 : (dats m 0 c).arrAt 16 cfg0.N = G m c :=
  (dats m 0 c).arrAt_eq_of_cover 16 (G m c) (fun t _ => flushed16_eq m c t) cover16

end Cert.MergeIdeal.Value
-- ==== Proof.MergeRef.lean ====
/-
  The merge call's reference at an index, stage by stage.
-/
module

public import proofs.«01_k».proof.Proof.Gen.MergeRefIdeal.Run
public import proofs.«01_k».proof.Proof.MergeBlock

@[expose] public section

set_option maxRecDepth 16384

noncomputable section

open Idealize.ShloMosaic Idealize.ShloMosaic.TcCoe Idealize.SL.Sem

namespace Cert.MergeRefIdeal.Value

open Cert.MergeRefIdeal Cert.MergeRefIdeal.Gen Cert.MergeSpec Cert.Index

/-- Three arrays stacked along a new leading axis. -/
def stack3 (a b d : FVec Ideal S16384x512 .f32) : FVec Ideal S3x16384x512 .f32 :=
  concatenate S3x16384x512 0 [⟨S1x16384x512, broadcastInDim S1x16384x512 ![1, 2] bcast_S16384x512_S1x16384x512_1_2 a⟩,
    ⟨S1x16384x512, broadcastInDim S1x16384x512 ![1, 2] bcast_S16384x512_S1x16384x512_1_2 b⟩,
    ⟨S1x16384x512, broadcastInDim S1x16384x512 ![1, 2] bcast_S16384x512_S1x16384x512_1_2 d⟩]
    concatenates_S1x16384x512_S1x16384x512_S1x16384x512_S3x16384x512_d0

theorem stack3_apply (a b d : FVec Ideal S16384x512 .f32) (n : Fin 3) (t : Fin 16384) (k : Fin 512) :
    stack3 a b d (ix3 n t k) = ![a (ix2 t k), b (ix2 t k), d (ix2 t k)] n := by
  fin_cases n <;> pointwise [stack3]

/-- The greatest entry along the leading axis. -/
def top3 (l : FVec Ideal S3x16384x512 .f32) : FVec Ideal S16384x512 .f32 :=
  maximumf (broadcastInDim S16384x512 ![] bcast_S_S16384x512 (constant S_ .f32 0xFF800000#32))
    (Host.reduce FloatOps.maximumf l (constant S_ .f32 0xFF800000#32) reducesTo_S3x16384x512_S16384x512_d0 h_S_)

theorem top3_apply (l : FVec Ideal S3x16384x512 .f32) (t : Fin 16384) (k : Fin 512) :
    top3 l (ix2 t k) = max (max (l (ix3 0 t k)) (l (ix3 1 t k))) (l (ix3 2 t k)) := by
  unfold top3
  rw [maxSpread_apply, reduceMax_lead, fold_max_three]

/-- The exponentials of the entries less the greatest one. -/
def exp3 (l : FVec Ideal S3x16384x512 .f32) : FVec Ideal S3x16384x512 .f32 :=
  Host.exp (subf l (broadcastInDim S3x16384x512 ![0, 1, 2] bcast_S1x16384x512_S3x16384x512_0_1_2
    (broadcastInDim S1x16384x512 ![1, 2] bcast_S16384x512_S1x16384x512_1_2 (top3 l))))

theorem exp3_apply (l : FVec Ideal S3x16384x512 .f32) (n : Fin 3) (t : Fin 16384) (k : Fin 512) :
    exp3 l (ix3 n t k) = Ideal.exp (l (ix3 n t k) - top3 l (ix2 t k)) := by
  pointwise [exp3]

/-- The softmax-weighted sum along the leading axis. -/
def mix3 (l o : FVec Ideal S3x16384x512 .f32) : FVec Ideal S16384x512 .f32 :=
  Host.reduceAdd (mulf (Host.divf (exp3 l) (broadcastInDim S3x16384x512 ![0, 1, 2] bcast_S1x16384x512_S3x16384x512_0_1_2
    (broadcastInDim S1x16384x512 ![1, 2] bcast_S16384x512_S1x16384x512_1_2
      (Host.reduceAdd (exp3 l) (constant S_ .f32 0x00000000#32) reducesTo_S3x16384x512_S16384x512_d0 h_S_)))) o)
    (constant S_ .f32 0x00000000#32) reducesTo_S3x16384x512_S16384x512_d0 h_S_

theorem mix3_apply (l0 l1 l2 o0 o1 o2 : FVec Ideal S16384x512 .f32) (t : Fin 16384) (k : Fin 512) :
    mix3 (stack3 l0 l1 l2) (stack3 o0 o1 o2) (ix2 t k)
      = softmix (o0 (ix2 t k)) (l0 (ix2 t k)) (o1 (ix2 t k)) (l1 (ix2 t k)) (o2 (ix2 t k)) (l2 (ix2 t k)) := by
  pointwise [mix3, softmix]
  simp only [Fin.sum_univ_three, exp3_apply, top3_apply, stack3_apply]
  rfl

/-- The four branches stacked along a new middle axis. -/
def stack4 (a b d f : FVec Ideal S16384x512 .f32) : FVec Ideal S16384x4x512 .f32 :=
  concatenate S16384x4x512 1 [⟨S16384x1x512, broadcastInDim S16384x1x512 ![0, 2] bcast_S16384x512_S16384x1x512_0_2 a⟩,
    ⟨S16384x1x512, broadcastInDim S16384x1x512 ![0, 2] bcast_S16384x512_S16384x1x512_0_2 b⟩,
    ⟨S16384x1x512, broadcastInDim S16384x1x512 ![0, 2] bcast_S16384x512_S16384x1x512_0_2 d⟩,
    ⟨S16384x1x512, broadcastInDim S16384x1x512 ![0, 2] bcast_S16384x512_S16384x1x512_0_2 f⟩]
    concatenates_S16384x1x512_S16384x1x512_S16384x1x512_S16384x1x512_S16384x4x512_d1

theorem stack4_apply (a b d f : FVec Ideal S16384x512 .f32) (t : Fin 16384) (n : Fin 4) (k : Fin 512) :
    stack4 a b d f (ix3 t n k) = ![a (ix2 t k), b (ix2 t k), d (ix2 t k), f (ix2 t k)] n := by
  fin_cases n <;> pointwise [stack4]

/-- The gated sum of the branches' products. -/
def gated (z : FVec Ideal S16384x13312 .f32) (w : FVec Ideal S4x512x1024 .f32) (o : FVec Ideal S16384x4x512 .f32) :
    FVec Ideal S16384x1024 .f32 :=
  Host.reduceAdd (mulf
      (shapeCast _ (extractStridedSlice S16384x4096 ![0, 9216] z slices_S16384x13312_S16384x4096_0_9216) shapeCasts_S16384x4096_S16384x4x1024)
      (transpose S16384x4x1024 [2, 0, 1] (Host.dotGeneral dot_S4x512x1024_S16384x4x512_S4x1024x16384_1_2_2_0_0_1 none w o)
        transposes_S4x1024x16384_S16384x4x1024_2_0_1))
    (constant S_ .f32 0x00000000#32) reducesTo_S16384x4x1024_S16384x1024_d1 h_S_

theorem gated_apply (z : FVec Ideal S16384x13312 .f32) (w : FVec Ideal S4x512x1024 .f32) (o : FVec Ideal S16384x4x512 .f32)
    (t : Fin 16384) (d : Fin 1024) :
    gated z w o (ix2 t d) = ∑ n : Fin 4, z (ix2 t ⟨9216 + (n.val * 1024 + d.val), by omega⟩) * ∑ k : Fin 512, w (ix3 n k d) * o (ix3 t n k) := by
  pointwise [gated]

variable (m : (ℓ : Loc nD τ sig) → Buf (Elt Ideal) ℓ) (c : Dev nD)

/-- The reference's composed term is these stages. -/
theorem res_eq : res_out0 m c = addf (F := Ideal) (s := S16384x1024) (φ := .f32) (m ((c : Thread nD τ).loc main_arg0))
    (Host.dotGeneral (F := Ideal) (φ₁ := .f32) (φ₂ := .f32) dot_S16384x1024_S1024x1024_S16384x1024_1_0_0_1_n_n none
      (gated (m ((c : Thread nD τ).loc main_arg10)) (m ((c : Thread nD τ).loc main_arg11))
        (stack4 (m ((c : Thread nD τ).loc main_arg1))
          (mix3 (stack3 (m ((c : Thread nD τ).loc main_arg3)) (m ((c : Thread nD τ).loc main_arg5)) (m ((c : Thread nD τ).loc main_arg7)))
            (stack3 (m ((c : Thread nD τ).loc main_arg2)) (m ((c : Thread nD τ).loc main_arg4)) (m ((c : Thread nD τ).loc main_arg6))))
          (m ((c : Thread nD τ).loc main_arg8)) (m ((c : Thread nD τ).loc main_arg9))))
      (m ((c : Thread nD τ).loc main_arg12))) := rfl

/-- The reference's result at token `t` and feature `e`. -/
theorem res_apply (t : Fin 16384) (e : Fin 1024) : res_out0 m c (ix2 t e) =
  result (fun t e => (m ((c : Thread nD τ).loc main_arg0) : Vec Ideal S16384x1024 .f32) (ix2 t e))
    (fun t k => (m ((c : Thread nD τ).loc main_arg1) : Vec Ideal S16384x512 .f32) (ix2 t k))
    (fun t k => (m ((c : Thread nD τ).loc main_arg2) : Vec Ideal S16384x512 .f32) (ix2 t k))
    (fun t k => (m ((c : Thread nD τ).loc main_arg3) : Vec Ideal S16384x512 .f32) (ix2 t k))
    (fun t k => (m ((c : Thread nD τ).loc main_arg4) : Vec Ideal S16384x512 .f32) (ix2 t k))
    (fun t k => (m ((c : Thread nD τ).loc main_arg5) : Vec Ideal S16384x512 .f32) (ix2 t k))
    (fun t k => (m ((c : Thread nD τ).loc main_arg6) : Vec Ideal S16384x512 .f32) (ix2 t k))
    (fun t k => (m ((c : Thread nD τ).loc main_arg7) : Vec Ideal S16384x512 .f32) (ix2 t k))
    (fun t k => (m ((c : Thread nD τ).loc main_arg8) : Vec Ideal S16384x512 .f32) (ix2 t k))
    (fun t k => (m ((c : Thread nD τ).loc main_arg9) : Vec Ideal S16384x512 .f32) (ix2 t k))
    (fun t j => (m ((c : Thread nD τ).loc main_arg10) : Vec Ideal S16384x13312 .f32) (ix2 t j))
    (fun n k d => (m ((c : Thread nD τ).loc main_arg11) : Vec Ideal S4x512x1024 .f32) (ix3 n k d))
    (fun d e => (m ((c : Thread nD τ).loc main_arg12) : Vec Ideal S1024x1024 .f32) (ix2 d e)) t e := by
  rw [res_eq]
  unfold result entry
  pointwise
  simp only [gated_apply, Fin.sum_univ_four, stack4_apply, mix3_apply]
  congr 1
  refine Finset.sum_congr rfl fun d _ => ?_
  congr 1
  refine congrArg₂ (· + ·) (congrArg₂ (· + ·) (congrArg₂ (· + ·) ?_ ?_) ?_) ?_ <;>
  · refine (mul_comm (_ : EReal) _).trans (congrArg₂ (· * ·) (Finset.sum_congr rfl fun k _ => mul_comm (_ : EReal) _)
      (congrArg _ (ext2 _ _ _ rfl ?_)))
    simp

/-- From memories that agree on the arguments, the reference's result is the array the kernel leaves. -/
theorem values_eq (m : (ℓ : Loc Cert.MergeIdeal.nD Cert.MergeIdeal.τ Cert.MergeIdeal.sig) → Buf (Elt Ideal) ℓ)
    (m' : (ℓ : Loc nD τ sig) → Buf (Elt Ideal) ℓ) (c : Dev nD)
    (h0 : m' ((c.tc : Thread nD τ).loc main_arg0) = m ((c.tc : Thread Cert.MergeIdeal.nD Cert.MergeIdeal.τ).loc Cert.MergeIdeal.main_arg0))
    (h1 : m' ((c.tc : Thread nD τ).loc main_arg1) = m ((c.tc : Thread Cert.MergeIdeal.nD Cert.MergeIdeal.τ).loc Cert.MergeIdeal.main_arg1))
    (h2 : m' ((c.tc : Thread nD τ).loc main_arg2) = m ((c.tc : Thread Cert.MergeIdeal.nD Cert.MergeIdeal.τ).loc Cert.MergeIdeal.main_arg2))
    (h3 : m' ((c.tc : Thread nD τ).loc main_arg3) = m ((c.tc : Thread Cert.MergeIdeal.nD Cert.MergeIdeal.τ).loc Cert.MergeIdeal.main_arg3))
    (h4 : m' ((c.tc : Thread nD τ).loc main_arg4) = m ((c.tc : Thread Cert.MergeIdeal.nD Cert.MergeIdeal.τ).loc Cert.MergeIdeal.main_arg4))
    (h5 : m' ((c.tc : Thread nD τ).loc main_arg5) = m ((c.tc : Thread Cert.MergeIdeal.nD Cert.MergeIdeal.τ).loc Cert.MergeIdeal.main_arg5))
    (h6 : m' ((c.tc : Thread nD τ).loc main_arg6) = m ((c.tc : Thread Cert.MergeIdeal.nD Cert.MergeIdeal.τ).loc Cert.MergeIdeal.main_arg6))
    (h7 : m' ((c.tc : Thread nD τ).loc main_arg7) = m ((c.tc : Thread Cert.MergeIdeal.nD Cert.MergeIdeal.τ).loc Cert.MergeIdeal.main_arg7))
    (h8 : m' ((c.tc : Thread nD τ).loc main_arg8) = m ((c.tc : Thread Cert.MergeIdeal.nD Cert.MergeIdeal.τ).loc Cert.MergeIdeal.main_arg8))
    (h9 : m' ((c.tc : Thread nD τ).loc main_arg9) = m ((c.tc : Thread Cert.MergeIdeal.nD Cert.MergeIdeal.τ).loc Cert.MergeIdeal.main_arg9))
    (h10 : m' ((c.tc : Thread nD τ).loc main_arg10) = m ((c.tc : Thread Cert.MergeIdeal.nD Cert.MergeIdeal.τ).loc Cert.MergeIdeal.main_arg10))
    (h11 : m' ((c.tc : Thread nD τ).loc main_arg11) = m ((c.tc : Thread Cert.MergeIdeal.nD Cert.MergeIdeal.τ).loc Cert.MergeIdeal.main_arg11))
    (h12 : m' ((c.tc : Thread nD τ).loc main_arg12) = m ((c.tc : Thread Cert.MergeIdeal.nD Cert.MergeIdeal.τ).loc Cert.MergeIdeal.main_arg12)) :
    res_out0 m' c = Cert.MergeIdeal.Value.G m c := by
  funext i
  obtain ⟨t, e, rfl⟩ : ∃ t e, i = ix2 t e := ⟨i 0, i 1, eq_ix2 i⟩
  rw [res_apply, h0, h1, h2, h3, h4, h5, h6, h7, h8, h9, h10, h11, h12]
  rfl

end Cert.MergeRefIdeal.Value
-- ==== Proof.DilHead.lean ====
/-
  The dilated attention call: what the kernel's body computes for one head of one block.
-/
module

public import proofs.«01_k».proof.Proof.Gen.Dil0Ideal.Value
public import proofs.«01_k».proof.Proof.MergeRef
public import Idealize.ShloMosaic.Lib.StableHlo.ReadAt

@[expose] public section

set_option maxRecDepth 16384

noncomputable section

open Idealize.ShloMosaic Idealize.ShloMosaic.TcCoe Idealize.SL.Sem

namespace Cert.DilSpec

/-- One score: the product of a query row and a key row, scaled by the word of 1/√128, plus the bias. -/
def score (q k : Fin 128 → EReal) (bias : EReal) : EReal :=
  (∑ d, q d * k d) * Ideal.ofBits .f32 0x3DB504F3#32 + bias

/-- The greatest of the scores of two key blocks. -/
def top (sp sc : Fin 128 → EReal) : EReal := max (Finset.univ.fold max ⊥ sp) (Finset.univ.fold max ⊥ sc)

/-- The sum of the exponentials of two key blocks' scores less the greatest. -/
def den (sp sc : Fin 128 → EReal) : EReal :=
  (∑ k, Ideal.exp (sp k - top sp sc)) + ∑ k, Ideal.exp (sc k - top sp sc)

/-- The attention output of one query over two key blocks' values. -/
def out (sp sc vp vc : Fin 128 → EReal) : EReal :=
  Ideal.div ((∑ k, Ideal.exp (sp k - top sp sc) * vp k) + ∑ k, Ideal.exp (sc k - top sp sc) * vc k) (den sp sc)

/-- The log-sum-exp of one query's scores. -/
def lse (sp sc : Fin 128 → EReal) : EReal := top sp sc + Ideal.log (den sp sc)

end Cert.DilSpec

namespace Cert.Index

/-- A kernel's maximum along the rows of a matrix, at an index. -/
theorem rowMax_apply {n0 n1 : Nat} (x : FVec Ideal ⟨2, ![n0, n1]⟩ .f32) (h : (⟨2, ![n0, n1]⟩ : Shape).Reduces [1] ⟨1, ![n0]⟩)
    (h1) (h2) (a : Fin n0) :
    multiReduction .maximumf [1] ⟨1, ![n0]⟩ x 0xFF800000#32 h h1 h2 (ix1 a)
      = Finset.univ.fold max (⊥ : EReal) fun k : Fin n1 => (x (ix2 a k) : EReal) := by
  rw [← negInf]
  pointwise

end Cert.Index

namespace Cert.Dil0Ideal.Value

open Cert.Dil0Ideal Cert.Dil0Ideal.Gen Cert.DilSpec Cert.Index

/-- The scores of a block's queries against the current key block. -/
theorem scoreCur_apply (q kc bc : Vec Ideal S1x128x128 .f32) (r k : Fin 128) :
    k0_pay3 q kc bc (ix2 r k) = score (fun d => q (ix3 0 r d)) (fun d => kc (ix3 0 k d)) (bc (ix3 0 r k)) := by
  unfold score
  pointwise [k0_pay3, k0_pay2]

/-- The word test `n > 0` on a block number. -/
theorem isLater (n : Fin 64) : Scalar.cmpi .sgt (BitVec.ofNat 32 n.val) 0#32 = if 0 < n.val then 1#1 else 0#1 := by
  revert n; decide

/-- The scores against the previous key block: the least value where the block is the first. -/
theorem scorePrev_apply (i : grid0.Coords) (q kp bp : Vec Ideal S1x128x128 .f32) (r k : Fin 128) :
    k0_pay4 i q kp bp (ix2 r k)
      = if 0 < (i 2).val then score (fun d => q (ix3 0 r d)) (fun d => kp (ix3 0 k d)) (bp (ix3 0 r k)) else ⊥ := by
  rw [← negInf]
  unfold score
  pointwise [k0_pay4, k0_pay2]
  rw [isLater (i 2)]
  split <;> rfl

/-- The greatest score of a row. -/
theorem top_apply (i : grid0.Coords) (q kp bp kc bc : Vec Ideal S1x128x128 .f32) (r : Fin 128) :
    k0_pay5 i q kp bp kc bc (ix2 r 0) = top (fun k => k0_pay4 i q kp bp (ix2 r k)) (fun k => k0_pay3 q kc bc (ix2 r k)) := by
  unfold top
  unfold k0_pay5
  generalize k0_pay4 i q kp bp = a
  generalize k0_pay3 q kc bc = b
  rw [← rowMax_apply a reduces_S128x128_S128 (.inl rfl) rfl r, ← rowMax_apply b reduces_S128x128_S128 (.inl rfl) rfl r]
  generalize multiReduction .maximumf [1] _ a _ _ _ _ = a
  generalize multiReduction .maximumf [1] _ b _ _ _ _ = b
  pointwise

/-- The exponentials against the previous block. -/
theorem expPrev_apply (i : grid0.Coords) (q kp bp kc bc : Vec Ideal S1x128x128 .f32) (r k : Fin 128) :
    k0_pay6 i q kp bp kc bc (ix2 r k) = Ideal.exp (k0_pay4 i q kp bp (ix2 r k) - k0_pay5 i q kp bp kc bc (ix2 r 0)) := by
  pointwise [k0_pay6]

/-- The exponentials against the current block. -/
theorem expCur_apply (i : grid0.Coords) (q kp bp kc bc : Vec Ideal S1x128x128 .f32) (r k : Fin 128) :
    k0_pay8 (k0_pay7 i q kp bp kc bc) (ix2 r k) = Ideal.exp (k0_pay3 q kc bc (ix2 r k) - k0_pay5 i q kp bp kc bc (ix2 r 0)) := by
  pointwise [k0_pay8, k0_pay7]

/-- The denominator of a row. -/
theorem den_apply (a b : FVec Ideal S128x128 .f32) (r : Fin 128) :
    k0_pay9 a b (ix2 r 0) = (∑ k, a (ix2 r k)) + ∑ k, k0_pay8 b (ix2 r k) := by
  pointwise [k0_pay9]

/-- The head's output from its exponentials and values. -/
theorem weigh_apply (a b : FVec Ideal S128x128 .f32) (vp vc : Vec Ideal S1x128x128 .f32) (r e : Fin 128) :
    k0_pay10 a b vp vc (ix3 0 r e)
      = Ideal.div ((∑ k, a (ix2 r k) * vp (ix3 0 k e)) + ∑ k, k0_pay8 b (ix2 r k) * vc (ix3 0 k e)) (k0_pay9 a b (ix2 r 0)) := by
  pointwise [k0_pay10]

/-- The head's log-sum-exp from its exponentials. -/
theorem lse_apply (m : FVec Ideal S128x1 .f32) (a b : FVec Ideal S128x128 .f32) (r e : Fin 128) :
    k0_pay11 m a b (ix3 0 r e) = m (ix2 r 0) + Ideal.log (k0_pay9 a b (ix2 r 0)) := by
  pointwise [k0_pay11]

/-- One head's output block, from the blocks it loads: `i` the grid point, `q` the queries, `kp`, `vp`, `bp` the previous
    block's keys, values and biases, `kc`, `vc`, `bc` the current one's. -/
def headOut (i : grid0.Coords) (q kp kc vp vc bp bc : Vec Ideal S1x128x128 .f32) : Vec Ideal S1x128x128 .f32 :=
  k0_pay10 (k0_pay6 i q kp bp kc bc) (k0_pay7 i q kp bp kc bc) vp vc

/-- One head's log-sum-exp block. -/
def headLse (i : grid0.Coords) (q kp kc bp bc : Vec Ideal S1x128x128 .f32) : Vec Ideal S1x128x128 .f32 :=
  k0_pay11 (k0_pay5 i q kp bp kc bc) (k0_pay6 i q kp bp kc bc) (k0_pay7 i q kp bp kc bc)

/-- The scores of query `r` of a head against the previous block. -/
def sPrev (n : ℕ) (q kp bp : Vec Ideal S1x128x128 .f32) (r k : Fin 128) : EReal :=
  if 0 < n then score (fun d => q (ix3 0 r d)) (fun d => kp (ix3 0 k d)) (bp (ix3 0 r k)) else ⊥

/-- The scores of query `r` of a head against the current block. -/
def sCur (q kc bc : Vec Ideal S1x128x128 .f32) (r k : Fin 128) : EReal :=
  score (fun d => q (ix3 0 r d)) (fun d => kc (ix3 0 k d)) (bc (ix3 0 r k))

theorem headOut_apply (i : grid0.Coords) (q kp kc vp vc bp bc : Vec Ideal S1x128x128 .f32) (r e : Fin 128) :
    headOut i q kp kc vp vc bp bc (ix3 0 r e)
      = out (sPrev (i 2).val q kp bp r) (sCur q kc bc r) (fun k => vp (ix3 0 k e)) (fun k => vc (ix3 0 k e)) := by
  unfold headOut out den
  rw [weigh_apply, den_apply]
  simp only [expPrev_apply, expCur_apply, top_apply, scoreCur_apply, scorePrev_apply]
  rfl

theorem headLse_apply (i : grid0.Coords) (q kp kc bp bc : Vec Ideal S1x128x128 .f32) (r e : Fin 128) :
    headLse i q kp kc bp bc (ix3 0 r e) = lse (sPrev (i 2).val q kp bp r) (sCur q kc bc r) := by
  unfold headLse lse den
  rw [lse_apply, den_apply]
  simp only [expPrev_apply, expCur_apply, top_apply, scoreCur_apply, scorePrev_apply]
  rfl

/-! ## The four heads of a block -/

/-- Columns `128 h` to `128 h + 127` of a block. -/
def cols (x : Vec Ideal S1x128x512 .f32) (h : Fin 4) : Vec Ideal S1x128x128 .f32 :=
  fun j => x (ix3 0 (j 1 : Fin 128) ⟨h.val * 128 + (j 2).val, by have h2 : (j 2).val < 128 := (j 2).isLt; omega⟩)

/-- Member `h` of the bias blocks. -/
def member (x : Vec Ideal S4x128x128 .f32) (h : Fin 4) : Vec Ideal S1x128x128 .f32 :=
  fun j => x (ix3 h (j 1 : Fin 128) (j 2 : Fin 128))

theorem ld_cols (x : Vec Ideal S1x128x512 .f32) : View.ld x r0_0 = cols x 0 ∧ View.ld x r0_2 = cols x 1
    ∧ View.ld x r0_4 = cols x 2 ∧ View.ld x r0_6 = cols x 3 := by
  refine ⟨?_, ?_, ?_, ?_⟩ <;>
  · funext j
    obtain ⟨a, b, d, rfl⟩ : ∃ a b d, j = ix3 a b d := ⟨j 0, j 1, j 2, eq_ix3 j⟩
    exact congrArg x (ext3 _ _ _ _ (by show 0 + 1 * a.val = 0; omega) (by show 0 + 1 * b.val = b.val; omega)
      (by show _ + 1 * d.val = _ * 128 + d.val; simp))

theorem ld_member (x : Vec Ideal S4x128x128 .f32) : View.ld x r0_1 = member x 0 ∧ View.ld x r0_3 = member x 1
    ∧ View.ld x r0_5 = member x 2 ∧ View.ld x r0_7 = member x 3 := by
  refine ⟨?_, ?_, ?_, ?_⟩ <;>
  · funext j
    obtain ⟨a, b, d, rfl⟩ : ∃ a b d, j = ix3 a b d := ⟨j 0, j 1, j 2, eq_ix3 j⟩
    exact congrArg x (ext3 _ _ _ _ (by show _ + 1 * a.val = _; simp) (by show 0 + 1 * b.val = b.val; omega)
      (by show 0 + 1 * d.val = d.val; omega))

end Cert.Dil0Ideal.Value
-- ==== Proof.DilBlock.lean ====
/-
  The dilated attention call: what the kernel's body leaves in its two output blocks, the four heads together.
-/
module

public import proofs.«01_k».proof.Proof.DilHead
public import proofs.«01_k».proof.Proof.Gen.Dil1Ideal.Value
public import proofs.«01_k».proof.Proof.Gen.Dil2Ideal.Value

@[expose] public section

set_option maxRecDepth 16384

noncomputable section

open Idealize.ShloMosaic Idealize.ShloMosaic.TcCoe Idealize.SL.Sem

namespace Cert.Dil0Ideal.Value

open Cert.Dil0Ideal Cert.Dil0Ideal.Gen Cert.DilSpec Cert.Index

/-- The head a column of a block belongs to. -/
def headOf (c : Fin 512) : Fin 4 := ⟨c.val / 128, by have := c.isLt; omega⟩

/-- The place of a column in its head. -/
def inHead (c : Fin 512) : Fin 128 := ⟨c.val % 128, Nat.mod_lt _ (by decide)⟩

/-- The output block, from the blocks loaded: each head's columns from that head's. -/
def blockOut (i : grid0.Coords) (q kp kc vp vc : Vec Ideal S1x128x512 .f32) (bp bc : Vec Ideal S4x128x128 .f32) :
    Vec Ideal S1x128x512 .f32 :=
  fun y => headOut i (cols q (headOf (y 2))) (cols kp (headOf (y 2))) (cols kc (headOf (y 2))) (cols vp (headOf (y 2)))
    (cols vc (headOf (y 2))) (member bp (headOf (y 2))) (member bc (headOf (y 2))) (ix3 0 (y 1 : Fin 128) (inHead (y 2)))

/-- The log-sum-exp block, likewise. -/
def blockLse (i : grid0.Coords) (q kp kc : Vec Ideal S1x128x512 .f32) (bp bc : Vec Ideal S4x128x128 .f32) :
    Vec Ideal S1x128x512 .f32 :=
  fun y => headLse i (cols q (headOf (y 2))) (cols kp (headOf (y 2))) (cols kc (headOf (y 2)))
    (member bp (headOf (y 2))) (member bc (headOf (y 2))) (ix3 0 (y 1 : Fin 128) (inHead (y 2)))

/-- A function of head and place, at column `128 h + d`. -/
theorem at_head {α : Type} (f : Fin 4 → (⟨3, ![1, 128, 128]⟩ : Shape).Idx → α) (h : Fin 4) (a : Fin 1) (b d : Fin 128)
    (y : S1x128x512.Idx) (h1 : (y 1).val = b.val) (h2 : (y 2).val = h.val * 128 + d.val) :
    f h (ix3 a b d) = f (headOf (y 2)) (ix3 0 (y 1 : Fin 128) (inHead (y 2))) := by
  have e : headOf (y 2) = h := Fin.ext (by show (y 2).val / 128 = _; have := d.isLt; omega)
  rw [e]
  exact congrArg (f h) (ext3 _ _ _ _ (Nat.lt_one_iff.mp a.isLt) h1.symm
    (by show d.val = (y 2).val % 128; have := d.isLt; omega))

/-- The buffer of the output, after the body. -/
theorem out7_eq (i : grid0.Coords) (q kp kc vp vc : Vec Ideal S1x128x512 .f32) (bp bc : Vec Ideal S4x128x128 .f32) :
    out0_7 i q kp kc vp vc bp bc = blockOut i q kp kc vp vc bp bc := by
  funext y
  have hq := ld_cols q
  have hkp := ld_cols kp
  have hkc := ld_cols kc
  have hvp := ld_cols vp
  have hvc := ld_cols vc
  have hbp := ld_member bp
  have hbc := ld_member bc
  refine View.canon_apply_of_pieces (blockOut i q kp kc vp vc bp bc) _ ?_ y (cover0_7 _ _ _ _ y)
  intro p hp x
  simp only [List.mem_cons, List.not_mem_nil, or_false] at hp
  let f : Fin 4 → (⟨3, ![1, 128, 128]⟩ : Shape).Idx → EReal := fun h => headOut i (cols q h) (cols kp h) (cols kc h) (cols vp h)
    (cols vc h) (member bp h) (member bc h)
  rcases hp with rfl | rfl | rfl | rfl
  · obtain ⟨a, b, d, rfl⟩ : ∃ (a : Fin 1) (b d : Fin 128), x = ix3 a b d := ⟨x 0, x 1, x 2, eq_ix3 x⟩
    refine Eq.trans ?_ (at_head f 3 a b d _ (by show 0 + 1 * b.val = _; omega) (by show 384 + 1 * d.val = 3 * 128 + d.val; omega))
    show headOut i (View.ld q r0_6) (View.ld kp r0_6) (View.ld kc r0_6) (View.ld vp r0_6) (View.ld vc r0_6) (View.ld bp r0_7) (View.ld bc r0_7) _ = _
    rw [hq.2.2.2, hkp.2.2.2, hkc.2.2.2, hvp.2.2.2, hvc.2.2.2, hbp.2.2.2, hbc.2.2.2]
  · obtain ⟨a, b, d, rfl⟩ : ∃ (a : Fin 1) (b d : Fin 128), x = ix3 a b d := ⟨x 0, x 1, x 2, eq_ix3 x⟩
    refine Eq.trans ?_ (at_head f 2 a b d _ (by show 0 + 1 * b.val = _; omega) (by show 256 + 1 * d.val = 2 * 128 + d.val; omega))
    show headOut i (View.ld q r0_4) (View.ld kp r0_4) (View.ld kc r0_4) (View.ld vp r0_4) (View.ld vc r0_4) (View.ld bp r0_5) (View.ld bc r0_5) _ = _
    rw [hq.2.2.1, hkp.2.2.1, hkc.2.2.1, hvp.2.2.1, hvc.2.2.1, hbp.2.2.1, hbc.2.2.1]
  · obtain ⟨a, b, d, rfl⟩ : ∃ (a : Fin 1) (b d : Fin 128), x = ix3 a b d := ⟨x 0, x 1, x 2, eq_ix3 x⟩
    refine Eq.trans ?_ (at_head f 1 a b d _ (by show 0 + 1 * b.val = _; omega) (by show 128 + 1 * d.val = 1 * 128 + d.val; omega))
    show headOut i (View.ld q r0_2) (View.ld kp r0_2) (View.ld kc r0_2) (View.ld vp r0_2) (View.ld vc r0_2) (View.ld bp r0_3) (View.ld bc r0_3) _ = _
    rw [hq.2.1, hkp.2.1, hkc.2.1, hvp.2.1, hvc.2.1, hbp.2.1, hbc.2.1]
  · obtain ⟨a, b, d, rfl⟩ : ∃ (a : Fin 1) (b d : Fin 128), x = ix3 a b d := ⟨x 0, x 1, x 2, eq_ix3 x⟩
    refine Eq.trans ?_ (at_head f 0 a b d _ (by show 0 + 1 * b.val = _; omega) (by show 0 + 1 * d.val = 0 * 128 + d.val; omega))
    show headOut i (View.ld q r0_0) (View.ld kp r0_0) (View.ld kc r0_0) (View.ld vp r0_0) (View.ld vc r0_0) (View.ld bp r0_1) (View.ld bc r0_1) _ = _
    rw [hq.1, hkp.1, hkc.1, hvp.1, hvc.1, hbp.1, hbc.1]

/-- The buffer of the log-sum-exps, after the body. -/
theorem out8_eq (i : grid0.Coords) (q kp kc vp vc : Vec Ideal S1x128x512 .f32) (bp bc : Vec Ideal S4x128x128 .f32) :
    out0_8 i q kp kc vp vc bp bc = blockLse i q kp kc bp bc := by
  funext y
  have hq := ld_cols q
  have hkp := ld_cols kp
  have hkc := ld_cols kc
  have hbp := ld_member bp
  have hbc := ld_member bc
  refine View.canon_apply_of_pieces (blockLse i q kp kc bp bc) _ ?_ y (cover0_8 _ _ _ _ y)
  intro p hp x
  simp only [List.mem_cons, List.not_mem_nil, or_false] at hp
  let f : Fin 4 → (⟨3, ![1, 128, 128]⟩ : Shape).Idx → EReal := fun h => headLse i (cols q h) (cols kp h) (cols kc h)
    (member bp h) (member bc h)
  rcases hp with rfl | rfl | rfl | rfl
  · obtain ⟨a, b, d, rfl⟩ : ∃ (a : Fin 1) (b d : Fin 128), x = ix3 a b d := ⟨x 0, x 1, x 2, eq_ix3 x⟩
    refine Eq.trans ?_ (at_head f 3 a b d _ (by show 0 + 1 * b.val = _; omega) (by show 384 + 1 * d.val = 3 * 128 + d.val; omega))
    show headLse i (View.ld q r0_6) (View.ld kp r0_6) (View.ld kc r0_6) (View.ld bp r0_7) (View.ld bc r0_7) _ = _
    rw [hq.2.2.2, hkp.2.2.2, hkc.2.2.2, hbp.2.2.2, hbc.2.2.2]
  · obtain ⟨a, b, d, rfl⟩ : ∃ (a : Fin 1) (b d : Fin 128), x = ix3 a b d := ⟨x 0, x 1, x 2, eq_ix3 x⟩
    refine Eq.trans ?_ (at_head f 2 a b d _ (by show 0 + 1 * b.val = _; omega) (by show 256 + 1 * d.val = 2 * 128 + d.val; omega))
    show headLse i (View.ld q r0_4) (View.ld kp r0_4) (View.ld kc r0_4) (View.ld bp r0_5) (View.ld bc r0_5) _ = _
    rw [hq.2.2.1, hkp.2.2.1, hkc.2.2.1, hbp.2.2.1, hbc.2.2.1]
  · obtain ⟨a, b, d, rfl⟩ : ∃ (a : Fin 1) (b d : Fin 128), x = ix3 a b d := ⟨x 0, x 1, x 2, eq_ix3 x⟩
    refine Eq.trans ?_ (at_head f 1 a b d _ (by show 0 + 1 * b.val = _; omega) (by show 128 + 1 * d.val = 1 * 128 + d.val; omega))
    show headLse i (View.ld q r0_2) (View.ld kp r0_2) (View.ld kc r0_2) (View.ld bp r0_3) (View.ld bc r0_3) _ = _
    rw [hq.2.1, hkp.2.1, hkc.2.1, hbp.2.1, hbc.2.1]
  · obtain ⟨a, b, d, rfl⟩ : ∃ (a : Fin 1) (b d : Fin 128), x = ix3 a b d := ⟨x 0, x 1, x 2, eq_ix3 x⟩
    refine Eq.trans ?_ (at_head f 0 a b d _ (by show 0 + 1 * b.val = _; omega) (by show 0 + 1 * d.val = 0 * 128 + d.val; omega))
    show headLse i (View.ld q r0_0) (View.ld kp r0_0) (View.ld kc r0_0) (View.ld bp r0_1) (View.ld bc r0_1) _ = _
    rw [hq.1, hkp.1, hkc.1, hbp.1, hbc.1]

/-- The output block at row `r` and column `d` of head `h`. -/
theorem blockOut_apply (i : grid0.Coords) (q kp kc vp vc : Vec Ideal S1x128x512 .f32) (bp bc : Vec Ideal S4x128x128 .f32)
    (r : Fin 128) (w : Fin 512) :
    out0_7 i q kp kc vp vc bp bc (ix3 0 r w)
      = out (sPrev (i 2).val (cols q (headOf w)) (cols kp (headOf w)) (member bp (headOf w)) r)
        (sCur (cols q (headOf w)) (cols kc (headOf w)) (member bc (headOf w)) r)
        (fun k => vp (ix3 0 k w)) (fun k => vc (ix3 0 k w)) := by
  rw [out7_eq]
  refine (headOut_apply i _ _ _ _ _ _ _ r (inHead w)).trans ?_
  have e : ∀ (x : Vec Ideal S1x128x512 .f32) (k : Fin 128), cols x (headOf w) (ix3 0 k (inHead w)) = x (ix3 0 k w) := fun x k =>
    congrArg x (ext3 _ _ _ _ rfl rfl (by show w.val / 128 * 128 + w.val % 128 = w.val; omega))
  exact congrArg₂ _ (funext fun k => e vp k) (funext fun k => e vc k)

/-- The log-sum-exp block at row `r` and column `d` of head `h`. -/
theorem blockLse_apply (i : grid0.Coords) (q kp kc vp vc : Vec Ideal S1x128x512 .f32) (bp bc : Vec Ideal S4x128x128 .f32)
    (r : Fin 128) (w : Fin 512) :
    out0_8 i q kp kc vp vc bp bc (ix3 0 r w)
      = lse (sPrev (i 2).val (cols q (headOf w)) (cols kp (headOf w)) (member bp (headOf w)) r)
        (sCur (cols q (headOf w)) (cols kc (headOf w)) (member bc (headOf w)) r) := by
  rw [out8_eq]
  exact headLse_apply i _ _ _ _ _ r (inHead w)

/-- A grid point of the undilated group with block number `n`. -/
def point (n : Fin 64) : grid0.Coords := fun a => match a with | 0 => (0 : Fin 2) | 1 => (0 : Fin 1) | 2 => n

end Cert.Dil0Ideal.Value

namespace Cert.Dil1Ideal.Value

open Cert.Dil1Ideal Cert.Dil1Ideal.Gen

/-- The body of dilation 4 is that of the undilated group. -/
theorem out7_eq (i : grid0.Coords) (q kp kc vp vc : Vec Ideal S1x128x512 .f32) (bp bc : Vec Ideal S4x128x128 .f32) :
    out0_7 i q kp kc vp vc bp bc = Cert.Dil0Ideal.Gen.out0_7 (Cert.Dil0Ideal.Value.point ((i 2 : Fin 16).castLE (by decide))) q kp kc vp vc bp bc := rfl

theorem out8_eq (i : grid0.Coords) (q kp kc vp vc : Vec Ideal S1x128x512 .f32) (bp bc : Vec Ideal S4x128x128 .f32) :
    out0_8 i q kp kc vp vc bp bc = Cert.Dil0Ideal.Gen.out0_8 (Cert.Dil0Ideal.Value.point ((i 2 : Fin 16).castLE (by decide))) q kp kc vp vc bp bc := rfl

end Cert.Dil1Ideal.Value

namespace Cert.Dil2Ideal.Value

open Cert.Dil2Ideal Cert.Dil2Ideal.Gen

/-- The body of dilation 16 is that of the undilated group. -/
theorem out7_eq (i : grid0.Coords) (q kp kc vp vc : Vec Ideal S1x128x512 .f32) (bp bc : Vec Ideal S4x128x128 .f32) :
    out0_7 i q kp kc vp vc bp bc = Cert.Dil0Ideal.Gen.out0_7 (Cert.Dil0Ideal.Value.point ((i 2 : Fin 4).castLE (by decide))) q kp kc vp vc bp bc := rfl

theorem out8_eq (i : grid0.Coords) (q kp kc vp vc : Vec Ideal S1x128x512 .f32) (bp bc : Vec Ideal S4x128x128 .f32) :
    out0_8 i q kp kc vp vc bp bc = Cert.Dil0Ideal.Gen.out0_8 (Cert.Dil0Ideal.Value.point ((i 2 : Fin 4).castLE (by decide))) q kp kc vp vc bp bc := rfl

end Cert.Dil2Ideal.Value
-- ==== Proof.Rank6.lean ====
/-
  Facts on arrays of rank 6 and on reshapes at sizes that are variables, for the dilated attention's reference.
-/
module

public import proofs.«01_k».proof.Proof.DilBlock
public import Idealize.ShloMosaic.Lib.ValueIdxRank6
public import Idealize.ShloMosaic.Lib.KernelVsHost

@[expose] public section

set_option maxRecDepth 16384

noncomputable section

open Idealize.ShloMosaic Idealize.ShloMosaic.TcCoe Idealize.SL.Sem

namespace Cert.Index

variable {n0 n1 n2 n3 n4 n5 : Nat}

/-- The source indices that lose their last coordinate to a rank-5 index. -/
theorem drop_last (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x
    match x with
    | ⟨0, _⟩ => exact Fin.ext (congrArg Fin.val (congrFun q 0)).symm
    | ⟨1, _⟩ => exact Fin.ext (congrArg Fin.val (congrFun q 1)).symm
    | ⟨2, _⟩ => exact Fin.ext (congrArg Fin.val (congrFun q 2)).symm
    | ⟨3, _⟩ => exact Fin.ext (congrArg Fin.val (congrFun q 3)).symm
    | ⟨4, _⟩ => exact Fin.ext (congrArg Fin.val (congrFun q 4)).symm
    | ⟨5, _⟩ => rfl
  · rintro ⟨k, rfl⟩
    funext x
    match x with
    | ⟨0, _⟩ => rfl
    | ⟨1, _⟩ => rfl
    | ⟨2, _⟩ => rfl
    | ⟨3, _⟩ => rfl
    | ⟨4, _⟩ => rfl

/-- A host maximum over the last axis of six. -/
theorem reduceMax_last (x : FVec Ideal ⟨6, ![n0, n1, n2, n3, n4, n5]⟩ .f32)
    (h : (⟨6, ![n0, n1, n2, n3, n4, n5]⟩ : Shape).ReducesTo [5] ⟨5, ![n0, n1, n2, n3, n4]⟩) (hu : 0 < (⟨0, ![]⟩ : Shape).numel)
    (a : Fin n0) (b : Fin n1) (c : Fin n2) (d : Fin n3) (e : Fin n4) :
    Host.reduce FloatOps.maximumf x (constant ⟨0, ![]⟩ .f32 0xFF800000#32) h hu (ix5 a b c d e)
      = Finset.univ.fold max (⊥ : EReal) fun k : Fin n5 => (x (ix6 a b c d e k) : EReal) := by
  rw [← negInf]
  refine (Host.reduce_eq_fold (max : EReal → EReal → EReal) x (constant (F := Ideal) ⟨0, ![]⟩ .f32 0xFF800000#32) h hu (ix5 a b c d e)).trans ?_
  exact Finset.fold_filter_eq_fold_of_fiber _ _ (fun k : Fin n5 => ix6 a b c d e k) (fun _ _ q => congrFun q 5) (drop_last h a b c d e) _ _

/-- A host sum over the last axis of six. -/
theorem reduceAdd_last (x : FVec Ideal ⟨6, ![n0, n1, n2, n3, n4, n5]⟩ .f32)
    (h : (⟨6, ![n0, n1, n2, n3, n4, n5]⟩ : Shape).ReducesTo [5] ⟨5, ![n0, n1, n2, n3, n4]⟩) (hu : 0 < (⟨0, ![]⟩ : Shape).numel)
    (a : Fin n0) (b : Fin n1) (c : Fin n2) (d : Fin n3) (e : Fin n4) :
    Host.reduceAdd x (constant ⟨0, ![]⟩ .f32 0x00000000#32) h hu (ix5 a b c d e)
      = ∑ k : Fin n5, (x (ix6 a b c d e k) : EReal) := by
  refine (congrArg₂ (· + ·) (show Ideal.ofBits .f32 0x00000000#32 = (0 : EReal) by pointwise) ?_).trans (zero_add _)
  exact Finset.sum_filter_eq_sum_of_fiber _ (fun k : Fin n5 => ix6 a b c d e k) (fun _ _ q => congrFun q 5) (drop_last h a b c d e) _

/-- A coordinate read through an axis of size 1 or its own. -/
theorem coord_bcast {n : Nat} (x : Fin n) : x.val = if n = 1 then 0 else x.val := by
  have := x.isLt
  split <;> omega

end Cert.Index
-- ==== Proof.DilStages.lean ====
/-
  The dilated attention's reference, in stages, at any dilation `D` with `N` blocks of 128 strided rows: `L = 128 N` rows in
  each residue class and `P = L + 128` with the block of zeros in front. One set of lemmas serves the three groups of heads.
-/
module

public import proofs.«01_k».proof.Proof.Rank6

@[expose] public section

set_option maxRecDepth 16384

noncomputable section

open Idealize.ShloMosaic Idealize.ShloMosaic.TcCoe Idealize.SL.Sem Cert.Index

namespace Cert.DilStages

/-! ## The shapes -/

abbrev Z : Shape := ⟨3, ![2, 8192, 13312]⟩
abbrev Cols : Shape := ⟨3, ![2, 8192, 4608]⟩
abbrev Part : Shape := ⟨3, ![2, 8192, 1536]⟩
abbrev Groups : Shape := ⟨5, ![2, 8192, 3, 4, 128]⟩
abbrev One : Shape := ⟨5, ![2, 8192, 1, 4, 128]⟩
abbrev Rows : Shape := ⟨4, ![2, 8192, 4, 128]⟩
abbrev Split (L D : ℕ) : Shape := ⟨5, ![2, L, D, 4, 128]⟩
abbrev Str (D L : ℕ) : Shape := ⟨5, ![2, D, L, 4, 128]⟩
abbrev Blk (D N K : ℕ) : Shape := ⟨6, ![2, D, N, K, 4, 128]⟩
abbrev Sc (D N K : ℕ) : Shape := ⟨6, ![2, D, N, 4, 128, K]⟩
abbrev Row (D N : ℕ) : Shape := ⟨5, ![2, D, N, 4, 128]⟩
abbrev RowT (D N : ℕ) : Shape := ⟨5, ![2, D, N, 128, 4]⟩
abbrev RowU (D N : ℕ) : Shape := ⟨6, ![2, D, N, 128, 4, 1]⟩
abbrev Win : Shape := ⟨2, ![128, 256]⟩
abbrev Bias : Shape := ⟨3, ![4, 128, 256]⟩
abbrev Pt : Shape := ⟨0, ![]⟩

variable {D N L P : ℕ}

/-! ## The heads of one group, strided by the dilation -/

/-- The queries (`off = 0`), keys (`off = 1536`) or values (`off = 3072`) of the heads of group `g`. -/
def heads (off g : ℕ) (h1 : Z.Slices ![0, 0, 2048] Cols) (h2 : Cols.Slices ![0, 0, off] Part) (h3 : Part.ShapeCasts Groups)
    (h4 : Groups.Slices ![0, 0, g, 0, 0] One) (h5 : One.ShapeCasts Rows) (z : FVec Ideal Z .f32) : FVec Ideal Rows .f32 :=
  shapeCast _ (extractStridedSlice One ![0, 0, g, 0, 0] (shapeCast _ (extractStridedSlice Part ![0, 0, off]
    (extractStridedSlice Cols ![0, 0, 2048] z h1) h2) h3) h4) h5

theorem heads_apply (off g : ℕ) (h1 h2 h3 h4 h5) (z : FVec Ideal Z .f32) (b : Fin 2) (p : Fin 8192) (h : Fin 4) (e : Fin 128)
    (w : Fin 13312) (hw : w.val = 2048 + off + g * 512 + h.val * 128 + e.val) (hg : g < 3) :
    heads off g h1 h2 h3 h4 h5 z (ix4 b p h e) = z (ix3 b p w) := by
  unfold heads
  have he := e.isLt
  have hh := h.isLt
  have hb := b.isLt
  have hp := p.isLt
  have hc : off + 1536 ≤ 4608 := h2.2 2
  refine (shapeCast_apply _ h5 _ (ix5 b p 0 h e) ?_).trans ?_
  · rw [Shape.rowMajor_val_five, Shape.rowMajor_val_four]
    show ((((b.val * 8192 + p.val) * 1 + 0) * 4 + h.val) * 128 + e.val) = ((b.val * 8192 + p.val) * 4 + h.val) * 128 + e.val
    omega
  refine (extractStridedSlice_apply _ _ h4 _ (ix5 b p ⟨g, hg⟩ h e) ?_).trans ?_
  · intro a
    match a with
    | 0 => exact (Nat.zero_add _).symm
    | 1 => exact (Nat.zero_add _).symm
    | 2 => rfl
    | 3 => exact (Nat.zero_add _).symm
    | 4 => exact (Nat.zero_add _).symm
  refine (shapeCast_apply _ h3 _ (ix3 b p ⟨g * 512 + h.val * 128 + e.val, by omega⟩) ?_).trans ?_
  · rw [Shape.rowMajor_val_five, Shape.rowMajor_val_three]
    show (b.val * 8192 + p.val) * 1536 + (g * 512 + h.val * 128 + e.val)
      = ((((b.val * 8192 + p.val) * 3 + g) * 4 + h.val) * 128 + e.val)
    omega
  refine (extractStridedSlice_apply _ _ h2 _ (ix3 b p ⟨off + (g * 512 + h.val * 128 + e.val), by omega⟩) ?_).trans ?_
  · intro a
    match a with
    | 0 => exact (Nat.zero_add _).symm
    | 1 => exact (Nat.zero_add _).symm
    | 2 => rfl
  refine extractStridedSlice_apply _ _ h1 _ (ix3 b p w) ?_
  intro a
  match a with
  | 0 => exact (Nat.zero_add _).symm
  | 1 => exact (Nat.zero_add _).symm
  | 2 => show w.val = 2048 + (off + (g * 512 + h.val * 128 + e.val)); omega

/-- The rows split by residue class of the dilation. -/
def strided (h1 : Rows.ShapeCasts (Split L D)) (h2 : (Split L D).Transposes [0, 2, 1, 3, 4] (Str D L)) (x : FVec Ideal Rows .f32) :
    FVec Ideal (Str D L) .f32 :=
  transpose (Str D L) [0, 2, 1, 3, 4] (shapeCast _ x h1) h2

theorem strided_apply (h1 : Rows.ShapeCasts (Split L D)) (h2) (hL : L * D = 8192) (x : FVec Ideal Rows .f32) (b : Fin 2) (d : Fin D) (l : Fin L)
    (h : Fin 4) (e : Fin 128) (p : Fin 8192) (hp : p.val = l.val * D + d.val) :
    strided h1 h2 x (ix5 b d l h e) = x (ix4 b p h e) := by
  unfold strided
  refine (transpose_apply _ _ h2 _ (ix5 b l d h e) ?_).trans (shapeCast_apply _ h1 _ (ix4 b p h e) ?_)
  · intro a
    match a with
    | 0 => rfl
    | 1 => rfl
    | 2 => rfl
    | 3 => rfl
    | 4 => rfl
  · rw [Shape.rowMajor_val_five, Shape.rowMajor_val_four]
    show ((b.val * 8192 + p.val) * 4 + h.val) * 128 + e.val = ((((b.val * L + l.val) * D + d.val) * 4 + h.val) * 128 + e.val)
    rw [hp, ← hL]
    ring

/-! ## The blocks of queries, keys and values -/

/-- The zero the rows are padded with. -/
def zero : FVec Ideal Pt .f32 := sitofp .f32 (constantI Pt 32 0#32)

theorem zero_apply (j : Pt.Idx) : zero j = (0 : EReal) := by
  show ((((0#32 : BitVec 32).toInt : ℝ)) : EReal) = 0
  simp

/-- The queries in blocks of 128. -/
def queries (hp : (Str D L).Pads (![0, 0, 0, 0, 0] : Fin 5 → Nat) ![0, 0, 0, 0, 0] ![0, 0, 0, 0, 0] (Str D L)) (hu : 0 < Pt.numel)
    (hs : (Str D L).ShapeCasts (Blk D N 128)) (x : FVec Ideal (Str D L) .f32) : FVec Ideal (Blk D N 128) .f32 :=
  shapeCast _ (pad (Str D L) ![0, 0, 0, 0, 0] ![0, 0, 0, 0, 0] ![0, 0, 0, 0, 0] x zero hp hu) hs

theorem blocks_apply (hs : (Str D L).ShapeCasts (Blk D N 128)) (hN : L = N * 128) (x : FVec Ideal (Str D L) .f32) (b : Fin 2) (d : Fin D)
    (n : Fin N) (r : Fin 128) (h : Fin 4) (e : Fin 128) (l : Fin L) (hl : l.val = n.val * 128 + r.val) :
    (shapeCast (Blk D N 128) x hs) (ix6 b d n r h e) = x (ix5 b d l h e) := by
  refine shapeCast_apply _ hs _ _ ?_
  rw [Shape.rowMajor_val_five, Shape.rowMajor_val_six]
  show ((((b.val * D + d.val) * L + l.val) * 4 + h.val) * 128 + e.val)
    = (((((b.val * D + d.val) * N + n.val) * 128 + r.val) * 4 + h.val) * 128 + e.val)
  rw [hl, hN]
  ring

theorem queries_apply (hp hu hs) (hN : L = N * 128) (x : FVec Ideal (Str D L) .f32) (b : Fin 2) (d : Fin D)
    (n : Fin N) (r : Fin 128) (h : Fin 4) (e : Fin 128) (l : Fin L) (hl : l.val = n.val * 128 + r.val) :
    queries hp hu hs x (ix6 b d n r h e) = x (ix5 b d l h e) := by
  unfold queries
  rw [blocks_apply hs hN _ b d n r h e l hl]
  refine pad_apply_of_inside _ _ _ _ _ hp hu _ (ix5 b d l h e) ?_
  intro a
  match a with
  | 0 => show b.val = 0 + b.val * 1; omega
  | 1 => show d.val = 0 + d.val * 1; omega
  | 2 => show l.val = 0 + l.val * 1; omega
  | 3 => show h.val = 0 + h.val * 1; omega
  | 4 => show e.val = 0 + e.val * 1; omega

/-- A row with the block of zeros in front. -/
def padded (hp : (Str D L).Pads (![0, 0, 128, 0, 0] : Fin 5 → Nat) ![0, 0, 0, 0, 0] ![0, 0, 0, 0, 0] (Str D P)) (hu : 0 < Pt.numel)
    (x : FVec Ideal (Str D L) .f32) : FVec Ideal (Str D P) .f32 :=
  pad (Str D P) ![0, 0, 128, 0, 0] ![0, 0, 0, 0, 0] ![0, 0, 0, 0, 0] x zero hp hu

theorem padded_low (hp hu) (x : FVec Ideal (Str D L) .f32) (b : Fin 2) (d : Fin D) (p : Fin P) (h : Fin 4) (e : Fin 128) (hl : p.val < 128) :
    padded hp hu x (ix5 b d p h e) = (0 : EReal) :=
  (pad_apply_of_not_inside _ _ _ _ _ hp hu (ix5 b d p h e) 2 (fun q => absurd (show 128 ≤ p.val from q.1) (Nat.not_le.mpr hl))).trans
    (zero_apply _)

theorem padded_high (hp hu) (x : FVec Ideal (Str D L) .f32) (b : Fin 2) (d : Fin D) (p : Fin P) (h : Fin 4) (e : Fin 128) (l : Fin L)
    (hl : p.val = 128 + l.val) : padded hp hu x (ix5 b d p h e) = x (ix5 b d l h e) := by
  refine pad_apply_of_inside _ _ _ _ _ hp hu _ (ix5 b d l h e) ?_
  intro a
  match a with
  | 0 => show b.val = 0 + b.val * 1; omega
  | 1 => show d.val = 0 + d.val * 1; omega
  | 2 => show p.val = 128 + l.val * 1; omega
  | 3 => show h.val = 0 + h.val * 1; omega
  | 4 => show e.val = 0 + e.val * 1; omega

/-- The keys or values of a block of queries: the 128 rows before the block and its own. -/
def windows (hp : (Str D L).Pads (![0, 0, 128, 0, 0] : Fin 5 → Nat) ![0, 0, 0, 0, 0] ![0, 0, 0, 0, 0] (Str D P)) (hu : 0 < Pt.numel)
    (ha : (Str D P).Slices ![0, 0, 0, 0, 0] (Str D L)) (hb : (Str D P).Slices ![0, 0, 128, 0, 0] (Str D L))
    (hs : (Str D L).ShapeCasts (Blk D N 128)) (hc : Shape.Concatenates [Blk D N 128, Blk D N 128] (Blk D N 256) 3)
    (x : FVec Ideal (Str D L) .f32) : FVec Ideal (Blk D N 256) .f32 :=
  concatenate (Blk D N 256) 3
    [⟨Blk D N 128, shapeCast _ (extractStridedSlice (Str D L) ![0, 0, 0, 0, 0] (padded hp hu x) ha) hs⟩,
     ⟨Blk D N 128, shapeCast _ (extractStridedSlice (Str D L) ![0, 0, 128, 0, 0] (padded hp hu x) hb) hs⟩] hc

theorem windows_prev (hp hu ha hb hs hc) (hN : L = N * 128) (hP : P = L + 128) (x : FVec Ideal (Str D L) .f32) (b : Fin 2) (d : Fin D)
    (n : Fin N) (k : Fin 128) (h : Fin 4) (e : Fin 128) :
    (windows (P := P) hp hu ha hb hs hc x (ix6 b d n (k.castAdd 128) h e) : EReal)
      = if hn : 0 < n.val then x (ix5 b d ⟨(n.val - 1) * 128 + k.val, by have := n.isLt; have := k.isLt; omega⟩ h e) else 0 := by
  unfold windows
  have hn := n.isLt
  have hk := k.isLt
  refine (concatenate_pair_apply_left 3 _ _ hc _ rfl (ix6 b d n k h e) ?_).trans ?_
  · intro a
    match a with
    | 0 => rfl
    | 1 => rfl
    | 2 => rfl
    | 3 => rfl
    | 4 => rfl
    | 5 => rfl
  rw [blocks_apply hs hN _ b d n k h e ⟨n.val * 128 + k.val, by omega⟩ rfl]
  refine (extractStridedSlice_apply _ _ ha _ (ix5 b d ⟨n.val * 128 + k.val, by omega⟩ h e) ?_).trans ?_
  · intro a
    match a with
    | 0 => exact (Nat.zero_add _).symm
    | 1 => exact (Nat.zero_add _).symm
    | 2 => exact (Nat.zero_add _).symm
    | 3 => exact (Nat.zero_add _).symm
    | 4 => exact (Nat.zero_add _).symm
  split
  · exact padded_high hp hu x b d _ h e _ (by show n.val * 128 + k.val = 128 + ((n.val - 1) * 128 + k.val); omega)
  · exact padded_low hp hu x b d _ h e (by show n.val * 128 + k.val < 128; omega)

theorem windows_cur (hp hu ha hb hs hc) (hN : L = N * 128) (hP : P = L + 128) (x : FVec Ideal (Str D L) .f32) (b : Fin 2) (d : Fin D)
    (n : Fin N) (k : Fin 128) (h : Fin 4) (e : Fin 128) (l : Fin L) (hl : l.val = n.val * 128 + k.val) :
    windows (P := P) hp hu ha hb hs hc x (ix6 b d n (k.natAdd 128) h e) = x (ix5 b d l h e) := by
  unfold windows
  have hn := n.isLt
  have hk := k.isLt
  refine (concatenate_pair_apply_right 3 _ _ hc _ rfl rfl (ix6 b d n k h e) ?_ ?_).trans ?_
  · intro a ha
    match a with
    | 0 => rfl
    | 1 => rfl
    | 2 => rfl
    | 3 => exact absurd rfl ha
    | 4 => rfl
    | 5 => rfl
  · show k.val + 128 = 128 + k.val; omega
  rw [blocks_apply hs hN _ b d n k h e l hl]
  refine (extractStridedSlice_apply _ _ hb _ (ix5 b d ⟨128 + l.val, by omega⟩ h e) ?_).trans ?_
  · intro a
    match a with
    | 0 => exact (Nat.zero_add _).symm
    | 1 => exact (Nat.zero_add _).symm
    | 2 => rfl
    | 3 => exact (Nat.zero_add _).symm
    | 4 => exact (Nat.zero_add _).symm
  exact padded_high hp hu x b d _ h e _ rfl

end Cert.DilStages
-- ==== Proof.DilScores.lean ====
/-
  The dilated attention's reference, continued: scores, exponentials, outputs and log-sum-exps, at any dilation.
-/
module

public import proofs.«01_k».proof.Proof.DilStages

@[expose] public section

set_option maxRecDepth 16384

noncomputable section

open Idealize.ShloMosaic Idealize.ShloMosaic.TcCoe Idealize.SL.Sem Cert.Index Cert.DilSpec

namespace Cert.DilStages

variable {D N L P W : ℕ}

/-- A greatest value over 256 is the greater of those over the two halves. -/
theorem fold_max_halves (f : Fin (128 + 128) → EReal) :
    Finset.univ.fold max ⊥ f = max (Finset.univ.fold max ⊥ fun k : Fin 128 => f (k.castAdd 128)) (Finset.univ.fold max ⊥ fun k : Fin 128 => f (k.natAdd 128)) := by
  show Finset.univ.sup f = Finset.univ.sup _ ⊔ Finset.univ.sup _
  refine le_antisymm (Finset.sup_le fun k _ => ?_) (sup_le (Finset.sup_le fun k _ => ?_) (Finset.sup_le fun k _ => ?_))
  · refine Fin.addCases (fun k => ?_) (fun k => ?_) k
    · exact le_sup_of_le_left (Finset.le_sup (f := fun k : Fin 128 => f (k.castAdd 128)) (Finset.mem_univ k))
    · exact le_sup_of_le_right (Finset.le_sup (f := fun k : Fin 128 => f (k.natAdd 128)) (Finset.mem_univ k))
  · exact Finset.le_sup (f := f) (Finset.mem_univ _)
  · exact Finset.le_sup (f := f) (Finset.mem_univ _)

/-! ## Which keys a query may see -/

/-- Whether key `k` of block `n`'s window is a row of the sequence: `128 n - 128 + k ≥ 0`. -/
def inside (hb : Pt.BroadcastsInDim (⟨3, ![N, 128, 256]⟩ : Shape) (![] : Fin 0 → Fin 3)) : IVec ⟨3, ![N, 128, 256]⟩ 1 :=
  cmpi .sge (addi (subi (muli (iotaInDim ⟨3, ![N, 128, 256]⟩ 32 0) (broadcastInDim ⟨3, ![N, 128, 256]⟩ ![] hb (constantI Pt 32 128#32)))
    (broadcastInDim ⟨3, ![N, 128, 256]⟩ ![] hb (constantI Pt 32 128#32))) (iotaInDim ⟨3, ![N, 128, 256]⟩ 32 2))
    (broadcastInDim ⟨3, ![N, 128, 256]⟩ ![] hb (constantI Pt 32 0#32))

/-- The word test, for the block numbers and keys there are. -/
theorem inside_word : ∀ (n : Fin 64) (k : Fin 256),
    Scalar.cmpi .sge (BitVec.ofNat 32 n.val * 128#32 - 128#32 + BitVec.ofNat 32 k.val) 0#32 = if 128 ≤ n.val * 128 + k.val then 1#1 else 0#1 := by
  decide +kernel

theorem inside_apply (hb) (hN : N ≤ 64) (n : Fin N) (r : Fin 128) (k : Fin 256) :
    inside hb (ix3 n r k) = if 128 ≤ n.val * 128 + k.val then 1#1 else 0#1 :=
  inside_word (n.castLE hN) k

/-- Which pairs of query and key are in the window, over every block and head. -/
def allowed (h1 : Win.BroadcastsInDim (⟨3, ![1, 128, 256]⟩ : Shape) (![1, 2] : Fin 2 → Fin 3))
    (h2 : (⟨3, ![1, 128, 256]⟩ : Shape).BroadcastsInDim (⟨3, ![N, 128, 256]⟩ : Shape) (![0, 1, 2] : Fin 3 → Fin 3))
    (hb : Pt.BroadcastsInDim (⟨3, ![N, 128, 256]⟩ : Shape) (![] : Fin 0 → Fin 3))
    (h3 : (⟨3, ![N, 128, 256]⟩ : Shape).BroadcastsInDim (⟨4, ![N, 1, 128, 256]⟩ : Shape) (![0, 2, 3] : Fin 3 → Fin 4))
    (h4 : (⟨4, ![N, 1, 128, 256]⟩ : Shape).BroadcastsInDim (Sc D N 256) (![2, 3, 4, 5] : Fin 4 → Fin 6)) (M : IVec Win 1) :
    IVec (Sc D N 256) 1 :=
  broadcastInDim (Sc D N 256) ![2, 3, 4, 5] h4 (broadcastInDim ⟨4, ![N, 1, 128, 256]⟩ ![0, 2, 3] h3
    (andi (broadcastInDim ⟨3, ![N, 128, 256]⟩ ![0, 1, 2] h2 (broadcastInDim ⟨3, ![1, 128, 256]⟩ ![1, 2] h1 M)) (inside hb)))

theorem allowed_apply (h1 h2 hb h3 h4) (hN : N ≤ 64) (M : IVec Win 1) (b : Fin 2) (d : Fin D) (n : Fin N) (h : Fin 4) (r : Fin 128) (k : Fin 256) :
    allowed h1 h2 hb h3 h4 M (ix6 b d n h r k) = M (ix2 r k) &&& (if 128 ≤ n.val * 128 + k.val then 1#1 else 0#1) := by
  unfold allowed
  refine (broadcastInDim_apply _ h4 _ _ (ix4 n 0 r k) ?_).trans ((broadcastInDim_apply _ h3 _ _ (ix3 n r k) ?_).trans ?_)
  · intro a
    match a with
    | 0 => exact coord_bcast n
    | 1 => rfl
    | 2 => rfl
    | 3 => rfl
  · intro a
    match a with
    | 0 => exact coord_bcast n
    | 1 => rfl
    | 2 => rfl
  refine congrArg₂ (· &&& ·) ?_ (inside_apply hb hN n r k)
  refine (broadcastInDim_apply _ h2 _ _ (ix3 0 r k) ?_).trans (broadcastInDim_apply _ h1 _ _ (ix2 r k) ?_)
  · intro a
    match a with
    | 0 => rfl
    | 1 => rfl
    | 2 => rfl
  · intro a
    match a with
    | 0 => rfl
    | 1 => rfl

/-! ## The scores -/

/-- The products of queries and keys, contracted over the head's 128 coordinates. -/
def dotQK (wf : DotDims.WF (Blk D N 128) (Blk D N 256) (Sc D N 256) [5] [5] [3] [3] [0, 1, 2, 4] [0, 1, 2, 4]) :
    DotDims (Blk D N 128) (Blk D N 256) (Sc D N 256) where
  lhsContracting := [5]
  rhsContracting := [5]
  lhsNonContracting := [3]
  rhsNonContracting := [3]
  lhsBatch := [0, 1, 2, 4]
  rhsBatch := [0, 1, 2, 4]
  wf := wf

theorem dotQK_apply (wf) (q : FVec Ideal (Blk D N 128) .f32) (k : FVec Ideal (Blk D N 256) .f32) (b : Fin 2) (d : Fin D) (n : Fin N)
    (h : Fin 4) (r : Fin 128) (j : Fin 256) :
    Host.dotGeneral (dotQK wf) none q k (ix6 b d n h r j) = ∑ e : Fin 128, (q (ix6 b d n r h e) : EReal) * k (ix6 b d n j h e) := by
  pointwise [dotQK]
  refine (Finset.sum_congr rfl fun k _ => congrArg₂ (· * ·) (congrArg _ (funext fun a => ?_)) (congrArg _ (funext fun a => ?_)))
  all_goals
    match a with
    | 0 => rfl
    | 1 => rfl
    | 2 => rfl
    | 3 => rfl
    | 4 => rfl
    | 5 => rfl

/-- The weighted sums of the values, contracted over the window's 256 keys. -/
def dotPV (wf : DotDims.WF (Blk D N 256) (Sc D N 256) (Sc D N 128) [3] [5] [5] [4] [0, 1, 2, 4] [0, 1, 2, 3]) :
    DotDims (Blk D N 256) (Sc D N 256) (Sc D N 128) where
  lhsContracting := [3]
  rhsContracting := [5]
  lhsNonContracting := [5]
  rhsNonContracting := [4]
  lhsBatch := [0, 1, 2, 4]
  rhsBatch := [0, 1, 2, 3]
  wf := wf

theorem dotPV_apply (wf) (v : FVec Ideal (Blk D N 256) .f32) (p : FVec Ideal (Sc D N 256) .f32) (b : Fin 2) (d : Fin D) (n : Fin N)
    (h : Fin 4) (e : Fin 128) (r : Fin 128) :
    Host.dotGeneral (dotPV wf) none v p (ix6 b d n h e r) = ∑ j : Fin 256, (v (ix6 b d n j h e) : EReal) * p (ix6 b d n h r j) := by
  pointwise [dotPV]
  refine (Finset.sum_congr rfl fun k _ => congrArg₂ (· * ·) (congrArg _ (funext fun a => ?_)) (congrArg _ (funext fun a => ?_)))
  all_goals
    match a with
    | 0 => rfl
    | 1 => rfl
    | 2 => rfl
    | 3 => rfl
    | 4 => rfl
    | 5 => rfl

/-- The scores: scaled products plus the position biases, `-∞` where the window forbids the pair. -/
def scores (wf : DotDims.WF (Blk D N 128) (Blk D N 256) (Sc D N 256) [5] [5] [3] [3] [0, 1, 2, 4] [0, 1, 2, 4]) (hs : Pt.BroadcastsInDim (Sc D N 256) (![] : Fin 0 → Fin 6))
    (h5 : Bias.BroadcastsInDim (⟨6, ![1, 1, 1, 4, 128, 256]⟩ : Shape) (![3, 4, 5] : Fin 3 → Fin 6))
    (h6 : (⟨6, ![1, 1, 1, 4, 128, 256]⟩ : Shape).BroadcastsInDim (Sc D N 256) (![0, 1, 2, 3, 4, 5] : Fin 6 → Fin 6))
    (a : IVec (Sc D N 256) 1) (q : FVec Ideal (Blk D N 128) .f32) (k : FVec Ideal (Blk D N 256) .f32) (t : FVec Ideal Bias .f32) :
    FVec Ideal (Sc D N 256) .f32 :=
  select a (addf (mulf (Host.dotGeneral (dotQK wf) none q k) (broadcastInDim (Sc D N 256) ![] hs (constant Pt .f32 0x3DB504F3#32)))
      (broadcastInDim (Sc D N 256) ![0, 1, 2, 3, 4, 5] h6 (broadcastInDim (⟨6, ![1, 1, 1, 4, 128, 256]⟩ : Shape) ![3, 4, 5] h5 t)))
    (broadcastInDim (Sc D N 256) ![] hs (id (constant Pt .f32 0xFF800000#32)))

theorem scores_apply (wf hs h5 h6) (a : IVec (Sc D N 256) 1) (q : FVec Ideal (Blk D N 128) .f32) (k : FVec Ideal (Blk D N 256) .f32)
    (t : FVec Ideal Bias .f32) (b : Fin 2) (d : Fin D) (n : Fin N) (h : Fin 4) (r : Fin 128) (j : Fin 256) :
    scores wf hs h5 h6 a q k t (ix6 b d n h r j)
      = Scalar.select (a (ix6 b d n h r j)) (score (fun e => q (ix6 b d n r h e)) (fun e => k (ix6 b d n j h e)) (t (ix3 h r j))) ⊥ := by
  unfold scores score
  refine congrArg₂ (Scalar.select (a (ix6 b d n h r j))) (congrArg₂ (· + ·) (congrArg₂ (· * ·) (dotQK_apply wf q k b d n h r j) rfl) ?_) negInf
  refine (broadcastInDim_apply _ h6 _ _ (ix6 0 0 0 h r j) ?_).trans (broadcastInDim_apply _ h5 _ _ (ix3 h r j) ?_)
  · intro a
    match a with
    | 0 => rfl
    | 1 => rfl
    | 2 => rfl
    | 3 => rfl
    | 4 => rfl
    | 5 => rfl
  · intro a
    match a with
    | 0 => rfl
    | 1 => rfl
    | 2 => rfl

/-- A score the window forbids is one whose bias is `-∞`. -/
theorem select_score (v : Prop) [Decidable v] (c : BitVec 1) (q k : Fin 128 → EReal) (t : EReal) :
    Scalar.select (c &&& (if v then 1#1 else 0#1)) (score q k t) ⊥ = if v then score q k (Scalar.select c t ⊥) else ⊥ := by
  obtain rfl | rfl : c = 0#1 ∨ c = 1#1 := by revert c; decide
  · split
    · exact (EReal.add_bot _).symm
    · rfl
  · split <;> rfl

/-! ## The softmax over a window -/

/-- The greatest score of each query. -/
def tops (hr : (Sc D N 256).ReducesTo [5] (Row D N)) (hu : 0 < Pt.numel) (s : FVec Ideal (Sc D N 256) .f32) : FVec Ideal (Row D N) .f32 :=
  Host.reduce FloatOps.maximumf s (constant Pt .f32 0xFF800000#32) hr hu

/-- The exponentials of the scores less the greatest. -/
def exps (h1 : (Row D N).BroadcastsInDim (Sc D N 1) (![0, 1, 2, 3, 4] : Fin 5 → Fin 6))
    (h2 : (Sc D N 1).BroadcastsInDim (Sc D N 256) (![0, 1, 2, 3, 4, 5] : Fin 6 → Fin 6)) (s : FVec Ideal (Sc D N 256) .f32)
    (t : FVec Ideal (Row D N) .f32) : FVec Ideal (Sc D N 256) .f32 :=
  Host.exp (subf s (broadcastInDim (Sc D N 256) ![0, 1, 2, 3, 4, 5] h2 (broadcastInDim (Sc D N 1) ![0, 1, 2, 3, 4] h1 t)))

theorem exps_apply (h1 h2) (s : FVec Ideal (Sc D N 256) .f32) (t : FVec Ideal (Row D N) .f32) (b : Fin 2) (d : Fin D) (n : Fin N)
    (h : Fin 4) (r : Fin 128) (j : Fin 256) :
    exps h1 h2 s t (ix6 b d n h r j) = Ideal.exp ((s (ix6 b d n h r j) : EReal) - t (ix5 b d n h r)) := by
  unfold exps
  refine congrArg (fun x : EReal => Ideal.exp ((s (ix6 b d n h r j) : EReal) - x)) ?_
  refine (broadcastInDim_apply _ h2 _ _ (ix6 b d n h r 0) ?_).trans (broadcastInDim_apply _ h1 _ _ (ix5 b d n h r) ?_)
  · intro a
    match a with
    | 0 => rfl
    | 1 => exact coord_bcast d
    | 2 => exact coord_bcast n
    | 3 => rfl
    | 4 => rfl
    | 5 => rfl
  · intro a
    match a with
    | 0 => rfl
    | 1 => exact coord_bcast d
    | 2 => exact coord_bcast n
    | 3 => rfl
    | 4 => rfl

/-- The sums of the exponentials. -/
def sums (hr : (Sc D N 256).ReducesTo [5] (Row D N)) (hu : 0 < Pt.numel) (p : FVec Ideal (Sc D N 256) .f32) : FVec Ideal (Row D N) .f32 :=
  Host.reduceAdd p (constant Pt .f32 0x00000000#32) hr hu

/-- The outputs of the heads, by block and row. -/
def outs (wf : DotDims.WF (Blk D N 256) (Sc D N 256) (Sc D N 128) [3] [5] [5] [4] [0, 1, 2, 4] [0, 1, 2, 3]) (h1 : (Sc D N 128).Transposes [0, 1, 2, 5, 3, 4] (Blk D N 128)) (h2 : (Row D N).Transposes [0, 1, 2, 4, 3] (RowT D N))
    (h3 : (RowT D N).BroadcastsInDim (RowU D N) (![0, 1, 2, 3, 4] : Fin 5 → Fin 6))
    (h4 : (RowU D N).BroadcastsInDim (Blk D N 128) (![0, 1, 2, 3, 4, 5] : Fin 6 → Fin 6))
    (v : FVec Ideal (Blk D N 256) .f32) (p : FVec Ideal (Sc D N 256) .f32) (l : FVec Ideal (Row D N) .f32) : FVec Ideal (Blk D N 128) .f32 :=
  Host.divf (transpose (Blk D N 128) [0, 1, 2, 5, 3, 4] (Host.dotGeneral (dotPV wf) none v p) h1)
    (broadcastInDim (Blk D N 128) ![0, 1, 2, 3, 4, 5] h4 (broadcastInDim (RowU D N) ![0, 1, 2, 3, 4] h3 (transpose (RowT D N) [0, 1, 2, 4, 3] l h2)))

theorem outs_apply (wf h1 h2 h3 h4) (v : FVec Ideal (Blk D N 256) .f32) (p : FVec Ideal (Sc D N 256) .f32) (l : FVec Ideal (Row D N) .f32)
    (b : Fin 2) (d : Fin D) (n : Fin N) (r : Fin 128) (h : Fin 4) (e : Fin 128) :
    outs wf h1 h2 h3 h4 v p l (ix6 b d n r h e)
      = Ideal.div (∑ j : Fin 256, (v (ix6 b d n j h e) : EReal) * p (ix6 b d n h r j)) (l (ix5 b d n h r)) := by
  unfold outs
  refine congrArg₂ Ideal.div ?_ ?_
  · refine (transpose_apply _ _ h1 _ (ix6 b d n h e r) ?_).trans (dotPV_apply wf v p b d n h e r)
    intro a
    match a with
    | 0 => rfl
    | 1 => rfl
    | 2 => rfl
    | 3 => rfl
    | 4 => rfl
    | 5 => rfl
  · refine (broadcastInDim_apply _ h4 _ _ (ix6 b d n r h 0) ?_).trans ((broadcastInDim_apply _ h3 _ _ (ix5 b d n r h) ?_).trans
      (transpose_apply _ _ h2 _ (ix5 b d n h r) ?_))
    · intro a
      match a with
      | 0 => rfl
      | 1 => exact coord_bcast d
      | 2 => exact coord_bcast n
      | 3 => rfl
      | 4 => rfl
      | 5 => rfl
    · intro a
      match a with
      | 0 => rfl
      | 1 => exact coord_bcast d
      | 2 => exact coord_bcast n
      | 3 => rfl
      | 4 => rfl
    · intro a
      match a with
      | 0 => rfl
      | 1 => rfl
      | 2 => rfl
      | 3 => rfl
      | 4 => rfl

/-- The log-sum-exps, by block and row. -/
def lses (h1 : (Row D N).BroadcastsInDim (Sc D N 1) (![0, 1, 2, 3, 4] : Fin 5 → Fin 6)) (h2 : (Sc D N 1).ShapeCasts (Row D N))
    (h3 : (Row D N).Transposes [0, 1, 2, 4, 3] (RowT D N)) (t l : FVec Ideal (Row D N) .f32) : FVec Ideal (RowT D N) .f32 :=
  transpose (RowT D N) [0, 1, 2, 4, 3] (addf (shapeCast _ (broadcastInDim (Sc D N 1) ![0, 1, 2, 3, 4] h1 t) h2) (Host.log l)) h3

theorem lses_apply (h1 h2 h3) (t l : FVec Ideal (Row D N) .f32) (b : Fin 2) (d : Fin D) (n : Fin N) (r : Fin 128) (h : Fin 4) :
    lses h1 h2 h3 t l (ix5 b d n r h) = (t (ix5 b d n h r) : EReal) + Ideal.log (l (ix5 b d n h r)) := by
  unfold lses
  refine (transpose_apply _ _ h3 _ (ix5 b d n h r) ?_).trans ?_
  · intro a
    match a with
    | 0 => rfl
    | 1 => rfl
    | 2 => rfl
    | 3 => rfl
    | 4 => rfl
  refine congrArg (fun x : EReal => x + Ideal.log (l (ix5 b d n h r))) ?_
  refine (shapeCast_apply _ h2 _ (ix6 b d n h r 0) ?_).trans (broadcastInDim_apply _ h1 _ _ (ix5 b d n h r) ?_)
  · rw [Shape.rowMajor_val_five, Shape.rowMajor_val_six]
    exact (Nat.mul_one _)
  · intro a
    match a with
    | 0 => rfl
    | 1 => exact coord_bcast d
    | 2 => exact coord_bcast n
    | 3 => rfl
    | 4 => rfl

/-! ## Back to the order of the rows -/

/-- The outputs as rows of the strided array. -/
def unstrideOut (h1 : (Blk D N 128).ShapeCasts (Str D L)) (h2 : (Str D L).Transposes [0, 2, 1, 3, 4] (Split L D))
    (h3 : (Split L D).ShapeCasts Rows) (h4 : Rows.ShapeCasts (⟨3, ![2, L, W]⟩ : Shape)) (o : FVec Ideal (Blk D N 128) .f32) :
    FVec Ideal ⟨3, ![2, L, W]⟩ .f32 :=
  shapeCast _ (shapeCast _ (transpose (Split L D) [0, 2, 1, 3, 4] (shapeCast _ o h1) h2) h3) h4

theorem unstrideOut_apply (h1 h2 h3 h4) (hN : L = N * 128) (hL : L * D = 8192) (hW : W = D * 512) (o : FVec Ideal (Blk D N 128) .f32)
    (b : Fin 2) (l : Fin L) (w : Fin W) (d : Fin D) (n : Fin N) (r : Fin 128) (h : Fin 4) (e : Fin 128)
    (hl : l.val = n.val * 128 + r.val) (hw : w.val = d.val * 512 + (h.val * 128 + e.val)) :
    unstrideOut h1 h2 h3 h4 o (ix3 b l w) = o (ix6 b d n r h e) := by
  unfold unstrideOut
  have hp : l.val * D + d.val < 8192 := by
    rw [← hL]
    calc l.val * D + d.val < l.val * D + D := Nat.add_lt_add_left d.isLt _
      _ = (l.val + 1) * D := (Nat.succ_mul _ _).symm
      _ ≤ L * D := Nat.mul_le_mul_right _ l.isLt
  refine (shapeCast_apply _ h4 _ (ix4 b ⟨l.val * D + d.val, hp⟩ h e) ?_).trans ((shapeCast_apply _ h3 _ (ix5 b l d h e) ?_).trans
    ((transpose_apply _ _ h2 _ (ix5 b d l h e) ?_).trans (shapeCast_apply _ h1 _ (ix6 b d n r h e) ?_)))
  · rw [Shape.rowMajor_val_four, Shape.rowMajor_val_three]
    show ((b.val * 8192 + (l.val * D + d.val)) * 4 + h.val) * 128 + e.val = (b.val * L + l.val) * W + w.val
    rw [hw, hW, ← hL]
    ring
  · rw [Shape.rowMajor_val_five, Shape.rowMajor_val_four]
    show ((((b.val * L + l.val) * D + d.val) * 4 + h.val) * 128 + e.val) = ((b.val * 8192 + (l.val * D + d.val)) * 4 + h.val) * 128 + e.val
    rw [← hL]
    ring
  · intro a
    match a with
    | 0 => rfl
    | 1 => rfl
    | 2 => rfl
    | 3 => rfl
    | 4 => rfl
  · rw [Shape.rowMajor_val_five, Shape.rowMajor_val_six]
    show (((((b.val * D + d.val) * N + n.val) * 128 + r.val) * 4 + h.val) * 128 + e.val)
      = ((((b.val * D + d.val) * L + l.val) * 4 + h.val) * 128 + e.val)
    rw [hl, hN]
    ring

/-- The log-sum-exps as rows of the strided array, each repeated over its head's 128 columns. -/
def unstrideLse (h1 : (RowT D N).ShapeCasts (⟨4, ![2, D, L, 4]⟩ : Shape))
    (h2 : (⟨4, ![2, D, L, 4]⟩ : Shape).Transposes [0, 2, 1, 3] (⟨4, ![2, L, D, 4]⟩ : Shape))
    (h3 : (⟨4, ![2, L, D, 4]⟩ : Shape).ShapeCasts (⟨3, ![2, 8192, 4]⟩ : Shape))
    (h4 : (⟨3, ![2, 8192, 4]⟩ : Shape).BroadcastsInDim (⟨4, ![2, 8192, 4, 1]⟩ : Shape) (![0, 1, 2] : Fin 3 → Fin 4))
    (h5 : (⟨4, ![2, 8192, 4, 1]⟩ : Shape).BroadcastsInDim Rows (![0, 1, 2, 3] : Fin 4 → Fin 4))
    (h6 : Rows.ShapeCasts (⟨3, ![2, L, W]⟩ : Shape)) (s : FVec Ideal (RowT D N) .f32) : FVec Ideal ⟨3, ![2, L, W]⟩ .f32 :=
  shapeCast _ (broadcastInDim Rows ![0, 1, 2, 3] h5 (broadcastInDim ⟨4, ![2, 8192, 4, 1]⟩ ![0, 1, 2] h4
    (shapeCast _ (transpose ⟨4, ![2, L, D, 4]⟩ [0, 2, 1, 3] (shapeCast _ s h1) h2) h3))) h6

theorem unstrideLse_apply (h1 h2 h3 h4 h5 h6) (hN : L = N * 128) (hL : L * D = 8192) (hW : W = D * 512) (s : FVec Ideal (RowT D N) .f32)
    (b : Fin 2) (l : Fin L) (w : Fin W) (d : Fin D) (n : Fin N) (r : Fin 128) (h : Fin 4) (e : Fin 128)
    (hl : l.val = n.val * 128 + r.val) (hw : w.val = d.val * 512 + (h.val * 128 + e.val)) :
    unstrideLse h1 h2 h3 h4 h5 h6 s (ix3 b l w) = s (ix5 b d n r h) := by
  unfold unstrideLse
  have hp : l.val * D + d.val < 8192 := by
    rw [← hL]
    calc l.val * D + d.val < l.val * D + D := Nat.add_lt_add_left d.isLt _
      _ = (l.val + 1) * D := (Nat.succ_mul _ _).symm
      _ ≤ L * D := Nat.mul_le_mul_right _ l.isLt
  refine (shapeCast_apply _ h6 _ (ix4 b ⟨l.val * D + d.val, hp⟩ h e) ?_).trans
    ((broadcastInDim_apply _ h5 _ _ (ix4 b ⟨l.val * D + d.val, hp⟩ h 0) ?_).trans
    ((broadcastInDim_apply _ h4 _ _ (ix3 b ⟨l.val * D + d.val, hp⟩ h) ?_).trans
    ((shapeCast_apply _ h3 _ (ix4 b l d h) ?_).trans
    ((transpose_apply _ _ h2 _ (ix4 b d l h) ?_).trans (shapeCast_apply _ h1 _ (ix5 b d n r h) ?_)))))
  · rw [Shape.rowMajor_val_four, Shape.rowMajor_val_three]
    show ((b.val * 8192 + (l.val * D + d.val)) * 4 + h.val) * 128 + e.val = (b.val * L + l.val) * W + w.val
    rw [hw, hW, ← hL]
    ring
  · intro a
    match a with
    | 0 => rfl
    | 1 => rfl
    | 2 => rfl
    | 3 => rfl
  · intro a
    match a with
    | 0 => rfl
    | 1 => rfl
    | 2 => rfl
  · rw [Shape.rowMajor_val_four, Shape.rowMajor_val_three]
    show ((b.val * L + l.val) * D + d.val) * 4 + h.val = (b.val * 8192 + (l.val * D + d.val)) * 4 + h.val
    rw [← hL]
    ring
  · intro a
    match a with
    | 0 => rfl
    | 1 => rfl
    | 2 => rfl
    | 3 => rfl
  · rw [Shape.rowMajor_val_five, Shape.rowMajor_val_four]
    show ((((b.val * D + d.val) * N + n.val) * 128 + r.val) * 4 + h.val) = ((b.val * D + d.val) * L + l.val) * 4 + h.val
    rw [hl, hN]
    ring

end Cert.DilStages
-- ==== Proof.DilWhole.lean ====
/-
  The dilated attention of one group of heads, as a function of the array of projections, and the reference's two results
  at any dilation read as that function.
-/
module

public import proofs.«01_k».proof.Proof.DilScores

@[expose] public section

set_option maxRecDepth 16384

noncomputable section

open Idealize.ShloMosaic Idealize.ShloMosaic.TcCoe Idealize.SL.Sem Cert.Index Cert.DilSpec

namespace Cert.DilSpec

/-- The projections at row `p` and column `w` of batch `b`. -/
def zat (z : FVec Ideal ⟨3, ![2, 8192, 13312]⟩ .f32) (b : Fin 2) (p w : ℕ) : EReal :=
  if hp : p < 8192 then if hw : w < 13312 then z (ix3 b ⟨p, hp⟩ ⟨w, hw⟩) else 0 else 0

theorem zat_eq (z : FVec Ideal ⟨3, ![2, 8192, 13312]⟩ .f32) (b : Fin 2) (p : Fin 8192) (w : Fin 13312) (p' w' : ℕ) (hp : p.val = p')
    (hw : w.val = w') : z (ix3 b p w) = zat z b p' w' := by
  subst hp; subst hw
  unfold zat
  rw [dif_pos p.isLt, dif_pos w.isLt]

/-- The entry of the heads of group `g` at strided row `l` of residue class `d`: a query (`off = 0`), key or value. -/
def entry (D g off : ℕ) (z : FVec Ideal ⟨3, ![2, 8192, 13312]⟩ .f32) (b : Fin 2) (d l : ℕ) (h : Fin 4) (e : Fin 128) : EReal :=
  zat z b (l * D + d) (2048 + off + g * 512 + h.val * 128 + e.val)

/-- The scores of query `r` of block `n` against the block before: there is none before the first. -/
def before (D g : ℕ) (z : FVec Ideal ⟨3, ![2, 8192, 13312]⟩ .f32) (B : Fin 4 → Fin 128 → Fin 128 → EReal) (b : Fin 2) (d n : ℕ)
    (h : Fin 4) (r k : Fin 128) : EReal :=
  if 0 < n then score (entry D g 0 z b d (n * 128 + r.val) h) (entry D g 1536 z b d ((n - 1) * 128 + k.val) h) (B h r k) else ⊥

/-- The scores of query `r` of block `n` against its own block. -/
def within (D g : ℕ) (z : FVec Ideal ⟨3, ![2, 8192, 13312]⟩ .f32) (B : Fin 4 → Fin 128 → Fin 128 → EReal) (b : Fin 2) (d n : ℕ)
    (h : Fin 4) (r k : Fin 128) : EReal :=
  score (entry D g 0 z b d (n * 128 + r.val) h) (entry D g 1536 z b d (n * 128 + k.val) h) (B h r k)

/-- The attention's output for query `r` of block `n`, coordinate `e` of head `h`, under biases `Bp` and `Bc`. -/
def attend (D g : ℕ) (z : FVec Ideal ⟨3, ![2, 8192, 13312]⟩ .f32) (Bp Bc : Fin 4 → Fin 128 → Fin 128 → EReal) (b : Fin 2) (d n : ℕ)
    (h : Fin 4) (r e : Fin 128) : EReal :=
  out (before D g z Bp b d n h r) (within D g z Bc b d n h r)
    (fun k => entry D g 3072 z b d ((n - 1) * 128 + k.val) h e) (fun k => entry D g 3072 z b d (n * 128 + k.val) h e)

/-- The attention's log-sum-exp for query `r` of block `n` and head `h`. -/
def attendLse (D g : ℕ) (z : FVec Ideal ⟨3, ![2, 8192, 13312]⟩ .f32) (Bp Bc : Fin 4 → Fin 128 → Fin 128 → EReal) (b : Fin 2) (d n : ℕ)
    (h : Fin 4) (r : Fin 128) : EReal :=
  lse (before D g z Bp b d n h r) (within D g z Bc b d n h r)

/-- Values under scores of `-∞` do not count. -/
theorem out_of_no_scores (sp sc vp vp' vc : Fin 128 → EReal) (hs : ∀ k, sp k = ⊥) : out sp sc vp vc = out sp sc vp' vc := by
  unfold out
  have hz : ∀ (v : Fin 128 → EReal) k, Ideal.exp (sp k - top sp sc) * v k = 0 := fun v k => by
    rw [hs k, EReal.bot_sub]
    exact (congrArg (· * v k) (show Ideal.exp ⊥ = (0 : EReal) from rfl)).trans (zero_mul _)
  simp only [hz]

end Cert.DilSpec

namespace Cert.DilStages

variable {D N L P W : ℕ}
variable {a1 : Z.Slices ![0, 0, 2048] Cols} {aq : Cols.Slices ![0, 0, 0] Part} {ak : Cols.Slices ![0, 0, 1536] Part}
  {av : Cols.Slices ![0, 0, 3072] Part} {a3 : Part.ShapeCasts Groups} {g : ℕ} {a4 : Groups.Slices ![0, 0, g, 0, 0] One}
  {a5 : One.ShapeCasts Rows} {b1 : Rows.ShapeCasts (Split L D)} {b2 : (Split L D).Transposes [0, 2, 1, 3, 4] (Str D L)}
  {c1 : (Str D L).Pads (![0, 0, 0, 0, 0] : Fin 5 → Nat) ![0, 0, 0, 0, 0] ![0, 0, 0, 0, 0] (Str D L)} {hu : 0 < Pt.numel}
  {c2 : (Str D L).ShapeCasts (Blk D N 128)}
  {c3 : (Str D L).Pads (![0, 0, 128, 0, 0] : Fin 5 → Nat) ![0, 0, 0, 0, 0] ![0, 0, 0, 0, 0] (Str D P)}
  {c4 : (Str D P).Slices ![0, 0, 0, 0, 0] (Str D L)} {c5 : (Str D P).Slices ![0, 0, 128, 0, 0] (Str D L)}
  {c6 : Shape.Concatenates [Blk D N 128, Blk D N 128] (Blk D N 256) 3}
  {d1 : Win.BroadcastsInDim (⟨3, ![1, 128, 256]⟩ : Shape) (![1, 2] : Fin 2 → Fin 3)}
  {d2 : (⟨3, ![1, 128, 256]⟩ : Shape).BroadcastsInDim (⟨3, ![N, 128, 256]⟩ : Shape) (![0, 1, 2] : Fin 3 → Fin 3)}
  {d3 : Pt.BroadcastsInDim (⟨3, ![N, 128, 256]⟩ : Shape) (![] : Fin 0 → Fin 3)}
  {d4 : (⟨3, ![N, 128, 256]⟩ : Shape).BroadcastsInDim (⟨4, ![N, 1, 128, 256]⟩ : Shape) (![0, 2, 3] : Fin 3 → Fin 4)}
  {d5 : (⟨4, ![N, 1, 128, 256]⟩ : Shape).BroadcastsInDim (Sc D N 256) (![2, 3, 4, 5] : Fin 4 → Fin 6)}
  {e1 : DotDims.WF (Blk D N 128) (Blk D N 256) (Sc D N 256) [5] [5] [3] [3] [0, 1, 2, 4] [0, 1, 2, 4]}
  {e2 : Pt.BroadcastsInDim (Sc D N 256) (![] : Fin 0 → Fin 6)}
  {e3 : Bias.BroadcastsInDim (⟨6, ![1, 1, 1, 4, 128, 256]⟩ : Shape) (![3, 4, 5] : Fin 3 → Fin 6)}
  {e4 : (⟨6, ![1, 1, 1, 4, 128, 256]⟩ : Shape).BroadcastsInDim (Sc D N 256) (![0, 1, 2, 3, 4, 5] : Fin 6 → Fin 6)}
  {f1 : (Sc D N 256).ReducesTo [5] (Row D N)} {f2 : (Row D N).BroadcastsInDim (Sc D N 1) (![0, 1, 2, 3, 4] : Fin 5 → Fin 6)}
  {f3 : (Sc D N 1).BroadcastsInDim (Sc D N 256) (![0, 1, 2, 3, 4, 5] : Fin 6 → Fin 6)}
  {g1 : DotDims.WF (Blk D N 256) (Sc D N 256) (Sc D N 128) [3] [5] [5] [4] [0, 1, 2, 4] [0, 1, 2, 3]}
  {g2 : (Sc D N 128).Transposes [0, 1, 2, 5, 3, 4] (Blk D N 128)} {g3 : (Row D N).Transposes [0, 1, 2, 4, 3] (RowT D N)}
  {g4 : (RowT D N).BroadcastsInDim (RowU D N) (![0, 1, 2, 3, 4] : Fin 5 → Fin 6)}
  {g5 : (RowU D N).BroadcastsInDim (Blk D N 128) (![0, 1, 2, 3, 4, 5] : Fin 6 → Fin 6)} {g6 : (Sc D N 1).ShapeCasts (Row D N)}
  {o1 : (Blk D N 128).ShapeCasts (Str D L)} {o2 : (Str D L).Transposes [0, 2, 1, 3, 4] (Split L D)}
  {o3 : (Split L D).ShapeCasts Rows} {o4 : Rows.ShapeCasts (⟨3, ![2, L, W]⟩ : Shape)}
  {s1 : (RowT D N).ShapeCasts (⟨4, ![2, D, L, 4]⟩ : Shape)}
  {s2 : (⟨4, ![2, D, L, 4]⟩ : Shape).Transposes [0, 2, 1, 3] (⟨4, ![2, L, D, 4]⟩ : Shape)}
  {s3 : (⟨4, ![2, L, D, 4]⟩ : Shape).ShapeCasts (⟨3, ![2, 8192, 4]⟩ : Shape)}
  {s4 : (⟨3, ![2, 8192, 4]⟩ : Shape).BroadcastsInDim (⟨4, ![2, 8192, 4, 1]⟩ : Shape) (![0, 1, 2] : Fin 3 → Fin 4)}
  {s5 : (⟨4, ![2, 8192, 4, 1]⟩ : Shape).BroadcastsInDim Rows (![0, 1, 2, 3] : Fin 4 → Fin 4)}

/-- The reference's scores from the projections, the window mask and the biases. -/
def refScores (a1 : Z.Slices ![0, 0, 2048] Cols) (aq : Cols.Slices ![0, 0, 0] Part) (ak : Cols.Slices ![0, 0, 1536] Part)
    (a3 : Part.ShapeCasts Groups) (a4 : Groups.Slices ![0, 0, g, 0, 0] One) (a5 : One.ShapeCasts Rows) (b1 : Rows.ShapeCasts (Split L D))
    (b2 : (Split L D).Transposes [0, 2, 1, 3, 4] (Str D L))
    (c1 : (Str D L).Pads (![0, 0, 0, 0, 0] : Fin 5 → Nat) ![0, 0, 0, 0, 0] ![0, 0, 0, 0, 0] (Str D L)) (hu : 0 < Pt.numel)
    (c2 : (Str D L).ShapeCasts (Blk D N 128))
    (c3 : (Str D L).Pads (![0, 0, 128, 0, 0] : Fin 5 → Nat) ![0, 0, 0, 0, 0] ![0, 0, 0, 0, 0] (Str D P))
    (c4 : (Str D P).Slices ![0, 0, 0, 0, 0] (Str D L)) (c5 : (Str D P).Slices ![0, 0, 128, 0, 0] (Str D L))
    (c6 : Shape.Concatenates [Blk D N 128, Blk D N 128] (Blk D N 256) 3)
    (d1 : Win.BroadcastsInDim (⟨3, ![1, 128, 256]⟩ : Shape) (![1, 2] : Fin 2 → Fin 3))
    (d2 : (⟨3, ![1, 128, 256]⟩ : Shape).BroadcastsInDim (⟨3, ![N, 128, 256]⟩ : Shape) (![0, 1, 2] : Fin 3 → Fin 3))
    (d3 : Pt.BroadcastsInDim (⟨3, ![N, 128, 256]⟩ : Shape) (![] : Fin 0 → Fin 3))
    (d4 : (⟨3, ![N, 128, 256]⟩ : Shape).BroadcastsInDim (⟨4, ![N, 1, 128, 256]⟩ : Shape) (![0, 2, 3] : Fin 3 → Fin 4))
    (d5 : (⟨4, ![N, 1, 128, 256]⟩ : Shape).BroadcastsInDim (Sc D N 256) (![2, 3, 4, 5] : Fin 4 → Fin 6))
    (e1 : DotDims.WF (Blk D N 128) (Blk D N 256) (Sc D N 256) [5] [5] [3] [3] [0, 1, 2, 4] [0, 1, 2, 4])
    (e2 : Pt.BroadcastsInDim (Sc D N 256) (![] : Fin 0 → Fin 6))
    (e3 : Bias.BroadcastsInDim (⟨6, ![1, 1, 1, 4, 128, 256]⟩ : Shape) (![3, 4, 5] : Fin 3 → Fin 6))
    (e4 : (⟨6, ![1, 1, 1, 4, 128, 256]⟩ : Shape).BroadcastsInDim (Sc D N 256) (![0, 1, 2, 3, 4, 5] : Fin 6 → Fin 6))
    (z : FVec Ideal Z .f32) (M : IVec Win 1) (T : FVec Ideal Bias .f32) : FVec Ideal (Sc D N 256) .f32 :=
  scores e1 e2 e3 e4 (allowed d1 d2 d3 d4 d5 M) (queries c1 hu c2 (strided b1 b2 (heads 0 g a1 aq a3 a4 a5 z)))
    (windows c3 hu c4 c5 c2 c6 (strided b1 b2 (heads 1536 g a1 ak a3 a4 a5 z))) T

/-- The bias of a query and a key in a window of 256: `-∞` where the mask forbids the pair. -/
def winBias (M : IVec Win 1) (T : FVec Ideal Bias .f32) (h : Fin 4) (r : Fin 128) (j : Fin (128 + 128)) : EReal :=
  Scalar.select (M (ix2 r j)) (T (ix3 h r j)) (⊥ : EReal)

/-- An entry of the strided heads is the projections' entry. -/
theorem entry_strided (off : ℕ) (ao : Cols.Slices ![0, 0, off] Part) (hL : L * D = 8192) (hg : g < 3) (ho : off + 1536 ≤ 4608)
    (z : FVec Ideal Z .f32) (b : Fin 2) (d : Fin D) (l : Fin L) (h : Fin 4) (e : Fin 128) :
    strided b1 b2 (heads off g a1 ao a3 a4 a5 z) (ix5 b d l h e) = entry D g off z b d.val l.val h e := by
  have hp : l.val * D + d.val < 8192 := by
    rw [← hL]
    calc l.val * D + d.val < l.val * D + D := Nat.add_lt_add_left d.isLt _
      _ = (l.val + 1) * D := (Nat.succ_mul _ _).symm
      _ ≤ L * D := Nat.mul_le_mul_right _ l.isLt
  have hh := h.isLt
  have he := e.isLt
  rw [strided_apply b1 b2 hL _ b d l h e ⟨l.val * D + d.val, hp⟩ rfl,
    heads_apply off g a1 ao a3 a4 a5 z b ⟨_, hp⟩ h e ⟨2048 + off + g * 512 + h.val * 128 + e.val, by omega⟩ rfl hg]
  exact zat_eq z b _ _ _ _ rfl rfl

theorem refScores_prev (hN : L = N * 128) (hL : L * D = 8192) (hP : P = L + 128) (hg : g < 3) (hN' : N ≤ 64) (z : FVec Ideal Z .f32)
    (M : IVec Win 1) (T : FVec Ideal Bias .f32) (b : Fin 2) (d : Fin D) (n : Fin N) (h : Fin 4) (r k : Fin 128) :
    refScores a1 aq ak a3 a4 a5 b1 b2 c1 hu c2 c3 c4 c5 c6 d1 d2 d3 d4 d5 e1 e2 e3 e4 z M T (ix6 b d n h r (k.castAdd 128))
      = before D g z (fun h r k => winBias M T h r (k.castAdd 128)) b d.val n.val h r k := by
  have hn := n.isLt
  have hr := r.isLt
  have hk := k.isLt
  have hkv : (k.castAdd 128).val = k.val := rfl
  have hb : (128 ≤ n.val * 128 + (k.castAdd 128).val) ↔ 0 < n.val := by rw [hkv]; omega
  unfold refScores before winBias
  rw [scores_apply, allowed_apply d1 d2 d3 d4 d5 hN', select_score]
  by_cases h0 : 0 < n.val
  · rw [if_pos (hb.mpr h0), if_pos h0]
    refine congrArg₂ (fun u v => score u v _) (funext fun e => ?_) (funext fun e => ?_)
    · exact (queries_apply c1 hu c2 hN _ b d n r h e ⟨n.val * 128 + r.val, by omega⟩ rfl).trans
        (entry_strided 0 aq hL hg (by omega) z b d _ h e)
    · refine (windows_prev c3 hu c4 c5 c2 c6 hN hP _ b d n k h e).trans ?_
      rw [dif_pos h0]
      exact entry_strided 1536 ak hL hg (by omega) z b d _ h e
  · rw [if_neg (fun q => h0 (hb.mp q)), if_neg h0]

theorem refScores_cur (hN : L = N * 128) (hL : L * D = 8192) (hP : P = L + 128) (hg : g < 3) (hN' : N ≤ 64) (z : FVec Ideal Z .f32)
    (M : IVec Win 1) (T : FVec Ideal Bias .f32) (b : Fin 2) (d : Fin D) (n : Fin N) (h : Fin 4) (r k : Fin 128) :
    refScores a1 aq ak a3 a4 a5 b1 b2 c1 hu c2 c3 c4 c5 c6 d1 d2 d3 d4 d5 e1 e2 e3 e4 z M T (ix6 b d n h r (k.natAdd 128))
      = within D g z (fun h r k => winBias M T h r (k.natAdd 128)) b d.val n.val h r k := by
  have hn := n.isLt
  have hr := r.isLt
  have hk := k.isLt
  have hkv : (k.natAdd 128).val = 128 + k.val := rfl
  unfold refScores within winBias
  rw [scores_apply, allowed_apply d1 d2 d3 d4 d5 hN', select_score, if_pos (by rw [hkv]; omega)]
  refine congrArg₂ (fun u v => score u v _) (funext fun e => ?_) (funext fun e => ?_)
  · exact (queries_apply c1 hu c2 hN _ b d n r h e ⟨n.val * 128 + r.val, by omega⟩ rfl).trans
      (entry_strided 0 aq hL hg (by omega) z b d _ h e)
  · exact (windows_cur c3 hu c4 c5 c2 c6 hN hP _ b d n k h e ⟨n.val * 128 + k.val, by omega⟩ rfl).trans
      (entry_strided 1536 ak hL hg (by omega) z b d _ h e)

/-! ## The softmax of scores given by halves -/

theorem tops_halves (s : FVec Ideal (Sc D N 256) .f32) (b : Fin 2) (d : Fin D) (n : Fin N) (h : Fin 4) (r : Fin 128) :
    tops f1 hu s (ix5 b d n h r) = top (fun k => s (ix6 b d n h r (k.castAdd 128))) (fun k => s (ix6 b d n h r (k.natAdd 128))) := by
  unfold tops
  rw [reduceMax_last]
  exact fold_max_halves fun k => s (ix6 b d n h r k)

theorem sums_halves (s : FVec Ideal (Sc D N 256) .f32) (b : Fin 2) (d : Fin D) (n : Fin N) (h : Fin 4) (r : Fin 128) :
    sums f1 hu (exps f2 f3 s (tops f1 hu s)) (ix5 b d n h r)
      = den (fun k => s (ix6 b d n h r (k.castAdd 128))) (fun k => s (ix6 b d n h r (k.natAdd 128))) := by
  unfold sums
  rw [reduceAdd_last]
  refine (Fin.sum_univ_add (a := 128) (b := 128) fun k => exps f2 f3 s (tops f1 hu s) (ix6 b d n h r k)).trans ?_
  unfold den
  refine congrArg₂ (· + ·) (Finset.sum_congr rfl fun k _ => ?_) (Finset.sum_congr rfl fun k _ => ?_)
  · rw [exps_apply, tops_halves]
  · rw [exps_apply, tops_halves]

theorem outs_halves (v : FVec Ideal (Blk D N 256) .f32) (s : FVec Ideal (Sc D N 256) .f32) (b : Fin 2) (d : Fin D) (n : Fin N)
    (r : Fin 128) (h : Fin 4) (e : Fin 128) :
    outs g1 g2 g3 g4 g5 v (exps f2 f3 s (tops f1 hu s)) (sums f1 hu (exps f2 f3 s (tops f1 hu s))) (ix6 b d n r h e)
      = out (fun k => s (ix6 b d n h r (k.castAdd 128))) (fun k => s (ix6 b d n h r (k.natAdd 128)))
        (fun k => v (ix6 b d n (k.castAdd 128) h e)) (fun k => v (ix6 b d n (k.natAdd 128) h e)) := by
  rw [outs_apply, sums_halves]
  unfold out
  refine congrArg (fun x => Ideal.div x _) ?_
  refine (Fin.sum_univ_add (a := 128) (b := 128) fun k =>
    (v (ix6 b d n k h e) : EReal) * exps f2 f3 s (tops f1 hu s) (ix6 b d n h r k)).trans ?_
  refine congrArg₂ (· + ·) (Finset.sum_congr rfl fun k _ => ?_) (Finset.sum_congr rfl fun k _ => ?_)
  · rw [exps_apply, tops_halves]
    exact mul_comm _ _
  · rw [exps_apply, tops_halves]
    exact mul_comm _ _

/-! ## The two results -/

/-- The reference's outputs of one group of heads are the attention of the projections. -/
theorem refOut_apply (hN : L = N * 128) (hL : L * D = 8192) (hP : P = L + 128) (hW : W = D * 512) (hg : g < 3) (hN' : N ≤ 64)
    (z : FVec Ideal Z .f32) (M : IVec Win 1) (T : FVec Ideal Bias .f32) (s : FVec Ideal (Sc D N 256) .f32)
    (hs : s = refScores a1 aq ak a3 a4 a5 b1 b2 c1 hu c2 c3 c4 c5 c6 d1 d2 d3 d4 d5 e1 e2 e3 e4 z M T)
    (b : Fin 2) (l : Fin L) (w : Fin W) (d : Fin D) (n : Fin N) (r : Fin 128) (h : Fin 4) (e : Fin 128)
    (hl : l.val = n.val * 128 + r.val) (hw : w.val = d.val * 512 + (h.val * 128 + e.val)) :
    unstrideOut o1 o2 o3 o4 (outs g1 g2 g3 g4 g5 (windows c3 hu c4 c5 c2 c6 (strided b1 b2 (heads 3072 g a1 av a3 a4 a5 z)))
        (exps f2 f3 s (tops f1 hu s)) (sums f1 hu (exps f2 f3 s (tops f1 hu s)))) (ix3 b l w)
      = attend D g z (fun h r k => winBias M T h r (k.castAdd 128)) (fun h r k => winBias M T h r (k.natAdd 128)) b d.val n.val h r e := by
  have hn := n.isLt
  rw [unstrideOut_apply o1 o2 o3 o4 hN hL hW _ b l w d n r h e hl hw, outs_halves]
  unfold attend
  have hp : (fun k => s (ix6 b d n h r (k.castAdd 128)))
      = before D g z (fun h r k => winBias M T h r (k.castAdd 128)) b d.val n.val h r := by
    rw [hs]
    exact funext fun k => refScores_prev hN hL hP hg hN' z M T b d n h r k
  have hc : (fun k => s (ix6 b d n h r (k.natAdd 128)))
      = within D g z (fun h r k => winBias M T h r (k.natAdd 128)) b d.val n.val h r := by
    rw [hs]
    exact funext fun k => refScores_cur hN hL hP hg hN' z M T b d n h r k
  have hv : (fun k : Fin 128 => windows (P := P) c3 hu c4 c5 c2 c6 (strided b1 b2 (heads 3072 g a1 av a3 a4 a5 z)) (ix6 b d n (k.natAdd 128) h e))
      = fun k : Fin 128 => entry D g 3072 z b d.val (n.val * 128 + k.val) h e := by
    funext k
    have hk := k.isLt
    exact (windows_cur c3 hu c4 c5 c2 c6 hN hP _ b d n k h e ⟨n.val * 128 + k.val, by omega⟩ rfl).trans
      (entry_strided 3072 av hL hg (by omega) z b d _ h e)
  rw [hp, hc, hv]
  by_cases h0 : 0 < n.val
  · refine congrArg (fun v => out _ _ v _) (funext fun k => ?_)
    refine (windows_prev c3 hu c4 c5 c2 c6 hN hP _ b d n k h e).trans ?_
    rw [dif_pos h0]
    exact entry_strided 3072 av hL hg (by omega) z b d _ h e
  · refine out_of_no_scores _ _ _ _ _ fun k => ?_
    unfold before
    rw [if_neg h0]

/-- The reference's log-sum-exps of one group of heads are the attention's. -/
theorem refLse_apply (hN : L = N * 128) (hL : L * D = 8192) (hP : P = L + 128) (hW : W = D * 512) (hg : g < 3) (hN' : N ≤ 64)
    (z : FVec Ideal Z .f32) (M : IVec Win 1) (T : FVec Ideal Bias .f32) (s : FVec Ideal (Sc D N 256) .f32)
    (hs : s = refScores a1 aq ak a3 a4 a5 b1 b2 c1 hu c2 c3 c4 c5 c6 d1 d2 d3 d4 d5 e1 e2 e3 e4 z M T)
    (b : Fin 2) (l : Fin L) (w : Fin W) (d : Fin D) (n : Fin N) (r : Fin 128) (h : Fin 4) (e : Fin 128)
    (hl : l.val = n.val * 128 + r.val) (hw : w.val = d.val * 512 + (h.val * 128 + e.val)) :
    unstrideLse s1 s2 s3 s4 s5 o4 (lses f2 g6 g3 (tops f1 hu s) (sums f1 hu (exps f2 f3 s (tops f1 hu s)))) (ix3 b l w)
      = attendLse D g z (fun h r k => winBias M T h r (k.castAdd 128)) (fun h r k => winBias M T h r (k.natAdd 128)) b d.val n.val h r := by
  rw [unstrideLse_apply s1 s2 s3 s4 s5 o4 hN hL hW _ b l w d n r h e hl hw, lses_apply, tops_halves, sums_halves]
  unfold attendLse lse
  have hp : (fun k => s (ix6 b d n h r (k.castAdd 128)))
      = before D g z (fun h r k => winBias M T h r (k.castAdd 128)) b d.val n.val h r := by
    rw [hs]
    exact funext fun k => refScores_prev hN hL hP hg hN' z M T b d n h r k
  have hc : (fun k => s (ix6 b d n h r (k.natAdd 128)))
      = within D g z (fun h r k => winBias M T h r (k.natAdd 128)) b d.val n.val h r := by
    rw [hs]
    exact funext fun k => refScores_cur hN hL hP hg hN' z M T b d n h r k
  rw [hp, hc]

end Cert.DilStages
-- ==== Proof.DilArray.lean ====
/-
  The dilated attention kernel at any dilation: the biases its host code prepares, and a block's results from blocks that
  hold the projections' entries.
-/
module

public import proofs.«01_k».proof.Proof.DilWhole

@[expose] public section

set_option maxRecDepth 16384

noncomputable section

open Idealize.ShloMosaic Idealize.ShloMosaic.TcCoe Idealize.SL.Sem Cert.Index Cert.DilSpec

namespace Cert.DilStages

variable {D N L V : ℕ}

/-! ## The biases -/

/-- The position biases of a group of heads: its four columns of the table, read at the bucket of each distance. -/
def posBias (o : ℕ) (h1 : (⟨2, ![32, 12]⟩ : Shape).Slices ![0, o] (⟨2, ![32, 4]⟩ : Shape))
    (h2 : Pt.BroadcastsInDim Win (![] : Fin 0 → Fin 2))
    (h3 : Win.BroadcastsInDim (⟨3, ![128, 256, 1]⟩ : Shape) (![0, 1] : Fin 2 → Fin 3))
    (gd : GatherDims (⟨2, ![32, 4]⟩ : Shape) (⟨3, ![128, 256, 1]⟩ : Shape) (⟨3, ![128, 256, 4]⟩ : Shape))
    (h4 : (⟨3, ![128, 256, 4]⟩ : Shape).Transposes [2, 0, 1] Bias) (I : IVec Win 32) (x : FVec Ideal ⟨2, ![32, 12]⟩ .f32) : FVec Ideal Bias .f32 :=
  transpose Bias [2, 0, 1] (Host.gather gd (extractStridedSlice ⟨2, ![32, 4]⟩ ![0, o] x h1)
    (broadcastInDim ⟨3, ![128, 256, 1]⟩ ![0, 1] h3 (select (constantI Win 1 0#1) (addi I (broadcastInDim Win ![] h2 (constantI Pt 32 32#32))) I))) h4

/-- Whether a key is in the window of a query, for the two blocks of 128 keys that end with the query's own: the key is not
after the query, and at most 128 places before it. -/
def inWindow (h1 : (⟨1, ![128]⟩ : Shape).BroadcastsInDim ⟨2, ![128, 1]⟩ (![0] : Fin 1 → Fin 2))
    (h2 : Pt.BroadcastsInDim ⟨2, ![128, 1]⟩ (![] : Fin 0 → Fin 2)) (h3 : (⟨1, ![256]⟩ : Shape).BroadcastsInDim ⟨2, ![1, 256]⟩ (![1] : Fin 1 → Fin 2))
    (h4 : (⟨2, ![128, 1]⟩ : Shape).BroadcastsInDim Win (![0, 1] : Fin 2 → Fin 2))
    (h5 : (⟨2, ![1, 256]⟩ : Shape).BroadcastsInDim Win (![0, 1] : Fin 2 → Fin 2)) (h6 : Pt.BroadcastsInDim Win (![] : Fin 0 → Fin 2)) : IVec Win 1 :=
  let back : IVec Win 32 := subi
    (broadcastInDim Win ![0, 1] h4 (addi (broadcastInDim ⟨2, ![128, 1]⟩ ![0] h1 (iotaInDim ⟨1, ![128]⟩ 32 0))
      (broadcastInDim ⟨2, ![128, 1]⟩ ![] h2 (constantI Pt 32 128#32))))
    (broadcastInDim Win ![0, 1] h5 (broadcastInDim ⟨2, ![1, 256]⟩ ![1] h3 (iotaInDim ⟨1, ![256]⟩ 32 0)))
  andi (cmpi .sge back (broadcastInDim Win ![] h6 (constantI Pt 32 0#32)))
    (cmpi .sle back (broadcastInDim Win ![] h6 (constantI Pt 32 128#32)))

/-- The biases with `-∞` where the window forbids a pair. -/
def masked (h1 : Win.BroadcastsInDim (⟨3, ![1, 128, 256]⟩ : Shape) (![1, 2] : Fin 2 → Fin 3))
    (h2 : (⟨3, ![1, 128, 256]⟩ : Shape).BroadcastsInDim Bias (![0, 1, 2] : Fin 3 → Fin 3))
    (h3 : Pt.BroadcastsInDim Bias (![] : Fin 0 → Fin 3)) (M : IVec Win 1) (T : FVec Ideal Bias .f32) : FVec Ideal Bias .f32 :=
  select (broadcastInDim Bias ![0, 1, 2] h2 (broadcastInDim ⟨3, ![1, 128, 256]⟩ ![1, 2] h1 M)) T
    (broadcastInDim Bias ![] h3 (id (constant Pt .f32 0xFF800000#32)))

theorem masked_apply (h1 h2 h3) (M : IVec Win 1) (T : FVec Ideal Bias .f32) (h : Fin 4) (r : Fin 128) (j : Fin 256) :
    masked h1 h2 h3 M T (ix3 h r j) = winBias M T h r j := by
  unfold winBias
  refine congrArg₂ (fun c x => Scalar.select c (T (ix3 h r j)) x) ?_ negInf
  refine (broadcastInDim_apply _ h2 _ _ (ix3 0 r j) ?_).trans (broadcastInDim_apply _ h1 _ _ (ix2 r j) ?_)
  · intro a
    match a with
    | 0 => rfl
    | 1 => rfl
    | 2 => rfl
  · intro a
    match a with
    | 0 => rfl
    | 1 => rfl

/-- The half of the biases for the block before. -/
theorem masked_prev (h1 h2 h3) (h4 : Bias.Slices ![0, 0, 0] (⟨3, ![4, 128, 128]⟩ : Shape)) (M : IVec Win 1) (T : FVec Ideal Bias .f32)
    (h : Fin 4) (r k : Fin 128) :
    extractStridedSlice ⟨3, ![4, 128, 128]⟩ ![0, 0, 0] (masked h1 h2 h3 M T) h4 (ix3 h r k) = winBias M T h r (k.castAdd 128) := by
  refine (extractStridedSlice_apply _ _ h4 _ (ix3 h r (k.castAdd 128)) ?_).trans (masked_apply h1 h2 h3 M T h r _)
  intro a
  match a with
  | 0 => exact (Nat.zero_add _).symm
  | 1 => exact (Nat.zero_add _).symm
  | 2 => exact (Nat.zero_add _).symm

/-- The half of the biases for the block itself. -/
theorem masked_cur (h1 h2 h3) (h4 : Bias.Slices ![0, 0, 128] (⟨3, ![4, 128, 128]⟩ : Shape)) (M : IVec Win 1) (T : FVec Ideal Bias .f32)
    (h : Fin 4) (r k : Fin 128) :
    extractStridedSlice ⟨3, ![4, 128, 128]⟩ ![0, 0, 128] (masked h1 h2 h3 M T) h4 (ix3 h r k) = winBias M T h r (k.natAdd 128) := by
  refine (extractStridedSlice_apply _ _ h4 _ (ix3 h r (k.natAdd 128)) ?_).trans (masked_apply h1 h2 h3 M T h r _)
  intro a
  match a with
  | 0 => exact (Nat.zero_add _).symm
  | 1 => exact (Nat.zero_add _).symm
  | 2 => rfl

/-! ## The projections by residue class -/

/-- The projections with the rows of the `D` residue classes side by side. -/
theorem rows_apply (hs : Z.ShapeCasts (⟨3, ![2, L, V]⟩ : Shape)) (hL : L * D = 8192) (hV : V = D * 13312) (z : FVec Ideal Z .f32) (b : Fin 2)
    (l : Fin L) (w : Fin V) (d u : ℕ) (hd : d < D) (hu : u < 13312) (hw : w.val = d * 13312 + u) :
    shapeCast ⟨3, ![2, L, V]⟩ z hs (ix3 b l w) = zat z b (l.val * D + d) u := by
  have hp : l.val * D + d < 8192 := by
    rw [← hL]
    calc l.val * D + d < l.val * D + D := Nat.add_lt_add_left hd _
      _ = (l.val + 1) * D := (Nat.succ_mul _ _).symm
      _ ≤ L * D := Nat.mul_le_mul_right _ l.isLt
  refine (shapeCast_apply _ hs _ (ix3 b ⟨l.val * D + d, hp⟩ ⟨u, hu⟩) ?_).trans (zat_eq z b _ _ _ _ rfl rfl)
  rw [Shape.rowMajor_val_three, Shape.rowMajor_val_three]
  show (b.val * 8192 + (l.val * D + d)) * 13312 + u = (b.val * L + l.val) * V + w.val
  rw [hw, hV, ← hL]
  ring

/-- An index of the array from the block `x` that holds it. -/
theorem at_block {i0 i1 i2 : ℕ} (x : Fin 3 → ℕ) (hx : x = ![i0, i1, i2]) (j : (⟨3, ![2, L, V]⟩ : Shape).Idx) (r : Fin 128) (w : Fin 512)
    (b : Fin 2) (l : Fin L) (v : Fin V) (h0 : (j 0).val = x 0 * 1 + 1 * 0) (h1 : (j 1).val = x 1 * 128 + 1 * r.val)
    (h2 : (j 2).val = x 2 * 512 + 1 * w.val) (hb : b.val = i0) (hl : l.val = i1 * 128 + r.val) (hv : v.val = i2 * 512 + w.val) : j = ix3 b l v := by
  subst hx
  refine ext3 _ _ _ _ (h0.trans ?_) (h1.trans ?_) (h2.trans ?_)
  · rw [hb]; show i0 * 1 + 1 * 0 = i0; omega
  · rw [hl]; show i1 * 128 + 1 * r.val = _; omega
  · rw [hv]; show i2 * 512 + 1 * w.val = _; omega

/-- A column of 512 by its head and its place in the head. -/
theorem column (w : Fin 512) : w.val = (Cert.Dil0Ideal.Value.headOf w).val * 128 + (Cert.Dil0Ideal.Value.inHead w).val := by
  show w.val = w.val / 128 * 128 + w.val % 128
  omega

/-! ## A block's results -/

open Cert.Dil0Ideal Cert.Dil0Ideal.Gen Cert.Dil0Ideal.Value

/-- A head's columns of a block that holds entries of the projections are that head's entries. -/
theorem cols_entry (x : Vec Ideal S1x128x512 .f32) (D g off l : ℕ) (z : FVec Ideal Z .f32) (b : Fin 2) (d : ℕ)
    (hx : ∀ (r : Fin 128) (w : Fin 512), x (ix3 0 r w) = zat z b ((l + r.val) * D + d) (2048 + off + g * 512 + w.val)) (h : Fin 4) (r : Fin 128) :
    (fun e => cols x h (ix3 0 r e)) = entry D g off z b d (l + r.val) h := by
  funext e
  refine (hx r ⟨h.val * 128 + e.val, by omega⟩).trans ?_
  unfold entry
  exact congrArg (zat z b _) (Nat.add_assoc _ _ _).symm

/-- The array of outputs of a group: row `l` of residue class `d` and column `w` at index `(b, l, 512 d + w)`. -/
def outArr (D g L W : ℕ) (z : FVec Ideal Z .f32) (Bp Bc : Fin 4 → Fin 128 → Fin 128 → EReal) : FVec Ideal ⟨3, ![2, L, W]⟩ .f32 := fun i =>
  attend D g z Bp Bc (i 0) ((i 2).val / 512) ((i 1).val / 128) ⟨(i 2).val % 512 / 128, by omega⟩ ⟨(i 1).val % 128, by omega⟩
    ⟨(i 2).val % 128, by omega⟩

/-- The array of log-sum-exps of a group, laid out alike. -/
def lseArr (D g L W : ℕ) (z : FVec Ideal Z .f32) (Bp Bc : Fin 4 → Fin 128 → Fin 128 → EReal) : FVec Ideal ⟨3, ![2, L, W]⟩ .f32 := fun i =>
  attendLse D g z Bp Bc (i 0) ((i 2).val / 512) ((i 1).val / 128) ⟨(i 2).val % 512 / 128, by omega⟩ ⟨(i 1).val % 128, by omega⟩

variable (W : ℕ) (z : FVec Ideal Z .f32) (Bp Bc : Fin 4 → Fin 128 → Fin 128 → EReal)

theorem outArr_apply (D g L : ℕ) (b : Fin 2) (l : Fin L) (w : Fin W) (d n : ℕ) (h : Fin 4) (r e : Fin 128) (hl : l.val = n * 128 + r.val)
    (hw : w.val = d * 512 + (h.val * 128 + e.val)) : outArr D g L W z Bp Bc (ix3 b l w) = attend D g z Bp Bc b d n h r e := by
  have hh := h.isLt
  have hr := r.isLt
  have he := e.isLt
  show attend D g z Bp Bc b (w.val / 512) (l.val / 128) ⟨w.val % 512 / 128, _⟩ ⟨l.val % 128, _⟩ ⟨w.val % 128, _⟩ = _
  congr 1
  · omega
  · omega
  · exact Fin.ext (by show w.val % 512 / 128 = h.val; omega)
  · exact Fin.ext (by show l.val % 128 = r.val; omega)
  · exact Fin.ext (by show w.val % 128 = e.val; omega)

theorem lseArr_apply (D g L : ℕ) (b : Fin 2) (l : Fin L) (w : Fin W) (d n : ℕ) (h : Fin 4) (r e : Fin 128) (hl : l.val = n * 128 + r.val)
    (hw : w.val = d * 512 + (h.val * 128 + e.val)) : lseArr D g L W z Bp Bc (ix3 b l w) = attendLse D g z Bp Bc b d n h r := by
  have hh := h.isLt
  have hr := r.isLt
  have he := e.isLt
  show attendLse D g z Bp Bc b (w.val / 512) (l.val / 128) ⟨w.val % 512 / 128, _⟩ ⟨l.val % 128, _⟩ = _
  congr 1
  · omega
  · omega
  · exact Fin.ext (by show w.val % 512 / 128 = h.val; omega)
  · exact Fin.ext (by show l.val % 128 = r.val; omega)

section

variable {W z Bp Bc}
variable {D g d n : ℕ} {b : Fin 2} (i : grid0.Coords) (hi : (i 2).val = n) {q kp kc vp vc : Vec Ideal S1x128x512 .f32} {bp bc : Vec Ideal S4x128x128 .f32}
  (hq : ∀ (r : Fin 128) (w : Fin 512), q (ix3 0 r w) = zat z b ((n * 128 + r.val) * D + d) (2048 + 0 + g * 512 + w.val))
  (hkp : ∀ (r : Fin 128) (w : Fin 512), kp (ix3 0 r w) = zat z b (((n - 1) * 128 + r.val) * D + d) (2048 + 1536 + g * 512 + w.val))
  (hkc : ∀ (r : Fin 128) (w : Fin 512), kc (ix3 0 r w) = zat z b ((n * 128 + r.val) * D + d) (2048 + 1536 + g * 512 + w.val))
  (hvp : ∀ (r : Fin 128) (w : Fin 512), vp (ix3 0 r w) = zat z b (((n - 1) * 128 + r.val) * D + d) (2048 + 3072 + g * 512 + w.val))
  (hvc : ∀ (r : Fin 128) (w : Fin 512), vc (ix3 0 r w) = zat z b ((n * 128 + r.val) * D + d) (2048 + 3072 + g * 512 + w.val))
  (hbp : ∀ (h : Fin 4) (r k : Fin 128), bp (ix3 h r k) = Bp h r k) (hbc : ∀ (h : Fin 4) (r k : Fin 128), bc (ix3 h r k) = Bc h r k)

include hq hkp hbp in
theorem before_block (h : Fin 4) (r : Fin 128) : sPrev n (cols q h) (cols kp h) (member bp h) r = before D g z Bp b d n h r := by
  funext k
  unfold sPrev before
  rw [cols_entry q D g 0 (n * 128) z b d hq h r, cols_entry kp D g 1536 ((n - 1) * 128) z b d hkp h k]
  exact congrArg (fun x => if 0 < n then score _ _ x else ⊥) (hbp h r k)

include hq hkc hbc in
theorem within_block (h : Fin 4) (r : Fin 128) : sCur (cols q h) (cols kc h) (member bc h) r = within D g z Bc b d n h r := by
  funext k
  unfold sCur within
  rw [cols_entry q D g 0 (n * 128) z b d hq h r, cols_entry kc D g 1536 (n * 128) z b d hkc h k]
  exact congrArg (score _ _) (hbc h r k)

include hi hq hkp hkc hvp hvc hbp hbc in
/-- The output block of a grid point whose blocks hold the projections' entries. -/
theorem block_attend (r : Fin 128) (w : Fin 512) :
    out0_7 i q kp kc vp vc bp bc (ix3 0 r w) = attend D g z Bp Bc b d n (headOf w) r (inHead w) := by
  rw [blockOut_apply, hi, before_block hq hkp hbp, within_block hq hkc hbc]
  unfold attend entry
  have hw : ∀ off, 2048 + off + g * 512 + w.val = 2048 + off + g * 512 + (headOf w).val * 128 + (inHead w).val := fun off => by
    show _ = 2048 + off + g * 512 + w.val / 128 * 128 + w.val % 128
    omega
  refine congrArg₂ (out _ _) (funext fun k => ?_) (funext fun k => ?_)
  · rw [hvp, hw]
  · rw [hvc, hw]

include hi hq hkp hkc hbp hbc in
/-- The log-sum-exp block of a grid point whose blocks hold the projections' entries. -/
theorem block_attendLse (r : Fin 128) (w : Fin 512) :
    out0_8 i q kp kc vp vc bp bc (ix3 0 r w) = attendLse D g z Bp Bc b d n (headOf w) r := by
  rw [blockLse_apply, hi, before_block hq hkp hbp, within_block hq hkc hbc]
  rfl

end

end Cert.DilStages
-- ==== Proof.Dil0Whole.lean ====
/-
  The dilated attention at dilation 1: the kernel's two result arrays and the reference's are the attention of the projections.
-/
module

public import proofs.«01_k».proof.Proof.DilArray
public import proofs.«01_k».proof.Proof.Gen.Dil0RefIdeal.Run

@[expose] public section

set_option maxRecDepth 16384

noncomputable section

open Idealize.ShloMosaic Idealize.ShloMosaic.TcCoe Idealize.SL.Sem Cert.Index Cert.DilSpec Cert.DilStages

namespace Cert.Dil0Ideal.Value

open Cert.Dil0Ideal Cert.Dil0Ideal.Gen

variable (m : (ℓ : Loc nD τ sig) → Buf (Elt Ideal) ℓ) (c : Dev nD)

/-- The projections. -/
abbrev projections : FVec Ideal Z .f32 := m ((c : Thread nD τ).loc main_arg0)

/-- The window: which of the 256 keys a query may see. -/
def window : IVec Win 1 :=
  inWindow bcast_S128_S128x1_0 bcast_S_S128x1 bcast_S256_S1x256_1 bcast_S128x1_S128x256_0_1 bcast_S1x256_S128x256_0_1 bcast_S_S128x256

/-- The position biases of this group's heads. -/
def biases (x : FVec Ideal ⟨2, ![32, 12]⟩ .f32) : FVec Ideal Bias .f32 :=
  posBias 0 slices_S32x12_S32x4_0_0 bcast_S_S128x256 bcast_S128x256_S128x256x1_0_1 gather_S32x4_S128x256x1_S128x256x4_2_0_n_n_0_2_14
    transposes_S128x256x4_S4x128x256_2_0_1 (fun i => lit0 (S128x256.rowMajor i)) x

/-- The bias of a query and a key of the block before. -/
def biasPrev (h : Fin 4) (r k : Fin 128) : EReal :=
  winBias window (biases (m ((c : Thread nD τ).loc main_arg1))) h r (k.castAdd 128)

/-- The bias of a query and a key of the same block. -/
def biasCur (h : Fin 4) (r k : Fin 128) : EReal :=
  winBias window (biases (m ((c : Thread nD τ).loc main_arg1))) h r (k.natAdd 128)

theorem V_prev : V m c main_v23 = extractStridedSlice S4x128x128 ![0, 0, 0] (masked bcast_S128x256_S1x128x256_1_2
    bcast_S1x128x256_S4x128x256_0_1_2 bcast_S_S4x128x256 window (biases (m ((c : Thread nD τ).loc main_arg1))))
    slices_S4x128x256_S4x128x128_0_0_0 := by
  unfold V hostOps0 hostOps0_1 hostOps0_2
  after_reads_simp
  rfl

theorem V_cur : V m c main_v24 = extractStridedSlice S4x128x128 ![0, 0, 128] (masked bcast_S128x256_S1x128x256_1_2
    bcast_S1x128x256_S4x128x256_0_1_2 bcast_S_S4x128x256 window (biases (m ((c : Thread nD τ).loc main_arg1))))
    slices_S4x128x256_S4x128x128_0_0_128 := by
  unfold V hostOps0 hostOps0_1 hostOps0_2
  after_reads_simp
  rfl

/-- The array the query, key and value windows read, at column `u` of residue class `d`. -/
theorem V_rows (b : Fin 2) (l : Fin 8192) (w : Fin 13312) (d u : ℕ) (hd : d < 1) (hu : u < 13312) (hw : w.val = d * 13312 + u) :
    V m c main_arg0 (ix3 b l w) = zat (projections m c) b (l.val * 1 + d) u := by
  rw [V_main_arg0]
  exact zat_eq _ b l w _ _ (by omega) (by omega)

/-- The batch, residue class and block of a grid point. -/
abbrev batch (t : Fin cfg0.N) : Fin 2 := ⟨t.val / 64, by have := lt_of_lt_of_eq t.isLt (show cfg0.N = 128 from N_0); omega⟩
abbrev residue (t : Fin cfg0.N) : ℕ := t.val / 64 % 1
abbrev block (t : Fin cfg0.N) : ℕ := t.val % 64

/-- Where each window of grid point `t` stands. -/
theorem idx_point : ∀ t : Fin cfg0.N, ((grid0.coords t 2).val = t.val % 64)
    ∧ (win0_0.index t = ![t.val / 64, t.val % 64, t.val / 64 % 1 * 26 + 4])
    ∧ (win0_1.index t = ![t.val / 64, t.val % 64 - 1, t.val / 64 % 1 * 26 + 7])
    ∧ (win0_2.index t = ![t.val / 64, t.val % 64, t.val / 64 % 1 * 26 + 7])
    ∧ (win0_3.index t = ![t.val / 64, t.val % 64 - 1, t.val / 64 % 1 * 26 + 10])
    ∧ (win0_4.index t = ![t.val / 64, t.val % 64, t.val / 64 % 1 * 26 + 10])
    ∧ (win0_5.index t = ![0, 0, 0]) ∧ (win0_6.index t = ![0, 0, 0])
    ∧ (win0_7.index t = ![t.val / 64, t.val % 64, t.val / 64 % 1])
    ∧ (win0_8.index t = ![t.val / 64, t.val % 64, t.val / 64 % 1]) :=
  (by decide +kernel : ∀ t : Fin grid0.N, _)

/-- A block of the array the windows read: the projections' entries from row block `n` and column block `q` on. -/
theorem blk_at {n q : ℕ} (t : Fin cfg0.N) (x : Fin 3 → ℕ) (hx : x = ![t.val / 64, n, t.val / 64 % 1 * 26 + q]) (hn : n < 64) (hq : q < 26)
    (j : (⟨3, ![2, 8192, 13312]⟩ : Shape).Idx) (r : Fin 128) (w : Fin 512) (h0 : (j 0).val = x 0 * 1 + 1 * 0)
    (h1 : (j 1).val = x 1 * 128 + 1 * r.val) (h2 : (j 2).val = x 2 * 512 + 1 * w.val) :
    V m c main_arg0 j = zat (projections m c) (batch t) ((n * 128 + r.val) * 1 + residue t) (q * 512 + w.val) := by
  have ht := lt_of_lt_of_eq t.isLt (show cfg0.N = 128 from N_0)
  rw [at_block x hx j r w (batch t) ⟨n * 128 + r.val, by omega⟩ ⟨(t.val / 64 % 1 * 26 + q) * 512 + w.val, by omega⟩ h0 h1 h2 rfl rfl rfl]
  exact V_rows m c _ _ _ (residue t) (q * 512 + w.val) (by show t.val / 64 % 1 < 1; omega) (by omega)
    (by show (t.val / 64 % 1 * 26 + q) * 512 + w.val = t.val / 64 % 1 * 13312 + (q * 512 + w.val); omega)

theorem blk0 (t : Fin cfg0.N) (r : Fin 128) (w : Fin 512) : (iblk m c 0 t : Vec Ideal S1x128x512 .f32) (ix3 0 r w)
    = zat (projections m c) (batch t) ((block t * 128 + r.val) * 1 + residue t) (2048 + 0 + 0 * 512 + w.val) :=
  blk_at m c t _ (idx_point t).2.1 (by omega) (by omega) _ r w rfl rfl rfl

theorem blk1 (t : Fin cfg0.N) (r : Fin 128) (w : Fin 512) : (iblk m c 1 t : Vec Ideal S1x128x512 .f32) (ix3 0 r w)
    = zat (projections m c) (batch t) (((block t - 1) * 128 + r.val) * 1 + residue t) (2048 + 1536 + 0 * 512 + w.val) :=
  blk_at m c t _ (idx_point t).2.2.1 (by omega) (by omega) _ r w rfl rfl rfl

theorem blk2 (t : Fin cfg0.N) (r : Fin 128) (w : Fin 512) : (iblk m c 2 t : Vec Ideal S1x128x512 .f32) (ix3 0 r w)
    = zat (projections m c) (batch t) ((block t * 128 + r.val) * 1 + residue t) (2048 + 1536 + 0 * 512 + w.val) :=
  blk_at m c t _ (idx_point t).2.2.2.1 (by omega) (by omega) _ r w rfl rfl rfl

theorem blk3 (t : Fin cfg0.N) (r : Fin 128) (w : Fin 512) : (iblk m c 3 t : Vec Ideal S1x128x512 .f32) (ix3 0 r w)
    = zat (projections m c) (batch t) (((block t - 1) * 128 + r.val) * 1 + residue t) (2048 + 3072 + 0 * 512 + w.val) :=
  blk_at m c t _ (idx_point t).2.2.2.2.1 (by omega) (by omega) _ r w rfl rfl rfl

theorem blk4 (t : Fin cfg0.N) (r : Fin 128) (w : Fin 512) : (iblk m c 4 t : Vec Ideal S1x128x512 .f32) (ix3 0 r w)
    = zat (projections m c) (batch t) ((block t * 128 + r.val) * 1 + residue t) (2048 + 3072 + 0 * 512 + w.val) :=
  blk_at m c t _ (idx_point t).2.2.2.2.2.1 (by omega) (by omega) _ r w rfl rfl rfl

theorem blk5 (t : Fin cfg0.N) (h : Fin 4) (r k : Fin 128) : (iblk m c 5 t : Vec Ideal S4x128x128 .f32) (ix3 h r k) = biasPrev m c h r k := by
  have hi := (idx_point t).2.2.2.2.2.2.1
  show V m c main_v23 (((cfg0.win 5).blk t).view.emb (ix3 h r k)) = _
  rw [show ((cfg0.win 5).blk t).view.emb (ix3 h r k) = ix3 h r k from
    ext3 _ _ _ _ (off0 4 h.val (congrFun hi 0)) (off0 128 r.val (congrFun hi 1)) (off0 128 k.val (congrFun hi 2)), V_prev]
  exact masked_prev _ _ _ _ _ _ h r k

theorem blk6 (t : Fin cfg0.N) (h : Fin 4) (r k : Fin 128) : (iblk m c 6 t : Vec Ideal S4x128x128 .f32) (ix3 h r k) = biasCur m c h r k := by
  have hi := (idx_point t).2.2.2.2.2.2.2.1
  show V m c main_v24 (((cfg0.win 6).blk t).view.emb (ix3 h r k)) = _
  rw [show ((cfg0.win 6).blk t).view.emb (ix3 h r k) = ix3 h r k from
    ext3 _ _ _ _ (off0 4 h.val (congrFun hi 0)) (off0 128 r.val (congrFun hi 1)) (off0 128 k.val (congrFun hi 2)), V_cur]
  exact masked_cur _ _ _ _ _ _ h r k

/-- The outputs, as one array. -/
abbrev G7 : Vec Ideal S2x8192x512 .f32 := outArr 1 0 8192 512 (projections m c) (biasPrev m c) (biasCur m c)

/-- The log-sum-exps, as one array. -/
abbrev G8 : Vec Ideal S2x8192x512 .f32 := lseArr 1 0 8192 512 (projections m c) (biasPrev m c) (biasCur m c)

/-- An index of a result array from the block of a grid point. -/
theorem at_result (t : Fin cfg0.N) (x : Fin 3 → ℕ) (hx : x = ![t.val / 64, t.val % 64, t.val / 64 % 1]) (j : (⟨3, ![2, 8192, 512]⟩ : Shape).Idx)
    (r : Fin 128) (w : Fin 512) (h0 : (j 0).val = x 0 * 1 + 1 * 0) (h1 : (j 1).val = x 1 * 128 + 1 * r.val)
    (h2 : (j 2).val = x 2 * 512 + 1 * w.val) : j = ix3 (batch t) ⟨block t * 128 + r.val, by have := r.isLt; show t.val % 64 * 128 + _ < _; omega⟩
      ⟨residue t * 512 + w.val, by have := w.isLt; show t.val / 64 % 1 * 512 + _ < _; omega⟩ :=
  at_block x hx j r w _ _ _ h0 h1 h2 rfl rfl rfl

/-- What point `t` writes back is its block of the outputs. -/
theorem flushed7_eq (t : Fin cfg0.N) : (dats m 0 c).flushed 7 t = ((cfg0.win 7).blk t).view.read (Elt Ideal) (G7 m c) := by
  rw [flushed7]
  funext y
  obtain ⟨a, r, w, rfl⟩ : ∃ (a : Fin 1) (r : Fin 128) (w : Fin 512), y = ix3 a r w := ⟨y 0, y 1, y 2, eq_ix3 y⟩
  obtain rfl : a = 0 := Subsingleton.elim _ _
  show out0_7 _ _ _ _ _ _ _ _ (ix3 0 r w) = G7 m c (((cfg0.win 7).blk t).view.emb (ix3 0 r w))
  rw [at_result t _ (idx_point t).2.2.2.2.2.2.2.2.1 (((cfg0.win 7).blk t).view.emb (ix3 0 r w)) r w rfl rfl rfl]
  refine Eq.trans ?_ (outArr_apply 512 _ _ _ 1 0 8192 _ _ _ (residue t) (block t) (Cert.Dil0Ideal.Value.headOf w) r (Cert.Dil0Ideal.Value.inHead w) rfl
      (congrArg (residue t * 512 + ·) (column w))).symm
  exact block_attend (grid0.coords t) (idx_point t).1 (blk0 m c t) (blk1 m c t) (blk2 m c t) (blk3 m c t) (blk4 m c t) (blk5 m c t)
    (blk6 m c t) r w

/-- What point `t` writes back is its block of the log-sum-exps. -/
theorem flushed8_eq (t : Fin cfg0.N) : (dats m 0 c).flushed 8 t = ((cfg0.win 8).blk t).view.read (Elt Ideal) (G8 m c) := by
  rw [flushed8]
  funext y
  obtain ⟨a, r, w, rfl⟩ : ∃ (a : Fin 1) (r : Fin 128) (w : Fin 512), y = ix3 a r w := ⟨y 0, y 1, y 2, eq_ix3 y⟩
  obtain rfl : a = 0 := Subsingleton.elim _ _
  show out0_8 _ _ _ _ _ _ _ _ (ix3 0 r w) = G8 m c (((cfg0.win 8).blk t).view.emb (ix3 0 r w))
  rw [at_result t _ (idx_point t).2.2.2.2.2.2.2.2.2 (((cfg0.win 8).blk t).view.emb (ix3 0 r w)) r w rfl rfl rfl]
  refine Eq.trans ?_ (lseArr_apply 512 _ _ _ 1 0 8192 _ _ _ (residue t) (block t) (Cert.Dil0Ideal.Value.headOf w) r (Cert.Dil0Ideal.Value.inHead w) rfl
      (congrArg (residue t * 512 + ·) (column w))).symm
  exact block_attendLse (grid0.coords t) (idx_point t).1 (blk0 m c t) (blk1 m c t) (blk2 m c t) (blk5 m c t) (blk6 m c t) r w

/-- Every index of a result array is in the block of the grid point of its batch, residue class and row block. -/
theorem covered (i : (⟨3, ![2, 8192, 512]⟩ : Shape).Idx) : ∃ t : Fin cfg0.N, ∀ x : Fin 3 → ℕ, x = ![t.val / 64, t.val % 64, t.val / 64 % 1] →
    (x 0 * 1 ≤ (i 0).val ∧ (i 0).val < x 0 * 1 + 1) ∧ (x 1 * 128 ≤ (i 1).val ∧ (i 1).val < x 1 * 128 + 128)
      ∧ (x 2 * 512 ≤ (i 2).val ∧ (i 2).val < x 2 * 512 + 512) := by
  have h0 : (i 0).val < 2 := (i 0).isLt
  have h1 : (i 1).val < 8192 := (i 1).isLt
  have h2 : (i 2).val < 512 := (i 2).isLt
  refine ⟨⟨(i 0).val * 64 + (i 2).val / 512 * 64 + (i 1).val / 128, lt_of_lt_of_eq (by omega) (show cfg0.N = 128 from N_0).symm⟩, ?_⟩
  rintro x rfl
  refine ⟨?_, ?_, ?_⟩
  · show ((i 0).val * 64 + (i 2).val / 512 * 64 + (i 1).val / 128) / 64 * 1 ≤ _ ∧ _ < ((i 0).val * 64 + (i 2).val / 512 * 64 + (i 1).val / 128) / 64 * 1 + 1
    omega
  · show ((i 0).val * 64 + (i 2).val / 512 * 64 + (i 1).val / 128) % 64 * 128 ≤ _ ∧ _ < ((i 0).val * 64 + (i 2).val / 512 * 64 + (i 1).val / 128) % 64 * 128 + 128
    omega
  · show ((i 0).val * 64 + (i 2).val / 512 * 64 + (i 1).val / 128) / 64 % 1 * 512 ≤ _ ∧ _ < ((i 0).val * 64 + (i 2).val / 512 * 64 + (i 1).val / 128) / 64 % 1 * 512 + 512
    omega

theorem cover7 (i : (⟨3, ![2, 8192, 512]⟩ : Shape).Idx) : ∃ t : Fin cfg0.N, (cfg0.win 7).flush t = true ∧ i ∈ ((cfg0.win 7).blk t).view.set := by
  obtain ⟨t, ht⟩ := covered i
  obtain ⟨h0, h1, h2⟩ := ht _ (idx_point t).2.2.2.2.2.2.2.2.1
  refine ⟨t, (by decide +kernel : ∀ t : Fin grid0.N, win0_7.flush t = true) t, ?_⟩
  show i ∈ ((View.whole main_v25_0).slice (win0_7.rect t)).set
  rw [View.set_slice_whole, Rect.mem_set_unit]
  intro a
  match a with
  | ⟨0, _⟩ => exact h0
  | ⟨1, _⟩ => exact h1
  | ⟨2, _⟩ => exact h2

theorem cover8 (i : (⟨3, ![2, 8192, 512]⟩ : Shape).Idx) : ∃ t : Fin cfg0.N, (cfg0.win 8).flush t = true ∧ i ∈ ((cfg0.win 8).blk t).view.set := by
  obtain ⟨t, ht⟩ := covered i
  obtain ⟨h0, h1, h2⟩ := ht _ (idx_point t).2.2.2.2.2.2.2.2.2
  refine ⟨t, (by decide +kernel : ∀ t : Fin grid0.N, win0_8.flush t = true) t, ?_⟩
  show i ∈ ((View.whole main_v25_1).slice (win0_8.rect t)).set
  rw [View.set_slice_whole, Rect.mem_set_unit]
  intro a
  match a with
  | ⟨0, _⟩ => exact h0
  | ⟨1, _⟩ => exact h1
  | ⟨2, _⟩ => exact h2

/-- The first result array ends holding the outputs. -/
theorem final7 : (dats m 0 c).arrAt 7 cfg0.N = G7 m c :=
  (dats m 0 c).arrAt_eq_of_cover 7 (G7 m c) (fun t _ => flushed7_eq m c t) cover7

/-- The second result array ends holding the log-sum-exps. -/
theorem final8 : (dats m 0 c).arrAt 8 cfg0.N = G8 m c :=
  (dats m 0 c).arrAt_eq_of_cover 8 (G8 m c) (fun t _ => flushed8_eq m c t) cover8

end Cert.Dil0Ideal.Value

namespace Cert.Dil0RefIdeal.Value

open Cert.Dil0RefIdeal Cert.Dil0RefIdeal.Gen

variable (m : (ℓ : Loc nD τ sig) → Buf (Elt Ideal) ℓ) (c : Dev nD)

/-- The reference's table of buckets is the kernel's. -/
theorem buckets_eq : lit0 = Cert.Dil0Ideal.lit0 := rfl

/-- The reference's position biases are the kernel's. -/
theorem bias_eq (x : FVec Ideal ⟨2, ![32, 12]⟩ .f32) : posBias 0 slices_S32x12_S32x4_0_0 bcast_S_S128x256 bcast_S128x256_S128x256x1_0_1
    gather_S32x4_S128x256x1_S128x256x4_2_0_n_n_0_2_14 transposes_S128x256x4_S4x128x256_2_0_1 (fun i => lit0 (S128x256.rowMajor i)) x
      = Cert.Dil0Ideal.Value.biases x := by
  rw [buckets_eq]
  rfl

/-- The reference's scores, in their stages. -/
def refS (z : FVec Ideal Z .f32) (x : FVec Ideal ⟨2, ![32, 12]⟩ .f32) : FVec Ideal (Sc 1 64 256) .f32 :=
  refScores (D := 1) (N := 64) (L := 8192) (P := 8320) (g := 0)
    slices_S2x8192x13312_S2x8192x4608_0_0_2048 slices_S2x8192x4608_S2x8192x1536_0_0_0 slices_S2x8192x4608_S2x8192x1536_0_0_1536
    shapeCasts_S2x8192x1536_S2x8192x3x4x128 slices_S2x8192x3x4x128_S2x8192x1x4x128_0_0_0_0_0 shapeCasts_S2x8192x1x4x128_S2x8192x4x128
    shapeCasts_S2x8192x4x128_S2x8192x1x4x128 transposes_S2x8192x1x4x128_S2x1x8192x4x128_0_2_1_3_4
    pads_S2x1x8192x4x128_S2x1x8192x4x128_000_000_000_000_000 h_S_
    shapeCasts_S2x1x8192x4x128_S2x1x64x128x4x128 pads_S2x1x8192x4x128_S2x1x8320x4x128_000_000_12800_000_000
    slices_S2x1x8320x4x128_S2x1x8192x4x128_0_0_0_0_0 slices_S2x1x8320x4x128_S2x1x8192x4x128_0_0_128_0_0
    concatenates_S2x1x64x128x4x128_S2x1x64x128x4x128_S2x1x64x256x4x128_d3
    bcast_S128x256_S1x128x256_1_2 bcast_S1x128x256_S64x128x256_0_1_2 bcast_S_S64x128x256
    bcast_S64x128x256_S64x1x128x256_0_2_3 bcast_S64x1x128x256_S2x1x64x4x128x256_2_3_4_5
    dot_S2x1x64x128x4x128_S2x1x64x256x4x128_S2x1x64x4x128x256_5_5_3_3_0124_0124_wf
    bcast_S_S2x1x64x4x128x256 bcast_S4x128x256_S1x1x1x4x128x256_3_4_5
    bcast_S1x1x1x4x128x256_S2x1x64x4x128x256_0_1_2_3_4_5 z (inWindow bcast_S128_S128x1_0 bcast_S_S128x1 bcast_S256_S1x256_1 bcast_S128x1_S128x256_0_1 bcast_S1x256_S128x256_0_1 bcast_S_S128x256)
    (posBias 0 slices_S32x12_S32x4_0_0 bcast_S_S128x256 bcast_S128x256_S128x256x1_0_1
      gather_S32x4_S128x256x1_S128x256x4_2_0_n_n_0_2_14 transposes_S128x256x4_S4x128x256_2_0_1 (fun i => lit0 (S128x256.rowMajor i)) x)

/-- The reference's outputs, in their stages. -/
theorem out_eq : res_out0 m c = unstrideOut
    shapeCasts_S2x1x64x128x4x128_S2x1x8192x4x128 transposes_S2x1x8192x4x128_S2x8192x1x4x128_0_2_1_3_4
    shapeCasts_S2x8192x1x4x128_S2x8192x4x128 shapeCasts_S2x8192x4x128_S2x8192x512
    (outs dot_S2x1x64x256x4x128_S2x1x64x4x128x256_S2x1x64x4x128x128_3_5_5_4_0124_0123_wf
      transposes_S2x1x64x4x128x128_S2x1x64x128x4x128_0_1_2_5_3_4 transposes_S2x1x64x4x128_S2x1x64x128x4_0_1_2_4_3
      bcast_S2x1x64x128x4_S2x1x64x128x4x1_0_1_2_3_4 bcast_S2x1x64x128x4x1_S2x1x64x128x4x128_0_1_2_3_4_5
      (windows pads_S2x1x8192x4x128_S2x1x8320x4x128_000_000_12800_000_000 h_S_
        slices_S2x1x8320x4x128_S2x1x8192x4x128_0_0_0_0_0 slices_S2x1x8320x4x128_S2x1x8192x4x128_0_0_128_0_0
        shapeCasts_S2x1x8192x4x128_S2x1x64x128x4x128
        concatenates_S2x1x64x128x4x128_S2x1x64x128x4x128_S2x1x64x256x4x128_d3
        (strided shapeCasts_S2x8192x4x128_S2x8192x1x4x128 transposes_S2x8192x1x4x128_S2x1x8192x4x128_0_2_1_3_4
          (heads 3072 0 slices_S2x8192x13312_S2x8192x4608_0_0_2048 slices_S2x8192x4608_S2x8192x1536_0_0_3072
            shapeCasts_S2x8192x1536_S2x8192x3x4x128 slices_S2x8192x3x4x128_S2x8192x1x4x128_0_0_0_0_0
            shapeCasts_S2x8192x1x4x128_S2x8192x4x128 (m ((c : Thread nD τ).loc main_arg0)))))
      (exps bcast_S2x1x64x4x128_S2x1x64x4x128x1_0_1_2_3_4 bcast_S2x1x64x4x128x1_S2x1x64x4x128x256_0_1_2_3_4_5
        (refS (m ((c : Thread nD τ).loc main_arg0)) (m ((c : Thread nD τ).loc main_arg1)))
        (tops reducesTo_S2x1x64x4x128x256_S2x1x64x4x128_d5 h_S_
          (refS (m ((c : Thread nD τ).loc main_arg0)) (m ((c : Thread nD τ).loc main_arg1)))))
      (sums reducesTo_S2x1x64x4x128x256_S2x1x64x4x128_d5 h_S_
        (exps bcast_S2x1x64x4x128_S2x1x64x4x128x1_0_1_2_3_4 bcast_S2x1x64x4x128x1_S2x1x64x4x128x256_0_1_2_3_4_5
          (refS (m ((c : Thread nD τ).loc main_arg0)) (m ((c : Thread nD τ).loc main_arg1)))
          (tops reducesTo_S2x1x64x4x128x256_S2x1x64x4x128_d5 h_S_
            (refS (m ((c : Thread nD τ).loc main_arg0)) (m ((c : Thread nD τ).loc main_arg1))))))) := rfl

/-- The reference's log-sum-exps, in their stages. -/
theorem lse_eq : res_out1 m c = unstrideLse
    shapeCasts_S2x1x64x128x4_S2x1x8192x4 transposes_S2x1x8192x4_S2x8192x1x4_0_2_1_3 shapeCasts_S2x8192x1x4_S2x8192x4
    bcast_S2x8192x4_S2x8192x4x1_0_1_2 bcast_S2x8192x4x1_S2x8192x4x128_0_1_2_3 shapeCasts_S2x8192x4x128_S2x8192x512
    (lses bcast_S2x1x64x4x128_S2x1x64x4x128x1_0_1_2_3_4 shapeCasts_S2x1x64x4x128x1_S2x1x64x4x128
      transposes_S2x1x64x4x128_S2x1x64x128x4_0_1_2_4_3
      (tops reducesTo_S2x1x64x4x128x256_S2x1x64x4x128_d5 h_S_
        (refS (m ((c : Thread nD τ).loc main_arg0)) (m ((c : Thread nD τ).loc main_arg1))))
      (sums reducesTo_S2x1x64x4x128x256_S2x1x64x4x128_d5 h_S_
        (exps bcast_S2x1x64x4x128_S2x1x64x4x128x1_0_1_2_3_4 bcast_S2x1x64x4x128x1_S2x1x64x4x128x256_0_1_2_3_4_5
          (refS (m ((c : Thread nD τ).loc main_arg0)) (m ((c : Thread nD τ).loc main_arg1)))
          (tops reducesTo_S2x1x64x4x128x256_S2x1x64x4x128_d5 h_S_
            (refS (m ((c : Thread nD τ).loc main_arg0)) (m ((c : Thread nD τ).loc main_arg1))))))) := rfl

/-- From memories that agree on the arguments, the reference's outputs are the array the kernel leaves. -/
theorem out_values (m : (ℓ : Loc Cert.Dil0Ideal.nD Cert.Dil0Ideal.τ Cert.Dil0Ideal.sig) → Buf (Elt Ideal) ℓ)
    (m' : (ℓ : Loc nD τ sig) → Buf (Elt Ideal) ℓ) (c : Dev nD)
    (h0 : m' ((c.tc : Thread nD τ).loc main_arg0) = m ((c.tc : Thread Cert.Dil0Ideal.nD Cert.Dil0Ideal.τ).loc Cert.Dil0Ideal.main_arg0))
    (h1 : m' ((c.tc : Thread nD τ).loc main_arg1) = m ((c.tc : Thread Cert.Dil0Ideal.nD Cert.Dil0Ideal.τ).loc Cert.Dil0Ideal.main_arg1)) :
    res_out0 m' c = Cert.Dil0Ideal.Value.G7 m c := by
  funext i
  obtain ⟨b, l, w, rfl⟩ : ∃ (b : Fin 2) (l : Fin 8192) (w : Fin 512), i = ix3 b l w := ⟨i 0, i 1, i 2, eq_ix3 i⟩
  rw [out_eq, h0, h1]
  unfold refS
  rw [bias_eq, show inWindow bcast_S128_S128x1_0 bcast_S_S128x1 bcast_S256_S1x256_1 bcast_S128x1_S128x256_0_1 bcast_S1x256_S128x256_0_1 bcast_S_S128x256 = Cert.Dil0Ideal.Value.window from rfl]
  exact refOut_apply (by decide) (by decide) (by decide) (by decide) (by decide) (by decide) _ _ (Cert.Dil0Ideal.Value.biases _) _ rfl b l w
    ⟨w.val / 512, by omega⟩ ⟨l.val / 128, by omega⟩ ⟨l.val % 128, by omega⟩ ⟨w.val % 512 / 128, by omega⟩ ⟨w.val % 128, by omega⟩
    (by show l.val = l.val / 128 * 128 + l.val % 128; omega)
    (by show w.val = w.val / 512 * 512 + (w.val % 512 / 128 * 128 + w.val % 128); omega)

/-- From memories that agree on the arguments, the reference's log-sum-exps are the array the kernel leaves. -/
theorem lse_values (m : (ℓ : Loc Cert.Dil0Ideal.nD Cert.Dil0Ideal.τ Cert.Dil0Ideal.sig) → Buf (Elt Ideal) ℓ)
    (m' : (ℓ : Loc nD τ sig) → Buf (Elt Ideal) ℓ) (c : Dev nD)
    (h0 : m' ((c.tc : Thread nD τ).loc main_arg0) = m ((c.tc : Thread Cert.Dil0Ideal.nD Cert.Dil0Ideal.τ).loc Cert.Dil0Ideal.main_arg0))
    (h1 : m' ((c.tc : Thread nD τ).loc main_arg1) = m ((c.tc : Thread Cert.Dil0Ideal.nD Cert.Dil0Ideal.τ).loc Cert.Dil0Ideal.main_arg1)) :
    res_out1 m' c = Cert.Dil0Ideal.Value.G8 m c := by
  funext i
  obtain ⟨b, l, w, rfl⟩ : ∃ (b : Fin 2) (l : Fin 8192) (w : Fin 512), i = ix3 b l w := ⟨i 0, i 1, i 2, eq_ix3 i⟩
  rw [lse_eq, h0, h1]
  unfold refS
  rw [bias_eq, show inWindow bcast_S128_S128x1_0 bcast_S_S128x1 bcast_S256_S1x256_1 bcast_S128x1_S128x256_0_1 bcast_S1x256_S128x256_0_1 bcast_S_S128x256 = Cert.Dil0Ideal.Value.window from rfl]
  exact refLse_apply (by decide) (by decide) (by decide) (by decide) (by decide) (by decide) _ _ (Cert.Dil0Ideal.Value.biases _) _ rfl b l w
    ⟨w.val / 512, by omega⟩ ⟨l.val / 128, by omega⟩ ⟨l.val % 128, by omega⟩ ⟨w.val % 512 / 128, by omega⟩ ⟨w.val % 128, by omega⟩
    (by show l.val = l.val / 128 * 128 + l.val % 128; omega)
    (by show w.val = w.val / 512 * 512 + (w.val % 512 / 128 * 128 + w.val % 128); omega)

end Cert.Dil0RefIdeal.Value
-- ==== Proof.Dil1Whole.lean ====
/-
  The dilated attention at dilation 4: the kernel's two result arrays and the reference's are the attention of the projections.
-/
module

public import proofs.«01_k».proof.Proof.Dil0Whole
public import proofs.«01_k».proof.Proof.Gen.Dil1RefIdeal.Run

@[expose] public section

set_option maxRecDepth 16384

noncomputable section

open Idealize.ShloMosaic Idealize.ShloMosaic.TcCoe Idealize.SL.Sem Cert.Index Cert.DilSpec Cert.DilStages

namespace Cert.Dil1Ideal.Value

open Cert.Dil1Ideal Cert.Dil1Ideal.Gen

variable (m : (ℓ : Loc nD τ sig) → Buf (Elt Ideal) ℓ) (c : Dev nD)

/-- The projections. -/
abbrev projections : FVec Ideal Z .f32 := m ((c : Thread nD τ).loc main_arg0)

/-- The window: which of the 256 keys a query may see. -/
def window : IVec Win 1 :=
  inWindow bcast_S128_S128x1_0 bcast_S_S128x1 bcast_S256_S1x256_1 bcast_S128x1_S128x256_0_1 bcast_S1x256_S128x256_0_1 bcast_S_S128x256

/-- The position biases of this group's heads. -/
def biases (x : FVec Ideal ⟨2, ![32, 12]⟩ .f32) : FVec Ideal Bias .f32 :=
  posBias 4 slices_S32x12_S32x4_0_4 bcast_S_S128x256 bcast_S128x256_S128x256x1_0_1 gather_S32x4_S128x256x1_S128x256x4_2_0_n_n_0_2_14
    transposes_S128x256x4_S4x128x256_2_0_1 (fun i => lit0 (S128x256.rowMajor i)) x

/-- The bias of a query and a key of the block before. -/
def biasPrev (h : Fin 4) (r k : Fin 128) : EReal :=
  winBias window (biases (m ((c : Thread nD τ).loc main_arg1))) h r (k.castAdd 128)

/-- The bias of a query and a key of the same block. -/
def biasCur (h : Fin 4) (r k : Fin 128) : EReal :=
  winBias window (biases (m ((c : Thread nD τ).loc main_arg1))) h r (k.natAdd 128)

theorem V_prev : V m c main_v23 = extractStridedSlice S4x128x128 ![0, 0, 0] (masked bcast_S128x256_S1x128x256_1_2
    bcast_S1x128x256_S4x128x256_0_1_2 bcast_S_S4x128x256 window (biases (m ((c : Thread nD τ).loc main_arg1))))
    slices_S4x128x256_S4x128x128_0_0_0 := by
  unfold V hostOps0 hostOps0_1 hostOps0_2
  after_reads_simp
  rfl

theorem V_cur : V m c main_v24 = extractStridedSlice S4x128x128 ![0, 0, 128] (masked bcast_S128x256_S1x128x256_1_2
    bcast_S1x128x256_S4x128x256_0_1_2 bcast_S_S4x128x256 window (biases (m ((c : Thread nD τ).loc main_arg1))))
    slices_S4x128x256_S4x128x128_0_0_128 := by
  unfold V hostOps0 hostOps0_1 hostOps0_2
  after_reads_simp
  rfl

/-- The array the query, key and value windows read, at column `u` of residue class `d`. -/
theorem V_rows (b : Fin 2) (l : Fin 2048) (w : Fin 53248) (d u : ℕ) (hd : d < 4) (hu : u < 13312) (hw : w.val = d * 13312 + u) :
    V m c main_v25 (ix3 b l w) = zat (projections m c) b (l.val * 4 + d) u := by
  have e : V m c main_v25 = shapeCast S2x2048x53248 (projections m c) shapeCasts_S2x8192x13312_S2x2048x53248 := by
    unfold V hostOps0 hostOps0_1 hostOps0_2
    after_reads_simp
    rfl
  rw [e]
  exact rows_apply _ (by decide) (by decide) _ b l w d u hd hu hw

/-- The batch, residue class and block of a grid point. -/
abbrev batch (t : Fin cfg0.N) : Fin 2 := ⟨t.val / 64, by have := lt_of_lt_of_eq t.isLt (show cfg0.N = 128 from N_0); omega⟩
abbrev residue (t : Fin cfg0.N) : ℕ := t.val / 16 % 4
abbrev block (t : Fin cfg0.N) : ℕ := t.val % 16

/-- Where each window of grid point `t` stands. -/
theorem idx_point : ∀ t : Fin cfg0.N, ((grid0.coords t 2).val = t.val % 16)
    ∧ (win0_0.index t = ![t.val / 64, t.val % 16, t.val / 16 % 4 * 26 + 5])
    ∧ (win0_1.index t = ![t.val / 64, t.val % 16 - 1, t.val / 16 % 4 * 26 + 8])
    ∧ (win0_2.index t = ![t.val / 64, t.val % 16, t.val / 16 % 4 * 26 + 8])
    ∧ (win0_3.index t = ![t.val / 64, t.val % 16 - 1, t.val / 16 % 4 * 26 + 11])
    ∧ (win0_4.index t = ![t.val / 64, t.val % 16, t.val / 16 % 4 * 26 + 11])
    ∧ (win0_5.index t = ![0, 0, 0]) ∧ (win0_6.index t = ![0, 0, 0])
    ∧ (win0_7.index t = ![t.val / 64, t.val % 16, t.val / 16 % 4])
    ∧ (win0_8.index t = ![t.val / 64, t.val % 16, t.val / 16 % 4]) :=
  (by decide +kernel : ∀ t : Fin grid0.N, _)

/-- A block of the array the windows read: the projections' entries from row block `n` and column block `q` on. -/
theorem blk_at {n q : ℕ} (t : Fin cfg0.N) (x : Fin 3 → ℕ) (hx : x = ![t.val / 64, n, t.val / 16 % 4 * 26 + q]) (hn : n < 16) (hq : q < 26)
    (j : (⟨3, ![2, 2048, 53248]⟩ : Shape).Idx) (r : Fin 128) (w : Fin 512) (h0 : (j 0).val = x 0 * 1 + 1 * 0)
    (h1 : (j 1).val = x 1 * 128 + 1 * r.val) (h2 : (j 2).val = x 2 * 512 + 1 * w.val) :
    V m c main_v25 j = zat (projections m c) (batch t) ((n * 128 + r.val) * 4 + residue t) (q * 512 + w.val) := by
  have ht := lt_of_lt_of_eq t.isLt (show cfg0.N = 128 from N_0)
  rw [at_block x hx j r w (batch t) ⟨n * 128 + r.val, by omega⟩ ⟨(t.val / 16 % 4 * 26 + q) * 512 + w.val, by omega⟩ h0 h1 h2 rfl rfl rfl]
  exact V_rows m c _ _ _ (residue t) (q * 512 + w.val) (by show t.val / 16 % 4 < 4; omega) (by omega)
    (by show (t.val / 16 % 4 * 26 + q) * 512 + w.val = t.val / 16 % 4 * 13312 + (q * 512 + w.val); omega)

theorem blk0 (t : Fin cfg0.N) (r : Fin 128) (w : Fin 512) : (iblk m c 0 t : Vec Ideal S1x128x512 .f32) (ix3 0 r w)
    = zat (projections m c) (batch t) ((block t * 128 + r.val) * 4 + residue t) (2048 + 0 + 1 * 512 + w.val) :=
  blk_at m c t _ (idx_point t).2.1 (by omega) (by omega) _ r w rfl rfl rfl

theorem blk1 (t : Fin cfg0.N) (r : Fin 128) (w : Fin 512) : (iblk m c 1 t : Vec Ideal S1x128x512 .f32) (ix3 0 r w)
    = zat (projections m c) (batch t) (((block t - 1) * 128 + r.val) * 4 + residue t) (2048 + 1536 + 1 * 512 + w.val) :=
  blk_at m c t _ (idx_point t).2.2.1 (by omega) (by omega) _ r w rfl rfl rfl

theorem blk2 (t : Fin cfg0.N) (r : Fin 128) (w : Fin 512) : (iblk m c 2 t : Vec Ideal S1x128x512 .f32) (ix3 0 r w)
    = zat (projections m c) (batch t) ((block t * 128 + r.val) * 4 + residue t) (2048 + 1536 + 1 * 512 + w.val) :=
  blk_at m c t _ (idx_point t).2.2.2.1 (by omega) (by omega) _ r w rfl rfl rfl

theorem blk3 (t : Fin cfg0.N) (r : Fin 128) (w : Fin 512) : (iblk m c 3 t : Vec Ideal S1x128x512 .f32) (ix3 0 r w)
    = zat (projections m c) (batch t) (((block t - 1) * 128 + r.val) * 4 + residue t) (2048 + 3072 + 1 * 512 + w.val) :=
  blk_at m c t _ (idx_point t).2.2.2.2.1 (by omega) (by omega) _ r w rfl rfl rfl

theorem blk4 (t : Fin cfg0.N) (r : Fin 128) (w : Fin 512) : (iblk m c 4 t : Vec Ideal S1x128x512 .f32) (ix3 0 r w)
    = zat (projections m c) (batch t) ((block t * 128 + r.val) * 4 + residue t) (2048 + 3072 + 1 * 512 + w.val) :=
  blk_at m c t _ (idx_point t).2.2.2.2.2.1 (by omega) (by omega) _ r w rfl rfl rfl

theorem blk5 (t : Fin cfg0.N) (h : Fin 4) (r k : Fin 128) : (iblk m c 5 t : Vec Ideal S4x128x128 .f32) (ix3 h r k) = biasPrev m c h r k := by
  have hi := (idx_point t).2.2.2.2.2.2.1
  show V m c main_v23 (((cfg0.win 5).blk t).view.emb (ix3 h r k)) = _
  rw [show ((cfg0.win 5).blk t).view.emb (ix3 h r k) = ix3 h r k from
    ext3 _ _ _ _ (off0 4 h.val (congrFun hi 0)) (off0 128 r.val (congrFun hi 1)) (off0 128 k.val (congrFun hi 2)), V_prev]
  exact masked_prev _ _ _ _ _ _ h r k

theorem blk6 (t : Fin cfg0.N) (h : Fin 4) (r k : Fin 128) : (iblk m c 6 t : Vec Ideal S4x128x128 .f32) (ix3 h r k) = biasCur m c h r k := by
  have hi := (idx_point t).2.2.2.2.2.2.2.1
  show V m c main_v24 (((cfg0.win 6).blk t).view.emb (ix3 h r k)) = _
  rw [show ((cfg0.win 6).blk t).view.emb (ix3 h r k) = ix3 h r k from
    ext3 _ _ _ _ (off0 4 h.val (congrFun hi 0)) (off0 128 r.val (congrFun hi 1)) (off0 128 k.val (congrFun hi 2)), V_cur]
  exact masked_cur _ _ _ _ _ _ h r k

/-- The outputs, as one array. -/
abbrev G7 : Vec Ideal S2x2048x2048 .f32 := outArr 4 1 2048 2048 (projections m c) (biasPrev m c) (biasCur m c)

/-- The log-sum-exps, as one array. -/
abbrev G8 : Vec Ideal S2x2048x2048 .f32 := lseArr 4 1 2048 2048 (projections m c) (biasPrev m c) (biasCur m c)

/-- An index of a result array from the block of a grid point. -/
theorem at_result (t : Fin cfg0.N) (x : Fin 3 → ℕ) (hx : x = ![t.val / 64, t.val % 16, t.val / 16 % 4]) (j : (⟨3, ![2, 2048, 2048]⟩ : Shape).Idx)
    (r : Fin 128) (w : Fin 512) (h0 : (j 0).val = x 0 * 1 + 1 * 0) (h1 : (j 1).val = x 1 * 128 + 1 * r.val)
    (h2 : (j 2).val = x 2 * 512 + 1 * w.val) : j = ix3 (batch t) ⟨block t * 128 + r.val, by have := r.isLt; show t.val % 16 * 128 + _ < _; omega⟩
      ⟨residue t * 512 + w.val, by have := w.isLt; show t.val / 16 % 4 * 512 + _ < _; omega⟩ :=
  at_block x hx j r w _ _ _ h0 h1 h2 rfl rfl rfl

/-- What point `t` writes back is its block of the outputs. -/
theorem flushed7_eq (t : Fin cfg0.N) : (dats m 0 c).flushed 7 t = ((cfg0.win 7).blk t).view.read (Elt Ideal) (G7 m c) := by
  rw [flushed7]
  funext y
  obtain ⟨a, r, w, rfl⟩ : ∃ (a : Fin 1) (r : Fin 128) (w : Fin 512), y = ix3 a r w := ⟨y 0, y 1, y 2, eq_ix3 y⟩
  obtain rfl : a = 0 := Subsingleton.elim _ _
  show out0_7 _ _ _ _ _ _ _ _ (ix3 0 r w) = G7 m c (((cfg0.win 7).blk t).view.emb (ix3 0 r w))
  rw [at_result t _ (idx_point t).2.2.2.2.2.2.2.2.1 (((cfg0.win 7).blk t).view.emb (ix3 0 r w)) r w rfl rfl rfl]
  refine Eq.trans ?_ (outArr_apply 2048 _ _ _ 4 1 2048 _ _ _ (residue t) (block t) (Cert.Dil0Ideal.Value.headOf w) r (Cert.Dil0Ideal.Value.inHead w) rfl
      (congrArg (residue t * 512 + ·) (column w))).symm
  exact (congrFun (out7_eq _ _ _ _ _ _ _ _) _).trans (block_attend (Cert.Dil0Ideal.Value.point ((grid0.coords t 2 : Fin 16).castLE (by decide))) (idx_point t).1 (blk0 m c t) (blk1 m c t) (blk2 m c t) (blk3 m c t) (blk4 m c t) (blk5 m c t)
    (blk6 m c t) r w)

/-- What point `t` writes back is its block of the log-sum-exps. -/
theorem flushed8_eq (t : Fin cfg0.N) : (dats m 0 c).flushed 8 t = ((cfg0.win 8).blk t).view.read (Elt Ideal) (G8 m c) := by
  rw [flushed8]
  funext y
  obtain ⟨a, r, w, rfl⟩ : ∃ (a : Fin 1) (r : Fin 128) (w : Fin 512), y = ix3 a r w := ⟨y 0, y 1, y 2, eq_ix3 y⟩
  obtain rfl : a = 0 := Subsingleton.elim _ _
  show out0_8 _ _ _ _ _ _ _ _ (ix3 0 r w) = G8 m c (((cfg0.win 8).blk t).view.emb (ix3 0 r w))
  rw [at_result t _ (idx_point t).2.2.2.2.2.2.2.2.2 (((cfg0.win 8).blk t).view.emb (ix3 0 r w)) r w rfl rfl rfl]
  refine Eq.trans ?_ (lseArr_apply 2048 _ _ _ 4 1 2048 _ _ _ (residue t) (block t) (Cert.Dil0Ideal.Value.headOf w) r (Cert.Dil0Ideal.Value.inHead w) rfl
      (congrArg (residue t * 512 + ·) (column w))).symm
  exact (congrFun (out8_eq _ _ _ _ _ _ _ _) _).trans (block_attendLse (Cert.Dil0Ideal.Value.point ((grid0.coords t 2 : Fin 16).castLE (by decide))) (idx_point t).1 (blk0 m c t) (blk1 m c t) (blk2 m c t) (blk5 m c t) (blk6 m c t) r w)

/-- Every index of a result array is in the block of the grid point of its batch, residue class and row block. -/
theorem covered (i : (⟨3, ![2, 2048, 2048]⟩ : Shape).Idx) : ∃ t : Fin cfg0.N, ∀ x : Fin 3 → ℕ, x = ![t.val / 64, t.val % 16, t.val / 16 % 4] →
    (x 0 * 1 ≤ (i 0).val ∧ (i 0).val < x 0 * 1 + 1) ∧ (x 1 * 128 ≤ (i 1).val ∧ (i 1).val < x 1 * 128 + 128)
      ∧ (x 2 * 512 ≤ (i 2).val ∧ (i 2).val < x 2 * 512 + 512) := by
  have h0 : (i 0).val < 2 := (i 0).isLt
  have h1 : (i 1).val < 2048 := (i 1).isLt
  have h2 : (i 2).val < 2048 := (i 2).isLt
  refine ⟨⟨(i 0).val * 64 + (i 2).val / 512 * 16 + (i 1).val / 128, lt_of_lt_of_eq (by omega) (show cfg0.N = 128 from N_0).symm⟩, ?_⟩
  rintro x rfl
  refine ⟨?_, ?_, ?_⟩
  · show ((i 0).val * 64 + (i 2).val / 512 * 16 + (i 1).val / 128) / 64 * 1 ≤ _ ∧ _ < ((i 0).val * 64 + (i 2).val / 512 * 16 + (i 1).val / 128) / 64 * 1 + 1
    omega
  · show ((i 0).val * 64 + (i 2).val / 512 * 16 + (i 1).val / 128) % 16 * 128 ≤ _ ∧ _ < ((i 0).val * 64 + (i 2).val / 512 * 16 + (i 1).val / 128) % 16 * 128 + 128
    omega
  · show ((i 0).val * 64 + (i 2).val / 512 * 16 + (i 1).val / 128) / 16 % 4 * 512 ≤ _ ∧ _ < ((i 0).val * 64 + (i 2).val / 512 * 16 + (i 1).val / 128) / 16 % 4 * 512 + 512
    omega

theorem cover7 (i : (⟨3, ![2, 2048, 2048]⟩ : Shape).Idx) : ∃ t : Fin cfg0.N, (cfg0.win 7).flush t = true ∧ i ∈ ((cfg0.win 7).blk t).view.set := by
  obtain ⟨t, ht⟩ := covered i
  obtain ⟨h0, h1, h2⟩ := ht _ (idx_point t).2.2.2.2.2.2.2.2.1
  refine ⟨t, (by decide +kernel : ∀ t : Fin grid0.N, win0_7.flush t = true) t, ?_⟩
  show i ∈ ((View.whole main_v26_0).slice (win0_7.rect t)).set
  rw [View.set_slice_whole, Rect.mem_set_unit]
  intro a
  match a with
  | ⟨0, _⟩ => exact h0
  | ⟨1, _⟩ => exact h1
  | ⟨2, _⟩ => exact h2

theorem cover8 (i : (⟨3, ![2, 2048, 2048]⟩ : Shape).Idx) : ∃ t : Fin cfg0.N, (cfg0.win 8).flush t = true ∧ i ∈ ((cfg0.win 8).blk t).view.set := by
  obtain ⟨t, ht⟩ := covered i
  obtain ⟨h0, h1, h2⟩ := ht _ (idx_point t).2.2.2.2.2.2.2.2.2
  refine ⟨t, (by decide +kernel : ∀ t : Fin grid0.N, win0_8.flush t = true) t, ?_⟩
  show i ∈ ((View.whole main_v26_1).slice (win0_8.rect t)).set
  rw [View.set_slice_whole, Rect.mem_set_unit]
  intro a
  match a with
  | ⟨0, _⟩ => exact h0
  | ⟨1, _⟩ => exact h1
  | ⟨2, _⟩ => exact h2

/-- The first result array ends holding the outputs. -/
theorem final7 : (dats m 0 c).arrAt 7 cfg0.N = G7 m c :=
  (dats m 0 c).arrAt_eq_of_cover 7 (G7 m c) (fun t _ => flushed7_eq m c t) cover7

/-- The second result array ends holding the log-sum-exps. -/
theorem final8 : (dats m 0 c).arrAt 8 cfg0.N = G8 m c :=
  (dats m 0 c).arrAt_eq_of_cover 8 (G8 m c) (fun t _ => flushed8_eq m c t) cover8

end Cert.Dil1Ideal.Value

namespace Cert.Dil1RefIdeal.Value

open Cert.Dil1RefIdeal Cert.Dil1RefIdeal.Gen

variable (m : (ℓ : Loc nD τ sig) → Buf (Elt Ideal) ℓ) (c : Dev nD)

/-- The reference's table of buckets is the kernel's. -/
theorem buckets_eq : lit0 = Cert.Dil1Ideal.lit0 := rfl

/-- The reference's position biases are the kernel's. -/
theorem bias_eq (x : FVec Ideal ⟨2, ![32, 12]⟩ .f32) : posBias 4 slices_S32x12_S32x4_0_4 bcast_S_S128x256 bcast_S128x256_S128x256x1_0_1
    gather_S32x4_S128x256x1_S128x256x4_2_0_n_n_0_2_14 transposes_S128x256x4_S4x128x256_2_0_1 (fun i => lit0 (S128x256.rowMajor i)) x
      = Cert.Dil1Ideal.Value.biases x := by
  rw [buckets_eq]
  rfl

/-- The reference's scores, in their stages. -/
def refS (z : FVec Ideal Z .f32) (x : FVec Ideal ⟨2, ![32, 12]⟩ .f32) : FVec Ideal (Sc 4 16 256) .f32 :=
  refScores (D := 4) (N := 16) (L := 2048) (P := 2176) (g := 1)
    slices_S2x8192x13312_S2x8192x4608_0_0_2048 slices_S2x8192x4608_S2x8192x1536_0_0_0 slices_S2x8192x4608_S2x8192x1536_0_0_1536
    shapeCasts_S2x8192x1536_S2x8192x3x4x128 slices_S2x8192x3x4x128_S2x8192x1x4x128_0_0_1_0_0 shapeCasts_S2x8192x1x4x128_S2x8192x4x128
    shapeCasts_S2x8192x4x128_S2x2048x4x4x128 transposes_S2x2048x4x4x128_S2x4x2048x4x128_0_2_1_3_4
    pads_S2x4x2048x4x128_S2x4x2048x4x128_000_000_000_000_000 h_S_
    shapeCasts_S2x4x2048x4x128_S2x4x16x128x4x128 pads_S2x4x2048x4x128_S2x4x2176x4x128_000_000_12800_000_000
    slices_S2x4x2176x4x128_S2x4x2048x4x128_0_0_0_0_0 slices_S2x4x2176x4x128_S2x4x2048x4x128_0_0_128_0_0
    concatenates_S2x4x16x128x4x128_S2x4x16x128x4x128_S2x4x16x256x4x128_d3
    bcast_S128x256_S1x128x256_1_2 bcast_S1x128x256_S16x128x256_0_1_2 bcast_S_S16x128x256
    bcast_S16x128x256_S16x1x128x256_0_2_3 bcast_S16x1x128x256_S2x4x16x4x128x256_2_3_4_5
    dot_S2x4x16x128x4x128_S2x4x16x256x4x128_S2x4x16x4x128x256_5_5_3_3_0124_0124_wf
    bcast_S_S2x4x16x4x128x256 bcast_S4x128x256_S1x1x1x4x128x256_3_4_5
    bcast_S1x1x1x4x128x256_S2x4x16x4x128x256_0_1_2_3_4_5 z (inWindow bcast_S128_S128x1_0 bcast_S_S128x1 bcast_S256_S1x256_1 bcast_S128x1_S128x256_0_1 bcast_S1x256_S128x256_0_1 bcast_S_S128x256)
    (posBias 4 slices_S32x12_S32x4_0_4 bcast_S_S128x256 bcast_S128x256_S128x256x1_0_1
      gather_S32x4_S128x256x1_S128x256x4_2_0_n_n_0_2_14 transposes_S128x256x4_S4x128x256_2_0_1 (fun i => lit0 (S128x256.rowMajor i)) x)

/-- The reference's outputs, in their stages. -/
theorem out_eq : res_out0 m c = unstrideOut
    shapeCasts_S2x4x16x128x4x128_S2x4x2048x4x128 transposes_S2x4x2048x4x128_S2x2048x4x4x128_0_2_1_3_4
    shapeCasts_S2x2048x4x4x128_S2x8192x4x128 shapeCasts_S2x8192x4x128_S2x2048x2048
    (outs dot_S2x4x16x256x4x128_S2x4x16x4x128x256_S2x4x16x4x128x128_3_5_5_4_0124_0123_wf
      transposes_S2x4x16x4x128x128_S2x4x16x128x4x128_0_1_2_5_3_4 transposes_S2x4x16x4x128_S2x4x16x128x4_0_1_2_4_3
      bcast_S2x4x16x128x4_S2x4x16x128x4x1_0_1_2_3_4 bcast_S2x4x16x128x4x1_S2x4x16x128x4x128_0_1_2_3_4_5
      (windows pads_S2x4x2048x4x128_S2x4x2176x4x128_000_000_12800_000_000 h_S_
        slices_S2x4x2176x4x128_S2x4x2048x4x128_0_0_0_0_0 slices_S2x4x2176x4x128_S2x4x2048x4x128_0_0_128_0_0
        shapeCasts_S2x4x2048x4x128_S2x4x16x128x4x128
        concatenates_S2x4x16x128x4x128_S2x4x16x128x4x128_S2x4x16x256x4x128_d3
        (strided shapeCasts_S2x8192x4x128_S2x2048x4x4x128 transposes_S2x2048x4x4x128_S2x4x2048x4x128_0_2_1_3_4
          (heads 3072 1 slices_S2x8192x13312_S2x8192x4608_0_0_2048 slices_S2x8192x4608_S2x8192x1536_0_0_3072
            shapeCasts_S2x8192x1536_S2x8192x3x4x128 slices_S2x8192x3x4x128_S2x8192x1x4x128_0_0_1_0_0
            shapeCasts_S2x8192x1x4x128_S2x8192x4x128 (m ((c : Thread nD τ).loc main_arg0)))))
      (exps bcast_S2x4x16x4x128_S2x4x16x4x128x1_0_1_2_3_4 bcast_S2x4x16x4x128x1_S2x4x16x4x128x256_0_1_2_3_4_5
        (refS (m ((c : Thread nD τ).loc main_arg0)) (m ((c : Thread nD τ).loc main_arg1)))
        (tops reducesTo_S2x4x16x4x128x256_S2x4x16x4x128_d5 h_S_
          (refS (m ((c : Thread nD τ).loc main_arg0)) (m ((c : Thread nD τ).loc main_arg1)))))
      (sums reducesTo_S2x4x16x4x128x256_S2x4x16x4x128_d5 h_S_
        (exps bcast_S2x4x16x4x128_S2x4x16x4x128x1_0_1_2_3_4 bcast_S2x4x16x4x128x1_S2x4x16x4x128x256_0_1_2_3_4_5
          (refS (m ((c : Thread nD τ).loc main_arg0)) (m ((c : Thread nD τ).loc main_arg1)))
          (tops reducesTo_S2x4x16x4x128x256_S2x4x16x4x128_d5 h_S_
            (refS (m ((c : Thread nD τ).loc main_arg0)) (m ((c : Thread nD τ).loc main_arg1))))))) := rfl

/-- The reference's log-sum-exps, in their stages. -/
theorem lse_eq : res_out1 m c = unstrideLse
    shapeCasts_S2x4x16x128x4_S2x4x2048x4 transposes_S2x4x2048x4_S2x2048x4x4_0_2_1_3 shapeCasts_S2x2048x4x4_S2x8192x4
    bcast_S2x8192x4_S2x8192x4x1_0_1_2 bcast_S2x8192x4x1_S2x8192x4x128_0_1_2_3 shapeCasts_S2x8192x4x128_S2x2048x2048
    (lses bcast_S2x4x16x4x128_S2x4x16x4x128x1_0_1_2_3_4 shapeCasts_S2x4x16x4x128x1_S2x4x16x4x128
      transposes_S2x4x16x4x128_S2x4x16x128x4_0_1_2_4_3
      (tops reducesTo_S2x4x16x4x128x256_S2x4x16x4x128_d5 h_S_
        (refS (m ((c : Thread nD τ).loc main_arg0)) (m ((c : Thread nD τ).loc main_arg1))))
      (sums reducesTo_S2x4x16x4x128x256_S2x4x16x4x128_d5 h_S_
        (exps bcast_S2x4x16x4x128_S2x4x16x4x128x1_0_1_2_3_4 bcast_S2x4x16x4x128x1_S2x4x16x4x128x256_0_1_2_3_4_5
          (refS (m ((c : Thread nD τ).loc main_arg0)) (m ((c : Thread nD τ).loc main_arg1)))
          (tops reducesTo_S2x4x16x4x128x256_S2x4x16x4x128_d5 h_S_
            (refS (m ((c : Thread nD τ).loc main_arg0)) (m ((c : Thread nD τ).loc main_arg1))))))) := rfl

/-- From memories that agree on the arguments, the reference's outputs are the array the kernel leaves. -/
theorem out_values (m : (ℓ : Loc Cert.Dil1Ideal.nD Cert.Dil1Ideal.τ Cert.Dil1Ideal.sig) → Buf (Elt Ideal) ℓ)
    (m' : (ℓ : Loc nD τ sig) → Buf (Elt Ideal) ℓ) (c : Dev nD)
    (h0 : m' ((c.tc : Thread nD τ).loc main_arg0) = m ((c.tc : Thread Cert.Dil1Ideal.nD Cert.Dil1Ideal.τ).loc Cert.Dil1Ideal.main_arg0))
    (h1 : m' ((c.tc : Thread nD τ).loc main_arg1) = m ((c.tc : Thread Cert.Dil1Ideal.nD Cert.Dil1Ideal.τ).loc Cert.Dil1Ideal.main_arg1)) :
    res_out0 m' c = Cert.Dil1Ideal.Value.G7 m c := by
  funext i
  obtain ⟨b, l, w, rfl⟩ : ∃ (b : Fin 2) (l : Fin 2048) (w : Fin 2048), i = ix3 b l w := ⟨i 0, i 1, i 2, eq_ix3 i⟩
  rw [out_eq, h0, h1]
  unfold refS
  rw [bias_eq, show inWindow bcast_S128_S128x1_0 bcast_S_S128x1 bcast_S256_S1x256_1 bcast_S128x1_S128x256_0_1 bcast_S1x256_S128x256_0_1 bcast_S_S128x256 = Cert.Dil1Ideal.Value.window from rfl]
  exact refOut_apply (by decide) (by decide) (by decide) (by decide) (by decide) (by decide) _ _ (Cert.Dil1Ideal.Value.biases _) _ rfl b l w
    ⟨w.val / 512, by omega⟩ ⟨l.val / 128, by omega⟩ ⟨l.val % 128, by omega⟩ ⟨w.val % 512 / 128, by omega⟩ ⟨w.val % 128, by omega⟩
    (by show l.val = l.val / 128 * 128 + l.val % 128; omega)
    (by show w.val = w.val / 512 * 512 + (w.val % 512 / 128 * 128 + w.val % 128); omega)

/-- From memories that agree on the arguments, the reference's log-sum-exps are the array the kernel leaves. -/
theorem lse_values (m : (ℓ : Loc Cert.Dil1Ideal.nD Cert.Dil1Ideal.τ Cert.Dil1Ideal.sig) → Buf (Elt Ideal) ℓ)
    (m' : (ℓ : Loc nD τ sig) → Buf (Elt Ideal) ℓ) (c : Dev nD)
    (h0 : m' ((c.tc : Thread nD τ).loc main_arg0) = m ((c.tc : Thread Cert.Dil1Ideal.nD Cert.Dil1Ideal.τ).loc Cert.Dil1Ideal.main_arg0))
    (h1 : m' ((c.tc : Thread nD τ).loc main_arg1) = m ((c.tc : Thread Cert.Dil1Ideal.nD Cert.Dil1Ideal.τ).loc Cert.Dil1Ideal.main_arg1)) :
    res_out1 m' c = Cert.Dil1Ideal.Value.G8 m c := by
  funext i
  obtain ⟨b, l, w, rfl⟩ : ∃ (b : Fin 2) (l : Fin 2048) (w : Fin 2048), i = ix3 b l w := ⟨i 0, i 1, i 2, eq_ix3 i⟩
  rw [lse_eq, h0, h1]
  unfold refS
  rw [bias_eq, show inWindow bcast_S128_S128x1_0 bcast_S_S128x1 bcast_S256_S1x256_1 bcast_S128x1_S128x256_0_1 bcast_S1x256_S128x256_0_1 bcast_S_S128x256 = Cert.Dil1Ideal.Value.window from rfl]
  exact refLse_apply (by decide) (by decide) (by decide) (by decide) (by decide) (by decide) _ _ (Cert.Dil1Ideal.Value.biases _) _ rfl b l w
    ⟨w.val / 512, by omega⟩ ⟨l.val / 128, by omega⟩ ⟨l.val % 128, by omega⟩ ⟨w.val % 512 / 128, by omega⟩ ⟨w.val % 128, by omega⟩
    (by show l.val = l.val / 128 * 128 + l.val % 128; omega)
    (by show w.val = w.val / 512 * 512 + (w.val % 512 / 128 * 128 + w.val % 128); omega)

end Cert.Dil1RefIdeal.Value
-- ==== Proof.Dil2Whole.lean ====
/-
  The dilated attention at dilation 16: the kernel's two result arrays and the reference's are the attention of the projections.
-/
module

public import proofs.«01_k».proof.Proof.Dil1Whole
public import proofs.«01_k».proof.Proof.Gen.Dil2RefIdeal.Run

@[expose] public section

set_option maxRecDepth 16384

noncomputable section

open Idealize.ShloMosaic Idealize.ShloMosaic.TcCoe Idealize.SL.Sem Cert.Index Cert.DilSpec Cert.DilStages

namespace Cert.Dil2Ideal.Value

open Cert.Dil2Ideal Cert.Dil2Ideal.Gen

variable (m : (ℓ : Loc nD τ sig) → Buf (Elt Ideal) ℓ) (c : Dev nD)

/-- The projections. -/
abbrev projections : FVec Ideal Z .f32 := m ((c : Thread nD τ).loc main_arg0)

/-- The window: which of the 256 keys a query may see. -/
def window : IVec Win 1 :=
  inWindow bcast_S128_S128x1_0 bcast_S_S128x1 bcast_S256_S1x256_1 bcast_S128x1_S128x256_0_1 bcast_S1x256_S128x256_0_1 bcast_S_S128x256

/-- The position biases of this group's heads. -/
def biases (x : FVec Ideal ⟨2, ![32, 12]⟩ .f32) : FVec Ideal Bias .f32 :=
  posBias 8 slices_S32x12_S32x4_0_8 bcast_S_S128x256 bcast_S128x256_S128x256x1_0_1 gather_S32x4_S128x256x1_S128x256x4_2_0_n_n_0_2_14
    transposes_S128x256x4_S4x128x256_2_0_1 (fun i => lit0 (S128x256.rowMajor i)) x

/-- The bias of a query and a key of the block before. -/
def biasPrev (h : Fin 4) (r k : Fin 128) : EReal :=
  winBias window (biases (m ((c : Thread nD τ).loc main_arg1))) h r (k.castAdd 128)

/-- The bias of a query and a key of the same block. -/
def biasCur (h : Fin 4) (r k : Fin 128) : EReal :=
  winBias window (biases (m ((c : Thread nD τ).loc main_arg1))) h r (k.natAdd 128)

theorem V_prev : V m c main_v23 = extractStridedSlice S4x128x128 ![0, 0, 0] (masked bcast_S128x256_S1x128x256_1_2
    bcast_S1x128x256_S4x128x256_0_1_2 bcast_S_S4x128x256 window (biases (m ((c : Thread nD τ).loc main_arg1))))
    slices_S4x128x256_S4x128x128_0_0_0 := by
  unfold V hostOps0 hostOps0_1 hostOps0_2
  after_reads_simp
  rfl

theorem V_cur : V m c main_v24 = extractStridedSlice S4x128x128 ![0, 0, 128] (masked bcast_S128x256_S1x128x256_1_2
    bcast_S1x128x256_S4x128x256_0_1_2 bcast_S_S4x128x256 window (biases (m ((c : Thread nD τ).loc main_arg1))))
    slices_S4x128x256_S4x128x128_0_0_128 := by
  unfold V hostOps0 hostOps0_1 hostOps0_2
  after_reads_simp
  rfl

/-- The array the query, key and value windows read, at column `u` of residue class `d`. -/
theorem V_rows (b : Fin 2) (l : Fin 512) (w : Fin 212992) (d u : ℕ) (hd : d < 16) (hu : u < 13312) (hw : w.val = d * 13312 + u) :
    V m c main_v25 (ix3 b l w) = zat (projections m c) b (l.val * 16 + d) u := by
  have e : V m c main_v25 = shapeCast S2x512x212992 (projections m c) shapeCasts_S2x8192x13312_S2x512x212992 := by
    unfold V hostOps0 hostOps0_1 hostOps0_2
    after_reads_simp
    rfl
  rw [e]
  exact rows_apply _ (by decide) (by decide) _ b l w d u hd hu hw

/-- The batch, residue class and block of a grid point. -/
abbrev batch (t : Fin cfg0.N) : Fin 2 := ⟨t.val / 64, by have := lt_of_lt_of_eq t.isLt (show cfg0.N = 128 from N_0); omega⟩
abbrev residue (t : Fin cfg0.N) : ℕ := t.val / 4 % 16
abbrev block (t : Fin cfg0.N) : ℕ := t.val % 4

/-- Where each window of grid point `t` stands. -/
theorem idx_point : ∀ t : Fin cfg0.N, ((grid0.coords t 2).val = t.val % 4)
    ∧ (win0_0.index t = ![t.val / 64, t.val % 4, t.val / 4 % 16 * 26 + 6])
    ∧ (win0_1.index t = ![t.val / 64, t.val % 4 - 1, t.val / 4 % 16 * 26 + 9])
    ∧ (win0_2.index t = ![t.val / 64, t.val % 4, t.val / 4 % 16 * 26 + 9])
    ∧ (win0_3.index t = ![t.val / 64, t.val % 4 - 1, t.val / 4 % 16 * 26 + 12])
    ∧ (win0_4.index t = ![t.val / 64, t.val % 4, t.val / 4 % 16 * 26 + 12])
    ∧ (win0_5.index t = ![0, 0, 0]) ∧ (win0_6.index t = ![0, 0, 0])
    ∧ (win0_7.index t = ![t.val / 64, t.val % 4, t.val / 4 % 16])
    ∧ (win0_8.index t = ![t.val / 64, t.val % 4, t.val / 4 % 16]) :=
  (by decide +kernel : ∀ t : Fin grid0.N, _)

/-- A block of the array the windows read: the projections' entries from row block `n` and column block `q` on. -/
theorem blk_at {n q : ℕ} (t : Fin cfg0.N) (x : Fin 3 → ℕ) (hx : x = ![t.val / 64, n, t.val / 4 % 16 * 26 + q]) (hn : n < 4) (hq : q < 26)
    (j : (⟨3, ![2, 512, 212992]⟩ : Shape).Idx) (r : Fin 128) (w : Fin 512) (h0 : (j 0).val = x 0 * 1 + 1 * 0)
    (h1 : (j 1).val = x 1 * 128 + 1 * r.val) (h2 : (j 2).val = x 2 * 512 + 1 * w.val) :
    V m c main_v25 j = zat (projections m c) (batch t) ((n * 128 + r.val) * 16 + residue t) (q * 512 + w.val) := by
  have ht := lt_of_lt_of_eq t.isLt (show cfg0.N = 128 from N_0)
  rw [at_block x hx j r w (batch t) ⟨n * 128 + r.val, by omega⟩ ⟨(t.val / 4 % 16 * 26 + q) * 512 + w.val, by omega⟩ h0 h1 h2 rfl rfl rfl]
  exact V_rows m c _ _ _ (residue t) (q * 512 + w.val) (by show t.val / 4 % 16 < 16; omega) (by omega)
    (by show (t.val / 4 % 16 * 26 + q) * 512 + w.val = t.val / 4 % 16 * 13312 + (q * 512 + w.val); omega)

theorem blk0 (t : Fin cfg0.N) (r : Fin 128) (w : Fin 512) : (iblk m c 0 t : Vec Ideal S1x128x512 .f32) (ix3 0 r w)
    = zat (projections m c) (batch t) ((block t * 128 + r.val) * 16 + residue t) (2048 + 0 + 2 * 512 + w.val) :=
  blk_at m c t _ (idx_point t).2.1 (by omega) (by omega) _ r w rfl rfl rfl

theorem blk1 (t : Fin cfg0.N) (r : Fin 128) (w : Fin 512) : (iblk m c 1 t : Vec Ideal S1x128x512 .f32) (ix3 0 r w)
    = zat (projections m c) (batch t) (((block t - 1) * 128 + r.val) * 16 + residue t) (2048 + 1536 + 2 * 512 + w.val) :=
  blk_at m c t _ (idx_point t).2.2.1 (by omega) (by omega) _ r w rfl rfl rfl

theorem blk2 (t : Fin cfg0.N) (r : Fin 128) (w : Fin 512) : (iblk m c 2 t : Vec Ideal S1x128x512 .f32) (ix3 0 r w)
    = zat (projections m c) (batch t) ((block t * 128 + r.val) * 16 + residue t) (2048 + 1536 + 2 * 512 + w.val) :=
  blk_at m c t _ (idx_point t).2.2.2.1 (by omega) (by omega) _ r w rfl rfl rfl

theorem blk3 (t : Fin cfg0.N) (r : Fin 128) (w : Fin 512) : (iblk m c 3 t : Vec Ideal S1x128x512 .f32) (ix3 0 r w)
    = zat (projections m c) (batch t) (((block t - 1) * 128 + r.val) * 16 + residue t) (2048 + 3072 + 2 * 512 + w.val) :=
  blk_at m c t _ (idx_point t).2.2.2.2.1 (by omega) (by omega) _ r w rfl rfl rfl

theorem blk4 (t : Fin cfg0.N) (r : Fin 128) (w : Fin 512) : (iblk m c 4 t : Vec Ideal S1x128x512 .f32) (ix3 0 r w)
    = zat (projections m c) (batch t) ((block t * 128 + r.val) * 16 + residue t) (2048 + 3072 + 2 * 512 + w.val) :=
  blk_at m c t _ (idx_point t).2.2.2.2.2.1 (by omega) (by omega) _ r w rfl rfl rfl

theorem blk5 (t : Fin cfg0.N) (h : Fin 4) (r k : Fin 128) : (iblk m c 5 t : Vec Ideal S4x128x128 .f32) (ix3 h r k) = biasPrev m c h r k := by
  have hi := (idx_point t).2.2.2.2.2.2.1
  show V m c main_v23 (((cfg0.win 5).blk t).view.emb (ix3 h r k)) = _
  rw [show ((cfg0.win 5).blk t).view.emb (ix3 h r k) = ix3 h r k from
    ext3 _ _ _ _ (off0 4 h.val (congrFun hi 0)) (off0 128 r.val (congrFun hi 1)) (off0 128 k.val (congrFun hi 2)), V_prev]
  exact masked_prev _ _ _ _ _ _ h r k

theorem blk6 (t : Fin cfg0.N) (h : Fin 4) (r k : Fin 128) : (iblk m c 6 t : Vec Ideal S4x128x128 .f32) (ix3 h r k) = biasCur m c h r k := by
  have hi := (idx_point t).2.2.2.2.2.2.2.1
  show V m c main_v24 (((cfg0.win 6).blk t).view.emb (ix3 h r k)) = _
  rw [show ((cfg0.win 6).blk t).view.emb (ix3 h r k) = ix3 h r k from
    ext3 _ _ _ _ (off0 4 h.val (congrFun hi 0)) (off0 128 r.val (congrFun hi 1)) (off0 128 k.val (congrFun hi 2)), V_cur]
  exact masked_cur _ _ _ _ _ _ h r k

/-- The outputs, as one array. -/
abbrev G7 : Vec Ideal S2x512x8192 .f32 := outArr 16 2 512 8192 (projections m c) (biasPrev m c) (biasCur m c)

/-- The log-sum-exps, as one array. -/
abbrev G8 : Vec Ideal S2x512x8192 .f32 := lseArr 16 2 512 8192 (projections m c) (biasPrev m c) (biasCur m c)

/-- An index of a result array from the block of a grid point. -/
theorem at_result (t : Fin cfg0.N) (x : Fin 3 → ℕ) (hx : x = ![t.val / 64, t.val % 4, t.val / 4 % 16]) (j : (⟨3, ![2, 512, 8192]⟩ : Shape).Idx)
    (r : Fin 128) (w : Fin 512) (h0 : (j 0).val = x 0 * 1 + 1 * 0) (h1 : (j 1).val = x 1 * 128 + 1 * r.val)
    (h2 : (j 2).val = x 2 * 512 + 1 * w.val) : j = ix3 (batch t) ⟨block t * 128 + r.val, by have := r.isLt; show t.val % 4 * 128 + _ < _; omega⟩
      ⟨residue t * 512 + w.val, by have := w.isLt; show t.val / 4 % 16 * 512 + _ < _; omega⟩ :=
  at_block x hx j r w _ _ _ h0 h1 h2 rfl rfl rfl

/-- What point `t` writes back is its block of the outputs. -/
theorem flushed7_eq (t : Fin cfg0.N) : (dats m 0 c).flushed 7 t = ((cfg0.win 7).blk t).view.read (Elt Ideal) (G7 m c) := by
  rw [flushed7]
  funext y
  obtain ⟨a, r, w, rfl⟩ : ∃ (a : Fin 1) (r : Fin 128) (w : Fin 512), y = ix3 a r w := ⟨y 0, y 1, y 2, eq_ix3 y⟩
  obtain rfl : a = 0 := Subsingleton.elim _ _
  show out0_7 _ _ _ _ _ _ _ _ (ix3 0 r w) = G7 m c (((cfg0.win 7).blk t).view.emb (ix3 0 r w))
  rw [at_result t _ (idx_point t).2.2.2.2.2.2.2.2.1 (((cfg0.win 7).blk t).view.emb (ix3 0 r w)) r w rfl rfl rfl]
  refine Eq.trans ?_ (outArr_apply 8192 _ _ _ 16 2 512 _ _ _ (residue t) (block t) (Cert.Dil0Ideal.Value.headOf w) r (Cert.Dil0Ideal.Value.inHead w) rfl
      (congrArg (residue t * 512 + ·) (column w))).symm
  exact (congrFun (out7_eq _ _ _ _ _ _ _ _) _).trans (block_attend (Cert.Dil0Ideal.Value.point ((grid0.coords t 2 : Fin 4).castLE (by decide))) (idx_point t).1 (blk0 m c t) (blk1 m c t) (blk2 m c t) (blk3 m c t) (blk4 m c t) (blk5 m c t)
    (blk6 m c t) r w)

/-- What point `t` writes back is its block of the log-sum-exps. -/
theorem flushed8_eq (t : Fin cfg0.N) : (dats m 0 c).flushed 8 t = ((cfg0.win 8).blk t).view.read (Elt Ideal) (G8 m c) := by
  rw [flushed8]
  funext y
  obtain ⟨a, r, w, rfl⟩ : ∃ (a : Fin 1) (r : Fin 128) (w : Fin 512), y = ix3 a r w := ⟨y 0, y 1, y 2, eq_ix3 y⟩
  obtain rfl : a = 0 := Subsingleton.elim _ _
  show out0_8 _ _ _ _ _ _ _ _ (ix3 0 r w) = G8 m c (((cfg0.win 8).blk t).view.emb (ix3 0 r w))
  rw [at_result t _ (idx_point t).2.2.2.2.2.2.2.2.2 (((cfg0.win 8).blk t).view.emb (ix3 0 r w)) r w rfl rfl rfl]
  refine Eq.trans ?_ (lseArr_apply 8192 _ _ _ 16 2 512 _ _ _ (residue t) (block t) (Cert.Dil0Ideal.Value.headOf w) r (Cert.Dil0Ideal.Value.inHead w) rfl
      (congrArg (residue t * 512 + ·) (column w))).symm
  exact (congrFun (out8_eq _ _ _ _ _ _ _ _) _).trans (block_attendLse (Cert.Dil0Ideal.Value.point ((grid0.coords t 2 : Fin 4).castLE (by decide))) (idx_point t).1 (blk0 m c t) (blk1 m c t) (blk2 m c t) (blk5 m c t) (blk6 m c t) r w)

/-- Every index of a result array is in the block of the grid point of its batch, residue class and row block. -/
theorem covered (i : (⟨3, ![2, 512, 8192]⟩ : Shape).Idx) : ∃ t : Fin cfg0.N, ∀ x : Fin 3 → ℕ, x = ![t.val / 64, t.val % 4, t.val / 4 % 16] →
    (x 0 * 1 ≤ (i 0).val ∧ (i 0).val < x 0 * 1 + 1) ∧ (x 1 * 128 ≤ (i 1).val ∧ (i 1).val < x 1 * 128 + 128)
      ∧ (x 2 * 512 ≤ (i 2).val ∧ (i 2).val < x 2 * 512 + 512) := by
  have h0 : (i 0).val < 2 := (i 0).isLt
  have h1 : (i 1).val < 512 := (i 1).isLt
  have h2 : (i 2).val < 8192 := (i 2).isLt
  refine ⟨⟨(i 0).val * 64 + (i 2).val / 512 * 4 + (i 1).val / 128, lt_of_lt_of_eq (by omega) (show cfg0.N = 128 from N_0).symm⟩, ?_⟩
  rintro x rfl
  refine ⟨?_, ?_, ?_⟩
  · show ((i 0).val * 64 + (i 2).val / 512 * 4 + (i 1).val / 128) / 64 * 1 ≤ _ ∧ _ < ((i 0).val * 64 + (i 2).val / 512 * 4 + (i 1).val / 128) / 64 * 1 + 1
    omega
  · show ((i 0).val * 64 + (i 2).val / 512 * 4 + (i 1).val / 128) % 4 * 128 ≤ _ ∧ _ < ((i 0).val * 64 + (i 2).val / 512 * 4 + (i 1).val / 128) % 4 * 128 + 128
    omega
  · show ((i 0).val * 64 + (i 2).val / 512 * 4 + (i 1).val / 128) / 4 % 16 * 512 ≤ _ ∧ _ < ((i 0).val * 64 + (i 2).val / 512 * 4 + (i 1).val / 128) / 4 % 16 * 512 + 512
    omega

theorem cover7 (i : (⟨3, ![2, 512, 8192]⟩ : Shape).Idx) : ∃ t : Fin cfg0.N, (cfg0.win 7).flush t = true ∧ i ∈ ((cfg0.win 7).blk t).view.set := by
  obtain ⟨t, ht⟩ := covered i
  obtain ⟨h0, h1, h2⟩ := ht _ (idx_point t).2.2.2.2.2.2.2.2.1
  refine ⟨t, (by decide +kernel : ∀ t : Fin grid0.N, win0_7.flush t = true) t, ?_⟩
  show i ∈ ((View.whole main_v26_0).slice (win0_7.rect t)).set
  rw [View.set_slice_whole, Rect.mem_set_unit]
  intro a
  match a with
  | ⟨0, _⟩ => exact h0
  | ⟨1, _⟩ => exact h1
  | ⟨2, _⟩ => exact h2

theorem cover8 (i : (⟨3, ![2, 512, 8192]⟩ : Shape).Idx) : ∃ t : Fin cfg0.N, (cfg0.win 8).flush t = true ∧ i ∈ ((cfg0.win 8).blk t).view.set := by
  obtain ⟨t, ht⟩ := covered i
  obtain ⟨h0, h1, h2⟩ := ht _ (idx_point t).2.2.2.2.2.2.2.2.2
  refine ⟨t, (by decide +kernel : ∀ t : Fin grid0.N, win0_8.flush t = true) t, ?_⟩
  show i ∈ ((View.whole main_v26_1).slice (win0_8.rect t)).set
  rw [View.set_slice_whole, Rect.mem_set_unit]
  intro a
  match a with
  | ⟨0, _⟩ => exact h0
  | ⟨1, _⟩ => exact h1
  | ⟨2, _⟩ => exact h2

/-- The first result array ends holding the outputs. -/
theorem final7 : (dats m 0 c).arrAt 7 cfg0.N = G7 m c :=
  (dats m 0 c).arrAt_eq_of_cover 7 (G7 m c) (fun t _ => flushed7_eq m c t) cover7

/-- The second result array ends holding the log-sum-exps. -/
theorem final8 : (dats m 0 c).arrAt 8 cfg0.N = G8 m c :=
  (dats m 0 c).arrAt_eq_of_cover 8 (G8 m c) (fun t _ => flushed8_eq m c t) cover8

end Cert.Dil2Ideal.Value

namespace Cert.Dil2RefIdeal.Value

open Cert.Dil2RefIdeal Cert.Dil2RefIdeal.Gen

variable (m : (ℓ : Loc nD τ sig) → Buf (Elt Ideal) ℓ) (c : Dev nD)

/-- The reference's table of buckets is the kernel's. -/
theorem buckets_eq : lit0 = Cert.Dil2Ideal.lit0 := rfl

/-- The reference's position biases are the kernel's. -/
theorem bias_eq (x : FVec Ideal ⟨2, ![32, 12]⟩ .f32) : posBias 8 slices_S32x12_S32x4_0_8 bcast_S_S128x256 bcast_S128x256_S128x256x1_0_1
    gather_S32x4_S128x256x1_S128x256x4_2_0_n_n_0_2_14 transposes_S128x256x4_S4x128x256_2_0_1 (fun i => lit0 (S128x256.rowMajor i)) x
      = Cert.Dil2Ideal.Value.biases x := by
  rw [buckets_eq]
  rfl

/-- The reference's scores, in their stages. -/
def refS (z : FVec Ideal Z .f32) (x : FVec Ideal ⟨2, ![32, 12]⟩ .f32) : FVec Ideal (Sc 16 4 256) .f32 :=
  refScores (D := 16) (N := 4) (L := 512) (P := 640) (g := 2)
    slices_S2x8192x13312_S2x8192x4608_0_0_2048 slices_S2x8192x4608_S2x8192x1536_0_0_0 slices_S2x8192x4608_S2x8192x1536_0_0_1536
    shapeCasts_S2x8192x1536_S2x8192x3x4x128 slices_S2x8192x3x4x128_S2x8192x1x4x128_0_0_2_0_0 shapeCasts_S2x8192x1x4x128_S2x8192x4x128
    shapeCasts_S2x8192x4x128_S2x512x16x4x128 transposes_S2x512x16x4x128_S2x16x512x4x128_0_2_1_3_4
    pads_S2x16x512x4x128_S2x16x512x4x128_000_000_000_000_000 h_S_
    shapeCasts_S2x16x512x4x128_S2x16x4x128x4x128 pads_S2x16x512x4x128_S2x16x640x4x128_000_000_12800_000_000
    slices_S2x16x640x4x128_S2x16x512x4x128_0_0_0_0_0 slices_S2x16x640x4x128_S2x16x512x4x128_0_0_128_0_0
    concatenates_S2x16x4x128x4x128_S2x16x4x128x4x128_S2x16x4x256x4x128_d3
    bcast_S128x256_S1x128x256_1_2 bcast_S1x128x256_S4x128x256_0_1_2 bcast_S_S4x128x256
    bcast_S4x128x256_S4x1x128x256_0_2_3 bcast_S4x1x128x256_S2x16x4x4x128x256_2_3_4_5
    dot_S2x16x4x128x4x128_S2x16x4x256x4x128_S2x16x4x4x128x256_5_5_3_3_0124_0124_wf
    bcast_S_S2x16x4x4x128x256 bcast_S4x128x256_S1x1x1x4x128x256_3_4_5
    bcast_S1x1x1x4x128x256_S2x16x4x4x128x256_0_1_2_3_4_5 z (inWindow bcast_S128_S128x1_0 bcast_S_S128x1 bcast_S256_S1x256_1 bcast_S128x1_S128x256_0_1 bcast_S1x256_S128x256_0_1 bcast_S_S128x256)
    (posBias 8 slices_S32x12_S32x4_0_8 bcast_S_S128x256 bcast_S128x256_S128x256x1_0_1
      gather_S32x4_S128x256x1_S128x256x4_2_0_n_n_0_2_14 transposes_S128x256x4_S4x128x256_2_0_1 (fun i => lit0 (S128x256.rowMajor i)) x)

/-- The reference's outputs, in their stages. -/
theorem out_eq : res_out0 m c = unstrideOut
    shapeCasts_S2x16x4x128x4x128_S2x16x512x4x128 transposes_S2x16x512x4x128_S2x512x16x4x128_0_2_1_3_4
    shapeCasts_S2x512x16x4x128_S2x8192x4x128 shapeCasts_S2x8192x4x128_S2x512x8192
    (outs dot_S2x16x4x256x4x128_S2x16x4x4x128x256_S2x16x4x4x128x128_3_5_5_4_0124_0123_wf
      transposes_S2x16x4x4x128x128_S2x16x4x128x4x128_0_1_2_5_3_4 transposes_S2x16x4x4x128_S2x16x4x128x4_0_1_2_4_3
      bcast_S2x16x4x128x4_S2x16x4x128x4x1_0_1_2_3_4 bcast_S2x16x4x128x4x1_S2x16x4x128x4x128_0_1_2_3_4_5
      (windows pads_S2x16x512x4x128_S2x16x640x4x128_000_000_12800_000_000 h_S_
        slices_S2x16x640x4x128_S2x16x512x4x128_0_0_0_0_0 slices_S2x16x640x4x128_S2x16x512x4x128_0_0_128_0_0
        shapeCasts_S2x16x512x4x128_S2x16x4x128x4x128
        concatenates_S2x16x4x128x4x128_S2x16x4x128x4x128_S2x16x4x256x4x128_d3
        (strided shapeCasts_S2x8192x4x128_S2x512x16x4x128 transposes_S2x512x16x4x128_S2x16x512x4x128_0_2_1_3_4
          (heads 3072 2 slices_S2x8192x13312_S2x8192x4608_0_0_2048 slices_S2x8192x4608_S2x8192x1536_0_0_3072
            shapeCasts_S2x8192x1536_S2x8192x3x4x128 slices_S2x8192x3x4x128_S2x8192x1x4x128_0_0_2_0_0
            shapeCasts_S2x8192x1x4x128_S2x8192x4x128 (m ((c : Thread nD τ).loc main_arg0)))))
      (exps bcast_S2x16x4x4x128_S2x16x4x4x128x1_0_1_2_3_4 bcast_S2x16x4x4x128x1_S2x16x4x4x128x256_0_1_2_3_4_5
        (refS (m ((c : Thread nD τ).loc main_arg0)) (m ((c : Thread nD τ).loc main_arg1)))
        (tops reducesTo_S2x16x4x4x128x256_S2x16x4x4x128_d5 h_S_
          (refS (m ((c : Thread nD τ).loc main_arg0)) (m ((c : Thread nD τ).loc main_arg1)))))
      (sums reducesTo_S2x16x4x4x128x256_S2x16x4x4x128_d5 h_S_
        (exps bcast_S2x16x4x4x128_S2x16x4x4x128x1_0_1_2_3_4 bcast_S2x16x4x4x128x1_S2x16x4x4x128x256_0_1_2_3_4_5
          (refS (m ((c : Thread nD τ).loc main_arg0)) (m ((c : Thread nD τ).loc main_arg1)))
          (tops reducesTo_S2x16x4x4x128x256_S2x16x4x4x128_d5 h_S_
            (refS (m ((c : Thread nD τ).loc main_arg0)) (m ((c : Thread nD τ).loc main_arg1))))))) := rfl

/-- The reference's log-sum-exps, in their stages. -/
theorem lse_eq : res_out1 m c = unstrideLse
    shapeCasts_S2x16x4x128x4_S2x16x512x4 transposes_S2x16x512x4_S2x512x16x4_0_2_1_3 shapeCasts_S2x512x16x4_S2x8192x4
    bcast_S2x8192x4_S2x8192x4x1_0_1_2 bcast_S2x8192x4x1_S2x8192x4x128_0_1_2_3 shapeCasts_S2x8192x4x128_S2x512x8192
    (lses bcast_S2x16x4x4x128_S2x16x4x4x128x1_0_1_2_3_4 shapeCasts_S2x16x4x4x128x1_S2x16x4x4x128
      transposes_S2x16x4x4x128_S2x16x4x128x4_0_1_2_4_3
      (tops reducesTo_S2x16x4x4x128x256_S2x16x4x4x128_d5 h_S_
        (refS (m ((c : Thread nD τ).loc main_arg0)) (m ((c : Thread nD τ).loc main_arg1))))
      (sums reducesTo_S2x16x4x4x128x256_S2x16x4x4x128_d5 h_S_
        (exps bcast_S2x16x4x4x128_S2x16x4x4x128x1_0_1_2_3_4 bcast_S2x16x4x4x128x1_S2x16x4x4x128x256_0_1_2_3_4_5
          (refS (m ((c : Thread nD τ).loc main_arg0)) (m ((c : Thread nD τ).loc main_arg1)))
          (tops reducesTo_S2x16x4x4x128x256_S2x16x4x4x128_d5 h_S_
            (refS (m ((c : Thread nD τ).loc main_arg0)) (m ((c : Thread nD τ).loc main_arg1))))))) := rfl

/-- From memories that agree on the arguments, the reference's outputs are the array the kernel leaves. -/
theorem out_values (m : (ℓ : Loc Cert.Dil2Ideal.nD Cert.Dil2Ideal.τ Cert.Dil2Ideal.sig) → Buf (Elt Ideal) ℓ)
    (m' : (ℓ : Loc nD τ sig) → Buf (Elt Ideal) ℓ) (c : Dev nD)
    (h0 : m' ((c.tc : Thread nD τ).loc main_arg0) = m ((c.tc : Thread Cert.Dil2Ideal.nD Cert.Dil2Ideal.τ).loc Cert.Dil2Ideal.main_arg0))
    (h1 : m' ((c.tc : Thread nD τ).loc main_arg1) = m ((c.tc : Thread Cert.Dil2Ideal.nD Cert.Dil2Ideal.τ).loc Cert.Dil2Ideal.main_arg1)) :
    res_out0 m' c = Cert.Dil2Ideal.Value.G7 m c := by
  funext i
  obtain ⟨b, l, w, rfl⟩ : ∃ (b : Fin 2) (l : Fin 512) (w : Fin 8192), i = ix3 b l w := ⟨i 0, i 1, i 2, eq_ix3 i⟩
  rw [out_eq, h0, h1]
  unfold refS
  rw [bias_eq, show inWindow bcast_S128_S128x1_0 bcast_S_S128x1 bcast_S256_S1x256_1 bcast_S128x1_S128x256_0_1 bcast_S1x256_S128x256_0_1 bcast_S_S128x256 = Cert.Dil2Ideal.Value.window from rfl]
  exact refOut_apply (by decide) (by decide) (by decide) (by decide) (by decide) (by decide) _ _ (Cert.Dil2Ideal.Value.biases _) _ rfl b l w
    ⟨w.val / 512, by omega⟩ ⟨l.val / 128, by omega⟩ ⟨l.val % 128, by omega⟩ ⟨w.val % 512 / 128, by omega⟩ ⟨w.val % 128, by omega⟩
    (by show l.val = l.val / 128 * 128 + l.val % 128; omega)
    (by show w.val = w.val / 512 * 512 + (w.val % 512 / 128 * 128 + w.val % 128); omega)

/-- From memories that agree on the arguments, the reference's log-sum-exps are the array the kernel leaves. -/
theorem lse_values (m : (ℓ : Loc Cert.Dil2Ideal.nD Cert.Dil2Ideal.τ Cert.Dil2Ideal.sig) → Buf (Elt Ideal) ℓ)
    (m' : (ℓ : Loc nD τ sig) → Buf (Elt Ideal) ℓ) (c : Dev nD)
    (h0 : m' ((c.tc : Thread nD τ).loc main_arg0) = m ((c.tc : Thread Cert.Dil2Ideal.nD Cert.Dil2Ideal.τ).loc Cert.Dil2Ideal.main_arg0))
    (h1 : m' ((c.tc : Thread nD τ).loc main_arg1) = m ((c.tc : Thread Cert.Dil2Ideal.nD Cert.Dil2Ideal.τ).loc Cert.Dil2Ideal.main_arg1)) :
    res_out1 m' c = Cert.Dil2Ideal.Value.G8 m c := by
  funext i
  obtain ⟨b, l, w, rfl⟩ : ∃ (b : Fin 2) (l : Fin 512) (w : Fin 8192), i = ix3 b l w := ⟨i 0, i 1, i 2, eq_ix3 i⟩
  rw [lse_eq, h0, h1]
  unfold refS
  rw [bias_eq, show inWindow bcast_S128_S128x1_0 bcast_S_S128x1 bcast_S256_S1x256_1 bcast_S128x1_S128x256_0_1 bcast_S1x256_S128x256_0_1 bcast_S_S128x256 = Cert.Dil2Ideal.Value.window from rfl]
  exact refLse_apply (by decide) (by decide) (by decide) (by decide) (by decide) (by decide) _ _ (Cert.Dil2Ideal.Value.biases _) _ rfl b l w
    ⟨w.val / 512, by omega⟩ ⟨l.val / 128, by omega⟩ ⟨l.val % 128, by omega⟩ ⟨w.val % 512 / 128, by omega⟩ ⟨w.val % 128, by omega⟩
    (by show l.val = l.val / 128 * 128 + l.val % 128; omega)
    (by show w.val = w.val / 512 * 512 + (w.val % 512 / 128 * 128 + w.val % 128); omega)

end Cert.Dil2RefIdeal.Value
-- ==== Proof.FfnBlock.lean ====
/-
  The feed-forward half step, point by point: what the kernel's body keeps and leaves, and its blocks in the argument arrays.
-/
module

public import proofs.«01_k».proof.Proof.Gen.FfnIdeal.Value
public import proofs.«01_k».proof.Proof.Dil2Whole
public import Idealize.ShloMosaic.Lib.StableHlo.ReadAt
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.RowNorm

/-- A row of 1024 entries scaled by the reciprocal root of its mean square (plus 1e-6), times the weights `w`. -/
def normed (x w : Fin 1024 → EReal) (k : Fin 1024) : EReal :=
  x k * Ideal.rsqrt (Ideal.div (∑ j, x j * x j) (Ideal.ofBits .f32 0x44800000#32) + Ideal.ofBits .f32 0x358637BD#32) * w k

end Cert.RowNorm

namespace Cert.FfnSpec

open Cert.RowNorm

/-- A hidden unit: the gate `g` times its logistic, times `u`. -/
def unit (g u : EReal) : EReal := g * Ideal.logistic g * u

/-- What one hidden unit, with weights `wg`, `wu` into it and `wd` out of it, adds for a normalized row `h`. -/
def term (h wg wu : Fin 1024 → EReal) (wd : EReal) : EReal := unit (∑ k, h k * wg k) (∑ k, h k * wu k) * wd

/-- The activations after the half step, of token `t` at feature `e`: the residual entry plus half the feed-forward's
    output, a sum over the 2816 hidden units. The first half of `wgu`'s columns are the gates' weights. -/
def result (x : Fin 16384 → Fin 1024 → EReal) (nw : Fin 1024 → EReal) (wgu : Fin 1024 → Fin 5632 → EReal)
    (wd : Fin 2816 → Fin 1024 → EReal) (t : Fin 16384) (e : Fin 1024) : EReal :=
  x t e + Ideal.ofBits .f32 0x3F000000#32 *
    ∑ f : Fin 2816, term (normed (x t) nw) (fun k => wgu k ⟨f.val, by omega⟩) (fun k => wgu k ⟨2816 + f.val, by omega⟩) (wd f e)

/-- A sum over the 2816 hidden units, taken in two halves from zero. -/
theorem sum_halves (f : Fin 2816 → EReal) :
    (0 + ∑ k : Fin 1408, f ⟨k.val, by omega⟩) + ∑ k : Fin 1408, f ⟨1408 + k.val, by omega⟩ = ∑ k, f k := by
  rw [zero_add]
  exact (Fin.sum_univ_add (a := 1408) (b := 1408) f).symm

end Cert.FfnSpec

namespace Cert.FfnIdeal.Value

open Cert.FfnIdeal Cert.FfnIdeal.Gen Cert.FfnSpec Cert.RowNorm Cert.Index

/-! ## The payloads at an index -/

theorem pay1_apply (x : Vec Ideal S512x1024 .f32) (w : Vec Ideal S1x1024 .f32) (r : Fin 512) (k : Fin 1024) :
    k0_pay1 x w (ix2 r k) = normed (fun j => x (ix2 r j)) (fun j => w (ix2 0 j)) k := by
  unfold normed
  pointwise [k0_pay1]

theorem pay2_apply (r : Fin 512) (e : Fin 1024) : k0_pay2 (F := Ideal) (ix2 r e) = (0 : EReal) := by
  pointwise [k0_pay2]

theorem pay3_apply (h : Vec Ideal S512x1024 .bf16) (wg wu : Vec Ideal S1024x1408 .bf16) (acc : Vec Ideal S512x1024 .f32)
    (wd : Vec Ideal S1408x1024 .bf16) (r : Fin 512) (e : Fin 1024) :
    k0_pay3 h wg wu acc wd (ix2 r e) = acc (ix2 r e)
      + ∑ f : Fin 1408, term (fun k => h (ix2 r k)) (fun k => wg (ix2 k f)) (fun k => wu (ix2 k f)) (wd (ix2 f e)) := by
  unfold term unit
  pointwise [k0_pay3]

theorem pay4_apply (x acc : Vec Ideal S512x1024 .f32) (r : Fin 512) (e : Fin 1024) :
    k0_pay4 x acc (ix2 r e) = x (ix2 r e) + Ideal.ofBits .f32 0x3F000000#32 * acc (ix2 r e) := by
  pointwise [k0_pay4]

/-! ## What the two kinds of points leave -/

theorem hz : (![0, 0] : Fin 2 → Nat) = fun _ => 0 := funext fun a => by fin_cases a <;> rfl

section Cases

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1024x1408 .bf16) (h4 : a4.IsWhole) (a5 : Memref sig .tc .vmem S1024x1408 .bf16) (h5 : a5.IsWhole)
  (a6 : Memref sig .tc .vmem S1408x1024 .bf16) (h6 : a6.IsWhole) (a7 : Memref sig .tc .vmem S512x1024 .f32) (h7 : a7.IsWhole)
  (a8 : Memref sig .tc .vmem S512x1024 .bf16) (h8 : a8.IsWhole) (a9 : Memref sig .tc .vmem S512x1024 .f32) (h9 : a9.IsWhole)
  (x : Vec Ideal S512x1024 .f32) (nw : Vec Ideal S1x1024 .f32) (wg wu : Vec Ideal S1024x1408 .bf16) (wd : Vec Ideal S1408x1024 .bf16)

/-- A row block's first point keeps the normalized rows. -/
theorem first_rows (hc0 : cond0_0 i) (hc1 : ¬cond0_1 i) :
    sout0_A_0 c i a2 h2 a3 h3 a4 h4 a5 h5 a6 h6 a7 h7 a8 h8 a9 h9 hc0 hc1 x nw wg wu wd = k0_pay1 x nw := by
  unfold sout0_A_0
  rw [View.read_writes_eq_canon _ _ _ (scover0_A_0 c i a2 h2 a3 h3 a4 h4 a5 h5 a6 h6 a7 h7 a8 h8 a9 h9 hc0 hc1 x nw wg wu wd)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz]

/-- It also keeps the first half of the hidden units' sum. -/
theorem first_sum (hc0 : cond0_0 i) (hc1 : ¬cond0_1 i) :
    sout0_A_1 c i a2 h2 a3 h3 a4 h4 a5 h5 a6 h6 a7 h7 a8 h8 a9 h9 hc0 hc1 x nw wg wu wd
      = k0_pay3 (k0_pay1 x nw) wg wu (k0_pay2 (F := Ideal)) wd := by
  unfold sout0_A_1
  rw [View.read_writes_eq_canon _ _ _ (scover0_A_1 c i a2 h2 a3 h3 a4 h4 a5 h5 a6 h6 a7 h7 a8 h8 a9 h9 hc0 hc1 x nw wg wu wd)]
  unfold kernelRun0_A
  dsimp only
  sl_unfold_words
  rw [View.canon_cons_unit_zero (S := S512x1024) hz, View.readCov_unit_zero (S := S512x1024) _ hz,
    View.readCov_unit_zero (S := S512x1024) _ hz]
  simp only [View.readAt_eq_ld, h2.read_unread, h3.read_unread, h4.read_unread, h5.read_unread, h6.read_unread,
    View.ld_unit_zero (S := S512x1024) hz, View.ld_unit_zero (S := S1x1024) hz, View.ld_unit_zero (S := S1024x1408) hz,
    View.ld_unit_zero (S := S1408x1024) hz]

/-- A row block's second point adds the other half and leaves the residual plus half the sum. -/
theorem second_out (hc0 : ¬cond0_0 i) (hc1 : cond0_1 i) (h : Vec Ideal S512x1024 .bf16) (acc : Vec Ideal S512x1024 .f32) :
    out0_B_5 c i a2 h2 a3 h3 a4 h4 a5 h5 a6 h6 a7 h7 a8 h8 a9 h9 hc0 hc1 x nw wg wu wd h acc
      = k0_pay4 x (k0_pay3 h wg wu acc wd) := by
  unfold out0_B_5
  rw [View.read_writes_eq_canon _ _ _ (cover0_B_5 c i a2 h2 a3 h3 a4 h4 a5 h5 a6 h6 a7 h7 a8 h8 a9 h9 hc0 hc1 x nw wg wu wd h acc)]
  unfold kernelRun0_B
  dsimp only
  sl_unfold_words
  rw [View.canon_unit_zero hz, View.readCov_unit_zero (S := S512x1024) _ hz]
  simp only [View.readAt_eq_ld, h2.read_unread, h4.read_unread, h5.read_unread, h6.read_unread, h8.read_unread, h9.read_unread,
    View.ld_unit_zero (S := S512x1024) hz, View.ld_unit_zero (S := S1024x1408) hz, View.ld_unit_zero (S := S1408x1024) hz]

end Cases

/-! ## The blocks, read off the argument arrays -/

variable (m : (ℓ : Loc nD τ sig) → Buf (Elt Ideal) ℓ) (c : Dev nD)

/-- The index maps, decided over the grid: points `2 i` and `2 i + 1` work on row block `i`, on the first and on the second
    half of the hidden units; the gates' weights are the first two column blocks, the others' the last two. -/
theorem idx_blocks : ∀ t : Fin cfg0.N,
    (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = 2 + t.val % 2)
    ∧ (win0_4.index t (0 : Fin 2) = t.val % 2 ∧ win0_4.index t (1 : Fin 2) = 0)
    ∧ (win0_5.index t (0 : Fin 2) = t.val / 2 ∧ win0_5.index t (1 : Fin 2) = 0) :=
  (by decide +kernel : ∀ t : Fin grid0.N, _)

/-- Row `r` of the row block of point `t`. -/
abbrev row (t : Fin cfg0.N) (r : Fin 512) : Fin 16384 :=
  ⟨t.val / 2 * 512 + r.val, by have := lt_of_lt_of_eq t.isLt (show cfg0.N = 64 from N_0); omega⟩

/-- Hidden unit `f` of the half of point `t`. -/
abbrev half (t : Fin cfg0.N) (f : Fin 1408) : Fin 2816 := ⟨t.val % 2 * 1408 + f.val, by omega⟩

theorem blk0 (t : Fin cfg0.N) (r : Fin 512) (k : Fin 1024) :
    (iblk m c 0 t : Vec Ideal S512x1024 .f32) (ix2 r k) = (m ((c : Thread nD τ).loc main_arg0) : Vec Ideal S16384x1024 .f32) (ix2 (row t r) k) :=
  (congrFun (V_main_arg0 m c) _).trans
    (congrArg _ (ext2 _ _ _ (off 512 r.val (idx_blocks t).1.1) (off0 1024 k.val (idx_blocks t).1.2)))

theorem blk1 (t : Fin cfg0.N) (k : Fin 1024) :
    (iblk m c 1 t : Vec Ideal S1x1024 .f32) (ix2 0 k) = (m ((c : Thread nD τ).loc main_arg1) : Vec Ideal S1024 .f32) (ix1 k) := by
  have hi := (idx_blocks t).2.1
  show V m c main_v0 (((cfg0.win 1).blk t).view.emb (ix2 0 k)) = _
  rw [show ((cfg0.win 1).blk t).view.emb (ix2 0 k) = ix2 0 k from
    ext2 _ _ _ (off0 1 0 hi.1) (off0 1024 k.val hi.2)]
  unfold V hostOps0
  after_reads_simp
  pointwise

theorem blk2 (t : Fin cfg0.N) (k : Fin 1024) (f : Fin 1408) :
    (iblk m c 2 t : Vec Ideal S1024x1408 .bf16) (ix2 k f)
      = (m ((c : Thread nD τ).loc main_arg2) : Vec Ideal S1024x5632 .f32) (ix2 k ⟨(half t f).val, by omega⟩) := by
  have hi := (idx_blocks t).2.2.1
  show V m c main_v1 (((cfg0.win 2).blk t).view.emb (ix2 k f)) = _
  rw [show ((cfg0.win 2).blk t).view.emb (ix2 k f) = ix2 k ⟨(half t f).val, by omega⟩ from
    ext2 _ _ _ (off0 1024 k.val hi.1) (off 1408 f.val hi.2)]
  unfold V hostOps0
  after_reads_simp
  pointwise

theorem blk3 (t : Fin cfg0.N) (k : Fin 1024) (f : Fin 1408) :
    (iblk m c 3 t : Vec Ideal S1024x1408 .bf16) (ix2 k f)
      = (m ((c : Thread nD τ).loc main_arg2) : Vec Ideal S1024x5632 .f32) (ix2 k ⟨2816 + (half t f).val, by omega⟩) := by
  have hi := (idx_blocks t).2.2.2.1
  show V m c main_v1 (((cfg0.win 3).blk t).view.emb (ix2 k f)) = _
  rw [show ((cfg0.win 3).blk t).view.emb (ix2 k f) = ix2 k ⟨2816 + (half t f).val, by omega⟩ from
    ext2 _ _ _ (off0 1024 k.val hi.1) ((off 1408 f.val hi.2).trans (by show _ = 2816 + (t.val % 2 * 1408 + f.val); omega))]
  unfold V hostOps0
  after_reads_simp
  pointwise

theorem blk4 (t : Fin cfg0.N) (f : Fin 1408) (e : Fin 1024) :
    (iblk m c 4 t : Vec Ideal S1408x1024 .bf16) (ix2 f e)
      = (m ((c : Thread nD τ).loc main_arg3) : Vec Ideal S2816x1024 .f32) (ix2 (half t f) e) := by
  have hi := (idx_blocks t).2.2.2.2.1
  show V m c main_v2 (((cfg0.win 4).blk t).view.emb (ix2 f e)) = _
  rw [show ((cfg0.win 4).blk t).view.emb (ix2 f e) = ix2 (half t f) e from
    ext2 _ _ _ (off 1408 f.val hi.1) (off0 1024 e.val hi.2)]
  unfold V hostOps0
  after_reads_simp
  pointwise

/-! ## The whole result array -/

/-- The result, as contents of the output array. -/
def G : Vec Ideal S16384x1024 .f32 := fun i =>
  result (fun t e => (m ((c : Thread nD τ).loc main_arg0) : Vec Ideal S16384x1024 .f32) (ix2 t e))
    (fun k => (m ((c : Thread nD τ).loc main_arg1) : Vec Ideal S1024 .f32) (ix1 k))
    (fun k f => (m ((c : Thread nD τ).loc main_arg2) : Vec Ideal S1024x5632 .f32) (ix2 k f))
    (fun f e => (m ((c : Thread nD τ).loc main_arg3) : Vec Ideal S2816x1024 .f32) (ix2 f e)) (i 0) (i 1)

/-- What a row block's first point keeps. -/
theorem first_keeps (t : Fin cfg0.N) (h0 : t.val % 2 = 0) : (outsAt0 m c t.val t.isLt).2
    = (k0_pay1 (iblk m c 0 t) (iblk m c 1 t),
       k0_pay3 (k0_pay1 (iblk m c 0 t) (iblk m c 1 t)) (iblk m c 2 t) (iblk m c 3 t) (k0_pay2 (F := Ideal)) (iblk m c 4 t)) := by
  rw [outsAt0_A m c t h0 (by omega)]
  dsimp only
  rw [first_rows, first_sum]

/-- The part of one point's half of the hidden units, read off the argument arrays. -/
theorem part_eq (s : Fin cfg0.N) (r : Fin 512) (e : Fin 1024) (f : Fin 1408) (g : Fin 2816)
    (hg : half s f = g) :
    term (fun k => k0_pay1 (iblk m c 0 s) (iblk m c 1 s) (ix2 r k)) (fun k => (iblk m c 2 s : Vec Ideal S1024x1408 .bf16) (ix2 k f))
        (fun k => (iblk m c 3 s : Vec Ideal S1024x1408 .bf16) (ix2 k f)) ((iblk m c 4 s : Vec Ideal S1408x1024 .bf16) (ix2 f e))
      = term (normed (fun k => (m ((c : Thread nD τ).loc main_arg0) : Vec Ideal S16384x1024 .f32) (ix2 (row s r) k))
            (fun k => (m ((c : Thread nD τ).loc main_arg1) : Vec Ideal S1024 .f32) (ix1 k)))
          (fun k => (m ((c : Thread nD τ).loc main_arg2) : Vec Ideal S1024x5632 .f32) (ix2 k ⟨g.val, by omega⟩))
          (fun k => (m ((c : Thread nD τ).loc main_arg2) : Vec Ideal S1024x5632 .f32) (ix2 k ⟨2816 + g.val, by omega⟩))
          ((m ((c : Thread nD τ).loc main_arg3) : Vec Ideal S2816x1024 .f32) (ix2 g e)) := by
  subst hg
  simp only [pay1_apply, blk0, blk1, blk2, blk3, blk4]

/-- What a writing point `t` writes back is block `t` of the result. -/
theorem flushed_G (t : Fin cfg0.N) (hf : (cfg0.win 5).flush t = true) :
    (dats m 0 c).flushed 5 t = ((cfg0.win 5).blk t).view.read (Elt Ideal) (G m c) := by
  have h1 : t.val % 2 = 1 := (flush0_5 t).mp hf
  have hp : t.val - 1 < cfg0.N := Nat.lt_of_le_of_lt (Nat.sub_le _ _) t.isLt
  let s : Fin cfg0.N := ⟨t.val - 1, hp⟩
  have hs : s.val % 2 = 0 := by show (t.val - 1) % 2 = 0; omega
  have hk : (outsAt0 m c (t.val - 1) hp).2 = _ := first_keeps m c s hs
  have hrow : ∀ r, row s r = row t r := fun r => Fin.ext (by show (t.val - 1) / 2 * 512 + r.val = t.val / 2 * 512 + r.val; omega)
  have hh : ∀ r k, k0_pay1 (iblk m c 0 s) (iblk m c 1 s) (ix2 r k) = k0_pay1 (iblk m c 0 t) (iblk m c 1 t) (ix2 r k) := fun r k => by
    simp only [pay1_apply, blk0, blk1, hrow]
  rw [flushed5_B m c t (by omega) h1, second_out, hk]
  dsimp only
  funext y
  obtain ⟨r, e, rfl⟩ : ∃ (r : Fin 512) (e : Fin 1024), y = ix2 r e := ⟨y 0, y 1, eq_ix2 y⟩
  have hi := (idx_blocks t).2.2.2.2.2
  show (k0_pay4 (F := Ideal) _ (k0_pay3 (F := Ideal) _ _ _ _ _) : Vec Ideal S512x1024 .f32) (ix2 r e) = G m c (((cfg0.win 5).blk t).view.emb (ix2 r e))
  rw [show ((cfg0.win 5).blk t).view.emb (ix2 r e) = ix2 (row t r) e from
    ext2 _ _ _ (off 512 r.val hi.1) (off0 1024 e.val hi.2), pay4_apply, pay3_apply, pay3_apply, pay2_apply, blk0]
  show _ = result _ _ _ _ (row t r) e
  unfold result
  rw [← sum_halves]
  refine congrArg₂ (· + ·) rfl (congrArg₂ (· * ·) rfl (congrArg₂ (· + ·) (congrArg₂ (· + ·) rfl ?_) ?_))
  · refine Finset.sum_congr rfl fun f _ => (part_eq m c s r e f ⟨f.val, by omega⟩
      (Fin.ext (by show (t.val - 1) % 2 * 1408 + f.val = f.val; omega))).trans ?_
    rw [hrow]
  · refine Finset.sum_congr rfl fun f _ => ?_
    simp only [hh]
    exact part_eq m c t r e f ⟨1408 + f.val, by omega⟩ (Fin.ext (by show t.val % 2 * 1408 + f.val = 1408 + f.val; omega))

/-- The result array ends holding the half step's result. -/
theorem final_G : (dats m 0 c).arrAt 5 cfg0.N = G m c :=
  (dats m 0 c).arrAt_eq_of_cover 5 (G m c) (fun t hf => flushed_G m c t hf) fun i => (covered_iff5 i).2
    ⟨Nat.zero_le _, (i 0).isLt, Nat.zero_le _, (i 1).isLt⟩

end Cert.FfnIdeal.Value
-- ==== Proof.FfnWhole.lean ====
/-
  The feed-forward half step's reference, stage by stage, and its result as the kernel's.
-/
module

public import proofs.«01_k».proof.Proof.FfnBlock
public import proofs.«01_k».proof.Proof.Gen.FfnRefIdeal.Run

@[expose] public section

set_option maxRecDepth 16384

noncomputable section

open Idealize.ShloMosaic Idealize.ShloMosaic.TcCoe Idealize.SL.Sem

namespace Cert.RowNorm

/-- A single entry, an array of tokens, and an array of tokens and features. -/
abbrev One : Shape := ⟨0, ![]⟩
abbrev Tok : Shape := ⟨1, ![16384]⟩
abbrev Act : Shape := ⟨2, ![16384, 1024]⟩

/-- The normalized rows, by host operations. -/
def hostNormed (h1 : Act.ReducesTo [1] Tok) (h2 : 0 < One.numel)
    (h3 : Tok.BroadcastsInDim ⟨2, ![16384, 1]⟩ (![0] : Fin 1 → Fin 2)) (h4 : One.BroadcastsInDim ⟨2, ![16384, 1]⟩ (![] : Fin 0 → Fin 2))
    (h5 : (⟨2, ![16384, 1]⟩ : Shape).BroadcastsInDim Act (![0, 1] : Fin 2 → Fin 2))
    (h6 : (⟨1, ![1024]⟩ : Shape).BroadcastsInDim ⟨2, ![1, 1024]⟩ (![1] : Fin 1 → Fin 2))
    (h7 : (⟨2, ![1, 1024]⟩ : Shape).BroadcastsInDim Act (![0, 1] : Fin 2 → Fin 2))
    (x : FVec Ideal Act .f32) (w : FVec Ideal ⟨1, ![1024]⟩ .f32) : FVec Ideal Act .f32 :=
  mulf (mulf x (broadcastInDim Act ![0, 1] h5 (Host.rsqrt (addf
      (Host.divf (broadcastInDim ⟨2, ![16384, 1]⟩ ![0] h3 (Host.reduceAdd (mulf x x) (constant One .f32 0x00000000#32) h1 h2))
        (broadcastInDim ⟨2, ![16384, 1]⟩ ![] h4 (constant One .f32 0x44800000#32)))
      (broadcastInDim ⟨2, ![16384, 1]⟩ ![] h4 (constant One .f32 0x358637BD#32))))))
    (broadcastInDim Act ![0, 1] h7 (broadcastInDim ⟨2, ![1, 1024]⟩ ![1] h6 w))

theorem hostNormed_apply (h1 : Act.ReducesTo [1] Tok) (h2 : 0 < One.numel)
    (h3 : Tok.BroadcastsInDim ⟨2, ![16384, 1]⟩ (![0] : Fin 1 → Fin 2)) (h4 : One.BroadcastsInDim ⟨2, ![16384, 1]⟩ (![] : Fin 0 → Fin 2))
    (h5 : (⟨2, ![16384, 1]⟩ : Shape).BroadcastsInDim Act (![0, 1] : Fin 2 → Fin 2))
    (h6 : (⟨1, ![1024]⟩ : Shape).BroadcastsInDim ⟨2, ![1, 1024]⟩ (![1] : Fin 1 → Fin 2))
    (h7 : (⟨2, ![1, 1024]⟩ : Shape).BroadcastsInDim Act (![0, 1] : Fin 2 → Fin 2))
    (x : FVec Ideal Act .f32) (w : FVec Ideal ⟨1, ![1024]⟩ .f32) (t : Fin 16384) (k : Fin 1024) :
    hostNormed h1 h2 h3 h4 h5 h6 h7 x w (ix2 t k) = normed (fun j => x (ix2 t j)) (fun j => w (ix1 j)) k := by
  unfold normed
  pointwise [hostNormed]

/-- The literal `1`. -/
theorem one : Ideal.ofBits .f32 0x3F800000#32 = (1 : EReal) := by
  simp [Ideal.ofBits, Ideal.ieee]
  rw [← EReal.coe_mul]
  norm_num

end Cert.RowNorm

namespace Cert.FfnRefIdeal.Value

open Cert.FfnRefIdeal Cert.FfnRefIdeal.Gen Cert.FfnSpec Cert.RowNorm Cert.Index

/-- The products with the gates' and the others' weights. -/
def pre (h : FVec Ideal S16384x1024 .f32) (w : FVec Ideal S1024x5632 .f32) : FVec Ideal S16384x5632 .f32 :=
  Host.dotGeneral dot_S16384x1024_S1024x5632_S16384x5632_1_0_0_1_n_n none h w

theorem pre_apply (h : FVec Ideal S16384x1024 .f32) (w : FVec Ideal S1024x5632 .f32) (t : Fin 16384) (f : Fin 5632) :
    pre h w (ix2 t f) = ∑ k : Fin 1024, h (ix2 t k) * w (ix2 k f) := by
  pointwise [pre]

/-- The hidden units. -/
def hidden (p : FVec Ideal S16384x5632 .f32) : FVec Ideal S16384x2816 .f32 :=
  mulf (mulf (extractStridedSlice S16384x2816 ![0, 0] p slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] p slices_S16384x5632_S16384x2816_0_0))))))
    (extractStridedSlice S16384x2816 ![0, 2816] p slices_S16384x5632_S16384x2816_0_2816)

theorem hidden_apply (p : FVec Ideal S16384x5632 .f32) (t : Fin 16384) (f : Fin 2816) :
    hidden p (ix2 t f) = unit (p (ix2 t ⟨f.val, by omega⟩)) (p (ix2 t ⟨2816 + f.val, by omega⟩)) := by
  unfold unit Ideal.logistic
  pointwise [hidden, one]

/-- The residual plus half the hidden units' product with the weights out of them. -/
def step (x : FVec Ideal S16384x1024 .f32) (h : FVec Ideal S16384x2816 .f32) (w : FVec Ideal S2816x1024 .f32) : FVec Ideal S16384x1024 .f32 :=
  addf x (mulf (broadcastInDim S16384x1024 ![] bcast_S_S16384x1024 (constant S_ .f32 0x3F000000#32))
    (Host.dotGeneral dot_S16384x2816_S2816x1024_S16384x1024_1_0_0_1_n_n none h w))

theorem step_apply (x : FVec Ideal S16384x1024 .f32) (h : FVec Ideal S16384x2816 .f32) (w : FVec Ideal S2816x1024 .f32)
    (t : Fin 16384) (e : Fin 1024) :
    step x h w (ix2 t e) = x (ix2 t e) + Ideal.ofBits .f32 0x3F000000#32 * ∑ f : Fin 2816, h (ix2 t f) * w (ix2 f e) := by
  pointwise [step]

/-- The reference as a whole. -/
def whole (x : FVec Ideal S16384x1024 .f32) (nw : FVec Ideal S1024 .f32) (wgu : FVec Ideal S1024x5632 .f32)
    (wd : FVec Ideal S2816x1024 .f32) : FVec Ideal S16384x1024 .f32 :=
  step x (hidden (pre (hostNormed reducesTo_S16384x1024_S16384_d1 h_S_ bcast_S16384_S16384x1_0 bcast_S_S16384x1
    bcast_S16384x1_S16384x1024_0_1 bcast_S1024_S1x1024_1 bcast_S1x1024_S16384x1024_0_1 x nw) wgu)) wd

theorem whole_apply (x : FVec Ideal S16384x1024 .f32) (nw : FVec Ideal S1024 .f32) (wgu : FVec Ideal S1024x5632 .f32)
    (wd : FVec Ideal S2816x1024 .f32) (t : Fin 16384) (e : Fin 1024) : whole x nw wgu wd (ix2 t e)
      = result (fun t e => x (ix2 t e)) (fun k => nw (ix1 k)) (fun k f => wgu (ix2 k f)) (fun f e => wd (ix2 f e)) t e := by
  unfold whole result term
  simp only [step_apply, hidden_apply, pre_apply, hostNormed_apply]

/-- From equal arguments, the reference's result is the kernel's. -/
theorem values_eq (m : (ℓ : Loc Cert.FfnIdeal.nD Cert.FfnIdeal.τ Cert.FfnIdeal.sig) → Buf (Elt Ideal) ℓ)
    (m' : (ℓ : Loc nD τ sig) → Buf (Elt Ideal) ℓ) (c : Dev nD)
    (e0 : m' ((c : Thread nD τ).loc main_arg0) = m ((c.tc : Thread Cert.FfnIdeal.nD Cert.FfnIdeal.τ).loc Cert.FfnIdeal.main_arg0))
    (e1 : m' ((c : Thread nD τ).loc main_arg1) = m ((c.tc : Thread Cert.FfnIdeal.nD Cert.FfnIdeal.τ).loc Cert.FfnIdeal.main_arg1))
    (e2 : m' ((c : Thread nD τ).loc main_arg2) = m ((c.tc : Thread Cert.FfnIdeal.nD Cert.FfnIdeal.τ).loc Cert.FfnIdeal.main_arg2))
    (e3 : m' ((c : Thread nD τ).loc main_arg3) = m ((c.tc : Thread Cert.FfnIdeal.nD Cert.FfnIdeal.τ).loc Cert.FfnIdeal.main_arg3)) :
    whole (m' ((c : Thread nD τ).loc main_arg0)) (m' ((c : Thread nD τ).loc main_arg1)) (m' ((c : Thread nD τ).loc main_arg2))
      (m' ((c : Thread nD τ).loc main_arg3)) = Cert.FfnIdeal.Value.G m c := by
  funext i
  obtain ⟨t, e, rfl⟩ : ∃ (t : Fin 16384) (e : Fin 1024), i = ix2 t e := ⟨i 0, i 1, eq_ix2 i⟩
  rw [whole_apply, e0, e1, e2, e3]
  rfl

end Cert.FfnRefIdeal.Value
-- ==== Proof.ProjBlock.lean ====
/-
  The mixer's input projection, point by point: what the kernel's body keeps and leaves, its blocks in the argument arrays,
  and the whole result.
-/
module

public import proofs.«01_k».proof.Proof.Gen.ProjIdeal.Value
public import proofs.«01_k».proof.Proof.FfnWhole

@[expose] public section

set_option maxRecDepth 16384

noncomputable section

open Idealize.ShloMosaic Idealize.ShloMosaic.TcCoe Idealize.SL.Sem

namespace Cert.Index

/-- Arrays side by side, read at a column: the array `k`, whose columns start at `pre`. -/
theorem beside_apply {α : Type} {R N M : Nat} (xs : List ((s : Shape) × (s.Idx → α)))
    (h : Shape.Concatenates (xs.map (·.1)) ⟨2, ![R, N]⟩ (1 : Fin 2)) (r : Fin R) (n : Fin N) (k : Nat) (hk : k < xs.length)
    (x : (⟨2, ![R, M]⟩ : Shape).Idx → α) (hx : xs[k] = ⟨⟨2, ![R, M]⟩, x⟩) (pre : Nat)
    (hpre : (((xs.take k).map (·.1)).map fun s => if h : s.rank = 2 then s.size ((1 : Fin 2).cast h.symm) else 0).sum = pre)
    (q : Fin M) (hq : pre + q.val = n.val) :
    concatenate ⟨2, ![R, N]⟩ (1 : Fin 2) xs h (ix2 r n) = x (ix2 r q) :=
  concatenate_apply_piece (t := ⟨2, ![R, N]⟩) (1 : Fin 2) xs h (ix2 r n) k hk _ x hx rfl pre hpre (ix2 r q)
    (fun b hb => match b, hb with
      | 0, _ => rfl
      | 1, hb => absurd rfl hb) hq

end Cert.Index

namespace Cert.ProjSpec

open Cert.RowNorm

/-- The weights into column `n` of the projection: the input weights without their columns 2048 to 2055 (which the
    recurrence takes elsewhere), then the gates' weights. -/
def weight (wi : Fin 9224 → EReal) (wg : Fin 4096 → EReal) (n : Fin 13312) : EReal :=
  if h : n.val < 2048 then wi ⟨n.val, by omega⟩
  else if h' : n.val < 9216 then wi ⟨n.val + 8, by omega⟩ else wg ⟨n.val - 9216, by omega⟩

/-- The projection of token `t` at column `n`: the normalized row times the weights; from column 9216 on the gates, which
    are the logistic of that plus a bias. -/
def result (x : Fin 16384 → Fin 1024 → EReal) (nw : Fin 1024 → EReal) (wi : Fin 1024 → Fin 9224 → EReal)
    (wg : Fin 1024 → Fin 4096 → EReal) (b : Fin 4096 → EReal) (t : Fin 16384) (n : Fin 13312) : EReal :=
  if h : n.val < 9216 then ∑ k, normed (x t) nw k * weight (wi k) (wg k) n
  else Ideal.logistic ((∑ k, normed (x t) nw k * weight (wi k) (wg k) n) + b ⟨n.val - 9216, by omega⟩)

end Cert.ProjSpec

namespace Cert.ProjIdeal.Value

open Cert.ProjIdeal Cert.ProjIdeal.Gen Cert.ProjSpec Cert.RowNorm Cert.Index

/-! ## The payloads at an index -/

theorem pay1_apply (x : Vec Ideal S1024x1024 .f32) (w : Vec Ideal S1x1024 .f32) (r k : Fin 1024) :
    k0_pay1 x w (ix2 r k) = normed (fun j => x (ix2 r j)) (fun j => w (ix2 0 j)) k := by
  unfold normed
  pointwise [k0_pay1]

theorem pay2_apply (h w : Vec Ideal S1024x1024 .bf16) (b : Vec Ideal S1x1024 .f32) (r q : Fin 1024) :
    k0_pay2 h w b (ix2 r q) = (∑ k : Fin 1024, h (ix2 r k) * w (ix2 k q)) + b (ix2 0 q) := by
  pointwise [k0_pay2]

theorem pay3_apply (h w : Vec Ideal S1024x1024 .bf16) (b : Vec Ideal S1x1024 .f32) (r q : Fin 1024) :
    k0_pay3 h w b (ix2 r q) = Ideal.logistic ((∑ k : Fin 1024, h (ix2 r k) * w (ix2 k q)) + b (ix2 0 q)) := by
  pointwise [k0_pay3, k0_pay2]

/-! ## What the three kinds of points leave -/

theorem hz : (![0, 0] : Fin 2 → Nat) = fun _ => 0 := funext fun a => by fin_cases a <;> rfl

section Cases

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .bf16) (h7 : a7.IsWhole)
  (x : Vec Ideal S1024x1024 .f32) (nw : Vec Ideal S1x1024 .f32) (w : Vec Ideal S1024x1024 .bf16) (b : Vec Ideal S1x1024 .f32)

/-- A row block's first point keeps the normalized rows. -/
theorem first_rows (hc0 : cond0_0 i) (hc1 : cond0_1 i) (hc2 : ¬cond0_2 i) :
    sout0_A_0 c i a2 h2 a3 h3 a4 h4 a5 h5 a6 h6 a7 h7 hc0 hc1 hc2 x nw w b = k0_pay1 x nw := by
  unfold sout0_A_0
  rw [View.read_writes_eq_canon _ _ _ (scover0_A_0 c i a2 h2 a3 h3 a4 h4 a5 h5 a6 h6 a7 h7 hc0 hc1 hc2 x nw w b)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

/-- It leaves their products with the first weights. -/
theorem first_out (hc0 : cond0_0 i) (hc1 : cond0_1 i) (hc2 : ¬cond0_2 i) :
    out0_A_4 c i a2 h2 a3 h3 a4 h4 a5 h5 a6 h6 a7 h7 hc0 hc1 hc2 x nw w b = k0_pay2 (k0_pay1 x nw) w b := by
  unfold out0_A_4
  rw [View.read_writes_eq_canon _ _ _ (cover0_A_4 c i a2 h2 a3 h3 a4 h4 a5 h5 a6 h6 a7 h7 hc0 hc1 hc2 x nw w b)]
  unfold kernelRun0_A
  dsimp only
  sl_unfold_words
  rw [View.canon_unit_zero hz, View.readCov_unit_zero (S := S1024x1024) _ hz]
  simp only [View.readAt_eq_ld, h2.read_unread, h3.read_unread, h4.read_unread, h5.read_unread,
    View.ld_unit_zero (S := S1024x1024) hz, View.ld_unit_zero (S := S1x1024) hz]

/-- A later point of the first nine leaves the kept rows' products. -/
theorem plain_out (hc0 : ¬cond0_0 i) (hc1 : cond0_1 i) (hc2 : ¬cond0_2 i) (h : Vec Ideal S1024x1024 .bf16) :
    out0_B_4 c i a2 h2 a3 h3 a4 h4 a5 h5 a6 h6 a7 h7 hc0 hc1 hc2 x nw w b h = k0_pay2 h w b := by
  unfold out0_B_4
  rw [View.read_writes_eq_canon _ _ _ (cover0_B_4 c i a2 h2 a3 h3 a4 h4 a5 h5 a6 h6 a7 h7 hc0 hc1 hc2 x nw w b h)]
  unfold kernelRun0_B
  dsimp only
  sl_unfold_words
  rw [View.canon_unit_zero hz]
  simp only [View.readAt_eq_ld, h4.read_unread, h5.read_unread, h7.read_unread,
    View.ld_unit_zero (S := S1024x1024) hz, View.ld_unit_zero (S := S1x1024) hz]

/-- One of the last four points leaves their logistic. -/
theorem gate_out (hc0 : ¬cond0_0 i) (hc1 : ¬cond0_1 i) (hc2 : cond0_2 i) (h : Vec Ideal S1024x1024 .bf16) :
    out0_C_4 c i a2 h2 a3 h3 a4 h4 a5 h5 a6 h6 a7 h7 hc0 hc1 hc2 x nw w b h = k0_pay3 h w b := by
  unfold out0_C_4
  rw [View.read_writes_eq_canon _ _ _ (cover0_C_4 c i a2 h2 a3 h3 a4 h4 a5 h5 a6 h6 a7 h7 hc0 hc1 hc2 x nw w b h)]
  unfold kernelRun0_C
  dsimp only
  sl_unfold_words
  rw [View.canon_unit_zero hz]
  simp only [View.readAt_eq_ld, h4.read_unread, h5.read_unread, h7.read_unread,
    View.ld_unit_zero (S := S1024x1024) hz, View.ld_unit_zero (S := S1x1024) hz]

end Cases

/-! ## The arrays made on the host -/

/-- All weights side by side. -/
def weights (wi : FVec Ideal S1024x9224 .f32) (wg : FVec Ideal S1024x4096 .f32) : FVec Ideal S1024x13312 .f32 :=
  concatenate S1024x13312 1 [⟨S1024x1536, extractStridedSlice S1024x1536 ![0, 0] wi slices_S1024x9224_S1024x1536_0_0⟩,
    ⟨S1024x512, extractStridedSlice S1024x512 ![0, 1536] wi slices_S1024x9224_S1024x512_0_1536⟩,
    ⟨S1024x4608, extractStridedSlice S1024x4608 ![0, 2056] wi slices_S1024x9224_S1024x4608_0_2056⟩,
    ⟨S1024x1536, extractStridedSlice S1024x1536 ![0, 6664] wi slices_S1024x9224_S1024x1536_0_6664⟩,
    ⟨S1024x1024, extractStridedSlice S1024x1024 ![0, 8200] wi slices_S1024x9224_S1024x1024_0_8200⟩, ⟨S1024x4096, wg⟩]
    concatenates_S1024x1536_S1024x512_S1024x4608_S1024x1536_S1024x1024_S1024x4096_S1024x13312_d1

theorem weights_apply (wi : FVec Ideal S1024x9224 .f32) (wg : FVec Ideal S1024x4096 .f32) (k : Fin 1024) (n : Fin 13312) :
    weights wi wg (ix2 k n) = weight (fun f => wi (ix2 k f)) (fun f => wg (ix2 k f)) n := by
  unfold weights weight
  have hn := n.isLt
  by_cases h0 : n.val < 1536
  · rw [dif_pos (by omega), beside_apply _ _ k n 0 (by simp) _ rfl 0 rfl ⟨n.val, h0⟩ (by simp)]
    pointwise
  by_cases h1 : n.val < 2048
  · rw [dif_pos h1, beside_apply _ _ k n 1 (by simp) _ rfl 1536 rfl ⟨n.val - 1536, by omega⟩ (by show 1536 + (n.val - 1536) = _; omega)]
    pointwise
    exact congrArg wi (ext2 _ _ _ rfl (by show _ = n.val; simp; omega))
  rw [dif_neg h1]
  by_cases h2 : n.val < 6656
  · rw [dif_pos (by omega), beside_apply _ _ k n 2 (by simp) _ rfl 2048 rfl ⟨n.val - 2048, by omega⟩ (by show 2048 + (n.val - 2048) = _; omega)]
    pointwise
    exact congrArg wi (ext2 _ _ _ rfl (by show _ = n.val + 8; simp; omega))
  by_cases h3 : n.val < 8192
  · rw [dif_pos (by omega), beside_apply _ _ k n 3 (by simp) _ rfl 6656 rfl ⟨n.val - 6656, by omega⟩ (by show 6656 + (n.val - 6656) = _; omega)]
    pointwise
    exact congrArg wi (ext2 _ _ _ rfl (by show _ = n.val + 8; simp; omega))
  by_cases h4 : n.val < 9216
  · rw [dif_pos h4, beside_apply _ _ k n 4 (by simp) _ rfl 8192 rfl ⟨n.val - 8192, by omega⟩ (by show 8192 + (n.val - 8192) = _; omega)]
    pointwise
    exact congrArg wi (ext2 _ _ _ rfl (by show _ = n.val + 8; simp; omega))
  rw [dif_neg h4, beside_apply _ _ k n 5 (by simp) _ rfl 9216 rfl ⟨n.val - 9216, by omega⟩ (by show 9216 + (n.val - 9216) = _; omega)]

/-- The biases of all columns: zero for the first 9216. -/
def biases (b : FVec Ideal S4096 .f32) : FVec Ideal S13312 .f32 :=
  concatenate S13312 0 [⟨S9216, broadcastInDim S9216 ![] bcast_S_S9216 (constant S_ .f32 0x00000000#32)⟩, ⟨S4096, b⟩]
    concatenates_S9216_S4096_S13312_d0

theorem biases_left (b : FVec Ideal S4096 .f32) (n : Fin 13312) (h : n.val < 9216) : biases b (ix1 n) = (0 : EReal) := by
  unfold biases
  rw [concatenate_pair_apply]
  pointwise
  rw [dif_pos h]

theorem biases_right (b : FVec Ideal S4096 .f32) (n : Fin 13312) (h : ¬n.val < 9216) :
    biases b (ix1 n) = b (ix1 ⟨n.val - 9216, by omega⟩) := by
  unfold biases
  rw [concatenate_pair_apply]
  pointwise
  rw [dif_neg h]

/-! ## The blocks, read off the argument arrays -/

variable (m : (ℓ : Loc nD τ sig) → Buf (Elt Ideal) ℓ) (c : Dev nD)

/-- The index maps, decided over the grid: point `13 i + j` works on row block `i` and column block `j`. -/
theorem idx_blocks : ∀ t : Fin cfg0.N,
    (win0_0.index t (0 : Fin 2) = t.val / 13 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 13)
    ∧ (win0_3.index t (0 : Fin 2) = 0 ∧ win0_3.index t (1 : Fin 2) = t.val % 13)
    ∧ (win0_4.index t (0 : Fin 2) = t.val / 13 ∧ win0_4.index t (1 : Fin 2) = t.val % 13) :=
  (by decide +kernel : ∀ t : Fin grid0.N, _)

/-- Row `r` of the row block of point `t`. -/
abbrev row (t : Fin cfg0.N) (r : Fin 1024) : Fin 16384 :=
  ⟨t.val / 13 * 1024 + r.val, by have := lt_of_lt_of_eq t.isLt (show cfg0.N = 208 from N_0); omega⟩

/-- Column `q` of the column block of point `t`. -/
abbrev col (t : Fin cfg0.N) (q : Fin 1024) : Fin 13312 := ⟨t.val % 13 * 1024 + q.val, by omega⟩

theorem blk0 (t : Fin cfg0.N) (r k : Fin 1024) :
    (iblk m c 0 t : Vec Ideal S1024x1024 .f32) (ix2 r k) = (m ((c : Thread nD τ).loc main_arg0) : Vec Ideal S16384x1024 .f32) (ix2 (row t r) k) :=
  (congrFun (V_main_arg0 m c) _).trans
    (congrArg _ (ext2 _ _ _ (off 1024 r.val (idx_blocks t).1.1) (off0 1024 k.val (idx_blocks t).1.2)))

theorem blk1 (t : Fin cfg0.N) (k : Fin 1024) :
    (iblk m c 1 t : Vec Ideal S1x1024 .f32) (ix2 0 k) = (m ((c : Thread nD τ).loc main_arg1) : Vec Ideal S1024 .f32) (ix1 k) := by
  have hi := (idx_blocks t).2.1
  show V m c main_v10 (((cfg0.win 1).blk t).view.emb (ix2 0 k)) = _
  rw [show ((cfg0.win 1).blk t).view.emb (ix2 0 k) = ix2 0 k from
    ext2 _ _ _ (off0 1 0 hi.1) (off0 1024 k.val hi.2)]
  unfold V hostOps0
  after_reads_simp
  pointwise

/-- The array of weights, as the host makes it. -/
theorem weights_made : V m c main_v6 = truncf .bf16 (weights (m ((c : Thread nD τ).loc main_arg2)) (m ((c : Thread nD τ).loc main_arg3))) bitsLt_bf16_f32 := by
  unfold V hostOps0
  after_reads_simp
  rfl

/-- The array of biases, as the host makes it. -/
theorem biases_made : V m c main_v9 = broadcastInDim S1x13312 ![1] bcast_S13312_S1x13312_1 (biases (m ((c : Thread nD τ).loc main_arg4))) := by
  unfold V hostOps0
  after_reads_simp
  rfl

theorem blk2 (t : Fin cfg0.N) (k q : Fin 1024) :
    (iblk m c 2 t : Vec Ideal S1024x1024 .bf16) (ix2 k q)
      = weight (fun f => (m ((c : Thread nD τ).loc main_arg2) : Vec Ideal S1024x9224 .f32) (ix2 k f))
          (fun f => (m ((c : Thread nD τ).loc main_arg3) : Vec Ideal S1024x4096 .f32) (ix2 k f)) (col t q) := by
  have hi := (idx_blocks t).2.2.1
  show V m c main_v6 (((cfg0.win 2).blk t).view.emb (ix2 k q)) = _
  rw [show ((cfg0.win 2).blk t).view.emb (ix2 k q) = ix2 k (col t q) from
    ext2 _ _ _ (off0 1024 k.val hi.1) (off 1024 q.val hi.2), weights_made]
  exact weights_apply _ _ k (col t q)

theorem blk3 (t : Fin cfg0.N) (q : Fin 1024) :
    (iblk m c 3 t : Vec Ideal S1x1024 .f32) (ix2 0 q) = biases (m ((c : Thread nD τ).loc main_arg4)) (ix1 (col t q)) := by
  have hi := (idx_blocks t).2.2.2.1
  show V m c main_v9 (((cfg0.win 3).blk t).view.emb (ix2 0 q)) = _
  rw [show ((cfg0.win 3).blk t).view.emb (ix2 0 q) = ix2 0 (col t q) from
    ext2 _ _ _ (off0 1 0 hi.1) (off 1024 q.val hi.2), biases_made]
  pointwise

/-! ## The whole result array -/

/-- The result, as contents of the output array. -/
def G : Vec Ideal S16384x13312 .f32 := fun i =>
  result (fun t e => (m ((c : Thread nD τ).loc main_arg0) : Vec Ideal S16384x1024 .f32) (ix2 t e))
    (fun k => (m ((c : Thread nD τ).loc main_arg1) : Vec Ideal S1024 .f32) (ix1 k))
    (fun k f => (m ((c : Thread nD τ).loc main_arg2) : Vec Ideal S1024x9224 .f32) (ix2 k f))
    (fun k f => (m ((c : Thread nD τ).loc main_arg3) : Vec Ideal S1024x4096 .f32) (ix2 k f))
    (fun f => (m ((c : Thread nD τ).loc main_arg4) : Vec Ideal S4096 .f32) (ix1 f)) (i 0) (i 1)

/-- The normalized row `r` of the row block of point `t`. -/
abbrev rows (t : Fin cfg0.N) (r : Fin 1024) : Fin 1024 → EReal :=
  normed (fun k => (m ((c : Thread nD τ).loc main_arg0) : Vec Ideal S16384x1024 .f32) (ix2 (row t r) k))
    (fun k => (m ((c : Thread nD τ).loc main_arg1) : Vec Ideal S1024 .f32) (ix1 k))

theorem pay1_rows (t : Fin cfg0.N) (r k : Fin 1024) : k0_pay1 (iblk m c 0 t) (iblk m c 1 t) (ix2 r k) = rows m c t r k := by
  simp only [pay1_apply, blk0, blk1]

/-- A point that is not its row block's first works on the rows of the point before it. -/
theorem rows_pred (n : Nat) (h : n + 1 < cfg0.N) (h0 : ¬(n + 1) % 13 = 0) (r : Fin 1024) :
    rows m c ⟨n, Nat.lt_of_succ_lt h⟩ r = rows m c ⟨n + 1, h⟩ r := by
  have e : row ⟨n, Nat.lt_of_succ_lt h⟩ r = row ⟨n + 1, h⟩ r :=
    Fin.ext (by show n / 13 * 1024 + r.val = (n + 1) / 13 * 1024 + r.val; omega)
  unfold rows
  rw [e]

/-- After every point, what is kept is the normalized rows of the point's row block: by induction on the point. -/
theorem keeps : ∀ (n : Nat) (h : n < cfg0.N) (r k : Fin 1024), (outsAt0 m c n h).2 (ix2 r k) = rows m c ⟨n, h⟩ r k
  | 0, h, r, k => by
    rw [outsAt0_A m c ⟨0, h⟩ rfl (by show 0 % 13 ≤ 8; omega) (by show ¬9 ≤ 0 % 13; omega)]
    dsimp only
    rw [first_rows]
    exact pay1_rows m c _ r k
  | n + 1, h, r, k => by
    by_cases h0 : (n + 1) % 13 = 0
    · rw [outsAt0_A m c ⟨n + 1, h⟩ h0 (by show (n + 1) % 13 ≤ 8; omega) (by show ¬9 ≤ (n + 1) % 13; omega)]
      dsimp only
      rw [first_rows]
      exact pay1_rows m c _ r k
    · rw [← rows_pred m c n h h0, ← keeps n (Nat.lt_of_succ_lt h) r k]
      by_cases h1 : (n + 1) % 13 ≤ 8
      · rw [outsAt0_B m c ⟨n + 1, h⟩ h0 h1 (by show ¬9 ≤ (n + 1) % 13; omega)]
        rfl
      · rw [outsAt0_C m c ⟨n + 1, h⟩ h0 h1 (by show 9 ≤ (n + 1) % 13; omega)]
        rfl

/-- What the point before a later point kept. -/
theorem kept (t : Fin cfg0.N) (h0 : ¬t.val % 13 = 0) (r k : Fin 1024) :
    (outsAt0 m c (t.val - 1) (Nat.lt_of_le_of_lt (Nat.sub_le _ _) t.isLt)).2 (ix2 r k) = rows m c t r k := by
  obtain ⟨n, h⟩ := t
  cases n with
  | zero => exact absurd rfl h0
  | succ n => exact (keeps m c n _ r k).trans (congrFun (rows_pred m c n h h0 r) k)

/-- A column of the first nine column blocks. -/
theorem plain_value (t : Fin cfg0.N) (h1 : t.val % 13 ≤ 8) (r q : Fin 1024) (h : Vec Ideal S1024x1024 .bf16)
    (hh : ∀ k, h (ix2 r k) = rows m c t r k) :
    k0_pay2 h (iblk m c 2 t) (iblk m c 3 t) (ix2 r q) = G m c (ix2 (row t r) (col t q)) := by
  have hq : (col t q).val < 9216 := by show t.val % 13 * 1024 + q.val < 9216; omega
  rw [pay2_apply, blk3, biases_left _ _ hq, add_zero]
  simp only [hh, blk2]
  show _ = result _ _ _ _ _ (row t r) (col t q)
  unfold result
  rw [dif_pos hq]

/-- A column of the last four column blocks. -/
theorem gate_value (t : Fin cfg0.N) (h1 : ¬t.val % 13 ≤ 8) (r q : Fin 1024) (h : Vec Ideal S1024x1024 .bf16)
    (hh : ∀ k, h (ix2 r k) = rows m c t r k) :
    k0_pay3 h (iblk m c 2 t) (iblk m c 3 t) (ix2 r q) = G m c (ix2 (row t r) (col t q)) := by
  have hq : ¬(col t q).val < 9216 := by show ¬t.val % 13 * 1024 + q.val < 9216; omega
  rw [pay3_apply, blk3, biases_right _ _ hq]
  simp only [hh, blk2]
  show _ = result _ _ _ _ _ (row t r) (col t q)
  unfold result
  rw [dif_neg hq]

/-- What point `t` writes back is block `t` of the result. -/
theorem flushed_G (t : Fin cfg0.N) :
    (dats m 0 c).flushed 4 t = ((cfg0.win 4).blk t).view.read (Elt Ideal) (G m c) := by
  have hi := (idx_blocks t).2.2.2.2
  have he : ∀ r q : Fin 1024, ((cfg0.win 4).blk t).view.emb (ix2 r q) = ix2 (row t r) (col t q) := fun r q =>
    ext2 _ _ _ (off 1024 r.val hi.1) (off 1024 q.val hi.2)
  by_cases h0 : t.val % 13 = 0
  · rw [flushed4_A m c t h0 (by omega) (by omega), first_out]
    funext y
    obtain ⟨r, q, rfl⟩ : ∃ r q : Fin 1024, y = ix2 r q := ⟨y 0, y 1, eq_ix2 y⟩
    exact (plain_value m c t (by omega) r q _ fun k => pay1_rows m c t r k).trans (congrArg (G m c) (he r q).symm)
  by_cases h1 : t.val % 13 ≤ 8
  · rw [flushed4_B m c t h0 h1 (by omega), plain_out]
    funext y
    obtain ⟨r, q, rfl⟩ : ∃ r q : Fin 1024, y = ix2 r q := ⟨y 0, y 1, eq_ix2 y⟩
    exact (plain_value m c t h1 r q _ fun k => kept m c t h0 r k).trans (congrArg (G m c) (he r q).symm)
  · rw [flushed4_C m c t h0 h1 (by omega), gate_out]
    funext y
    obtain ⟨r, q, rfl⟩ : ∃ r q : Fin 1024, y = ix2 r q := ⟨y 0, y 1, eq_ix2 y⟩
    exact (gate_value m c t h1 r q _ fun k => kept m c t h0 r k).trans (congrArg (G m c) (he r q).symm)

/-- The result array ends holding the projection. -/
theorem final_G : (dats m 0 c).arrAt 4 cfg0.N = G m c :=
  (dats m 0 c).arrAt_eq_of_cover 4 (G m c) (fun t _ => flushed_G m c t) fun i => (covered_iff4 i).2
    ⟨Nat.zero_le _, (i 0).isLt, Nat.zero_le _, (i 1).isLt⟩

end Cert.ProjIdeal.Value
-- ==== Proof.ProjWhole.lean ====
/-
  The input projection's reference, stage by stage, and its result as the kernel's.
-/
module

public import proofs.«01_k».proof.Proof.ProjBlock
public import proofs.«01_k».proof.Proof.Gen.ProjRefIdeal.Run

@[expose] public section

set_option maxRecDepth 16384

noncomputable section

open Idealize.ShloMosaic Idealize.ShloMosaic.TcCoe Idealize.SL.Sem

namespace Cert.ProjRefIdeal.Value

open Cert.ProjRefIdeal Cert.ProjRefIdeal.Gen Cert.ProjSpec Cert.RowNorm Cert.Index

/-- The products with the input weights. -/
def products (h : FVec Ideal S16384x1024 .f32) (w : FVec Ideal S1024x9224 .f32) : FVec Ideal S16384x9224 .f32 :=
  Host.dotGeneral dot_S16384x1024_S1024x9224_S16384x9224_1_0_0_1_n_n none h w

theorem products_apply (h : FVec Ideal S16384x1024 .f32) (w : FVec Ideal S1024x9224 .f32) (t : Fin 16384) (f : Fin 9224) :
    products h w (ix2 t f) = ∑ k : Fin 1024, h (ix2 t k) * w (ix2 k f) := by
  pointwise [products]

/-- The gates. -/
def gates (h : FVec Ideal S16384x1024 .f32) (w : FVec Ideal S1024x4096 .f32) (b : FVec Ideal S4096 .f32) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32))
      (Host.exp (Host.negf (addf (Host.dotGeneral dot_S16384x1024_S1024x4096_S16384x4096_1_0_0_1_n_n none h w)
        (broadcastInDim S16384x4096 ![0, 1] bcast_S1x4096_S16384x4096_0_1 (broadcastInDim S1x4096 ![1] bcast_S4096_S1x4096_1 b))))))

theorem gates_apply (h : FVec Ideal S16384x1024 .f32) (w : FVec Ideal S1024x4096 .f32) (b : FVec Ideal S4096 .f32) (t : Fin 16384)
    (f : Fin 4096) : gates h w b (ix2 t f) = Ideal.logistic ((∑ k : Fin 1024, h (ix2 t k) * w (ix2 k f)) + b (ix1 f)) := by
  unfold Ideal.logistic
  pointwise [gates, one]

/-- The parts of the products that the branches take, and the gates, side by side. -/
def joined (z : FVec Ideal S16384x9224 .f32) (g : FVec Ideal S16384x4096 .f32) : FVec Ideal S16384x13312 .f32 :=
  concatenate S16384x13312 1
    [⟨S16384x2048, extractStridedSlice S16384x2048 ![0, 0] (extractStridedSlice S16384x2056 ![0, 0] z slices_S16384x9224_S16384x2056_0_0)
        slices_S16384x2056_S16384x2048_0_0⟩,
      ⟨S16384x4608, extractStridedSlice S16384x4608 ![0, 2056] z slices_S16384x9224_S16384x4608_0_2056⟩,
      ⟨S16384x1536, extractStridedSlice S16384x1536 ![0, 6664] z slices_S16384x9224_S16384x1536_0_6664⟩,
      ⟨S16384x1024, extractStridedSlice S16384x1024 ![0, 8200] z slices_S16384x9224_S16384x1024_0_8200⟩, ⟨S16384x4096, g⟩]
    concatenates_S16384x2048_S16384x4608_S16384x1536_S16384x1024_S16384x4096_S16384x13312_d1

/-- Its first columns are the products' first. -/
theorem joined_first (z : FVec Ideal S16384x9224 .f32) (g : FVec Ideal S16384x4096 .f32) (t : Fin 16384) (n : Fin 13312)
    (h : n.val < 2048) : joined z g (ix2 t n) = z (ix2 t ⟨n.val, by omega⟩) := by
  unfold joined
  rw [beside_apply _ _ t n 0 (by simp) _ rfl 0 rfl ⟨n.val, h⟩ (by simp)]
  pointwise

/-- The next are the products' after eight more. -/
theorem joined_middle (z : FVec Ideal S16384x9224 .f32) (g : FVec Ideal S16384x4096 .f32) (t : Fin 16384) (n : Fin 13312)
    (h : ¬n.val < 2048) (h' : n.val < 9216) : joined z g (ix2 t n) = z (ix2 t ⟨n.val + 8, by omega⟩) := by
  unfold joined
  by_cases h2 : n.val < 6656
  · rw [beside_apply _ _ t n 1 (by simp) _ rfl 2048 rfl ⟨n.val - 2048, by omega⟩ (by show 2048 + (n.val - 2048) = _; omega)]
    pointwise
    exact congrArg z (ext2 _ _ _ rfl (by show _ = n.val + 8; simp; omega))
  by_cases h3 : n.val < 8192
  · rw [beside_apply _ _ t n 2 (by simp) _ rfl 6656 rfl ⟨n.val - 6656, by omega⟩ (by show 6656 + (n.val - 6656) = _; omega)]
    pointwise
    exact congrArg z (ext2 _ _ _ rfl (by show _ = n.val + 8; simp; omega))
  · rw [beside_apply _ _ t n 3 (by simp) _ rfl 8192 rfl ⟨n.val - 8192, by omega⟩ (by show 8192 + (n.val - 8192) = _; omega)]
    pointwise
    exact congrArg z (ext2 _ _ _ rfl (by show _ = n.val + 8; simp; omega))

/-- The last are the gates. -/
theorem joined_last (z : FVec Ideal S16384x9224 .f32) (g : FVec Ideal S16384x4096 .f32) (t : Fin 16384) (n : Fin 13312)
    (h : ¬n.val < 9216) : joined z g (ix2 t n) = g (ix2 t ⟨n.val - 9216, by omega⟩) := by
  unfold joined
  rw [beside_apply _ _ t n 4 (by simp) _ rfl 9216 rfl ⟨n.val - 9216, by omega⟩ (by show 9216 + (n.val - 9216) = _; omega)]

/-- The normalized rows. -/
abbrev rows (x : FVec Ideal S16384x1024 .f32) (nw : FVec Ideal S1024 .f32) : FVec Ideal S16384x1024 .f32 :=
  hostNormed reducesTo_S16384x1024_S16384_d1 h_S_ bcast_S16384_S16384x1_0 bcast_S_S16384x1
    bcast_S16384x1_S16384x1024_0_1 bcast_S1024_S1x1024_1 bcast_S1x1024_S16384x1024_0_1 x nw

/-- The reference as a whole. -/
def whole (x : FVec Ideal S16384x1024 .f32) (nw : FVec Ideal S1024 .f32) (wi : FVec Ideal S1024x9224 .f32)
    (wg : FVec Ideal S1024x4096 .f32) (b : FVec Ideal S4096 .f32) : FVec Ideal S16384x13312 .f32 :=
  joined (products (rows x nw) wi) (gates (rows x nw) wg b)

theorem whole_apply (x : FVec Ideal S16384x1024 .f32) (nw : FVec Ideal S1024 .f32) (wi : FVec Ideal S1024x9224 .f32)
    (wg : FVec Ideal S1024x4096 .f32) (b : FVec Ideal S4096 .f32) (t : Fin 16384) (n : Fin 13312) : whole x nw wi wg b (ix2 t n)
      = result (fun t e => x (ix2 t e)) (fun k => nw (ix1 k)) (fun k f => wi (ix2 k f)) (fun k f => wg (ix2 k f)) (fun f => b (ix1 f)) t n := by
  unfold whole result weight
  by_cases h : n.val < 2048
  · simp only [joined_first _ _ t n h, products_apply, hostNormed_apply, h, (show n.val < 9216 by omega), dite_true]
  by_cases h' : n.val < 9216
  · simp only [joined_middle _ _ t n h h', products_apply, hostNormed_apply, h, h', dite_true, dite_false]
  · simp only [joined_last _ _ t n h', gates_apply, hostNormed_apply, h, h', dite_false]

/-- From equal arguments, the reference's result is the kernel's. -/
theorem values_eq (m : (ℓ : Loc Cert.ProjIdeal.nD Cert.ProjIdeal.τ Cert.ProjIdeal.sig) → Buf (Elt Ideal) ℓ)
    (m' : (ℓ : Loc nD τ sig) → Buf (Elt Ideal) ℓ) (c : Dev nD)
    (e0 : m' ((c : Thread nD τ).loc main_arg0) = m ((c.tc : Thread Cert.ProjIdeal.nD Cert.ProjIdeal.τ).loc Cert.ProjIdeal.main_arg0))
    (e1 : m' ((c : Thread nD τ).loc main_arg1) = m ((c.tc : Thread Cert.ProjIdeal.nD Cert.ProjIdeal.τ).loc Cert.ProjIdeal.main_arg1))
    (e2 : m' ((c : Thread nD τ).loc main_arg2) = m ((c.tc : Thread Cert.ProjIdeal.nD Cert.ProjIdeal.τ).loc Cert.ProjIdeal.main_arg2))
    (e3 : m' ((c : Thread nD τ).loc main_arg3) = m ((c.tc : Thread Cert.ProjIdeal.nD Cert.ProjIdeal.τ).loc Cert.ProjIdeal.main_arg3))
    (e4 : m' ((c : Thread nD τ).loc main_arg4) = m ((c.tc : Thread Cert.ProjIdeal.nD Cert.ProjIdeal.τ).loc Cert.ProjIdeal.main_arg4)) :
    res_out0 m' c = Cert.ProjIdeal.Value.G m c := by
  have e : res_out0 m' c = whole (m' ((c : Thread nD τ).loc main_arg0)) (m' ((c : Thread nD τ).loc main_arg1))
    (m' ((c : Thread nD τ).loc main_arg2)) (m' ((c : Thread nD τ).loc main_arg3)) (m' ((c : Thread nD τ).loc main_arg4)) := rfl
  rw [e]
  funext i
  obtain ⟨t, n, rfl⟩ : ∃ (t : Fin 16384) (n : Fin 13312), i = ix2 t n := ⟨i 0, i 1, eq_ix2 i⟩
  rw [whole_apply, e0, e1, e2, e3, e4]
  rfl

end Cert.ProjRefIdeal.Value
-- ==== Proof.NormWhole.lean ====
/-
  The final norm: what the kernel's blocks hold, its whole result, and the reference's result as the same.
-/
module

public import proofs.«01_k».proof.Proof.Gen.NormIdeal.Value
public import proofs.«01_k».proof.Proof.Gen.NormRefIdeal.Run
public import proofs.«01_k».proof.Proof.ProjWhole

@[expose] public section

set_option maxRecDepth 16384

noncomputable section

open Idealize.ShloMosaic Idealize.ShloMosaic.TcCoe Idealize.SL.Sem

namespace Cert.NormIdeal.Value

open Cert.NormIdeal Cert.NormIdeal.Gen Cert.RowNorm Cert.Index

/-- The body's product, at a row and a column. -/
theorem pay1_apply (x : Vec Ideal S1024x1024 .f32) (w : Vec Ideal S1x1024 .f32) (r k : Fin 1024) :
    k0_pay1 x w (ix2 r k) = normed (fun j => x (ix2 r j)) (fun j => w (ix2 0 j)) k := by
  unfold normed
  pointwise [k0_pay1]

theorem hz : (![0, 0] : Fin 2 → Nat) = fun _ => 0 := funext fun a => by fin_cases a <;> rfl

/-- What one point leaves: its rows, normalized. -/
theorem block_apply (x : Vec Ideal S1024x1024 .f32) (w : Vec Ideal S1x1024 .f32) (r k : Fin 1024) :
    out0_2 x w (ix2 r k) = normed (fun j => x (ix2 r j)) (fun j => w (ix2 0 j)) k := by
  unfold out0_2
  rw [View.canon_unit_zero hz]
  simp only [View.ld_unit_zero (S := S1024x1024) hz, View.ld_unit_zero (S := S1x1024) hz]
  exact pay1_apply x w r k

variable (m : (ℓ : Loc nD τ sig) → Buf (Elt Ideal) ℓ) (c : Dev nD)

/-- The index maps, decided over the grid: point `t` works on row block `t`. -/
theorem idx_blocks : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Row `r` of the row block of point `t`. -/
abbrev row (t : Fin cfg0.N) (r : Fin 1024) : Fin 16384 :=
  ⟨t.val * 1024 + r.val, by have := lt_of_lt_of_eq t.isLt (show cfg0.N = 16 from N_0); omega⟩

theorem blk0 (t : Fin cfg0.N) (r k : Fin 1024) :
    (iblk m c 0 t : Vec Ideal S1024x1024 .f32) (ix2 r k) = (m ((c : Thread nD τ).loc main_arg0) : Vec Ideal S16384x1024 .f32) (ix2 (row t r) k) :=
  (congrFun (V_main_arg0 m c) _).trans
    (congrArg _ (ext2 _ _ _ (off 1024 r.val (idx_blocks t).1.1) (off0 1024 k.val (idx_blocks t).1.2)))

theorem blk1 (t : Fin cfg0.N) (k : Fin 1024) :
    (iblk m c 1 t : Vec Ideal S1x1024 .f32) (ix2 0 k) = (m ((c : Thread nD τ).loc main_arg1) : Vec Ideal S1024 .f32) (ix1 k) := by
  have hi := (idx_blocks t).2.1
  show V m c main_v0 (((cfg0.win 1).blk t).view.emb (ix2 0 k)) = _
  rw [show ((cfg0.win 1).blk t).view.emb (ix2 0 k) = ix2 0 k from
    ext2 _ _ _ (off0 1 0 hi.1) (off0 1024 k.val hi.2)]
  unfold V hostOps0
  after_reads_simp
  pointwise

/-- The result, as contents of the output array. -/
def G : Vec Ideal S16384x1024 .f32 := fun i =>
  normed (fun k => (m ((c : Thread nD τ).loc main_arg0) : Vec Ideal S16384x1024 .f32) (ix2 (i 0) k))
    (fun k => (m ((c : Thread nD τ).loc main_arg1) : Vec Ideal S1024 .f32) (ix1 k)) (i 1)

/-- What point `t` writes back is block `t` of the result. -/
theorem flushed_G (t : Fin cfg0.N) :
    (dats m 0 c).flushed 2 t = ((cfg0.win 2).blk t).view.read (Elt Ideal) (G m c) := by
  have hi := (idx_blocks t).2.2
  rw [flushed2]
  funext y
  obtain ⟨r, k, rfl⟩ : ∃ r k : Fin 1024, y = ix2 r k := ⟨y 0, y 1, eq_ix2 y⟩
  show out0_2 (iblk m c 0 t) (iblk m c 1 t) (ix2 r k) = G m c (((cfg0.win 2).blk t).view.emb (ix2 r k))
  rw [show ((cfg0.win 2).blk t).view.emb (ix2 r k) = ix2 (row t r) k from
    ext2 _ _ _ (off 1024 r.val hi.1) (off0 1024 k.val hi.2), block_apply]
  simp only [blk0, blk1]
  rfl

/-- Every row of the result is in some point's block. -/
theorem cover_rows (i : S16384x1024.Idx) :
    ∃ t : Fin cfg0.N, (cfg0.win 2).flush t = true ∧ i ∈ ((cfg0.win 2).blk t).view.set := by
  have h0 : (i 0).val < 16384 := (i 0).isLt
  have h1 : (i 1).val < 1024 := (i 1).isLt
  let t : Fin cfg0.N := ⟨(i 0).val / 1024, lt_of_lt_of_eq (by omega) (show cfg0.N = 16 from N_0).symm⟩
  obtain ⟨e0, e1⟩ := (idx_blocks t).2.2
  refine ⟨t, (by decide +kernel : ∀ t : Fin grid0.N, win0_2.flush t = true) t, ?_⟩
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0]; show (i 0).val / 1024 * 1024 ≤ _ ∧ _ < (i 0).val / 1024 * 1024 + 1024; omega
  | ⟨1, _⟩ =>
    show win0_2.index t (1 : Fin 2) * 1024 ≤ (i 1).val ∧ (i 1).val < win0_2.index t (1 : Fin 2) * 1024 + 1024
    rw [e1]; omega

/-- The result array ends holding the normalized rows. -/
theorem final_G : (dats m 0 c).arrAt 2 cfg0.N = G m c :=
  (dats m 0 c).arrAt_eq_of_cover 2 (G m c) (fun t _ => flushed_G m c t) cover_rows

end Cert.NormIdeal.Value

namespace Cert.NormRefIdeal.Value

open Cert.NormRefIdeal Cert.NormRefIdeal.Gen Cert.RowNorm Cert.Index

/-- The reference as a whole. -/
def whole (x : FVec Ideal S16384x1024 .f32) (nw : FVec Ideal S1024 .f32) : FVec Ideal S16384x1024 .f32 :=
  hostNormed reducesTo_S16384x1024_S16384_d1 h_S_ bcast_S16384_S16384x1_0 bcast_S_S16384x1
    bcast_S16384x1_S16384x1024_0_1 bcast_S1024_S1x1024_1 bcast_S1x1024_S16384x1024_0_1 x nw

/-- From equal arguments, the reference's result is the kernel's. -/
theorem values_eq (m : (ℓ : Loc Cert.NormIdeal.nD Cert.NormIdeal.τ Cert.NormIdeal.sig) → Buf (Elt Ideal) ℓ)
    (m' : (ℓ : Loc nD τ sig) → Buf (Elt Ideal) ℓ) (c : Dev nD)
    (e0 : m' ((c : Thread nD τ).loc main_arg0) = m ((c.tc : Thread Cert.NormIdeal.nD Cert.NormIdeal.τ).loc Cert.NormIdeal.main_arg0))
    (e1 : m' ((c : Thread nD τ).loc main_arg1) = m ((c.tc : Thread Cert.NormIdeal.nD Cert.NormIdeal.τ).loc Cert.NormIdeal.main_arg1)) :
    whole (m' ((c : Thread nD τ).loc main_arg0)) (m' ((c : Thread nD τ).loc main_arg1)) = Cert.NormIdeal.Value.G m c := by
  funext i
  obtain ⟨t, e, rfl⟩ : ∃ (t : Fin 16384) (e : Fin 1024), i = ix2 t e := ⟨i 0, i 1, eq_ix2 i⟩
  unfold whole
  rw [hostNormed_apply, e0, e1]
  rfl

end Cert.NormRefIdeal.Value
-- ==== Proof.StepSpec.lean ====
/-
  The sample step, entry by entry: short convolutions over the kept taps, the gated linear recurrence's one step,
  and the facts on extended reals that make the kernel's forms the reference's.
-/
module

public import proofs.«01_k».proof.Proof.NormWhole

@[expose] public section

set_option maxRecDepth 16384

noncomputable section

open Idealize.ShloMosaic Idealize.ShloMosaic.TcCoe Idealize.SL.Sem

namespace Cert.StepSpec

/-- A convolution of four taps: three kept entries, oldest first, and the new one. -/
def conv4 (s0 s1 s2 x w0 w1 w2 w3 : EReal) : EReal := s0 * w0 + s1 * w1 + s2 * w2 + x * w3

/-- A convolution of three taps. -/
def conv3 (s0 s1 x w0 w1 w2 : EReal) : EReal := s0 * w0 + s1 * w1 + x * w2

/-- The kernel starts from the new entry and multiplies from the left. -/
theorem conv4_eq (s0 s1 s2 x w0 w1 w2 w3 : EReal) :
    w3 * x + w0 * s0 + w1 * s1 + w2 * s2 = conv4 s0 s1 s2 x w0 w1 w2 w3 := by
  unfold conv4
  rw [mul_comm w3, mul_comm w0, mul_comm w1, mul_comm w2]
  abel

/-- The same of three taps. -/
theorem conv3_eq (s0 s1 x w0 w1 w2 : EReal) : w2 * x + w0 * s0 + w1 * s1 = conv3 s0 s1 x w0 w1 w2 := by
  unfold conv3
  rw [mul_comm w2, mul_comm w0, mul_comm w1]
  abel

/-- An entry times its logistic. -/
def silu (y : EReal) : EReal := y * Ideal.logistic y

/-- The soft maximum of `x` and zero. -/
def softplus (x : EReal) : EReal := max x 0 + Ideal.log1p (Ideal.exp (-(max x (-x))))

/-- The decay's logarithm, from the gate's logit and the unit's parameter. -/
def logDecay (g lam : EReal) : EReal :=
  Ideal.ofBits .f32 0xC1000000#32 * Ideal.logistic g * softplus (-lam)

/-- The word of two. -/
theorem two : Ideal.ofBits .f32 0x40000000#32 = (2 : EReal) := by
  simp [Ideal.ofBits, Ideal.ieee]
  norm_cast
  norm_num
  rfl

/-- The factor that keeps the state's variance. -/
def keepScale (a : EReal) : EReal := Ideal.sqrt (-(Ideal.exp (Ideal.ofBits .f32 0x40000000#32 * a) - 1))

/-- One step of the recurrence. -/
def advance (a g x h : EReal) : EReal := Ideal.exp a * h + keepScale a * Ideal.logistic g * x

/-- The smooth gate, by its approximation with the hyperbolic tangent. -/
def gelu (g : EReal) : EReal :=
  g * (Ideal.ofBits .f32 0x3F000000#32 * (1 + Ideal.tanh (Ideal.ofBits .f32 0x3F4C422A#32
    * (g + Ideal.ofBits .f32 0x3D372713#32 * (g * g * g)))))

/-- The kernel's form of the factor under the root. -/
theorem keepScale_eq (a : EReal) : Ideal.sqrt (-(Ideal.tanh a) * (Ideal.exp (Ideal.ofBits .f32 0x40000000#32 * a) + 1)) = keepScale a := by
  unfold keepScale
  rw [two]
  congr 1
  induction a with
  | bot => rw [EReal.mul_bot_of_pos (by norm_num)]; simp
  | top =>
    rw [EReal.mul_top_of_pos (by norm_num)]
    simp
    rfl
  | coe r =>
    have e : (2 : EReal) * (r : EReal) = ((2 * r : ℝ) : EReal) := by norm_cast
    rw [e, Ideal.exp_coe, Ideal.tanh_coe]
    have q : -Real.tanh r * (Real.exp (2 * r) + 1) = -(Real.exp (2 * r) - 1) := by
      have hp := Real.exp_pos r
      have hs : Real.exp (2 * r) = Real.exp r * Real.exp r := by rw [← Real.exp_add]; ring_nf
      have hn : Real.exp (-r) = (Real.exp r)⁻¹ := Real.exp_neg r
      have hd : Real.exp r * Real.exp r + 1 ≠ 0 := by positivity
      rw [Real.tanh_eq_sinh_div_cosh, Real.sinh_eq, Real.cosh_eq, hs, hn]
      field_simp
    exact_mod_cast congrArg (fun x : ℝ => (x : EReal)) q

/-- Column `64 b + j` of eight blocks of 64. -/
abbrev inBlock (b : Fin 8) (j : Fin 64) : Fin 512 := ⟨b.val * 64 + j.val, by omega⟩

/-- A sum over 512 columns against a matrix that is zero outside block `b` is the sum over that block. -/
theorem sum_block (f : Fin 512 → EReal) (w : Fin 64 → EReal) (b : Fin 8) (v : Fin 512 → EReal)
    (h0 : ∀ (p : Fin 8) (j : Fin 64), p ≠ b → v (inBlock p j) = 0) (h1 : ∀ j : Fin 64, v (inBlock b j) = w j) :
    ∑ k, f k * v k = ∑ j : Fin 64, f (inBlock b j) * w j := by
  have e : ∑ k, f k * v k = ∑ p : Fin 8, ∑ j : Fin 64, f (inBlock p j) * v (inBlock p j) := by
    rw [← Fintype.sum_prod_type', ← (finProdFinEquiv (m := 8) (n := 64)).sum_comp]
    refine Finset.sum_congr rfl fun q _ => ?_
    have : finProdFinEquiv q = inBlock q.1 q.2 := Fin.ext (by show q.2.val + 64 * q.1.val = q.1.val * 64 + q.2.val; omega)
    rw [this]
  rw [e, Finset.sum_eq_single b]
  · exact Finset.sum_congr rfl fun j _ => by rw [h1]
  · intro p _ hp
    exact Finset.sum_eq_zero fun j _ => by rw [h0 p j hp, mul_zero]
  · exact fun h => absurd (Finset.mem_univ b) h

/-- The unit's block, and its place there. -/
abbrev blockOf (k : Fin 512) : Fin 8 := ⟨k.val / 64, by omega⟩
abbrev placeOf (k : Fin 512) : Fin 64 := ⟨k.val % 64, by omega⟩

/-- The recurrence's input at unit `k`: the convolution of the kept entries `s` and the projected one, plus the bias. -/
def mixed (z : Fin 13312 → EReal) (s : Fin 3 → Fin 512 → EReal) (w : Fin 4 → Fin 512 → EReal) (b : Fin 512 → EReal)
    (k : Fin 512) : EReal :=
  conv4 (s 0 k) (s 1 k) (s 2 k) (z ⟨8192 + k.val, by omega⟩) (w 0 k) (w 1 k) (w 2 k) (w 3 k) + b k

/-- A gate's logit at unit `k`: the input's block against the block's weights, plus the bias. -/
def gateAt (x : Fin 512 → EReal) (w : Fin 8 → Fin 64 → Fin 64 → EReal) (b : Fin 512 → EReal) (k : Fin 512) : EReal :=
  ∑ i : Fin 64, x (inBlock (blockOf k) i) * w (blockOf k) i (placeOf k) + b k

/-- The new state at unit `k`. -/
def stateAt (x : Fin 512 → EReal) (wa : Fin 8 → Fin 64 → Fin 64 → EReal) (ba : Fin 512 → EReal)
    (wx : Fin 8 → Fin 64 → Fin 64 → EReal) (bx lam h : Fin 512 → EReal) (k : Fin 512) : EReal :=
  advance (logDecay (gateAt x wa ba k) (lam k)) (gateAt x wx bx k) (x k) (h k)

/-- A square of 512 that holds the eight blocks on its diagonal and zero elsewhere. -/
def Blocked (v : Fin 512 → Fin 512 → EReal) (w : Fin 8 → Fin 64 → Fin 64 → EReal) : Prop :=
  ∀ (p : Fin 8) (j : Fin 64) (k : Fin 512), v (inBlock p j) k = if p = blockOf k then w p j (placeOf k) else 0

/-- Against such a square the whole row's product is the block's. -/
theorem sum_blocked {v : Fin 512 → Fin 512 → EReal} {w : Fin 8 → Fin 64 → Fin 64 → EReal} (hv : Blocked v w)
    (x b : Fin 512 → EReal) (k : Fin 512) : ∑ j, x j * v j k + b k = gateAt x w b k := by
  unfold gateAt
  rw [sum_block x (fun i => w (blockOf k) i (placeOf k)) (blockOf k) (fun j => v j k)
    (fun p j hp => (hv p j k).trans (if_neg hp)) (fun j => (hv _ j k).trans (if_pos rfl))]

/-- Equal taps and weights. -/
theorem conv4_congr {s0 s1 s2 x w0 w1 w2 w3 s0' s1' s2' x' w0' w1' w2' w3' : EReal} (e0 : s0 = s0') (e1 : s1 = s1')
    (e2 : s2 = s2') (e3 : x = x') (f0 : w0 = w0') (f1 : w1 = w1') (f2 : w2 = w2') (f3 : w3 = w3') :
    conv4 s0 s1 s2 x w0 w1 w2 w3 = conv4 s0' s1' s2' x' w0' w1' w2' w3' := by
  rw [e0, e1, e2, e3, f0, f1, f2, f3]

/-- The same of three. -/
theorem conv3_congr {s0 s1 x w0 w1 w2 s0' s1' x' w0' w1' w2' : EReal} (e0 : s0 = s0') (e1 : s1 = s1') (e2 : x = x')
    (f0 : w0 = w0') (f1 : w1 = w1') (f2 : w2 = w2') : conv3 s0 s1 x w0 w1 w2 = conv3 s0' s1' x' w0' w1' w2' := by
  rw [e0, e1, e2, f0, f1, f2]

/-- Two rows side by side. -/
def joined {p q n : Nat} (e : n = p + q) (a : Fin p → EReal) (b : Fin q → EReal) (j : Fin n) : EReal :=
  if h : j.val < p then a ⟨j.val, h⟩ else b ⟨j.val - p, by omega⟩

theorem joined_left {p q n : Nat} (e : n = p + q) (a : Fin p → EReal) (b : Fin q → EReal) (j : Fin n) (k : Fin p)
    (h : j.val = k.val) : joined e a b j = a k := by
  unfold joined
  rw [dif_pos (h ▸ k.isLt)]
  exact congrArg a (Fin.ext h)

theorem joined_right {p q n : Nat} (e : n = p + q) (a : Fin p → EReal) (b : Fin q → EReal) (j : Fin n) (k : Fin q)
    (h : j.val = p + k.val) : joined e a b j = b k := by
  unfold joined
  rw [dif_neg (by omega)]
  exact congrArg b (Fin.ext (by show j.val - p = k.val; omega))

/-! ## The seven results, from the arguments' arrays -/

/-- The shapes of the arguments and results. -/
abbrev Rows (n : Nat) : Shape := ⟨2, ![32, n]⟩
abbrev Kept (p n : Nat) : Shape := ⟨3, ![32, p, n]⟩
abbrev Taps (p n : Nat) : Shape := ⟨2, ![p, n]⟩
abbrev Unit512 : Shape := ⟨1, ![512]⟩
abbrev Blocks : Shape := ⟨3, ![8, 64, 64]⟩

/-- The first convolution, times its logistic. -/
def actOut (z : (Rows 13312).Idx → EReal) (s : (Kept 3 1536).Idx → EReal) (w : (Taps 4 1536).Idx → EReal) : (Rows 1536).Idx → EReal :=
  fun y => silu (conv4 (s (ix3 (y 0) 0 (y 1))) (s (ix3 (y 0) 1 (y 1))) (s (ix3 (y 0) 2 (y 1)))
    (z (ix2 (y 0) ⟨(y 1).val, (y 1).isLt.trans (by decide)⟩)) (w (ix2 0 (y 1))) (w (ix2 1 (y 1))) (w (ix2 2 (y 1))) (w (ix2 3 (y 1))))

/-- Its entries kept for the next step. -/
def actKept (z : (Rows 13312).Idx → EReal) (s : (Kept 3 1536).Idx → EReal) : (Rows 4608).Idx → EReal :=
  fun y => joined (n := 4608) (p := 3072) (q := 1536) (by norm_num)
    (fun k => s (ix3 (y 0) ⟨k.val / 1536 + 1, by omega⟩ ⟨k.val % 1536, by omega⟩)) (fun k => z (ix2 (y 0) ⟨k.val, by omega⟩)) (y 1)

/-- The double-gated convolution. -/
def gatedOut (z : (Rows 13312).Idx → EReal) (s : (Kept 2 512).Idx → EReal) (w : (Taps 3 512).Idx → EReal) : (Rows 512).Idx → EReal :=
  fun y => z (ix2 (y 0) ⟨6656 + (y 1).val, Nat.add_lt_add_left (y 1).isLt _ |>.trans_le (by decide)⟩)
    * conv3 (s (ix3 (y 0) 0 (y 1))) (s (ix3 (y 0) 1 (y 1)))
      (z (ix2 (y 0) ⟨7168 + (y 1).val, Nat.add_lt_add_left (y 1).isLt _ |>.trans_le (by decide)⟩)
        * z (ix2 (y 0) ⟨7680 + (y 1).val, Nat.add_lt_add_left (y 1).isLt _ |>.trans_le (by decide)⟩))
      (w (ix2 0 (y 1))) (w (ix2 1 (y 1))) (w (ix2 2 (y 1)))

/-- Its entries kept. -/
def gatedKept (z : (Rows 13312).Idx → EReal) (s : (Kept 2 512).Idx → EReal) : (Rows 1024).Idx → EReal :=
  fun y => joined (n := 1024) (p := 512) (q := 512) (by norm_num) (fun k => s (ix3 (y 0) 1 k))
    (fun k => z (ix2 (y 0) ⟨7168 + k.val, by omega⟩) * z (ix2 (y 0) ⟨7680 + k.val, by omega⟩)) (y 1)

/-- The recurrence's new state. -/
def stateOut (z : (Rows 13312).Idx → EReal) (s : (Kept 3 512).Idx → EReal) (h : (Rows 512).Idx → EReal) (w : (Taps 4 512).Idx → EReal)
    (b : Unit512.Idx → EReal) (wa : Blocks.Idx → EReal) (ba : Unit512.Idx → EReal) (wx : Blocks.Idx → EReal)
    (bx lam : Unit512.Idx → EReal) : (Rows 512).Idx → EReal :=
  fun y => stateAt (mixed (fun j => z (ix2 (y 0) j)) (fun p j => s (ix3 (y 0) p j)) (fun p j => w (ix2 p j)) (fun j => b (ix1 j)))
    (fun p i o => wa (ix3 p i o)) (fun j => ba (ix1 j)) (fun p i o => wx (ix3 p i o)) (fun j => bx (ix1 j)) (fun j => lam (ix1 j))
    (fun j => h (ix2 (y 0) j)) (y 1)

/-- The recurrence's output: a state, gated. -/
def recOut (z : (Rows 13312).Idx → EReal) (h : (Rows 512).Idx → EReal) : (Rows 512).Idx → EReal :=
  fun y => h y * gelu (z (ix2 (y 0) ⟨8704 + (y 1).val, Nat.add_lt_add_left (y 1).isLt _ |>.trans_le (by decide)⟩))

/-- The entries its convolution keeps. -/
def mixKept (z : (Rows 13312).Idx → EReal) (s : (Kept 3 512).Idx → EReal) : (Rows 1536).Idx → EReal :=
  fun y => joined (n := 1536) (p := 1024) (q := 512) (by norm_num)
    (fun k => s (ix3 (y 0) ⟨k.val / 512 + 1, by omega⟩ ⟨k.val % 512, by omega⟩)) (fun k => z (ix2 (y 0) ⟨8192 + k.val, by omega⟩)) (y 1)

end Cert.StepSpec
-- ==== Proof.StepBlock.lean ====
/-
  The sample step: what the kernel's body leaves at an entry, and its blocks in the argument arrays.
-/
module

public import proofs.«01_k».proof.Proof.Gen.StepIdeal.Value
public import proofs.«01_k».proof.Proof.StepSpec
public import Idealize.ShloMosaic.Lib.Pipeline.ValueKit.Tiles

@[expose] public section

set_option maxRecDepth 16384

noncomputable section

open Idealize.ShloMosaic Idealize.ShloMosaic.TcCoe Idealize.SL.Sem

namespace Cert.StepIdeal.Value

open Cert.StepIdeal Cert.StepIdeal.Gen Cert.StepSpec Cert.Index

/-! ## The payloads at an entry -/

theorem pay3_apply (x : Vec Ideal S32x1536 .f32) (w3 w0 : Vec Ideal S1x1536 .f32) (s0 : Vec Ideal S32x1536 .f32)
    (w1 : Vec Ideal S1x1536 .f32) (s1 : Vec Ideal S32x1536 .f32) (w2 : Vec Ideal S1x1536 .f32) (s2 : Vec Ideal S32x1536 .f32)
    (r : Fin 32) (k : Fin 1536) :
    k0_pay3 x w3 w0 s0 w1 s1 w2 s2 (ix2 r k)
      = silu (conv4 (s0 (ix2 r k)) (s1 (ix2 r k)) (s2 (ix2 r k)) (x (ix2 r k)) (w0 (ix2 0 k)) (w1 (ix2 0 k)) (w2 (ix2 0 k)) (w3 (ix2 0 k))) := by
  rw [← conv4_eq]
  unfold silu
  pointwise [k0_pay3]

theorem pay4_apply (x : Vec Ideal S32x3072 .f32) (r : Fin 32) (k : Fin 3072) : k0_pay4 x (ix2 r k) = x (ix2 r k) := by
  pointwise [k0_pay4]

theorem pay5_apply (x y : Vec Ideal S32x512 .f32) (r : Fin 32) (k : Fin 512) :
    k0_pay5 x y (ix2 r k) = x (ix2 r k) * y (ix2 r k) := by
  pointwise [k0_pay5]

theorem pay6_apply (b g u : Vec Ideal S32x512 .f32) (w2 w0 : Vec Ideal S1x512 .f32) (s0 : Vec Ideal S32x512 .f32)
    (w1 : Vec Ideal S1x512 .f32) (s1 : Vec Ideal S32x512 .f32) (r : Fin 32) (k : Fin 512) :
    k0_pay6 b g u w2 w0 s0 w1 s1 (ix2 r k)
      = b (ix2 r k) * conv3 (s0 (ix2 r k)) (s1 (ix2 r k)) (g (ix2 r k) * u (ix2 r k)) (w0 (ix2 0 k)) (w1 (ix2 0 k)) (w2 (ix2 0 k)) := by
  rw [← conv3_eq]
  pointwise [k0_pay6, k0_pay5]

theorem pay7_apply (x : Vec Ideal S32x512 .f32) (r : Fin 32) (k : Fin 512) : k0_pay7 x (ix2 r k) = x (ix2 r k) := by
  pointwise [k0_pay7]

theorem pay2_apply (x : Vec Ideal S32x1024 .f32) (r : Fin 32) (k : Fin 1024) : k0_pay2 x (ix2 r k) = x (ix2 r k) := by
  pointwise [k0_pay2]

theorem pay9_apply (x : Vec Ideal S32x512 .f32) (w3 w0 : Vec Ideal S1x512 .f32) (s0 : Vec Ideal S32x512 .f32)
    (w1 : Vec Ideal S1x512 .f32) (s1 : Vec Ideal S32x512 .f32) (w2 : Vec Ideal S1x512 .f32) (s2 : Vec Ideal S32x512 .f32)
    (b : Vec Ideal S1x512 .f32) (r : Fin 32) (k : Fin 512) :
    k0_pay9 (k0_pay8 x w3) w0 s0 w1 s1 w2 s2 b (ix2 r k)
      = conv4 (s0 (ix2 r k)) (s1 (ix2 r k)) (s2 (ix2 r k)) (x (ix2 r k)) (w0 (ix2 0 k)) (w1 (ix2 0 k)) (w2 (ix2 0 k)) (w3 (ix2 0 k))
        + b (ix2 0 k) := by
  rw [← conv4_eq]
  pointwise [k0_pay9, k0_pay8]

section Gates

variable (x : FVec Ideal S32x512 .f32) (w0 : Vec Ideal S1x512 .f32) (s0 : Vec Ideal S32x512 .f32)
    (w1 : Vec Ideal S1x512 .f32) (s1 : Vec Ideal S32x512 .f32) (w2 : Vec Ideal S1x512 .f32) (s2 : Vec Ideal S32x512 .f32)
    (b : Vec Ideal S1x512 .f32) (w : Vec Ideal S512x512 .bf16) (bias : Vec Ideal S1x512 .f32) (r : Fin 32) (k : Fin 512)

theorem pay10_eq : (k0_pay10 x w0 s0 w1 s1 w2 s2 b : S32x512.Idx → EReal) = k0_pay9 x w0 s0 w1 s1 w2 s2 b := rfl

theorem pay11_apply :
    k0_pay11 x w0 s0 w1 s1 w2 s2 b w bias (ix2 r k)
      = Ideal.logistic (∑ j, k0_pay9 x w0 s0 w1 s1 w2 s2 b (ix2 r j) * w (ix2 j k) + bias (ix2 0 k)) := by
  rw [← pay10_eq]
  generalize hp : k0_pay10 x w0 s0 w1 s1 w2 s2 b = p
  unfold k0_pay11
  rw [hp]
  pointwise

theorem pay12_apply :
    k0_pay12 x w0 s0 w1 s1 w2 s2 b w (ix2 r k) = ∑ j, k0_pay9 x w0 s0 w1 s1 w2 s2 b (ix2 r j) * w (ix2 j k) := by
  rw [← pay10_eq]
  generalize hp : k0_pay10 x w0 s0 w1 s1 w2 s2 b = p
  unfold k0_pay12
  rw [hp]
  pointwise

theorem pay13_apply : k0_pay13 bias (ix2 r k) = bias (ix2 0 k) := by
  pointwise [k0_pay13]

end Gates

theorem pay14_apply (xc ga gx bx : FVec Ideal S32x512 .f32) (lam : Vec Ideal S1x512 .f32) (h : Vec Ideal S32x512 .f32)
    (r : Fin 32) (k : Fin 512) (a : EReal) (ha : ga (ix2 r k) = Ideal.logistic a) :
    k0_pay14 xc ga gx bx lam h (ix2 r k)
      = advance (logDecay a (lam (ix2 0 k))) (gx (ix2 r k) + bx (ix2 r k)) (xc (ix2 r k)) (h (ix2 r k)) := by
  unfold advance
  rw [← keepScale_eq]
  unfold logDecay softplus
  rw [← ha, ← zero_sub (lam (ix2 0 k)), ← zero_sub (max _ _), ← zero_sub (Ideal.tanh _)]
  pointwise [k0_pay14]
  rfl

theorem pay1_apply (g h : Vec Ideal S32x512 .f32) (r : Fin 32) (k : Fin 512) :
    k0_pay1 g h (k0_pay15 g) (Scalar.ofBits .f32 0x3F800000#32) (ix2 r k) = h (ix2 r k) * gelu (g (ix2 r k)) := by
  unfold gelu
  rw [mul_comm (g (ix2 r k) * g (ix2 r k))]
  pointwise [k0_pay1, k0_pay15]

/-! ## What the body leaves -/

theorem hz : (![0, 0] : Fin 2 → Nat) = fun _ => 0 := funext fun a => by fin_cases a <;> rfl

/-- A load of a rectangle, at an entry. -/
theorem ldAt {n0 n1 : Nat} {e : EltTy} (X : (⟨2, ![n0, n1]⟩ : Shape).Idx → Elt Ideal e) (o0 o1 : Nat) (size : Fin 2 → Nat) (inb)
    (x : (Rect.unit (s := ⟨2, ![n0, n1]⟩) ![o0, o1] size inb).shape.Idx) (a : Fin n0) (b : Fin n1)
    (h0 : a.val = o0 + (x 0).val) (h1 : b.val = o1 + (x 1).val) :
    View.ld X (Rect.unit (s := ⟨2, ![n0, n1]⟩) ![o0, o1] size inb) x = X (ix2 a b) :=
  View.ld_unit_apply_of X _ _ _ x _ (Fin.forall_fin_two.2 ⟨h0, h1⟩)

/-- The recurrence's input, as the body has it. -/
def mixedBlock (x0 : Vec Ideal S32x13312 .f32) (x3 : Vec Ideal S32x1536 .f32) (x7 : Vec Ideal S4x512 .f32) (x8 : Vec Ideal S1x512 .f32)
    (G : (a : FVec Ideal S32x512 .f32) → (w0 : Vec Ideal S1x512 .f32) → (s0 : Vec Ideal S32x512 .f32) → (w1 : Vec Ideal S1x512 .f32) →
      (s1 : Vec Ideal S32x512 .f32) → (w2 : Vec Ideal S1x512 .f32) → (s2 : Vec Ideal S32x512 .f32) → (b : Vec Ideal S1x512 .f32) →
      FVec Ideal S32x512 .f32) : FVec Ideal S32x512 .f32 :=
  G (k0_pay8 (View.ld x0 (Rect.unit (s := S32x13312) ![0, 8192] S32x512.size inb_S32x13312_S32x512_0_8192))
      (View.ld x7 (Rect.unit (s := S4x512) ![3, 0] S1x512.size inb_S4x512_S1x512_3_0)))
    (View.ld x7 (Rect.unit (s := S4x512) ![0, 0] S1x512.size inb_S4x512_S1x512_0_0))
    (View.ld x3 (Rect.unit (s := S32x1536) ![0, 0] S32x512.size inb_S32x1536_S32x512_0_0))
    (View.ld x7 (Rect.unit (s := S4x512) ![1, 0] S1x512.size inb_S4x512_S1x512_1_0))
    (View.ld x3 (Rect.unit (s := S32x1536) ![0, 512] S32x512.size inb_S32x1536_S32x512_0_512))
    (View.ld x7 (Rect.unit (s := S4x512) ![2, 0] S1x512.size inb_S4x512_S1x512_2_0))
    (View.ld x3 (Rect.unit (s := S32x1536) ![0, 1024] S32x512.size inb_S32x1536_S32x512_0_1024)) x8

/-- The new state, as the body computes it. -/
def newState (x0 : Vec Ideal S32x13312 .f32) (x3 : Vec Ideal S32x1536 .f32) (x4 : Vec Ideal S32x512 .f32) (x7 : Vec Ideal S4x512 .f32)
    (x8 : Vec Ideal S1x512 .f32) (x9 : Vec Ideal S512x512 .bf16) (x10 : Vec Ideal S1x512 .f32) (x11 : Vec Ideal S512x512 .bf16)
    (x12 x13 : Vec Ideal S1x512 .f32) : FVec Ideal S32x512 .f32 :=
  k0_pay14 (mixedBlock x0 x3 x7 x8 k0_pay9)
    (mixedBlock x0 x3 x7 x8 fun a w0 s0 w1 s1 w2 s2 b => k0_pay11 a w0 s0 w1 s1 w2 s2 b x9 x10)
    (mixedBlock x0 x3 x7 x8 fun a w0 s0 w1 s1 w2 s2 b => k0_pay12 a w0 s0 w1 s1 w2 s2 b x11) (k0_pay13 x12) x13 x4

/-- The input at an entry. -/
theorem mixedBlock_apply (x0 : Vec Ideal S32x13312 .f32) (x3 : Vec Ideal S32x1536 .f32) (x7 : Vec Ideal S4x512 .f32)
    (x8 : Vec Ideal S1x512 .f32) (r : Fin 32) (j : Fin 512) :
    mixedBlock x0 x3 x7 x8 k0_pay9 (ix2 r j)
      = mixed (fun j => x0 (ix2 r j)) (fun p j => x3 (ix2 r ⟨512 * p.val + j.val, by omega⟩)) (fun p j => x7 (ix2 p j))
          (fun j => x8 (ix2 0 j)) j := by
  refine (pay9_apply _ _ _ _ _ _ _ _ _ r j).trans (congrArg₂ (· + ·) (conv4_congr ?_ ?_ ?_ ?_ ?_ ?_ ?_ ?_) rfl)
  all_goals first | exact ldAt _ _ _ _ _ _ _ _ (Nat.zero_add _).symm rfl | exact ldAt _ _ _ _ _ _ _ _ rfl (Nat.zero_add _).symm

/-- The new state at an entry. -/
theorem newState_apply (x0 : Vec Ideal S32x13312 .f32) (x3 : Vec Ideal S32x1536 .f32) (x4 : Vec Ideal S32x512 .f32) (x7 : Vec Ideal S4x512 .f32)
    (x8 : Vec Ideal S1x512 .f32) (x9 : Vec Ideal S512x512 .bf16) (x10 : Vec Ideal S1x512 .f32) (x11 : Vec Ideal S512x512 .bf16)
    (x12 x13 : Vec Ideal S1x512 .f32) (wa wx : Fin 8 → Fin 64 → Fin 64 → EReal) (ha : Blocked (fun i k => x9 (ix2 i k)) wa)
    (hx : Blocked (fun i k => x11 (ix2 i k)) wx) (r : Fin 32) (k : Fin 512) :
    newState x0 x3 x4 x7 x8 x9 x10 x11 x12 x13 (ix2 r k)
      = stateAt (mixed (fun j => x0 (ix2 r j)) (fun p j => x3 (ix2 r ⟨512 * p.val + j.val, by omega⟩)) (fun p j => x7 (ix2 p j))
          (fun j => x8 (ix2 0 j))) wa (fun j => x10 (ix2 0 j)) wx (fun j => x12 (ix2 0 j)) (fun j => x13 (ix2 0 j))
          (fun j => x4 (ix2 r j)) k := by
  have em := mixedBlock_apply x0 x3 x7 x8 r
  refine (pay14_apply _ _ _ _ _ _ r k _ ((pay11_apply _ _ _ _ _ _ _ _ _ _ r k).trans
    (congrArg Ideal.logistic ((congrArg (· + x10 (ix2 0 k)) (Finset.sum_congr rfl fun j _ => congrArg (· * x9 (ix2 j k)) (em j))).trans
      (sum_blocked ha _ (fun j => x10 (ix2 0 j)) k))))).trans ?_
  unfold stateAt
  rw [em k, pay13_apply]
  exact congrArg (fun g => advance _ g _ _) ((congrArg (· + x12 (ix2 0 k)) ((pay12_apply _ _ _ _ _ _ _ _ _ r k).trans
    (Finset.sum_congr rfl fun j _ => congrArg (· * x11 (ix2 j k)) (em j)))).trans (sum_blocked hx _ (fun j => x12 (ix2 0 j)) k))

/-- Two stores side by side, read back. -/
theorem canon_two {n p q : Nat} (e : n = p + q) (a : (⟨2, ![32, p]⟩ : Shape).Idx → Elt Ideal .f32)
    (b : (⟨2, ![32, q]⟩ : Shape).Idx → Elt Ideal .f32) (inb) (inb') :
    View.canon [⟨Rect.unit (s := ⟨2, ![32, n]⟩) ![0, p] (⟨2, ![32, q]⟩ : Shape).size inb, b⟩,
        ⟨Rect.unit (s := ⟨2, ![32, n]⟩) ![0, 0] (⟨2, ![32, p]⟩ : Shape).size inb', a⟩]
      = fun y => joined e (fun k => a (ix2 (y 0) k)) (fun k => b (ix2 (y 0) k)) (y 1) := by
  subst e
  funext y
  obtain ⟨r, k, rfl⟩ : ∃ (r : Fin 32) (k : Fin (p + q)), y = ix2 r k := ⟨y 0, y 1, eq_ix2 y⟩
  by_cases h : k.val < p
  · refine Eq.trans ?_ (joined_left rfl _ _ k ⟨k.val, h⟩ rfl).symm
    refine (View.canon_cons_of_not_mem (Val := Elt Ideal) _ _ ?_).trans ?_
    · rw [Rect.mem_set_unit]
      intro hm
      have : p ≤ k.val := (hm 1).1
      omega
    · exact (congrArg (View.canon (Val := Elt Ideal) _) (ext2 _ r k (by show 0 + 1 * r.val = r.val; omega)
        (by show 0 + 1 * k.val = k.val; omega)).symm).trans
        (View.canon_cons_emb (Val := Elt Ideal) (Rect.unit (s := ⟨2, ![32, p + q]⟩) ![0, 0] (⟨2, ![32, p]⟩ : Shape).size inb') a []
          (ix2 r ⟨k.val, h⟩))
  · refine Eq.trans ?_ (joined_right rfl _ _ k ⟨k.val - p, by omega⟩ (by show k.val = p + (k.val - p); omega)).symm
    exact (congrArg (View.canon (Val := Elt Ideal) _) (ext2 _ r k (by show 0 + 1 * r.val = r.val; omega)
      (by show p + 1 * (k.val - p) = k.val; omega)).symm).trans
      (View.canon_cons_emb (Val := Elt Ideal) (Rect.unit (s := ⟨2, ![32, p + q]⟩) ![0, p] (⟨2, ![32, q]⟩ : Shape).size inb) b _
        (ix2 r ⟨k.val - p, by omega⟩))

section Outs

variable (c : Dev nD)
  (a0 : Memref sig .tc .vmem S32x13312 .f32) (h0 : a0.IsWhole)
  (a1 : Memref sig .tc .vmem S32x4608 .f32) (h1 : a1.IsWhole)
  (a2 : Memref sig .tc .vmem S32x1024 .f32) (h2 : a2.IsWhole)
  (a3 : Memref sig .tc .vmem S32x1536 .f32) (h3 : a3.IsWhole)
  (a4 : Memref sig .tc .vmem S32x512 .f32) (h4 : a4.IsWhole)
  (a5 : Memref sig .tc .vmem S4x1536 .f32) (h5 : a5.IsWhole)
  (a6 : Memref sig .tc .vmem S3x512 .f32) (h6 : a6.IsWhole)
  (a7 : Memref sig .tc .vmem S4x512 .f32) (h7 : a7.IsWhole)
  (a8 : Memref sig .tc .vmem S1x512 .f32) (h8 : a8.IsWhole)
  (a9 : Memref sig .tc .vmem S512x512 .bf16) (h9 : a9.IsWhole)
  (a10 : Memref sig .tc .vmem S1x512 .f32) (h10 : a10.IsWhole)
  (a11 : Memref sig .tc .vmem S512x512 .bf16) (h11 : a11.IsWhole)
  (a12 : Memref sig .tc .vmem S1x512 .f32) (h12 : a12.IsWhole)
  (a13 : Memref sig .tc .vmem S1x512 .f32) (h13 : a13.IsWhole)
  (a14 : Memref sig .tc .vmem S32x1536 .f32) (h14 : a14.IsWhole)
  (a15 : Memref sig .tc .vmem S32x4608 .f32) (h15 : a15.IsWhole)
  (a16 : Memref sig .tc .vmem S32x512 .f32) (h16 : a16.IsWhole)
  (a17 : Memref sig .tc .vmem S32x1024 .f32) (h17 : a17.IsWhole)
  (a18 : Memref sig .tc .vmem S32x512 .f32) (h18 : a18.IsWhole)
  (a19 : Memref sig .tc .vmem S32x512 .f32) (h19 : a19.IsWhole)
  (a20 : Memref sig .tc .vmem S32x1536 .f32) (h20 : a20.IsWhole)
  (x0 : Vec Ideal S32x13312 .f32)
  (x1 : Vec Ideal S32x4608 .f32)
  (x2 : Vec Ideal S32x1024 .f32)
  (x3 : Vec Ideal S32x1536 .f32)
  (x4 : Vec Ideal S32x512 .f32)
  (x5 : Vec Ideal S4x1536 .f32)
  (x6 : Vec Ideal S3x512 .f32)
  (x7 : Vec Ideal S4x512 .f32)
  (x8 : Vec Ideal S1x512 .f32)
  (x9 : Vec Ideal S512x512 .bf16)
  (x10 : Vec Ideal S1x512 .f32)
  (x11 : Vec Ideal S512x512 .bf16)
  (x12 : Vec Ideal S1x512 .f32)
  (x13 : Vec Ideal S1x512 .f32)

/-- The first convolution, gated by its logistic. -/
theorem act_apply (r : Fin 32) (k : Fin 1536) :
    out0_A_14 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 (ix2 r k)
      = silu (conv4 (x1 (ix2 r ⟨k.val, by omega⟩)) (x1 (ix2 r ⟨1536 + k.val, by omega⟩)) (x1 (ix2 r ⟨3072 + k.val, by omega⟩))
          (x0 (ix2 r ⟨k.val, by omega⟩)) (x5 (ix2 0 k)) (x5 (ix2 1 k)) (x5 (ix2 2 k)) (x5 (ix2 3 k))) := by
  unfold out0_A_14
  rw [View.read_writes_eq_canon _ _ _ (cover0_A_14 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread]
  refine (pay3_apply _ _ _ _ _ _ _ _ r k).trans (congrArg silu (conv4_congr ?_ ?_ ?_ ?_ ?_ ?_ ?_ ?_))
  all_goals first | exact ldAt _ _ _ _ _ _ _ _ (Nat.zero_add _).symm (Nat.zero_add _).symm | exact ldAt _ _ _ _ _ _ _ _ (Nat.zero_add _).symm rfl | exact ldAt _ _ _ _ _ _ _ _ rfl (Nat.zero_add _).symm

/-- The double-gated convolution. -/
theorem oc_apply (r : Fin 32) (k : Fin 512) :
    out0_A_16 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 (ix2 r k)
      = x0 (ix2 r ⟨6656 + k.val, by omega⟩) * conv3 (x2 (ix2 r ⟨k.val, by omega⟩)) (x2 (ix2 r ⟨512 + k.val, by omega⟩))
          (x0 (ix2 r ⟨7168 + k.val, by omega⟩) * x0 (ix2 r ⟨7680 + k.val, by omega⟩)) (x6 (ix2 0 k)) (x6 (ix2 1 k)) (x6 (ix2 2 k)) := by
  unfold out0_A_16
  rw [View.read_writes_eq_canon _ _ _ (cover0_A_16 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread]
  refine (pay6_apply _ _ _ _ _ _ _ _ r k).trans (congrArg₂ (· * ·) ?_ (conv3_congr ?_ ?_ (congrArg₂ (· * ·) ?_ ?_) ?_ ?_ ?_))
  all_goals first | exact ldAt _ _ _ _ _ _ _ _ (Nat.zero_add _).symm (Nat.zero_add _).symm | exact ldAt _ _ _ _ _ _ _ _ (Nat.zero_add _).symm rfl | exact ldAt _ _ _ _ _ _ _ _ rfl (Nat.zero_add _).symm

/-- The new state's buffer. -/
theorem state_eq :
    out0_A_19 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 = newState x0 x3 x4 x7 x8 x9 x10 x11 x12 x13 := by
  unfold out0_A_19
  rw [View.read_writes_eq_canon _ _ _ (cover0_A_19 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S1x512) hz, View.ld_unit_zero (S := S512x512) hz,
    View.ld_unit_zero (S := S32x512) hz]
  rfl

/-- The gated state. -/
theorem od_apply (r : Fin 32) (k : Fin 512) :
    out0_A_18 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 (ix2 r k)
      = newState x0 x3 x4 x7 x8 x9 x10 x11 x12 x13 (ix2 r k) * gelu (x0 (ix2 r ⟨8704 + k.val, by omega⟩)) := by
  unfold out0_A_18
  rw [View.read_writes_eq_canon _ _ _ (cover0_A_18 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S1x512) hz, View.ld_unit_zero (S := S512x512) hz,
    View.ld_unit_zero (S := S32x512) hz]
  refine (pay1_apply _ _ r k).trans (congrArg₂ (· * ·) rfl (congrArg gelu ?_))
  exact ldAt _ _ _ _ _ _ _ _ (Nat.zero_add _).symm rfl

/-- The first convolution's kept entries: the two later ones, and the new. -/
theorem gcs_eq :
    out0_A_15 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13
      = fun y => joined (n := 4608) (p := 3072) (q := 1536) (by norm_num) (fun k => x1 (ix2 (y 0) ⟨1536 + k.val, by omega⟩)) (fun k => x0 (ix2 (y 0) ⟨k.val, by omega⟩)) (y 1) := by
  unfold out0_A_15
  rw [View.read_writes_eq_canon _ _ _ (cover0_A_15 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread]
  refine (canon_two (by norm_num) _ _ _ _).trans (funext fun y => ?_)
  exact congrArg₂ (fun a b => joined (by norm_num) a b (y 1)) (funext fun k => (pay4_apply _ (y 0) k).trans (ldAt _ _ _ _ _ _ _ _ (Nat.zero_add _).symm rfl)) (funext fun k => ldAt _ _ _ _ _ _ _ _ (Nat.zero_add _).symm (Nat.zero_add _).symm)

/-- The double-gated convolution's kept entries. -/
theorem scs_eq :
    out0_A_17 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13
      = fun y => joined (n := 1024) (p := 512) (q := 512) (by norm_num) (fun k => x2 (ix2 (y 0) ⟨512 + k.val, by omega⟩)) (fun k => x0 (ix2 (y 0) ⟨7168 + k.val, by omega⟩) * x0 (ix2 (y 0) ⟨7680 + k.val, by omega⟩)) (y 1) := by
  unfold out0_A_17
  rw [View.read_writes_eq_canon _ _ _ (cover0_A_17 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread]
  refine (canon_two (by norm_num) _ _ _ _).trans (funext fun y => ?_)
  exact congrArg₂ (fun a b => joined (by norm_num) a b (y 1)) (funext fun k => (pay7_apply _ (y 0) k).trans (ldAt _ _ _ _ _ _ _ _ (Nat.zero_add _).symm rfl)) (funext fun k => (pay5_apply _ _ (y 0) k).trans (congrArg₂ (· * ·) (ldAt _ _ _ _ _ _ _ _ (Nat.zero_add _).symm rfl) (ldAt _ _ _ _ _ _ _ _ (Nat.zero_add _).symm rfl)))

/-- The recurrence's convolution's kept entries. -/
theorem lcs_eq :
    out0_A_20 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13
      = fun y => joined (n := 1536) (p := 1024) (q := 512) (by norm_num) (fun k => x3 (ix2 (y 0) ⟨512 + k.val, by omega⟩)) (fun k => x0 (ix2 (y 0) ⟨8192 + k.val, by omega⟩)) (y 1) := by
  unfold out0_A_20
  rw [View.read_writes_eq_canon _ _ _ (cover0_A_20 c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread]
  refine (canon_two (by norm_num) _ _ _ _).trans (funext fun y => ?_)
  exact congrArg₂ (fun a b => joined (by norm_num) a b (y 1)) (funext fun k => (pay2_apply _ (y 0) k).trans (ldAt _ _ _ _ _ _ _ _ (Nat.zero_add _).symm rfl)) (funext fun k => ldAt _ _ _ _ _ _ _ _ (Nat.zero_add _).symm rfl)

end Outs

end Cert.StepIdeal.Value
-- ==== Proof.StepArray.lean ====
/-
  The sample step's arrays: the kernel's blocks in the arguments, and its seven results.
-/
module

public import proofs.«01_k».proof.Proof.StepBlock
public import Idealize.ShloMosaic.Lib.StableHlo.ReadAt

@[expose] public section

set_option maxRecDepth 16384

noncomputable section

open Idealize.ShloMosaic Idealize.ShloMosaic.TcCoe Idealize.SL.Sem

namespace Cert.StepIdeal.Value

open Cert.StepIdeal Cert.StepIdeal.Gen Cert.StepSpec Cert.Index

/-! ## The gates' weights as one square -/

/-- The words' test for the diagonal of eight by eight. -/
theorem diag_word : ∀ p q : Fin 8, Scalar.cmpi .eq (BitVec.ofNat 32 p.val + 0#32) (BitVec.ofNat 32 q.val) = if p = q then 1#1 else 0#1 := by
  decide +kernel

/-- One on the diagonal and zero off it. -/
def diag : FVec Ideal S8x8 .f32 :=
  uitofp .f32 (cmpi .eq (addi (iotaInDim S8x8 32 0) (broadcastInDim S8x8 ![] bcast_S_S8x8 (constantI S_ 32 0#32))) (iotaInDim S8x8 32 1))

theorem diag_apply (p q : Fin 8) : diag (ix2 p q) = if p = q then (1 : EReal) else 0 := by
  have e : diag (ix2 p q) = (((Scalar.cmpi .eq (BitVec.ofNat 32 p.val + 0#32) (BitVec.ofNat 32 q.val)).toNat : ℝ) : EReal) := rfl
  rw [e, diag_word]
  split <;> simp

/-- The square, as the launch prepares it, before the narrower type. -/
def wide (w : FVec Ideal S8x64x64 .f32) : FVec Ideal S512x512 .f32 :=
  shapeCast S512x512 (mulf
    (broadcastInDim S8x64x8x64 ![0, 1, 2, 3] bcast_S8x1x8x1_S8x64x8x64_0_1_2_3 (broadcastInDim S8x1x8x1 ![0, 2] bcast_S8x8_S8x1x8x1_0_2 diag))
    (broadcastInDim S8x64x8x64 ![0, 1, 2, 3] bcast_S8x64x1x64_S8x64x8x64_0_1_2_3
      (broadcastInDim S8x64x1x64 ![0, 1, 3] bcast_S8x64x64_S8x64x1x64_0_1_3 w))) shapeCasts_S8x64x8x64_S512x512

/-- The square. -/
def square (w : FVec Ideal S8x64x64 .f32) : FVec Ideal S512x512 .bf16 := truncf .bf16 (wide w) bitsLt_bf16_f32

/-- Rows of stacked entries, flattened. -/
theorem flat3 {a b n l : Nat} (x : (⟨3, ![a, b, n]⟩ : Shape).Idx → EReal) (h : (⟨3, ![a, b, n]⟩ : Shape).ShapeCasts ⟨2, ![a, l]⟩)
    (hl : l = b * n) (r : Fin a) (j : Fin l) (p : Fin b) (k : Fin n) (hj : j.val = n * p.val + k.val) :
    shapeCast ⟨2, ![a, l]⟩ x h (ix2 r j) = x (ix3 r p k) := by
  refine shapeCast_apply _ _ _ _ ?_
  rw [Shape.rowMajor_val_three, Shape.rowMajor_val_two]
  show (r.val * b + p.val) * n + k.val = r.val * l + j.val
  rw [hj, hl]
  ring

theorem square_blocked (w : FVec Ideal S8x64x64 .f32) : Blocked (fun i k => square w (ix2 i k)) (fun p i o => w (ix3 p i o)) := by
  intro p j k
  show wide w (ix2 (inBlock p j) k) = _
  unfold wide
  refine (shapeCast_apply _ _ _ (ix4 p j (blockOf k) (placeOf k)) ?_).trans ?_
  · rw [Shape.rowMajor_val_four, Shape.rowMajor_val_two]
    show ((p.val * 64 + j.val) * 8 + k.val / 64) * 64 + k.val % 64 = (p.val * 64 + j.val) * 512 + k.val
    omega
  have e1 : broadcastInDim S8x64x8x64 ![0, 1, 2, 3] bcast_S8x1x8x1_S8x64x8x64_0_1_2_3
      (broadcastInDim S8x1x8x1 ![0, 2] bcast_S8x8_S8x1x8x1_0_2 diag) (ix4 p j (blockOf k) (placeOf k)) = if p = blockOf k then (1 : EReal) else 0 := by
    refine (broadcastInDim_apply _ _ _ _ (ix4 p 0 (blockOf k) 0) ?_).trans ((broadcastInDim_apply _ _ _ _ (ix2 p (blockOf k)) ?_).trans (diag_apply _ _))
    · intro a
      match a with
      | 0 => rfl
      | 1 => rfl
      | 2 => rfl
      | 3 => rfl
    · intro a
      match a with
      | 0 => rfl
      | 1 => rfl
  have e2 : broadcastInDim S8x64x8x64 ![0, 1, 2, 3] bcast_S8x64x1x64_S8x64x8x64_0_1_2_3
      (broadcastInDim S8x64x1x64 ![0, 1, 3] bcast_S8x64x64_S8x64x1x64_0_1_3 w) (ix4 p j (blockOf k) (placeOf k)) = w (ix3 p j (placeOf k)) := by
    refine (broadcastInDim_apply _ _ _ _ (ix4 p j 0 (placeOf k)) ?_).trans (broadcastInDim_apply _ _ _ _ (ix3 p j (placeOf k)) ?_)
    · intro a
      match a with
      | 0 => rfl
      | 1 => rfl
      | 2 => rfl
      | 3 => rfl
    · intro a
      match a with
      | 0 => rfl
      | 1 => rfl
      | 2 => rfl
  refine (congrArg₂ (fun a b : EReal => a * b) e1 e2).trans ?_
  show (if p = blockOf k then (1 : EReal) else 0) * _ = _
  split
  · exact one_mul _
  · exact zero_mul _

/-! ## The blocks, read off the argument arrays -/

variable (m : (ℓ : Loc nD τ sig) → Buf (Elt Ideal) ℓ) (c : Dev nD) (t : Fin cfg0.N)

theorem blk0 (r : Fin 32) (k : Fin 13312) : (iblk m c 0 t : Vec Ideal S32x13312 .f32) (ix2 r k) = (m ((c : Thread nD τ).loc main_arg0) : Vec Ideal S32x13312 .f32) (ix2 r k) :=
  (congrFun (V_main_arg0 m c) _).trans (congrArg _ (ext2 _ _ _ (off0 32 _ rfl) (off0 13312 _ rfl)))

theorem blk4 (r : Fin 32) (k : Fin 512) : (iblk m c 4 t : Vec Ideal S32x512 .f32) (ix2 r k) = (m ((c : Thread nD τ).loc main_arg4) : Vec Ideal S32x512 .f32) (ix2 r k) :=
  (congrFun (V_main_arg4 m c) _).trans (congrArg _ (ext2 _ _ _ (off0 32 _ rfl) (off0 512 _ rfl)))

theorem blk5 (r : Fin 4) (k : Fin 1536) : (iblk m c 5 t : Vec Ideal S4x1536 .f32) (ix2 r k) = (m ((c : Thread nD τ).loc main_arg5) : Vec Ideal S4x1536 .f32) (ix2 r k) :=
  (congrFun (V_main_arg5 m c) _).trans (congrArg _ (ext2 _ _ _ (off0 4 _ rfl) (off0 1536 _ rfl)))

theorem blk6 (r : Fin 3) (k : Fin 512) : (iblk m c 6 t : Vec Ideal S3x512 .f32) (ix2 r k) = (m ((c : Thread nD τ).loc main_arg6) : Vec Ideal S3x512 .f32) (ix2 r k) :=
  (congrFun (V_main_arg6 m c) _).trans (congrArg _ (ext2 _ _ _ (off0 3 _ rfl) (off0 512 _ rfl)))

theorem blk7 (r : Fin 4) (k : Fin 512) : (iblk m c 7 t : Vec Ideal S4x512 .f32) (ix2 r k) = (m ((c : Thread nD τ).loc main_arg7) : Vec Ideal S4x512 .f32) (ix2 r k) :=
  (congrFun (V_main_arg7 m c) _).trans (congrArg _ (ext2 _ _ _ (off0 4 _ rfl) (off0 512 _ rfl)))

theorem blk1 (r : Fin 32) (j : Fin 4608) (p : Fin 3) (k : Fin 1536) (h : j.val = 1536 * p.val + k.val) :
    (iblk m c 1 t : Vec Ideal S32x4608 .f32) (ix2 r j) = (m ((c : Thread nD τ).loc main_arg1) : Vec Ideal S32x3x1536 .f32) (ix3 r p k) := by
  show V m c main_v0 (((cfg0.win 1).blk t).view.emb (ix2 r j)) = _
  rw [show ((cfg0.win 1).blk t).view.emb (ix2 r j) = ix2 r j from
    ext2 _ _ _ (off0 32 _ rfl) (off0 4608 _ rfl)]
  unfold V hostOps0
  after_reads_simp
  exact flat3 (a := 32) (b := 3) (n := 1536) (l := 4608) (m ((c : Thread nD τ).loc main_arg1) : Vec Ideal S32x3x1536 .f32) shapeCasts_S32x3x1536_S32x4608 (by norm_num) r j p k h

theorem blk2 (r : Fin 32) (j : Fin 1024) (p : Fin 2) (k : Fin 512) (h : j.val = 512 * p.val + k.val) :
    (iblk m c 2 t : Vec Ideal S32x1024 .f32) (ix2 r j) = (m ((c : Thread nD τ).loc main_arg2) : Vec Ideal S32x2x512 .f32) (ix3 r p k) := by
  show V m c main_v1 (((cfg0.win 2).blk t).view.emb (ix2 r j)) = _
  rw [show ((cfg0.win 2).blk t).view.emb (ix2 r j) = ix2 r j from
    ext2 _ _ _ (off0 32 _ rfl) (off0 1024 _ rfl)]
  unfold V hostOps0
  after_reads_simp
  exact flat3 (a := 32) (b := 2) (n := 512) (l := 1024) (m ((c : Thread nD τ).loc main_arg2) : Vec Ideal S32x2x512 .f32) shapeCasts_S32x2x512_S32x1024 (by norm_num) r j p k h

theorem blk3 (r : Fin 32) (j : Fin 1536) (p : Fin 3) (k : Fin 512) (h : j.val = 512 * p.val + k.val) :
    (iblk m c 3 t : Vec Ideal S32x1536 .f32) (ix2 r j) = (m ((c : Thread nD τ).loc main_arg3) : Vec Ideal S32x3x512 .f32) (ix3 r p k) := by
  show V m c main_v2 (((cfg0.win 3).blk t).view.emb (ix2 r j)) = _
  rw [show ((cfg0.win 3).blk t).view.emb (ix2 r j) = ix2 r j from
    ext2 _ _ _ (off0 32 _ rfl) (off0 1536 _ rfl)]
  unfold V hostOps0
  after_reads_simp
  exact flat3 (a := 32) (b := 3) (n := 512) (l := 1536) (m ((c : Thread nD τ).loc main_arg3) : Vec Ideal S32x3x512 .f32) shapeCasts_S32x3x512_S32x1536 (by norm_num) r j p k h

theorem blk8 (k : Fin 512) : (iblk m c 8 t : Vec Ideal S1x512 .f32) (ix2 0 k) = (m ((c : Thread nD τ).loc main_arg8) : Vec Ideal S512 .f32) (ix1 k) := by
  show V m c main_v3 (((cfg0.win 8).blk t).view.emb (ix2 0 k)) = _
  rw [show ((cfg0.win 8).blk t).view.emb (ix2 0 k) = ix2 0 k from
    ext2 _ _ _ (off0 1 _ rfl) (off0 512 _ rfl)]
  unfold V hostOps0
  after_reads_simp
  pointwise

theorem blk10 (k : Fin 512) : (iblk m c 10 t : Vec Ideal S1x512 .f32) (ix2 0 k) = (m ((c : Thread nD τ).loc main_arg10) : Vec Ideal S512 .f32) (ix1 k) := by
  show V m c main_v17 (((cfg0.win 10).blk t).view.emb (ix2 0 k)) = _
  rw [show ((cfg0.win 10).blk t).view.emb (ix2 0 k) = ix2 0 k from
    ext2 _ _ _ (off0 1 _ rfl) (off0 512 _ rfl)]
  unfold V hostOps0
  after_reads_simp
  pointwise

theorem blk12 (k : Fin 512) : (iblk m c 12 t : Vec Ideal S1x512 .f32) (ix2 0 k) = (m ((c : Thread nD τ).loc main_arg12) : Vec Ideal S512 .f32) (ix1 k) := by
  show V m c main_v31 (((cfg0.win 12).blk t).view.emb (ix2 0 k)) = _
  rw [show ((cfg0.win 12).blk t).view.emb (ix2 0 k) = ix2 0 k from
    ext2 _ _ _ (off0 1 _ rfl) (off0 512 _ rfl)]
  unfold V hostOps0
  after_reads_simp
  pointwise

theorem blk13 (k : Fin 512) : (iblk m c 13 t : Vec Ideal S1x512 .f32) (ix2 0 k) = (m ((c : Thread nD τ).loc main_arg13) : Vec Ideal S512 .f32) (ix1 k) := by
  show V m c main_v32 (((cfg0.win 13).blk t).view.emb (ix2 0 k)) = _
  rw [show ((cfg0.win 13).blk t).view.emb (ix2 0 k) = ix2 0 k from
    ext2 _ _ _ (off0 1 _ rfl) (off0 512 _ rfl)]
  unfold V hostOps0
  after_reads_simp
  pointwise

theorem blk9 : Blocked (fun i k => (iblk m c 9 t : Vec Ideal S512x512 .bf16) (ix2 i k)) (fun p i o => (m ((c : Thread nD τ).loc main_arg9) : Vec Ideal S8x64x64 .f32) (ix3 p i o)) := by
  have e : ∀ i k : Fin 512, (iblk m c 9 t : Vec Ideal S512x512 .bf16) (ix2 i k) = square (m ((c : Thread nD τ).loc main_arg9) : Vec Ideal S8x64x64 .f32) (ix2 i k) := fun i k => by
    show V m c main_v16 (((cfg0.win 9).blk t).view.emb (ix2 i k)) = _
    rw [show ((cfg0.win 9).blk t).view.emb (ix2 i k) = ix2 i k from
    ext2 _ _ _ (off0 512 _ rfl) (off0 512 _ rfl)]
    unfold V hostOps0
    after_reads_simp
    rfl
  intro p j k
  exact (e _ _).trans (square_blocked _ p j k)

theorem blk11 : Blocked (fun i k => (iblk m c 11 t : Vec Ideal S512x512 .bf16) (ix2 i k)) (fun p i o => (m ((c : Thread nD τ).loc main_arg11) : Vec Ideal S8x64x64 .f32) (ix3 p i o)) := by
  have e : ∀ i k : Fin 512, (iblk m c 11 t : Vec Ideal S512x512 .bf16) (ix2 i k) = square (m ((c : Thread nD τ).loc main_arg11) : Vec Ideal S8x64x64 .f32) (ix2 i k) := fun i k => by
    show V m c main_v30 (((cfg0.win 11).blk t).view.emb (ix2 i k)) = _
    rw [show ((cfg0.win 11).blk t).view.emb (ix2 i k) = ix2 i k from
    ext2 _ _ _ (off0 512 _ rfl) (off0 512 _ rfl)]
    unfold V hostOps0
    after_reads_simp
    rfl
  intro p j k
  exact (e _ _).trans (square_blocked _ p j k)

/-! ## The results -/

/-- The first convolution's output. -/
def G14 : Vec Ideal S32x1536 .f32 := actOut (m ((c : Thread nD τ).loc main_arg0) : Vec Ideal S32x13312 .f32) (m ((c : Thread nD τ).loc main_arg1) : Vec Ideal S32x3x1536 .f32) (m ((c : Thread nD τ).loc main_arg5) : Vec Ideal S4x1536 .f32)

theorem flushed14_G : (dats m 0 c).flushed 14 t = ((cfg0.win 14).blk t).view.read (Elt Ideal) (G14 m c) := by
  rw [flushed14_A]
  funext y
  obtain ⟨r, k, rfl⟩ : ∃ (r : Fin 32) (k : Fin 1536), y = ix2 r k := ⟨y 0, y 1, eq_ix2 y⟩
  show out0_A_14 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G14 m c (((cfg0.win 14).blk t).view.emb (ix2 r k))
  rw [show ((cfg0.win 14).blk t).view.emb (ix2 r k) = ix2 r k from
    ext2 _ _ _ (off0 32 _ rfl) (off0 1536 _ rfl)]
  refine (act_apply _ _ _ _ _ _ _ _ _ _ _ _ _ _ _ _ _ _ _ _ _ _ _ _ _ _ _ _ _ _ _ _ _ _ _ _ _ _ _ _ _ _ _ _ _ _ _ _ _ _ _ _ _ _ _ _ _ r k).trans ?_
  exact congrArg silu (conv4_congr (blk1 m c t r _ 0 k (by show k.val = _; omega)) (blk1 m c t r _ 1 k (by show 1536 + k.val = _; omega))
    (blk1 m c t r _ 2 k (by show 3072 + k.val = _; omega)) (blk0 m c t r _) (blk5 m c t 0 k) (blk5 m c t 1 k) (blk5 m c t 2 k) (blk5 m c t 3 k))

/-- Its one block is the array. -/
theorem cover14 (i : S32x1536.Idx) : ∃ t : Fin cfg0.N, (cfg0.win 14).flush t = true ∧ i ∈ ((cfg0.win 14).blk t).view.set := by
  let t : Fin cfg0.N := ⟨0, by decide⟩
  refine ⟨t, (by decide +kernel : ∀ t : Fin grid0.N, win0_14.flush t = true) t, ?_⟩
  have e : ((cfg0.win 14).blk t).view.emb i = i :=
    (ext2 _ (i 0) (i 1) (off0 32 _ rfl) (off0 1536 _ rfl)).trans (eq_ix2 i).symm
  exact e ▸ View.emb_mem_set _ i

/-- The array ends holding it. -/
theorem final14 : (dats m 0 c).arrAt 14 cfg0.N = G14 m c :=
  (dats m 0 c).arrAt_eq_of_cover 14 (G14 m c) (fun t _ => flushed14_G m c t) cover14

/-- Its kept entries. -/
def G15 : Vec Ideal S32x4608 .f32 := actKept (m ((c : Thread nD τ).loc main_arg0) : Vec Ideal S32x13312 .f32) (m ((c : Thread nD τ).loc main_arg1) : Vec Ideal S32x3x1536 .f32)

theorem flushed15_G : (dats m 0 c).flushed 15 t = ((cfg0.win 15).blk t).view.read (Elt Ideal) (G15 m c) := by
  rw [flushed15_A]
  funext y
  obtain ⟨r, k, rfl⟩ : ∃ (r : Fin 32) (k : Fin 4608), y = ix2 r k := ⟨y 0, y 1, eq_ix2 y⟩
  show out0_A_15 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G15 m c (((cfg0.win 15).blk t).view.emb (ix2 r k))
  rw [show ((cfg0.win 15).blk t).view.emb (ix2 r k) = ix2 r k from
    ext2 _ _ _ (off0 32 _ rfl) (off0 4608 _ rfl)]
  refine (congrFun (gcs_eq _ _ _ _ _ _ _ _ _ _ _ _ _ _ _ _ _ _ _ _ _ _ _ _ _ _ _ _ _ _ _ _ _ _ _ _ _ _ _ _ _ _ _ _ _ _ _ _ _ _ _ _ _ _ _ _ _) (ix2 r k)).trans ?_
  exact congrArg₂ (fun a b => joined (n := 4608) (p := 3072) (q := 1536) (by norm_num) a b k)
    (funext fun j => blk1 m c t r _ ⟨j.val / 1536 + 1, by omega⟩ ⟨j.val % 1536, by omega⟩
      (by show 1536 + j.val = 1536 * (j.val / 1536 + 1) + j.val % 1536; omega)) (funext fun j => (blk0 m c t r _))

/-- Its one block is the array. -/
theorem cover15 (i : S32x4608.Idx) : ∃ t : Fin cfg0.N, (cfg0.win 15).flush t = true ∧ i ∈ ((cfg0.win 15).blk t).view.set := by
  let t : Fin cfg0.N := ⟨0, by decide⟩
  refine ⟨t, (by decide +kernel : ∀ t : Fin grid0.N, win0_15.flush t = true) t, ?_⟩
  have e : ((cfg0.win 15).blk t).view.emb i = i :=
    (ext2 _ (i 0) (i 1) (off0 32 _ rfl) (off0 4608 _ rfl)).trans (eq_ix2 i).symm
  exact e ▸ View.emb_mem_set _ i

/-- The array ends holding it. -/
theorem final15 : (dats m 0 c).arrAt 15 cfg0.N = G15 m c :=
  (dats m 0 c).arrAt_eq_of_cover 15 (G15 m c) (fun t _ => flushed15_G m c t) cover15

/-- The double-gated convolution's output. -/
def G16 : Vec Ideal S32x512 .f32 := gatedOut (m ((c : Thread nD τ).loc main_arg0) : Vec Ideal S32x13312 .f32) (m ((c : Thread nD τ).loc main_arg2) : Vec Ideal S32x2x512 .f32) (m ((c : Thread nD τ).loc main_arg6) : Vec Ideal S3x512 .f32)

theorem flushed16_G : (dats m 0 c).flushed 16 t = ((cfg0.win 16).blk t).view.read (Elt Ideal) (G16 m c) := by
  rw [flushed16_A]
  funext y
  obtain ⟨r, k, rfl⟩ : ∃ (r : Fin 32) (k : Fin 512), y = ix2 r k := ⟨y 0, y 1, eq_ix2 y⟩
  show out0_A_16 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G16 m c (((cfg0.win 16).blk t).view.emb (ix2 r k))
  rw [show ((cfg0.win 16).blk t).view.emb (ix2 r k) = ix2 r k from
    ext2 _ _ _ (off0 32 _ rfl) (off0 512 _ rfl)]
  refine (oc_apply _ _ _ _ _ _ _ _ _ _ _ _ _ _ _ _ _ _ _ _ _ _ _ _ _ _ _ _ _ _ _ _ _ _ _ _ _ _ _ _ _ _ _ _ _ _ _ _ _ _ _ _ _ _ _ _ _ r k).trans ?_
  exact congrArg₂ (· * ·) (blk0 m c t r _) (conv3_congr (blk2 m c t r _ 0 k (by show k.val = _; omega)) (blk2 m c t r _ 1 k (by show 512 + k.val = _; omega))
    (congrArg₂ (· * ·) (blk0 m c t r _) (blk0 m c t r _)) (blk6 m c t 0 k) (blk6 m c t 1 k) (blk6 m c t 2 k))

/-- Its one block is the array. -/
theorem cover16 (i : S32x512.Idx) : ∃ t : Fin cfg0.N, (cfg0.win 16).flush t = true ∧ i ∈ ((cfg0.win 16).blk t).view.set := by
  let t : Fin cfg0.N := ⟨0, by decide⟩
  refine ⟨t, (by decide +kernel : ∀ t : Fin grid0.N, win0_16.flush t = true) t, ?_⟩
  have e : ((cfg0.win 16).blk t).view.emb i = i :=
    (ext2 _ (i 0) (i 1) (off0 32 _ rfl) (off0 512 _ rfl)).trans (eq_ix2 i).symm
  exact e ▸ View.emb_mem_set _ i

/-- The array ends holding it. -/
theorem final16 : (dats m 0 c).arrAt 16 cfg0.N = G16 m c :=
  (dats m 0 c).arrAt_eq_of_cover 16 (G16 m c) (fun t _ => flushed16_G m c t) cover16

/-- Its kept entries. -/
def G17 : Vec Ideal S32x1024 .f32 := gatedKept (m ((c : Thread nD τ).loc main_arg0) : Vec Ideal S32x13312 .f32) (m ((c : Thread nD τ).loc main_arg2) : Vec Ideal S32x2x512 .f32)

theorem flushed17_G : (dats m 0 c).flushed 17 t = ((cfg0.win 17).blk t).view.read (Elt Ideal) (G17 m c) := by
  rw [flushed17_A]
  funext y
  obtain ⟨r, k, rfl⟩ : ∃ (r : Fin 32) (k : Fin 1024), y = ix2 r k := ⟨y 0, y 1, eq_ix2 y⟩
  show out0_A_17 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G17 m c (((cfg0.win 17).blk t).view.emb (ix2 r k))
  rw [show ((cfg0.win 17).blk t).view.emb (ix2 r k) = ix2 r k from
    ext2 _ _ _ (off0 32 _ rfl) (off0 1024 _ rfl)]
  refine (congrFun (scs_eq _ _ _ _ _ _ _ _ _ _ _ _ _ _ _ _ _ _ _ _ _ _ _ _ _ _ _ _ _ _ _ _ _ _ _ _ _ _ _ _ _ _ _ _ _ _ _ _ _ _ _ _ _ _ _ _ _) (ix2 r k)).trans ?_
  exact congrArg₂ (fun a b => joined (n := 1024) (p := 512) (q := 512) (by norm_num) a b k)
    (funext fun j => blk2 m c t r _ 1 j (by show 512 + j.val = _; omega)) (funext fun j => congrArg₂ (fun a b : EReal => a * b) (blk0 m c t r _) (blk0 m c t r _))

/-- Its one block is the array. -/
theorem cover17 (i : S32x1024.Idx) : ∃ t : Fin cfg0.N, (cfg0.win 17).flush t = true ∧ i ∈ ((cfg0.win 17).blk t).view.set := by
  let t : Fin cfg0.N := ⟨0, by decide⟩
  refine ⟨t, (by decide +kernel : ∀ t : Fin grid0.N, win0_17.flush t = true) t, ?_⟩
  have e : ((cfg0.win 17).blk t).view.emb i = i :=
    (ext2 _ (i 0) (i 1) (off0 32 _ rfl) (off0 1024 _ rfl)).trans (eq_ix2 i).symm
  exact e ▸ View.emb_mem_set _ i

/-- The array ends holding it. -/
theorem final17 : (dats m 0 c).arrAt 17 cfg0.N = G17 m c :=
  (dats m 0 c).arrAt_eq_of_cover 17 (G17 m c) (fun t _ => flushed17_G m c t) cover17

/-- The new state. -/
def G19 : Vec Ideal S32x512 .f32 := stateOut (m ((c : Thread nD τ).loc main_arg0) : Vec Ideal S32x13312 .f32) (m ((c : Thread nD τ).loc main_arg3) : Vec Ideal S32x3x512 .f32) (m ((c : Thread nD τ).loc main_arg4) : Vec Ideal S32x512 .f32) (m ((c : Thread nD τ).loc main_arg7) : Vec Ideal S4x512 .f32) (m ((c : Thread nD τ).loc main_arg8) : Vec Ideal S512 .f32) (m ((c : Thread nD τ).loc main_arg9) : Vec Ideal S8x64x64 .f32)
    (m ((c : Thread nD τ).loc main_arg10) : Vec Ideal S512 .f32) (m ((c : Thread nD τ).loc main_arg11) : Vec Ideal S8x64x64 .f32) (m ((c : Thread nD τ).loc main_arg12) : Vec Ideal S512 .f32) (m ((c : Thread nD τ).loc main_arg13) : Vec Ideal S512 .f32)

/-- The body's new state is that. -/
theorem new_eq (r : Fin 32) (k : Fin 512) :
    newState (iblk m c 0 t) (iblk m c 3 t) (iblk m c 4 t) (iblk m c 7 t) (iblk m c 8 t) (iblk m c 9 t) (iblk m c 10 t) (iblk m c 11 t)
      (iblk m c 12 t) (iblk m c 13 t) (ix2 r k) = G19 m c (ix2 r k) := by
  refine (newState_apply _ _ _ _ _ _ _ _ _ _ _ _ (blk9 m c t) (blk11 m c t) r k).trans ?_
  simp only [blk0, blk4, blk7, blk8, blk10, blk12, blk13]
  have e : ∀ (p : Fin 3) (j : Fin 512) (h), (iblk m c 3 t : Vec Ideal S32x1536 .f32) (ix2 r ⟨512 * p.val + j.val, h⟩)
      = (m ((c : Thread nD τ).loc main_arg3) : Vec Ideal S32x3x512 .f32) (ix3 r p j) := fun p j h => blk3 m c t r _ p j rfl
  simp only [e]
  rfl

theorem flushed19_G : (dats m 0 c).flushed 19 t = ((cfg0.win 19).blk t).view.read (Elt Ideal) (G19 m c) := by
  rw [flushed19_A]
  funext y
  obtain ⟨r, k, rfl⟩ : ∃ (r : Fin 32) (k : Fin 512), y = ix2 r k := ⟨y 0, y 1, eq_ix2 y⟩
  show out0_A_19 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G19 m c (((cfg0.win 19).blk t).view.emb (ix2 r k))
  rw [show ((cfg0.win 19).blk t).view.emb (ix2 r k) = ix2 r k from
    ext2 _ _ _ (off0 32 _ rfl) (off0 512 _ rfl)]
  exact (congrFun (state_eq _ _ _ _ _ _ _ _ _ _ _ _ _ _ _ _ _ _ _ _ _ _ _ _ _ _ _ _ _ _ _ _ _ _ _ _ _ _ _ _ _ _ _ _ _ _ _ _ _ _ _ _ _ _ _ _ _) (ix2 r k)).trans (new_eq m c t r k)

/-- Its one block is the array. -/
theorem cover19 (i : S32x512.Idx) : ∃ t : Fin cfg0.N, (cfg0.win 19).flush t = true ∧ i ∈ ((cfg0.win 19).blk t).view.set := by
  let t : Fin cfg0.N := ⟨0, by decide⟩
  refine ⟨t, (by decide +kernel : ∀ t : Fin grid0.N, win0_19.flush t = true) t, ?_⟩
  have e : ((cfg0.win 19).blk t).view.emb i = i :=
    (ext2 _ (i 0) (i 1) (off0 32 _ rfl) (off0 512 _ rfl)).trans (eq_ix2 i).symm
  exact e ▸ View.emb_mem_set _ i

/-- The array ends holding it. -/
theorem final19 : (dats m 0 c).arrAt 19 cfg0.N = G19 m c :=
  (dats m 0 c).arrAt_eq_of_cover 19 (G19 m c) (fun t _ => flushed19_G m c t) cover19

/-- The recurrence's output. -/
def G18 : Vec Ideal S32x512 .f32 := recOut (m ((c : Thread nD τ).loc main_arg0) : Vec Ideal S32x13312 .f32) (G19 m c)

theorem flushed18_G : (dats m 0 c).flushed 18 t = ((cfg0.win 18).blk t).view.read (Elt Ideal) (G18 m c) := by
  rw [flushed18_A]
  funext y
  obtain ⟨r, k, rfl⟩ : ∃ (r : Fin 32) (k : Fin 512), y = ix2 r k := ⟨y 0, y 1, eq_ix2 y⟩
  show out0_A_18 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G18 m c (((cfg0.win 18).blk t).view.emb (ix2 r k))
  rw [show ((cfg0.win 18).blk t).view.emb (ix2 r k) = ix2 r k from
    ext2 _ _ _ (off0 32 _ rfl) (off0 512 _ rfl)]
  exact (od_apply _ _ _ _ _ _ _ _ _ _ _ _ _ _ _ _ _ _ _ _ _ _ _ _ _ _ _ _ _ _ _ _ _ _ _ _ _ _ _ _ _ _ _ _ _ _ _ _ _ _ _ _ _ _ _ _ _ r k).trans (congrArg₂ (· * ·) (new_eq m c t r k) (congrArg gelu (blk0 m c t r _)))

/-- Its one block is the array. -/
theorem cover18 (i : S32x512.Idx) : ∃ t : Fin cfg0.N, (cfg0.win 18).flush t = true ∧ i ∈ ((cfg0.win 18).blk t).view.set := by
  let t : Fin cfg0.N := ⟨0, by decide⟩
  refine ⟨t, (by decide +kernel : ∀ t : Fin grid0.N, win0_18.flush t = true) t, ?_⟩
  have e : ((cfg0.win 18).blk t).view.emb i = i :=
    (ext2 _ (i 0) (i 1) (off0 32 _ rfl) (off0 512 _ rfl)).trans (eq_ix2 i).symm
  exact e ▸ View.emb_mem_set _ i

/-- The array ends holding it. -/
theorem final18 : (dats m 0 c).arrAt 18 cfg0.N = G18 m c :=
  (dats m 0 c).arrAt_eq_of_cover 18 (G18 m c) (fun t _ => flushed18_G m c t) cover18

/-- The entries the recurrence's convolution keeps. -/
def G20 : Vec Ideal S32x1536 .f32 := mixKept (m ((c : Thread nD τ).loc main_arg0) : Vec Ideal S32x13312 .f32) (m ((c : Thread nD τ).loc main_arg3) : Vec Ideal S32x3x512 .f32)

theorem flushed20_G : (dats m 0 c).flushed 20 t = ((cfg0.win 20).blk t).view.read (Elt Ideal) (G20 m c) := by
  rw [flushed20_A]
  funext y
  obtain ⟨r, k, rfl⟩ : ∃ (r : Fin 32) (k : Fin 1536), y = ix2 r k := ⟨y 0, y 1, eq_ix2 y⟩
  show out0_A_20 _ _ _ _ _ _ _ _ _ _ _ _ _ _ _ _ _ _ _ _ _ _ _ _ _ _ _ _ _ _ _ _ _ _ _ _ _ _ _ _ _ _ _ _ _ _ _ _ _ _ _ _ _ _ _ _ _ (ix2 r k) = G20 m c (((cfg0.win 20).blk t).view.emb (ix2 r k))
  rw [show ((cfg0.win 20).blk t).view.emb (ix2 r k) = ix2 r k from
    ext2 _ _ _ (off0 32 _ rfl) (off0 1536 _ rfl)]
  refine (congrFun (lcs_eq _ _ _ _ _ _ _ _ _ _ _ _ _ _ _ _ _ _ _ _ _ _ _ _ _ _ _ _ _ _ _ _ _ _ _ _ _ _ _ _ _ _ _ _ _ _ _ _ _ _ _ _ _ _ _ _ _) (ix2 r k)).trans ?_
  exact congrArg₂ (fun a b => joined (n := 1536) (p := 1024) (q := 512) (by norm_num) a b k)
    (funext fun j => blk3 m c t r _ ⟨j.val / 512 + 1, by omega⟩ ⟨j.val % 512, by omega⟩
      (by show 512 + j.val = 512 * (j.val / 512 + 1) + j.val % 512; omega)) (funext fun j => (blk0 m c t r _))

/-- Its one block is the array. -/
theorem cover20 (i : S32x1536.Idx) : ∃ t : Fin cfg0.N, (cfg0.win 20).flush t = true ∧ i ∈ ((cfg0.win 20).blk t).view.set := by
  let t : Fin cfg0.N := ⟨0, by decide⟩
  refine ⟨t, (by decide +kernel : ∀ t : Fin grid0.N, win0_20.flush t = true) t, ?_⟩
  have e : ((cfg0.win 20).blk t).view.emb i = i :=
    (ext2 _ (i 0) (i 1) (off0 32 _ rfl) (off0 1536 _ rfl)).trans (eq_ix2 i).symm
  exact e ▸ View.emb_mem_set _ i

/-- The array ends holding it. -/
theorem final20 : (dats m 0 c).arrAt 20 cfg0.N = G20 m c :=
  (dats m 0 c).arrAt_eq_of_cover 20 (G20 m c) (fun t _ => flushed20_G m c t) cover20

end Cert.StepIdeal.Value
-- ==== Proof.StepWhole.lean ====
/-
  The sample step: the reference's seven results, entry by entry, are those that `StepSpec` names of the same
  arguments, and so are the kernel's.
-/
module

public import proofs.«01_k».proof.Proof.Gen.StepRefIdeal.Run
public import proofs.«01_k».proof.Proof.StepArray

@[expose] public section

set_option maxRecDepth 16384

noncomputable section

open Idealize.ShloMosaic Idealize.ShloMosaic.TcCoe Idealize.SL.Sem Idealize.ShloMosaic.StableHlo

namespace Cert.StepRefIdeal.Value

open Cert.StepRefIdeal Cert.StepRefIdeal.Gen Cert.StepSpec Cert.Index

/-! ## The arguments -/

variable (V : Valuation τ sig (Elt Ideal))

abbrev a0 : Vec Ideal S32x13312 .f32 := V (Proc.devRef .tc main_arg0)
abbrev a1 : Vec Ideal S32x3x1536 .f32 := V (Proc.devRef .tc main_arg1)
abbrev a2 : Vec Ideal S32x2x512 .f32 := V (Proc.devRef .tc main_arg2)
abbrev a3 : Vec Ideal S32x3x512 .f32 := V (Proc.devRef .tc main_arg3)
abbrev a4 : Vec Ideal S32x512 .f32 := V (Proc.devRef .tc main_arg4)
abbrev a5 : Vec Ideal S4x1536 .f32 := V (Proc.devRef .tc main_arg5)
abbrev a6 : Vec Ideal S3x512 .f32 := V (Proc.devRef .tc main_arg6)
abbrev a7 : Vec Ideal S4x512 .f32 := V (Proc.devRef .tc main_arg7)
abbrev a8 : Vec Ideal S512 .f32 := V (Proc.devRef .tc main_arg8)
abbrev a9 : Vec Ideal S8x64x64 .f32 := V (Proc.devRef .tc main_arg9)
abbrev a10 : Vec Ideal S512 .f32 := V (Proc.devRef .tc main_arg10)
abbrev a11 : Vec Ideal S8x64x64 .f32 := V (Proc.devRef .tc main_arg11)
abbrev a12 : Vec Ideal S512 .f32 := V (Proc.devRef .tc main_arg12)
abbrev a13 : Vec Ideal S512 .f32 := V (Proc.devRef .tc main_arg13)

/-! ## The columns of the projected activations, and the rows the convolutions see -/

theorem v0_apply (r : Fin 32) (k : Fin 13312) : (res_main_v0 V : Vec Ideal S32x1x13312 .f32) (ix3 r 0 k) = a0 V (ix2 r k) := by
  pointwise [res_main_v0]

theorem v32_apply (r : Fin 32) (k : Fin 1536) :
    (res_main_v32 V : Vec Ideal S32x1x1536 .f32) (ix3 r 0 k) = a0 V (ix2 r ⟨6656 + k.val, by omega⟩) := by
  refine Eq.trans ?_ (v0_apply V r ⟨6656 + k.val, by omega⟩)
  pointwise [res_main_v32]

theorem v60_apply (r : Fin 32) (k : Fin 1024) :
    (res_main_v60 V : Vec Ideal S32x1x1024 .f32) (ix3 r 0 k) = a0 V (ix2 r ⟨8192 + k.val, by omega⟩) := by
  refine Eq.trans ?_ (v0_apply V r ⟨8192 + k.val, by omega⟩)
  pointwise [res_main_v60]

theorem v62_apply (r : Fin 32) (k : Fin 512) :
    (res_main_v62 V : Vec Ideal S32x1x512 .f32) (ix3 r 0 k) = a0 V (ix2 r ⟨8704 + k.val, by omega⟩) := by
  refine Eq.trans ?_ ((v60_apply V r ⟨512 + k.val, by omega⟩).trans (congrArg (fun j => a0 V (ix2 r j)) (Fin.ext (by show 8192 + (512 + k.val) = 8704 + k.val; omega))))
  pointwise [res_main_v62]

theorem v2_kept (r : Fin 32) (q : Fin 4) (p : Fin 3) (k : Fin 1536) (h : q.val = p.val) :
    (res_main_v2 V : Vec Ideal S32x4x1536 .f32) (ix3 r q k) = a1 V (ix3 r p k) := by
  pointwise [res_main_v2]
  rw [dif_pos (by show q.val < _; omega)]
  exact congrArg (fun q => a1 V (ix3 r q k)) (Fin.ext h)

theorem v2_new (r : Fin 32) (k : Fin 1536) :
    (res_main_v2 V : Vec Ideal S32x4x1536 .f32) (ix3 r 3 k) = a0 V (ix2 r ⟨k.val, by omega⟩) := by
  refine Eq.trans ?_ (v0_apply V r ⟨k.val, by omega⟩)
  pointwise [res_main_v2]

theorem v37_kept (r : Fin 32) (q : Fin 3) (p : Fin 2) (k : Fin 512) (h : q.val = p.val) :
    (res_main_v37 V : Vec Ideal S32x3x512 .f32) (ix3 r q k) = a2 V (ix3 r p k) := by
  pointwise [res_main_v37]
  rw [dif_pos (by show q.val < _; omega)]
  exact congrArg (fun q => a2 V (ix3 r q k)) (Fin.ext h)

theorem v37_new (r : Fin 32) (k : Fin 512) :
    (res_main_v37 V : Vec Ideal S32x3x512 .f32) (ix3 r 2 k)
      = a0 V (ix2 r ⟨7168 + k.val, by omega⟩) * a0 V (ix2 r ⟨7680 + k.val, by omega⟩) := by
  refine Eq.trans ?_ (congrArg₂ (fun a b : EReal => a * b)
    ((v32_apply V r ⟨512 + k.val, by omega⟩).trans (congrArg (fun j => a0 V (ix2 r j)) (Fin.ext (by show 6656 + (512 + k.val) = 7168 + k.val; omega))))
    ((v32_apply V r ⟨1024 + k.val, by omega⟩).trans (congrArg (fun j => a0 V (ix2 r j)) (Fin.ext (by show 6656 + (1024 + k.val) = 7680 + k.val; omega)))))
  pointwise [res_main_v37]

theorem v63_kept (r : Fin 32) (q : Fin 4) (p : Fin 3) (k : Fin 512) (h : q.val = p.val) :
    (res_main_v63 V : Vec Ideal S32x4x512 .f32) (ix3 r q k) = a3 V (ix3 r p k) := by
  pointwise [res_main_v63]
  rw [dif_pos (by show q.val < _; omega)]
  exact congrArg (fun q => a3 V (ix3 r q k)) (Fin.ext h)

theorem v63_new (r : Fin 32) (k : Fin 512) :
    (res_main_v63 V : Vec Ideal S32x4x512 .f32) (ix3 r 3 k) = a0 V (ix2 r ⟨8192 + k.val, by omega⟩) := by
  refine Eq.trans ?_ (v60_apply V r ⟨k.val, by omega⟩)
  pointwise [res_main_v63]

/-! ## The convolutions, the gates, the state -/

theorem v29_apply (r : Fin 32) (k : Fin 1536) :
    (res_main_v29 V : Vec Ideal S32x1x1536 .f32) (ix3 r 0 k)
      = conv4 (a1 V (ix3 r 0 k)) (a1 V (ix3 r 1 k)) (a1 V (ix3 r 2 k)) (a0 V (ix2 r ⟨k.val, by omega⟩))
        (a5 V (ix2 0 k)) (a5 V (ix2 1 k)) (a5 V (ix2 2 k)) (a5 V (ix2 3 k)) := by
  refine Eq.trans ?_ (conv4_congr (v2_kept V r 0 0 k rfl) (v2_kept V r 1 1 k rfl) (v2_kept V r 2 2 k rfl) (v2_new V r k) rfl rfl rfl rfl)
  pointwise [res_main_v29]
  rfl

/-- The recurrence's input, per row. -/
abbrev mixRow (r : Fin 32) : Fin 512 → EReal :=
  mixed (fun j => a0 V (ix2 r j)) (fun p j => a3 V (ix3 r p j)) (fun p j => a7 V (ix2 p j)) (fun j => a8 V (ix1 j))

theorem v93_apply (r : Fin 32) (k : Fin 512) : (res_main_v93 V : Vec Ideal S32x1x512 .f32) (ix3 r 0 k) = mixRow V r k := by
  refine Eq.trans ?_ (congrArg (fun a : EReal => a + a8 V (ix1 k))
    (conv4_congr (v63_kept V r 0 0 k rfl) (v63_kept V r 1 1 k rfl) (v63_kept V r 2 2 k rfl) (v63_new V r k) rfl rfl rfl rfl))
  pointwise [res_main_v93]
  rfl

theorem v95_apply (r : Fin 32) (b : Fin 8) (j : Fin 64) :
    (res_main_v95 V : Vec Ideal S32x1x8x64 .f32) (ix4 r 0 b j) = mixRow V r (inBlock b j) := by
  refine Eq.trans ?_ (v93_apply V r (inBlock b j))
  pointwise [res_main_v95]

theorem gate_sum (r : Fin 32) (k : Fin 512) (w : Vec Ideal S8x64x64 .f32) (b : Vec Ideal S512 .f32) :
    (∑ x, w (ix3 (blockOf k) x (placeOf k)) * (res_main_v95 V : Vec Ideal S32x1x8x64 .f32) (ix4 r 0 (blockOf k) x)) + b (ix1 k)
      = gateAt (mixRow V r) (fun p i o => w (ix3 p i o)) (fun j => b (ix1 j)) k := by
  refine congrArg (fun a : EReal => a + b (ix1 k)) (Finset.sum_congr rfl fun x _ => ?_)
  rw [v95_apply, mul_comm]

/-- The kernel's plus of a softplus. -/
theorem log_one (x : EReal) :
    (if x - 0 ≠ x - 0 then x + 0 else max x 0 + Ideal.log1p (Ideal.exp (-max (x - 0) (-(x - 0))))) = softplus x := by
  rw [if_neg (by simp), sub_zero]
  rfl

theorem v126_apply (r : Fin 32) (k : Fin 512) :
    (res_main_v126 V : Vec Ideal S32x1x512 .f32) (ix3 r 0 k)
      = logDecay (gateAt (mixRow V r) (fun p i o => a9 V (ix3 p i o)) (fun j => a10 V (ix1 j)) k) (a13 V (ix1 k)) := by
  rw [← gate_sum, logDecay, ← log_one]
  pointwise [res_main_v126, res_main_call1_v3, res_main_v122, res_main_call1_cst]
  rfl

theorem v137_apply (r : Fin 32) (k : Fin 512) :
    (res_main_v137 V : Vec Ideal S32x1x512 .f32) (ix3 r 0 k)
      = stateAt (mixRow V r) (fun p i o => a9 V (ix3 p i o)) (fun j => a10 V (ix1 j)) (fun p i o => a11 V (ix3 p i o))
        (fun j => a12 V (ix1 j)) (fun j => a13 V (ix1 j)) (fun j => a4 V (ix2 r j)) k := by
  rw [stateAt, ← v126_apply, ← v93_apply, ← gate_sum, advance, keepScale]
  pointwise [res_main_v137]
  rfl

/-! ## The seven results -/

/-- The reference's term for the first convolution's output. -/
def out14 : Vec Ideal S32x1536 .f32 :=
  shapeCast _ (mulf (res_main_v29 V) (Host.divf (broadcastInDim S32x1x1536 ![] bcast_S_S32x1x1536 (constant S_ .f32 0x3F800000#32)) (addf (broadcastInDim S32x1x1536 ![] bcast_S_S32x1x1536 (constant S_ .f32 0x3F800000#32)) (Host.exp (Host.negf (res_main_v29 V)))))) shapeCasts_S32x1x1536_S32x1536

/-- The reference's term for what it keeps. -/
def out15 : Vec Ideal S32x4608 .f32 :=
  shapeCast _ (extractStridedSlice S32x3x1536 ![0, 1, 0] (res_main_v2 V) slices_S32x4x1536_S32x3x1536_0_1_0) shapeCasts_S32x3x1536_S32x4608

/-- The reference's term for the double-gated convolution's output. -/
def out16 : Vec Ideal S32x512 .f32 :=
  shapeCast _ (mulf (extractStridedSlice S32x1x512 ![0, 0, 0] (res_main_v32 V) slices_S32x1x1536_S32x1x512_0_0_0) (addf (addf (mulf (extractStridedSlice S32x1x512 ![0, 0, 0] (res_main_v37 V) slices_S32x3x512_S32x1x512_0_0_0) (broadcastInDim S32x1x512 ![0, 1, 2] bcast_S1x1x512_S32x1x512_0_1_2 (broadcastInDim S1x1x512 ![2] bcast_S512_S1x1x512_2 (shapeCast _ (extractStridedSlice S1x512 ![0, 0] (V (Proc.devRef .tc main_arg6)) slices_S3x512_S1x512_0_0) shapeCasts_S1x512_S512)))) (mulf (extractStridedSlice S32x1x512 ![0, 1, 0] (res_main_v37 V) slices_S32x3x512_S32x1x512_0_1_0) (broadcastInDim S32x1x512 ![0, 1, 2] bcast_S1x1x512_S32x1x512_0_1_2 (broadcastInDim S1x1x512 ![2] bcast_S512_S1x1x512_2 (shapeCast _ (extractStridedSlice S1x512 ![1, 0] (V (Proc.devRef .tc main_arg6)) slices_S3x512_S1x512_1_0) shapeCasts_S1x512_S512))))) (mulf (extractStridedSlice S32x1x512 ![0, 2, 0] (res_main_v37 V) slices_S32x3x512_S32x1x512_0_2_0) (broadcastInDim S32x1x512 ![0, 1, 2] bcast_S1x1x512_S32x1x512_0_1_2 (broadcastInDim S1x1x512 ![2] bcast_S512_S1x1x512_2 (shapeCast _ (extractStridedSlice S1x512 ![2, 0] (V (Proc.devRef .tc main_arg6)) slices_S3x512_S1x512_2_0) shapeCasts_S1x512_S512)))))) shapeCasts_S32x1x512_S32x512

/-- The reference's term for what it keeps. -/
def out17 : Vec Ideal S32x1024 .f32 :=
  shapeCast _ (extractStridedSlice S32x2x512 ![0, 1, 0] (res_main_v37 V) slices_S32x3x512_S32x2x512_0_1_0) shapeCasts_S32x2x512_S32x1024

/-- The reference's term for the recurrence's output. -/
def out18 : Vec Ideal S32x512 .f32 :=
  shapeCast _ (mulf (res_main_v137 V) (mulf (res_main_v62 V) (mulf (broadcastInDim S32x1x512 ![] bcast_S_S32x1x512 (constant S_ .f32 0x3F000000#32)) (addf (broadcastInDim S32x1x512 ![] bcast_S_S32x1x512 (constant S_ .f32 0x3F800000#32)) (Host.tanh (mulf (broadcastInDim S32x1x512 ![] bcast_S_S32x1x512 (constant S_ .f32 0x3F4C422A#32)) (addf (res_main_v62 V) (mulf (broadcastInDim S32x1x512 ![] bcast_S_S32x1x512 (constant S_ .f32 0x3D372713#32)) (mulf (mulf (res_main_v62 V) (res_main_v62 V)) (res_main_v62 V)))))))))) shapeCasts_S32x1x512_S32x512

/-- The reference's term for its new state. -/
def out19 : Vec Ideal S32x512 .f32 :=
  shapeCast _ (res_main_v137 V) shapeCasts_S32x1x512_S32x512

/-- The reference's term for what its convolution keeps. -/
def out20 : Vec Ideal S32x1536 .f32 :=
  shapeCast _ (extractStridedSlice S32x3x512 ![0, 1, 0] (res_main_v63 V) slices_S32x4x512_S32x3x512_0_1_0) shapeCasts_S32x3x512_S32x1536

theorem out14_eq : out14 V = actOut (a0 V) (a1 V) (a5 V) := by
  funext y
  obtain ⟨r, k, rfl⟩ : ∃ (r : Fin 32) (k : Fin 1536), y = ix2 r k := ⟨y 0, y 1, eq_ix2 y⟩
  refine Eq.trans ?_ (congrArg silu (v29_apply V r k))
  pointwise [out14]
  rfl

theorem out15_eq : out15 V = actKept (a0 V) (a1 V) := by
  funext y
  obtain ⟨r, k, rfl⟩ : ∃ (r : Fin 32) (k : Fin 4608), y = ix2 r k := ⟨y 0, y 1, eq_ix2 y⟩
  pointwise [out15]
  by_cases h : k.val < 3072
  · refine Eq.trans ?_ (joined_left (n := 4608) (p := 3072) (q := 1536) (by norm_num) _ _ k ⟨k.val, h⟩ rfl).symm
    exact v2_kept V r _ _ _ (by show 1 + k.val / 1536 = k.val / 1536 + 1; omega)
  · refine Eq.trans ?_ (joined_right (n := 4608) (p := 3072) (q := 1536) (by norm_num) _ _ k ⟨k.val - 3072, by omega⟩ (by show k.val = 3072 + (k.val - 3072); omega)).symm
    refine Eq.trans ?_ (v2_new V r ⟨k.val - 3072, by omega⟩)
    exact congrArg₂ (fun q j => (res_main_v2 V : Vec Ideal S32x4x1536 .f32) (ix3 r q j))
      (Fin.ext (by show 1 + k.val / 1536 = 3; omega)) (Fin.ext (by show k.val % 1536 = k.val - 3072; omega))

theorem out16_eq : out16 V = gatedOut (a0 V) (a2 V) (a6 V) := by
  funext y
  obtain ⟨r, k, rfl⟩ : ∃ (r : Fin 32) (k : Fin 512), y = ix2 r k := ⟨y 0, y 1, eq_ix2 y⟩
  refine Eq.trans ?_ (congrArg₂ (fun a b : EReal => a * b) (v32_apply V r ⟨k.val, by omega⟩)
    (conv3_congr (v37_kept V r 0 0 k rfl) (v37_kept V r 1 1 k rfl) (v37_new V r k) rfl rfl rfl))
  pointwise [out16]
  rfl

theorem out17_eq : out17 V = gatedKept (a0 V) (a2 V) := by
  funext y
  obtain ⟨r, k, rfl⟩ : ∃ (r : Fin 32) (k : Fin 1024), y = ix2 r k := ⟨y 0, y 1, eq_ix2 y⟩
  pointwise [out17]
  by_cases h : k.val < 512
  · refine Eq.trans ?_ (joined_left (n := 1024) (p := 512) (q := 512) (by norm_num) _ _ k ⟨k.val, h⟩ rfl).symm
    refine Eq.trans ?_ (v37_kept V r 1 1 ⟨k.val, h⟩ rfl)
    exact congrArg₂ (fun q j => (res_main_v37 V : Vec Ideal S32x3x512 .f32) (ix3 r q j))
      (Fin.ext (by show 1 + k.val / 512 = 1; omega)) (Fin.ext (by show k.val % 512 = k.val; omega))
  · refine Eq.trans ?_ (joined_right (n := 1024) (p := 512) (q := 512) (by norm_num) _ _ k ⟨k.val - 512, by omega⟩ (by show k.val = 512 + (k.val - 512); omega)).symm
    refine Eq.trans ?_ (v37_new V r ⟨k.val - 512, by omega⟩)
    exact congrArg₂ (fun q j => (res_main_v37 V : Vec Ideal S32x3x512 .f32) (ix3 r q j))
      (Fin.ext (by show 1 + k.val / 512 = 2; omega)) (Fin.ext (by show k.val % 512 = k.val - 512; omega))

theorem out19_eq : out19 V = stateOut (a0 V) (a3 V) (a4 V) (a7 V) (a8 V) (a9 V) (a10 V) (a11 V) (a12 V) (a13 V) := by
  funext y
  obtain ⟨r, k, rfl⟩ : ∃ (r : Fin 32) (k : Fin 512), y = ix2 r k := ⟨y 0, y 1, eq_ix2 y⟩
  refine Eq.trans ?_ (v137_apply V r k)
  pointwise [out19]

theorem out18_eq : out18 V = recOut (a0 V) (out19 V) := by
  funext y
  obtain ⟨r, k, rfl⟩ : ∃ (r : Fin 32) (k : Fin 512), y = ix2 r k := ⟨y 0, y 1, eq_ix2 y⟩
  refine Eq.trans ?_ (congrArg (fun g : EReal => out19 V (ix2 r k) * gelu g) (v62_apply V r k))
  pointwise [out18, out19]
  rfl

theorem out20_eq : out20 V = mixKept (a0 V) (a3 V) := by
  funext y
  obtain ⟨r, k, rfl⟩ : ∃ (r : Fin 32) (k : Fin 1536), y = ix2 r k := ⟨y 0, y 1, eq_ix2 y⟩
  pointwise [out20]
  by_cases h : k.val < 1024
  · refine Eq.trans ?_ (joined_left (n := 1536) (p := 1024) (q := 512) (by norm_num) _ _ k ⟨k.val, h⟩ rfl).symm
    exact v63_kept V r _ _ _ (by show 1 + k.val / 512 = k.val / 512 + 1; omega)
  · refine Eq.trans ?_ (joined_right (n := 1536) (p := 1024) (q := 512) (by norm_num) _ _ k ⟨k.val - 1024, by omega⟩ (by show k.val = 1024 + (k.val - 1024); omega)).symm
    refine Eq.trans ?_ (v63_new V r ⟨k.val - 1024, by omega⟩)
    exact congrArg₂ (fun q j => (res_main_v63 V : Vec Ideal S32x4x512 .f32) (ix3 r q j))
      (Fin.ext (by show 1 + k.val / 512 = 3; omega)) (Fin.ext (by show k.val % 512 = k.val - 1024; omega))

/-! ## From equal arguments, the kernel's results -/

variable (m : (ℓ : Loc Cert.StepIdeal.nD Cert.StepIdeal.τ Cert.StepIdeal.sig) → Buf (Elt Ideal) ℓ)
  (m' : (ℓ : Loc nD τ sig) → Buf (Elt Ideal) ℓ) (c : Dev nD)

theorem values14
    (e0 : m' ((c : Thread nD τ).loc main_arg0) = m ((c.tc : Thread Cert.StepIdeal.nD Cert.StepIdeal.τ).loc Cert.StepIdeal.main_arg0))
    (e1 : m' ((c : Thread nD τ).loc main_arg1) = m ((c.tc : Thread Cert.StepIdeal.nD Cert.StepIdeal.τ).loc Cert.StepIdeal.main_arg1))
    (e5 : m' ((c : Thread nD τ).loc main_arg5) = m ((c.tc : Thread Cert.StepIdeal.nD Cert.StepIdeal.τ).loc Cert.StepIdeal.main_arg5)) :
    out14 (launchContents m' c) = Cert.StepIdeal.Value.G14 m c := by
  refine (out14_eq _).trans ?_
  show actOut (m' ((c : Thread nD τ).loc main_arg0)) (m' ((c : Thread nD τ).loc main_arg1)) (m' ((c : Thread nD τ).loc main_arg5)) = _
  rw [e0, e1, e5]
  rfl

theorem values15
    (e0 : m' ((c : Thread nD τ).loc main_arg0) = m ((c.tc : Thread Cert.StepIdeal.nD Cert.StepIdeal.τ).loc Cert.StepIdeal.main_arg0))
    (e1 : m' ((c : Thread nD τ).loc main_arg1) = m ((c.tc : Thread Cert.StepIdeal.nD Cert.StepIdeal.τ).loc Cert.StepIdeal.main_arg1)) :
    out15 (launchContents m' c) = Cert.StepIdeal.Value.G15 m c := by
  refine (out15_eq _).trans ?_
  show actKept (m' ((c : Thread nD τ).loc main_arg0)) (m' ((c : Thread nD τ).loc main_arg1)) = _
  rw [e0, e1]
  rfl

theorem values16
    (e0 : m' ((c : Thread nD τ).loc main_arg0) = m ((c.tc : Thread Cert.StepIdeal.nD Cert.StepIdeal.τ).loc Cert.StepIdeal.main_arg0))
    (e2 : m' ((c : Thread nD τ).loc main_arg2) = m ((c.tc : Thread Cert.StepIdeal.nD Cert.StepIdeal.τ).loc Cert.StepIdeal.main_arg2))
    (e6 : m' ((c : Thread nD τ).loc main_arg6) = m ((c.tc : Thread Cert.StepIdeal.nD Cert.StepIdeal.τ).loc Cert.StepIdeal.main_arg6)) :
    out16 (launchContents m' c) = Cert.StepIdeal.Value.G16 m c := by
  refine (out16_eq _).trans ?_
  show gatedOut (m' ((c : Thread nD τ).loc main_arg0)) (m' ((c : Thread nD τ).loc main_arg2)) (m' ((c : Thread nD τ).loc main_arg6)) = _
  rw [e0, e2, e6]
  rfl

theorem values17
    (e0 : m' ((c : Thread nD τ).loc main_arg0) = m ((c.tc : Thread Cert.StepIdeal.nD Cert.StepIdeal.τ).loc Cert.StepIdeal.main_arg0))
    (e2 : m' ((c : Thread nD τ).loc main_arg2) = m ((c.tc : Thread Cert.StepIdeal.nD Cert.StepIdeal.τ).loc Cert.StepIdeal.main_arg2)) :
    out17 (launchContents m' c) = Cert.StepIdeal.Value.G17 m c := by
  refine (out17_eq _).trans ?_
  show gatedKept (m' ((c : Thread nD τ).loc main_arg0)) (m' ((c : Thread nD τ).loc main_arg2)) = _
  rw [e0, e2]
  rfl

theorem values19
    (e0 : m' ((c : Thread nD τ).loc main_arg0) = m ((c.tc : Thread Cert.StepIdeal.nD Cert.StepIdeal.τ).loc Cert.StepIdeal.main_arg0))
    (e3 : m' ((c : Thread nD τ).loc main_arg3) = m ((c.tc : Thread Cert.StepIdeal.nD Cert.StepIdeal.τ).loc Cert.StepIdeal.main_arg3))
    (e4 : m' ((c : Thread nD τ).loc main_arg4) = m ((c.tc : Thread Cert.StepIdeal.nD Cert.StepIdeal.τ).loc Cert.StepIdeal.main_arg4))
    (e7 : m' ((c : Thread nD τ).loc main_arg7) = m ((c.tc : Thread Cert.StepIdeal.nD Cert.StepIdeal.τ).loc Cert.StepIdeal.main_arg7))
    (e8 : m' ((c : Thread nD τ).loc main_arg8) = m ((c.tc : Thread Cert.StepIdeal.nD Cert.StepIdeal.τ).loc Cert.StepIdeal.main_arg8))
    (e9 : m' ((c : Thread nD τ).loc main_arg9) = m ((c.tc : Thread Cert.StepIdeal.nD Cert.StepIdeal.τ).loc Cert.StepIdeal.main_arg9))
    (e10 : m' ((c : Thread nD τ).loc main_arg10) = m ((c.tc : Thread Cert.StepIdeal.nD Cert.StepIdeal.τ).loc Cert.StepIdeal.main_arg10))
    (e11 : m' ((c : Thread nD τ).loc main_arg11) = m ((c.tc : Thread Cert.StepIdeal.nD Cert.StepIdeal.τ).loc Cert.StepIdeal.main_arg11))
    (e12 : m' ((c : Thread nD τ).loc main_arg12) = m ((c.tc : Thread Cert.StepIdeal.nD Cert.StepIdeal.τ).loc Cert.StepIdeal.main_arg12))
    (e13 : m' ((c : Thread nD τ).loc main_arg13) = m ((c.tc : Thread Cert.StepIdeal.nD Cert.StepIdeal.τ).loc Cert.StepIdeal.main_arg13)) :
    out19 (launchContents m' c) = Cert.StepIdeal.Value.G19 m c := by
  refine (out19_eq _).trans ?_
  show stateOut (m' ((c : Thread nD τ).loc main_arg0)) (m' ((c : Thread nD τ).loc main_arg3)) (m' ((c : Thread nD τ).loc main_arg4)) (m' ((c : Thread nD τ).loc main_arg7)) (m' ((c : Thread nD τ).loc main_arg8)) (m' ((c : Thread nD τ).loc main_arg9)) (m' ((c : Thread nD τ).loc main_arg10)) (m' ((c : Thread nD τ).loc main_arg11)) (m' ((c : Thread nD τ).loc main_arg12)) (m' ((c : Thread nD τ).loc main_arg13)) = _
  rw [e0, e3, e4, e7, e8, e9, e10, e11, e12, e13]
  rfl

theorem values18
    (e0 : m' ((c : Thread nD τ).loc main_arg0) = m ((c.tc : Thread Cert.StepIdeal.nD Cert.StepIdeal.τ).loc Cert.StepIdeal.main_arg0))
    (e3 : m' ((c : Thread nD τ).loc main_arg3) = m ((c.tc : Thread Cert.StepIdeal.nD Cert.StepIdeal.τ).loc Cert.StepIdeal.main_arg3))
    (e4 : m' ((c : Thread nD τ).loc main_arg4) = m ((c.tc : Thread Cert.StepIdeal.nD Cert.StepIdeal.τ).loc Cert.StepIdeal.main_arg4))
    (e7 : m' ((c : Thread nD τ).loc main_arg7) = m ((c.tc : Thread Cert.StepIdeal.nD Cert.StepIdeal.τ).loc Cert.StepIdeal.main_arg7))
    (e8 : m' ((c : Thread nD τ).loc main_arg8) = m ((c.tc : Thread Cert.StepIdeal.nD Cert.StepIdeal.τ).loc Cert.StepIdeal.main_arg8))
    (e9 : m' ((c : Thread nD τ).loc main_arg9) = m ((c.tc : Thread Cert.StepIdeal.nD Cert.StepIdeal.τ).loc Cert.StepIdeal.main_arg9))
    (e10 : m' ((c : Thread nD τ).loc main_arg10) = m ((c.tc : Thread Cert.StepIdeal.nD Cert.StepIdeal.τ).loc Cert.StepIdeal.main_arg10))
    (e11 : m' ((c : Thread nD τ).loc main_arg11) = m ((c.tc : Thread Cert.StepIdeal.nD Cert.StepIdeal.τ).loc Cert.StepIdeal.main_arg11))
    (e12 : m' ((c : Thread nD τ).loc main_arg12) = m ((c.tc : Thread Cert.StepIdeal.nD Cert.StepIdeal.τ).loc Cert.StepIdeal.main_arg12))
    (e13 : m' ((c : Thread nD τ).loc main_arg13) = m ((c.tc : Thread Cert.StepIdeal.nD Cert.StepIdeal.τ).loc Cert.StepIdeal.main_arg13)) :
    out18 (launchContents m' c) = Cert.StepIdeal.Value.G18 m c := by
  refine (out18_eq _).trans ?_
  rw [values19 m m' c e0 e3 e4 e7 e8 e9 e10 e11 e12 e13]
  show recOut (m' ((c : Thread nD τ).loc main_arg0)) _ = _
  rw [e0]
  rfl

theorem values20
    (e0 : m' ((c : Thread nD τ).loc main_arg0) = m ((c.tc : Thread Cert.StepIdeal.nD Cert.StepIdeal.τ).loc Cert.StepIdeal.main_arg0))
    (e3 : m' ((c : Thread nD τ).loc main_arg3) = m ((c.tc : Thread Cert.StepIdeal.nD Cert.StepIdeal.τ).loc Cert.StepIdeal.main_arg3)) :
    out20 (launchContents m' c) = Cert.StepIdeal.Value.G20 m c := by
  refine (out20_eq _).trans ?_
  show mixKept (m' ((c : Thread nD τ).loc main_arg0)) (m' ((c : Thread nD τ).loc main_arg3)) = _
  rw [e0, e3]
  rfl

end Cert.StepRefIdeal.Value
-- ==== Proof.NormSWhole.lean ====
/-
  The final norm of the sample pass, whose 32 rows are one block: the kernel's result, and the reference's as the same.
-/
module

public import proofs.«01_k».proof.Proof.Gen.NormSIdeal.Value
public import proofs.«01_k».proof.Proof.Gen.NormSRefIdeal.Run
public import proofs.«01_k».proof.Proof.StepWhole

@[expose] public section

set_option maxRecDepth 16384

noncomputable section

open Idealize.ShloMosaic Idealize.ShloMosaic.TcCoe Idealize.SL.Sem

namespace Cert.NormSIdeal.Value

open Cert.NormSIdeal Cert.NormSIdeal.Gen Cert.RowNorm Cert.Index

/-- The body's product, at a row and a column. -/
theorem pay1_apply (x : Vec Ideal S32x1024 .f32) (w : Vec Ideal S1x1024 .f32) (r : Fin 32) (k : Fin 1024) :
    k0_pay1 x w (ix2 r k) = normed (fun j => x (ix2 r j)) (fun j => w (ix2 0 j)) k := by
  unfold normed
  pointwise [k0_pay1]

theorem hz : (![0, 0] : Fin 2 → Nat) = fun _ => 0 := funext fun a => by fin_cases a <;> rfl

/-- What the point leaves: the rows, normalized. -/
theorem block_apply (x : Vec Ideal S32x1024 .f32) (w : Vec Ideal S1x1024 .f32) (r : Fin 32) (k : Fin 1024) :
    out0_2 x w (ix2 r k) = normed (fun j => x (ix2 r j)) (fun j => w (ix2 0 j)) k := by
  unfold out0_2
  rw [View.canon_unit_zero hz]
  simp only [View.ld_unit_zero (S := S32x1024) hz, View.ld_unit_zero (S := S1x1024) hz]
  exact pay1_apply x w r k

variable (m : (ℓ : Loc nD τ sig) → Buf (Elt Ideal) ℓ) (c : Dev nD)

/-- The index maps: every window is a whole array. -/
theorem idx_blocks : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

theorem blk0 (t : Fin cfg0.N) (r : Fin 32) (k : Fin 1024) :
    (iblk m c 0 t : Vec Ideal S32x1024 .f32) (ix2 r k) = (m ((c : Thread nD τ).loc main_arg0) : Vec Ideal S32x1024 .f32) (ix2 r k) :=
  (congrFun (V_main_arg0 m c) _).trans
    (congrArg _ (ext2 _ _ _ (off0 32 r.val (idx_blocks t).1.1) (off0 1024 k.val (idx_blocks t).1.2)))

theorem blk1 (t : Fin cfg0.N) (k : Fin 1024) :
    (iblk m c 1 t : Vec Ideal S1x1024 .f32) (ix2 0 k) = (m ((c : Thread nD τ).loc main_arg1) : Vec Ideal S1024 .f32) (ix1 k) := by
  have hi := (idx_blocks t).2.1
  show V m c main_v0 (((cfg0.win 1).blk t).view.emb (ix2 0 k)) = _
  rw [show ((cfg0.win 1).blk t).view.emb (ix2 0 k) = ix2 0 k from
    ext2 _ _ _ (off0 1 0 hi.1) (off0 1024 k.val hi.2)]
  unfold V hostOps0
  after_reads_simp
  pointwise

/-- The result, as contents of the output array. -/
def G : Vec Ideal S32x1024 .f32 := fun i =>
  normed (fun k => (m ((c : Thread nD τ).loc main_arg0) : Vec Ideal S32x1024 .f32) (ix2 (i 0) k))
    (fun k => (m ((c : Thread nD τ).loc main_arg1) : Vec Ideal S1024 .f32) (ix1 k)) (i 1)

/-- An entry of the block is that of the array. -/
theorem emb_eq (t : Fin cfg0.N) (r : Fin 32) (k : Fin 1024) : ((cfg0.win 2).blk t).view.emb (ix2 r k) = ix2 r k :=
  ext2 _ _ _ (off0 32 r.val (idx_blocks t).2.2.1) (off0 1024 k.val (idx_blocks t).2.2.2)

/-- What the point writes back is the result. -/
theorem flushed_G (t : Fin cfg0.N) :
    (dats m 0 c).flushed 2 t = ((cfg0.win 2).blk t).view.read (Elt Ideal) (G m c) := by
  rw [flushed2]
  funext y
  obtain ⟨r, k, rfl⟩ : ∃ (r : Fin 32) (k : Fin 1024), y = ix2 r k := ⟨y 0, y 1, eq_ix2 y⟩
  show out0_2 (iblk m c 0 t) (iblk m c 1 t) (ix2 r k) = G m c (((cfg0.win 2).blk t).view.emb (ix2 r k))
  rw [emb_eq, block_apply]
  simp only [blk0, blk1]
  rfl

/-- Every row is in the block. -/
theorem cover_rows (i : S32x1024.Idx) :
    ∃ t : Fin cfg0.N, (cfg0.win 2).flush t = true ∧ i ∈ ((cfg0.win 2).blk t).view.set := by
  let t : Fin cfg0.N := ⟨0, lt_of_lt_of_eq (by decide) (show cfg0.N = 1 from N_0).symm⟩
  refine ⟨t, (by decide +kernel : ∀ t : Fin grid0.N, win0_2.flush t = true) t, ?_⟩
  have e : ((cfg0.win 2).blk t).view.emb i = i := by
    obtain ⟨r, k, rfl⟩ : ∃ (r : Fin 32) (k : Fin 1024), i = ix2 r k := ⟨i 0, i 1, eq_ix2 i⟩
    exact emb_eq t r k
  exact e ▸ View.emb_mem_set _ i

/-- The result array ends holding the normalized rows. -/
theorem final_G : (dats m 0 c).arrAt 2 cfg0.N = G m c :=
  (dats m 0 c).arrAt_eq_of_cover 2 (G m c) (fun t _ => flushed_G m c t) cover_rows

end Cert.NormSIdeal.Value

namespace Cert.NormSRefIdeal.Value

open Cert.NormSRefIdeal Cert.NormSRefIdeal.Gen Cert.RowNorm Cert.Index

/-- The reference as a whole. -/
def whole (x : FVec Ideal S32x1024 .f32) (nw : FVec Ideal S1024 .f32) : FVec Ideal S32x1024 .f32 :=
  mulf (mulf x (broadcastInDim S32x1024 ![0, 1] bcast_S32x1_S32x1024_0_1 (Host.rsqrt (addf
      (Host.divf (broadcastInDim S32x1 ![0] bcast_S32_S32x1_0
          (Host.reduceAdd (mulf x x) (constant S_ .f32 0x00000000#32) reducesTo_S32x1024_S32_d1 h_S_))
        (broadcastInDim S32x1 ![] bcast_S_S32x1 (constant S_ .f32 0x44800000#32)))
      (broadcastInDim S32x1 ![] bcast_S_S32x1 (constant S_ .f32 0x358637BD#32))))))
    (broadcastInDim S32x1024 ![0, 1] bcast_S1x1024_S32x1024_0_1 (broadcastInDim S1x1024 ![1] bcast_S1024_S1x1024_1 nw))

theorem whole_apply (x : FVec Ideal S32x1024 .f32) (nw : FVec Ideal S1024 .f32) (r : Fin 32) (k : Fin 1024) :
    whole x nw (ix2 r k) = normed (fun j => x (ix2 r j)) (fun j => nw (ix1 j)) k := by
  unfold normed
  pointwise [whole]

/-- From equal arguments, the reference's result is the kernel's. -/
theorem values_eq (m : (ℓ : Loc Cert.NormSIdeal.nD Cert.NormSIdeal.τ Cert.NormSIdeal.sig) → Buf (Elt Ideal) ℓ)
    (m' : (ℓ : Loc nD τ sig) → Buf (Elt Ideal) ℓ) (c : Dev nD)
    (e0 : m' ((c : Thread nD τ).loc main_arg0) = m ((c.tc : Thread Cert.NormSIdeal.nD Cert.NormSIdeal.τ).loc Cert.NormSIdeal.main_arg0))
    (e1 : m' ((c : Thread nD τ).loc main_arg1) = m ((c.tc : Thread Cert.NormSIdeal.nD Cert.NormSIdeal.τ).loc Cert.NormSIdeal.main_arg1)) :
    whole (m' ((c : Thread nD τ).loc main_arg0)) (m' ((c : Thread nD τ).loc main_arg1)) = Cert.NormSIdeal.Value.G m c := by
  funext i
  obtain ⟨r, k, rfl⟩ : ∃ (r : Fin 32) (k : Fin 1024), i = ix2 r k := ⟨i 0, i 1, eq_ix2 i⟩
  rw [whole_apply, e0, e1]
  rfl

end Cert.NormSRefIdeal.Value
-- ==== Proof.lean ====
module

public import proofs.«01_k».proof.Defs
public import proofs.«01_k».proof.Proof.Gen.Dil0.Frame
public import proofs.«01_k».proof.Proof.Gen.Dil0Ideal.Frame
public import proofs.«01_k».proof.Proof.Dil0Whole
public import proofs.«01_k».proof.Proof.Gen.Dil1.Frame
public import proofs.«01_k».proof.Proof.Gen.Dil1Ideal.Frame
public import proofs.«01_k».proof.Proof.Dil1Whole
public import proofs.«01_k».proof.Proof.Gen.Dil2.Frame
public import proofs.«01_k».proof.Proof.Gen.Dil2Ideal.Frame
public import proofs.«01_k».proof.Proof.Dil2Whole
public import proofs.«01_k».proof.Proof.Gen.Ffn.Frame
public import proofs.«01_k».proof.Proof.Gen.FfnIdeal.Frame
public import proofs.«01_k».proof.Proof.FfnWhole
public import proofs.«01_k».proof.Proof.Gen.Proj.Frame
public import proofs.«01_k».proof.Proof.Gen.ProjIdeal.Frame
public import proofs.«01_k».proof.Proof.ProjWhole
public import proofs.«01_k».proof.Proof.Gen.Merge.Frame
public import proofs.«01_k».proof.Proof.Gen.MergeIdeal.Frame
public import proofs.«01_k».proof.Proof.MergeRef
public import proofs.«01_k».proof.Proof.Gen.Norm.Frame
public import proofs.«01_k».proof.Proof.Gen.NormIdeal.Frame
public import proofs.«01_k».proof.Proof.NormWhole
public import proofs.«01_k».proof.Proof.Gen.Step.Frame
public import proofs.«01_k».proof.Proof.Gen.StepIdeal.Frame
public import proofs.«01_k».proof.Proof.StepWhole
public import proofs.«01_k».proof.Proof.Gen.NormS.Frame
public import proofs.«01_k».proof.Proof.Gen.NormSIdeal.Frame
public import proofs.«01_k».proof.Proof.NormSWhole
public import Idealize.ShloMosaic.Lib.Quiescent

@[expose] public section

noncomputable section

/-! # The claims, put together

For each call: the kernel at the machine's formats and at the ideal instance runs and leaves its arguments alone;
so does the reference; and at the ideal instance, from equal arguments, kernel and reference end with the same
arrays, which the modules imported here name entry by entry. -/

namespace Cert.Proof

open Idealize.ShloMosaic Idealize.SL.Sem

/-- The reference of the dilated attention of dilation one runs to the end, keeps its arguments, and uses no semaphore. -/
theorem ref_Dil0 : @Cert.quiescent_Dil0RefIdeal Cert.Dil0RefIdeal.Gen.facts := fun m ρ _ =>
  (θ_run Cert.Dil0RefIdeal.defs _ _).mono (fun r h => ⟨fun c => ⟨(h c).2.2.1, (h c).2.2.2⟩,
    Idealize.ShloMosaic.sem_eq_zero_of_no_sems (by decide) r.2⟩) (Cert.Dil0RefIdeal.Value.run (F := Ideal) m ρ)

/-- Kernel and reference of the dilated attention of dilation one end with the same values. -/
theorem alg_Dil0 : @Cert.algebraic_Dil0Ideal_Dil0RefIdeal Cert.Dil0Ideal.Gen.facts Cert.Dil0RefIdeal.Gen.facts := by
  intro m ρ m' ρ' _ hagree
  refine ⟨fun c => Cert.Dil0Ideal.Value.G7 m c, fun c => Cert.Dil0Ideal.Value.G8 m c, ?_, ?_⟩
  · exact (θ_run Cert.Dil0Ideal.defs _ _).mono (fun r h c => ⟨(h c).1.trans (Cert.Dil0Ideal.Value.final7 m c),
      (h c).2.1.trans (Cert.Dil0Ideal.Value.final8 m c), (h c).2.2⟩) (Cert.Dil0Ideal.Value.run_blocks m ρ)
  · exact (θ_run Cert.Dil0RefIdeal.defs _ _).mono (fun r h c =>
      ⟨(h c).1.trans (Cert.Dil0RefIdeal.Value.out_values m m' c (hagree c).1 (hagree c).2),
      (h c).2.1.trans (Cert.Dil0RefIdeal.Value.lse_values m m' c (hagree c).1 (hagree c).2), (h c).2.2⟩) (Cert.Dil0RefIdeal.Value.run m' ρ')

/-- The reference of the dilated attention of dilation four runs to the end, keeps its arguments, and uses no semaphore. -/
theorem ref_Dil1 : @Cert.quiescent_Dil1RefIdeal Cert.Dil1RefIdeal.Gen.facts := fun m ρ _ =>
  (θ_run Cert.Dil1RefIdeal.defs _ _).mono (fun r h => ⟨fun c => ⟨(h c).2.2.1, (h c).2.2.2⟩,
    Idealize.ShloMosaic.sem_eq_zero_of_no_sems (by decide) r.2⟩) (Cert.Dil1RefIdeal.Value.run (F := Ideal) m ρ)

/-- Kernel and reference of the dilated attention of dilation four end with the same values. -/
theorem alg_Dil1 : @Cert.algebraic_Dil1Ideal_Dil1RefIdeal Cert.Dil1Ideal.Gen.facts Cert.Dil1RefIdeal.Gen.facts := by
  intro m ρ m' ρ' _ hagree
  refine ⟨fun c => Cert.Dil1Ideal.Value.G7 m c, fun c => Cert.Dil1Ideal.Value.G8 m c, ?_, ?_⟩
  · exact (θ_run Cert.Dil1Ideal.defs _ _).mono (fun r h c => ⟨(h c).1.trans (Cert.Dil1Ideal.Value.final7 m c),
      (h c).2.1.trans (Cert.Dil1Ideal.Value.final8 m c), (h c).2.2⟩) (Cert.Dil1Ideal.Value.run_blocks m ρ)
  · exact (θ_run Cert.Dil1RefIdeal.defs _ _).mono (fun r h c =>
      ⟨(h c).1.trans (Cert.Dil1RefIdeal.Value.out_values m m' c (hagree c).1 (hagree c).2),
      (h c).2.1.trans (Cert.Dil1RefIdeal.Value.lse_values m m' c (hagree c).1 (hagree c).2), (h c).2.2⟩) (Cert.Dil1RefIdeal.Value.run m' ρ')

/-- The reference of the dilated attention of dilation sixteen runs to the end, keeps its arguments, and uses no semaphore. -/
theorem ref_Dil2 : @Cert.quiescent_Dil2RefIdeal Cert.Dil2RefIdeal.Gen.facts := fun m ρ _ =>
  (θ_run Cert.Dil2RefIdeal.defs _ _).mono (fun r h => ⟨fun c => ⟨(h c).2.2.1, (h c).2.2.2⟩,
    Idealize.ShloMosaic.sem_eq_zero_of_no_sems (by decide) r.2⟩) (Cert.Dil2RefIdeal.Value.run (F := Ideal) m ρ)

/-- Kernel and reference of the dilated attention of dilation sixteen end with the same values. -/
theorem alg_Dil2 : @Cert.algebraic_Dil2Ideal_Dil2RefIdeal Cert.Dil2Ideal.Gen.facts Cert.Dil2RefIdeal.Gen.facts := by
  intro m ρ m' ρ' _ hagree
  refine ⟨fun c => Cert.Dil2Ideal.Value.G7 m c, fun c => Cert.Dil2Ideal.Value.G8 m c, ?_, ?_⟩
  · exact (θ_run Cert.Dil2Ideal.defs _ _).mono (fun r h c => ⟨(h c).1.trans (Cert.Dil2Ideal.Value.final7 m c),
      (h c).2.1.trans (Cert.Dil2Ideal.Value.final8 m c), (h c).2.2⟩) (Cert.Dil2Ideal.Value.run_blocks m ρ)
  · exact (θ_run Cert.Dil2RefIdeal.defs _ _).mono (fun r h c =>
      ⟨(h c).1.trans (Cert.Dil2RefIdeal.Value.out_values m m' c (hagree c).1 (hagree c).2),
      (h c).2.1.trans (Cert.Dil2RefIdeal.Value.lse_values m m' c (hagree c).1 (hagree c).2), (h c).2.2⟩) (Cert.Dil2RefIdeal.Value.run m' ρ')

/-- The reference of the feed-forward half step runs to the end, keeps its arguments, and uses no semaphore. -/
theorem ref_Ffn : @Cert.quiescent_FfnRefIdeal Cert.FfnRefIdeal.Gen.facts := fun m ρ _ =>
  (θ_run Cert.FfnRefIdeal.defs _ _).mono (fun r h => ⟨fun c => ⟨(h c).2.1, (h c).2.2.1, (h c).2.2.2.1, (h c).2.2.2.2⟩,
    Idealize.ShloMosaic.sem_eq_zero_of_no_sems (by decide) r.2⟩) (Cert.FfnRefIdeal.Value.run (F := Ideal) m ρ)

/-- Kernel and reference of the feed-forward half step end with the same values. -/
theorem alg_Ffn : @Cert.algebraic_FfnIdeal_FfnRefIdeal Cert.FfnIdeal.Gen.facts Cert.FfnRefIdeal.Gen.facts := by
  intro m ρ m' ρ' _ hagree
  refine ⟨fun c => Cert.FfnIdeal.Value.G m c, ?_, ?_⟩
  · exact (θ_run Cert.FfnIdeal.defs _ _).mono (fun r h c => ⟨(h c).1.trans (Cert.FfnIdeal.Value.final_G m c), (h c).2⟩)
      (Cert.FfnIdeal.Value.run_blocks m ρ)
  · exact (θ_run Cert.FfnRefIdeal.defs _ _).mono (fun r h c =>
      ⟨(h c).1.trans (Cert.FfnRefIdeal.Value.values_eq m m' c (hagree c).1 (hagree c).2.1 (hagree c).2.2.1 (hagree c).2.2.2), (h c).2⟩)
      (Cert.FfnRefIdeal.Value.run m' ρ')

/-- The reference of the mixer's input projection runs to the end, keeps its arguments, and uses no semaphore. -/
theorem ref_Proj : @Cert.quiescent_ProjRefIdeal Cert.ProjRefIdeal.Gen.facts := fun m ρ _ =>
  (θ_run Cert.ProjRefIdeal.defs _ _).mono (fun r h => ⟨fun c => ⟨(h c).2.1, (h c).2.2.1, (h c).2.2.2.1, (h c).2.2.2.2.1, (h c).2.2.2.2.2⟩,
    Idealize.ShloMosaic.sem_eq_zero_of_no_sems (by decide) r.2⟩) (Cert.ProjRefIdeal.Value.run (F := Ideal) m ρ)

/-- Kernel and reference of the mixer's input projection end with the same values. -/
theorem alg_Proj : @Cert.algebraic_ProjIdeal_ProjRefIdeal Cert.ProjIdeal.Gen.facts Cert.ProjRefIdeal.Gen.facts := by
  intro m ρ m' ρ' _ hagree
  refine ⟨fun c => Cert.ProjIdeal.Value.G m c, ?_, ?_⟩
  · exact (θ_run Cert.ProjIdeal.defs _ _).mono (fun r h c => ⟨(h c).1.trans (Cert.ProjIdeal.Value.final_G m c), (h c).2⟩)
      (Cert.ProjIdeal.Value.run_blocks m ρ)
  · exact (θ_run Cert.ProjRefIdeal.defs _ _).mono (fun r h c =>
      ⟨(h c).1.trans (Cert.ProjRefIdeal.Value.values_eq m m' c (hagree c).1 (hagree c).2.1 (hagree c).2.2.1 (hagree c).2.2.2.1 (hagree c).2.2.2.2), (h c).2⟩)
      (Cert.ProjRefIdeal.Value.run m' ρ')

/-- The reference of the merge of the branches runs to the end, keeps its arguments, and uses no semaphore. -/
theorem ref_Merge : @Cert.quiescent_MergeRefIdeal Cert.MergeRefIdeal.Gen.facts := fun m ρ _ =>
  (θ_run Cert.MergeRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
    Idealize.ShloMosaic.sem_eq_zero_of_no_sems (by decide) r.2⟩) (Cert.MergeRefIdeal.Value.run (F := Ideal) m ρ)

/-- Kernel and reference of the merge of the branches end with the same values. -/
theorem alg_Merge : @Cert.algebraic_MergeIdeal_MergeRefIdeal Cert.MergeIdeal.Gen.facts Cert.MergeRefIdeal.Gen.facts := by
  intro m ρ m' ρ' _ hagree
  refine ⟨fun c => Cert.MergeIdeal.Value.G m c, ?_, ?_⟩
  · exact (θ_run Cert.MergeIdeal.defs _ _).mono (fun r h c => ⟨(h c).1.trans (Cert.MergeIdeal.Value.final16 m c), (h c).2⟩)
      (Cert.MergeIdeal.Value.run_blocks m ρ)
  · exact (θ_run Cert.MergeRefIdeal.defs _ _).mono (fun r h c =>
      ⟨(h c).1.trans (Cert.MergeRefIdeal.Value.values_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2), (h c).2⟩)
      (Cert.MergeRefIdeal.Value.run m' ρ')

/-- The reference of the final norm runs to the end, keeps its arguments, and uses no semaphore. -/
theorem ref_Norm : @Cert.quiescent_NormRefIdeal Cert.NormRefIdeal.Gen.facts := fun m ρ _ =>
  (θ_run Cert.NormRefIdeal.defs _ _).mono (fun r h => ⟨fun c => ⟨(h c).2.1, (h c).2.2⟩,
    Idealize.ShloMosaic.sem_eq_zero_of_no_sems (by decide) r.2⟩) (Cert.NormRefIdeal.Value.run (F := Ideal) m ρ)

/-- Kernel and reference of the final norm end with the same values. -/
theorem alg_Norm : @Cert.algebraic_NormIdeal_NormRefIdeal Cert.NormIdeal.Gen.facts Cert.NormRefIdeal.Gen.facts := by
  intro m ρ m' ρ' _ hagree
  refine ⟨fun c => Cert.NormIdeal.Value.G m c, ?_, ?_⟩
  · exact (θ_run Cert.NormIdeal.defs _ _).mono (fun r h c => ⟨(h c).1.trans (Cert.NormIdeal.Value.final_G m c), (h c).2⟩)
      (Cert.NormIdeal.Value.run_blocks m ρ)
  · exact (θ_run Cert.NormRefIdeal.defs _ _).mono (fun r h c =>
      ⟨(h c).1.trans (Cert.NormRefIdeal.Value.values_eq m m' c (hagree c).1 (hagree c).2), (h c).2⟩)
      (Cert.NormRefIdeal.Value.run m' ρ')

/-- The reference of the sample step runs to the end, keeps its arguments, and uses no semaphore. -/
theorem ref_Step : @Cert.quiescent_StepRefIdeal Cert.StepRefIdeal.Gen.facts := fun m ρ _ =>
  (θ_run Cert.StepRefIdeal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2⟩,
    Idealize.ShloMosaic.sem_eq_zero_of_no_sems (by decide) r.2⟩) (Cert.StepRefIdeal.Value.run (F := Ideal) m ρ)

/-- Kernel and reference of the sample step end with the same values. -/
theorem alg_Step : @Cert.algebraic_StepIdeal_StepRefIdeal Cert.StepIdeal.Gen.facts Cert.StepRefIdeal.Gen.facts := by
  intro m ρ m' ρ' _ hagree
  refine ⟨fun c => Cert.StepIdeal.Value.G14 m c, fun c => Cert.StepIdeal.Value.G15 m c, fun c => Cert.StepIdeal.Value.G16 m c, fun c => Cert.StepIdeal.Value.G17 m c, fun c => Cert.StepIdeal.Value.G18 m c, fun c => Cert.StepIdeal.Value.G19 m c, fun c => Cert.StepIdeal.Value.G20 m c, ?_, ?_⟩
  · exact (θ_run Cert.StepIdeal.defs _ _).mono (fun r h c => ⟨
      (h c).1.trans (Cert.StepIdeal.Value.final14 m c),
      (h c).2.1.trans (Cert.StepIdeal.Value.final15 m c),
      (h c).2.2.1.trans (Cert.StepIdeal.Value.final16 m c),
      (h c).2.2.2.1.trans (Cert.StepIdeal.Value.final17 m c),
      (h c).2.2.2.2.1.trans (Cert.StepIdeal.Value.final18 m c),
      (h c).2.2.2.2.2.1.trans (Cert.StepIdeal.Value.final19 m c),
      (h c).2.2.2.2.2.2.1.trans (Cert.StepIdeal.Value.final20 m c),
      (h c).2.2.2.2.2.2.2⟩) (Cert.StepIdeal.Value.run_blocks m ρ)
  · exact (θ_run Cert.StepRefIdeal.defs _ _).mono (fun r h c => ⟨
      (h c).1.trans (Cert.StepRefIdeal.Value.values14 m m' c ((hagree c).1) ((hagree c).2.1) ((hagree c).2.2.2.2.2.1)),
      (h c).2.1.trans (Cert.StepRefIdeal.Value.values15 m m' c ((hagree c).1) ((hagree c).2.1)),
      (h c).2.2.1.trans (Cert.StepRefIdeal.Value.values16 m m' c ((hagree c).1) ((hagree c).2.2.1) ((hagree c).2.2.2.2.2.2.1)),
      (h c).2.2.2.1.trans (Cert.StepRefIdeal.Value.values17 m m' c ((hagree c).1) ((hagree c).2.2.1)),
      (h c).2.2.2.2.1.trans (Cert.StepRefIdeal.Value.values18 m m' c ((hagree c).1) ((hagree c).2.2.2.1) ((hagree c).2.2.2.2.1) ((hagree c).2.2.2.2.2.2.2.1) ((hagree c).2.2.2.2.2.2.2.2.1) ((hagree c).2.2.2.2.2.2.2.2.2.1) ((hagree c).2.2.2.2.2.2.2.2.2.2.1) ((hagree c).2.2.2.2.2.2.2.2.2.2.2.1) ((hagree c).2.2.2.2.2.2.2.2.2.2.2.2.1) ((hagree c).2.2.2.2.2.2.2.2.2.2.2.2.2)),
      (h c).2.2.2.2.2.1.trans (Cert.StepRefIdeal.Value.values19 m m' c ((hagree c).1) ((hagree c).2.2.2.1) ((hagree c).2.2.2.2.1) ((hagree c).2.2.2.2.2.2.2.1) ((hagree c).2.2.2.2.2.2.2.2.1) ((hagree c).2.2.2.2.2.2.2.2.2.1) ((hagree c).2.2.2.2.2.2.2.2.2.2.1) ((hagree c).2.2.2.2.2.2.2.2.2.2.2.1) ((hagree c).2.2.2.2.2.2.2.2.2.2.2.2.1) ((hagree c).2.2.2.2.2.2.2.2.2.2.2.2.2)),
      (h c).2.2.2.2.2.2.1.trans (Cert.StepRefIdeal.Value.values20 m m' c ((hagree c).1) ((hagree c).2.2.2.1)),
      (h c).2.2.2.2.2.2.2⟩) (Cert.StepRefIdeal.Value.run m' ρ')

/-- The reference of the final norm of the sample pass runs to the end, keeps its arguments, and uses no semaphore. -/
theorem ref_NormS : @Cert.quiescent_NormSRefIdeal Cert.NormSRefIdeal.Gen.facts := fun m ρ _ =>
  (θ_run Cert.NormSRefIdeal.defs _ _).mono (fun r h => ⟨fun c => ⟨(h c).2.1, (h c).2.2⟩,
    Idealize.ShloMosaic.sem_eq_zero_of_no_sems (by decide) r.2⟩) (Cert.NormSRefIdeal.Value.run (F := Ideal) m ρ)

/-- Kernel and reference of the final norm of the sample pass end with the same values. -/
theorem alg_NormS : @Cert.algebraic_NormSIdeal_NormSRefIdeal Cert.NormSIdeal.Gen.facts Cert.NormSRefIdeal.Gen.facts := by
  intro m ρ m' ρ' _ hagree
  refine ⟨fun c => Cert.NormSIdeal.Value.G m c, ?_, ?_⟩
  · exact (θ_run Cert.NormSIdeal.defs _ _).mono (fun r h c => ⟨(h c).1.trans (Cert.NormSIdeal.Value.final_G m c), (h c).2⟩)
      (Cert.NormSIdeal.Value.run_blocks m ρ)
  · exact (θ_run Cert.NormSRefIdeal.defs _ _).mono (fun r h c =>
      ⟨(h c).1.trans (Cert.NormSRefIdeal.Value.values_eq m m' c (hagree c).1 (hagree c).2), (h c).2⟩)
      (Cert.NormSRefIdeal.Value.run m' ρ')

/-- All the claims. -/
theorem claim : Cert.Claim :=
  ⟨Cert.Dil0.Gen.facts, Cert.Dil0Ideal.Gen.facts, Cert.Dil0RefIdeal.Gen.facts,
    Cert.Dil1.Gen.facts, Cert.Dil1Ideal.Gen.facts, Cert.Dil1RefIdeal.Gen.facts,
    Cert.Dil2.Gen.facts, Cert.Dil2Ideal.Gen.facts, Cert.Dil2RefIdeal.Gen.facts,
    Cert.Ffn.Gen.facts, Cert.FfnIdeal.Gen.facts, Cert.FfnRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.Norm.Gen.facts, Cert.NormIdeal.Gen.facts, Cert.NormRefIdeal.Gen.facts,
    Cert.Step.Gen.facts, Cert.StepIdeal.Gen.facts, Cert.StepRefIdeal.Gen.facts,
    Cert.NormS.Gen.facts, Cert.NormSIdeal.Gen.facts, Cert.NormSRefIdeal.Gen.facts,
    fun m ρ _ => Cert.Dil0.Gen.frame m ρ, fun m ρ _ => Cert.Dil0Ideal.Gen.frame m ρ, ref_Dil0,
    fun m ρ _ => Cert.Dil1.Gen.frame m ρ, fun m ρ _ => Cert.Dil1Ideal.Gen.frame m ρ, ref_Dil1,
    fun m ρ _ => Cert.Dil2.Gen.frame m ρ, fun m ρ _ => Cert.Dil2Ideal.Gen.frame m ρ, ref_Dil2,
    fun m ρ _ => Cert.Ffn.Gen.frame m ρ, fun m ρ _ => Cert.FfnIdeal.Gen.frame m ρ, ref_Ffn,
    fun m ρ _ => Cert.Proj.Gen.frame m ρ, fun m ρ _ => Cert.ProjIdeal.Gen.frame m ρ, ref_Proj,
    fun m ρ _ => Cert.Merge.Gen.frame m ρ, fun m ρ _ => Cert.MergeIdeal.Gen.frame m ρ, ref_Merge,
    fun m ρ _ => Cert.Norm.Gen.frame m ρ, fun m ρ _ => Cert.NormIdeal.Gen.frame m ρ, ref_Norm,
    fun m ρ _ => Cert.Step.Gen.frame m ρ, fun m ρ _ => Cert.StepIdeal.Gen.frame m ρ, ref_Step,
    fun m ρ _ => Cert.NormS.Gen.frame m ρ, fun m ρ _ => Cert.NormSIdeal.Gen.frame m ρ, ref_NormS,
    trivial, alg_Dil0,
    trivial, alg_Dil1,
    trivial, alg_Dil2,
    trivial, alg_Ffn,
    trivial, alg_Proj,
    trivial, alg_Merge,
    trivial, alg_Norm,
    trivial, alg_Step,
    trivial, alg_NormS⟩

end Cert.Proof

end
